-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_mla_finite [hPre_mla_finite : Cert.Pre_mla_finite.Facts] (m : (ℓ : Loc Cert.KernelIdeal.nD Cert.KernelIdeal.τ Cert.KernelIdeal.sig) → Buf (Elt Ideal) ℓ) : Prop :=
  ∀ c : Dev Cert.KernelIdeal.nD,
    (Cert.Pre_mla_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_mla_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_mla_finite [hPre_mla_finite : Cert.Pre_mla_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_mla_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_mla_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_ExpertsKernel [hPre_experts_in_range : Cert.Pre_experts_in_range.Facts] (m : (ℓ : Loc Cert.ExpertsKernel.nD Cert.ExpertsKernel.τ Cert.ExpertsKernel.sig) → Buf (Elt Bits) ℓ) : Prop :=
  ∀ c : Dev Cert.ExpertsKernel.nD,
    (Cert.Pre_experts_in_range.fn (F := Bits) (m ((c.tc : Thread Cert.ExpertsKernel.nD Cert.ExpertsKernel.τ).loc Cert.ExpertsKernel.main_arg0)) (m ((c.tc : Thread Cert.ExpertsKernel.nD Cert.ExpertsKernel.τ).loc Cert.ExpertsKernel.main_arg1)) (m ((c.tc : Thread Cert.ExpertsKernel.nD Cert.ExpertsKernel.τ).loc Cert.ExpertsKernel.main_arg2)) (m ((c.tc : Thread Cert.ExpertsKernel.nD Cert.ExpertsKernel.τ).loc Cert.ExpertsKernel.main_arg3)) (m ((c.tc : Thread Cert.ExpertsKernel.nD Cert.ExpertsKernel.τ).loc Cert.ExpertsKernel.main_arg4)) (m ((c.tc : Thread Cert.ExpertsKernel.nD Cert.ExpertsKernel.τ).loc Cert.ExpertsKernel.main_arg5)) (m ((c.tc : Thread Cert.ExpertsKernel.nD Cert.ExpertsKernel.τ).loc Cert.ExpertsKernel.main_arg6)) (m ((c.tc : Thread Cert.ExpertsKernel.nD Cert.ExpertsKernel.τ).loc Cert.ExpertsKernel.main_arg7)) (m ((c.tc : Thread Cert.ExpertsKernel.nD Cert.ExpertsKernel.τ).loc Cert.ExpertsKernel.main_arg8))).1 = (fun _ => 1#1)
    ∧ (Cert.Pre_experts_in_range.fn (F := Bits) (m ((c.tc : Thread Cert.ExpertsKernel.nD Cert.ExpertsKernel.τ).loc Cert.ExpertsKernel.main_arg0)) (m ((c.tc : Thread Cert.ExpertsKernel.nD Cert.ExpertsKernel.τ).loc Cert.ExpertsKernel.main_arg1)) (m ((c.tc : Thread Cert.ExpertsKernel.nD Cert.ExpertsKernel.τ).loc Cert.ExpertsKernel.main_arg2)) (m ((c.tc : Thread Cert.ExpertsKernel.nD Cert.ExpertsKernel.τ).loc Cert.ExpertsKernel.main_arg3)) (m ((c.tc : Thread Cert.ExpertsKernel.nD Cert.ExpertsKernel.τ).loc Cert.ExpertsKernel.main_arg4)) (m ((c.tc : Thread Cert.ExpertsKernel.nD Cert.ExpertsKernel.τ).loc Cert.ExpertsKernel.main_arg5)) (m ((c.tc : Thread Cert.ExpertsKernel.nD Cert.ExpertsKernel.τ).loc Cert.ExpertsKernel.main_arg6)) (m ((c.tc : Thread Cert.ExpertsKernel.nD Cert.ExpertsKernel.τ).loc Cert.ExpertsKernel.main_arg7)) (m ((c.tc : Thread Cert.ExpertsKernel.nD Cert.ExpertsKernel.τ).loc Cert.ExpertsKernel.main_arg8))).2 = (fun _ => 1#1)

def Pre_ExpertsKernelIdeal [hPre_experts_in_range : Cert.Pre_experts_in_range.Facts] (m : (ℓ : Loc Cert.ExpertsKernelIdeal.nD Cert.ExpertsKernelIdeal.τ Cert.ExpertsKernelIdeal.sig) → Buf (Elt Ideal) ℓ) : Prop :=
  ∀ c : Dev Cert.ExpertsKernelIdeal.nD,
    (Cert.Pre_experts_in_range.fn (F := Ideal) (m ((c.tc : Thread Cert.ExpertsKernelIdeal.nD Cert.ExpertsKernelIdeal.τ).loc Cert.ExpertsKernelIdeal.main_arg0)) (m ((c.tc : Thread Cert.ExpertsKernelIdeal.nD Cert.ExpertsKernelIdeal.τ).loc Cert.ExpertsKernelIdeal.main_arg1)) (m ((c.tc : Thread Cert.ExpertsKernelIdeal.nD Cert.ExpertsKernelIdeal.τ).loc Cert.ExpertsKernelIdeal.main_arg2)) (m ((c.tc : Thread Cert.ExpertsKernelIdeal.nD Cert.ExpertsKernelIdeal.τ).loc Cert.ExpertsKernelIdeal.main_arg3)) (m ((c.tc : Thread Cert.ExpertsKernelIdeal.nD Cert.ExpertsKernelIdeal.τ).loc Cert.ExpertsKernelIdeal.main_arg4)) (m ((c.tc : Thread Cert.ExpertsKernelIdeal.nD Cert.ExpertsKernelIdeal.τ).loc Cert.ExpertsKernelIdeal.main_arg5)) (m ((c.tc : Thread Cert.ExpertsKernelIdeal.nD Cert.ExpertsKernelIdeal.τ).loc Cert.ExpertsKernelIdeal.main_arg6)) (m ((c.tc : Thread Cert.ExpertsKernelIdeal.nD Cert.ExpertsKernelIdeal.τ).loc Cert.ExpertsKernelIdeal.main_arg7)) (m ((c.tc : Thread Cert.ExpertsKernelIdeal.nD Cert.ExpertsKernelIdeal.τ).loc Cert.ExpertsKernelIdeal.main_arg8))).1 = (fun _ => 1#1)
    ∧ (Cert.Pre_experts_in_range.fn (F := Ideal) (m ((c.tc : Thread Cert.ExpertsKernelIdeal.nD Cert.ExpertsKernelIdeal.τ).loc Cert.ExpertsKernelIdeal.main_arg0)) (m ((c.tc : Thread Cert.ExpertsKernelIdeal.nD Cert.ExpertsKernelIdeal.τ).loc Cert.ExpertsKernelIdeal.main_arg1)) (m ((c.tc : Thread Cert.ExpertsKernelIdeal.nD Cert.ExpertsKernelIdeal.τ).loc Cert.ExpertsKernelIdeal.main_arg2)) (m ((c.tc : Thread Cert.ExpertsKernelIdeal.nD Cert.ExpertsKernelIdeal.τ).loc Cert.ExpertsKernelIdeal.main_arg3)) (m ((c.tc : Thread Cert.ExpertsKernelIdeal.nD Cert.ExpertsKernelIdeal.τ).loc Cert.ExpertsKernelIdeal.main_arg4)) (m ((c.tc : Thread Cert.ExpertsKernelIdeal.nD Cert.ExpertsKernelIdeal.τ).loc Cert.ExpertsKernelIdeal.main_arg5)) (m ((c.tc : Thread Cert.ExpertsKernelIdeal.nD Cert.ExpertsKernelIdeal.τ).loc Cert.ExpertsKernelIdeal.main_arg6)) (m ((c.tc : Thread Cert.ExpertsKernelIdeal.nD Cert.ExpertsKernelIdeal.τ).loc Cert.ExpertsKernelIdeal.main_arg7)) (m ((c.tc : Thread Cert.ExpertsKernelIdeal.nD Cert.ExpertsKernelIdeal.τ).loc Cert.ExpertsKernelIdeal.main_arg8))).2 = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_experts_in_range [hPre_experts_in_range : Cert.Pre_experts_in_range.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_experts_in_range.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6)) (m ((c.tc : Thread Cert.ExpertsReferenceIdeal.nD Cert.ExpertsReferenceIdeal.τ).loc Cert.ExpertsReferenceIdeal.main_arg7)) (m ((c.tc : Thread Cert.ExpertsReferenceIdeal.nD Cert.ExpertsReferenceIdeal.τ).loc Cert.ExpertsReferenceIdeal.main_arg8))).1 = (fun _ => 1#1)
    ∧ (Cert.Pre_experts_in_range.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6)) (m ((c.tc : Thread Cert.ExpertsReferenceIdeal.nD Cert.ExpertsReferenceIdeal.τ).loc Cert.ExpertsReferenceIdeal.main_arg7)) (m ((c.tc : Thread Cert.ExpertsReferenceIdeal.nD Cert.ExpertsReferenceIdeal.τ).loc Cert.ExpertsReferenceIdeal.main_arg8))).2 = (fun _ => 1#1)

def Pre_MobaKernel (m : (ℓ : Loc Cert.MobaKernel.nD Cert.MobaKernel.τ Cert.MobaKernel.sig) → Buf (Elt Bits) ℓ) : Prop :=
  True

def Pre_MobaKernelIdeal (m : (ℓ : Loc Cert.MobaKernelIdeal.nD Cert.MobaKernelIdeal.τ Cert.MobaKernelIdeal.sig) → Buf (Elt Ideal) ℓ) : Prop :=
  True

def Pre_MobaKernelIdeal_moba_finite [hPre_moba_finite : Cert.Pre_moba_finite.Facts] (m : (ℓ : Loc Cert.MobaKernelIdeal.nD Cert.MobaKernelIdeal.τ Cert.MobaKernelIdeal.sig) → Buf (Elt Ideal) ℓ) : Prop :=
  ∀ c : Dev Cert.MobaKernelIdeal.nD,
    (Cert.Pre_moba_finite.fn (F := Ideal) (m ((c.tc : Thread Cert.MobaKernelIdeal.nD Cert.MobaKernelIdeal.τ).loc Cert.MobaKernelIdeal.main_arg0)) (m ((c.tc : Thread Cert.MobaKernelIdeal.nD Cert.MobaKernelIdeal.τ).loc Cert.MobaKernelIdeal.main_arg1)) (m ((c.tc : Thread Cert.MobaKernelIdeal.nD Cert.MobaKernelIdeal.τ).loc Cert.MobaKernelIdeal.main_arg2)) (m ((c.tc : Thread Cert.MobaKernelIdeal.nD Cert.MobaKernelIdeal.τ).loc Cert.MobaKernelIdeal.main_arg3))).1 = (fun _ => 1#1)
    ∧ (Cert.Pre_moba_finite.fn (F := Ideal) (m ((c.tc : Thread Cert.MobaKernelIdeal.nD Cert.MobaKernelIdeal.τ).loc Cert.MobaKernelIdeal.main_arg0)) (m ((c.tc : Thread Cert.MobaKernelIdeal.nD Cert.MobaKernelIdeal.τ).loc Cert.MobaKernelIdeal.main_arg1)) (m ((c.tc : Thread Cert.MobaKernelIdeal.nD Cert.MobaKernelIdeal.τ).loc Cert.MobaKernelIdeal.main_arg2)) (m ((c.tc : Thread Cert.MobaKernelIdeal.nD Cert.MobaKernelIdeal.τ).loc Cert.MobaKernelIdeal.main_arg3))).2.1 = (fun _ => 1#1)
    ∧ (Cert.Pre_moba_finite.fn (F := Ideal) (m ((c.tc : Thread Cert.MobaKernelIdeal.nD Cert.MobaKernelIdeal.τ).loc Cert.MobaKernelIdeal.main_arg0)) (m ((c.tc : Thread Cert.MobaKernelIdeal.nD Cert.MobaKernelIdeal.τ).loc Cert.MobaKernelIdeal.main_arg1)) (m ((c.tc : Thread Cert.MobaKernelIdeal.nD Cert.MobaKernelIdeal.τ).loc Cert.MobaKernelIdeal.main_arg2)) (m ((c.tc : Thread Cert.MobaKernelIdeal.nD Cert.MobaKernelIdeal.τ).loc Cert.MobaKernelIdeal.main_arg3))).2.2 = (fun _ => 1#1)

def Pre_MobaReferenceIdeal (m : (ℓ : Loc Cert.MobaReferenceIdeal.nD Cert.MobaReferenceIdeal.τ Cert.MobaReferenceIdeal.sig) → Buf (Elt Ideal) ℓ) : Prop :=
  True

def Pre_MobaReferenceIdeal_moba_finite [hPre_moba_finite : Cert.Pre_moba_finite.Facts] (m : (ℓ : Loc Cert.MobaReferenceIdeal.nD Cert.MobaReferenceIdeal.τ Cert.MobaReferenceIdeal.sig) → Buf (Elt Ideal) ℓ) : Prop :=
  ∀ c : Dev Cert.MobaReferenceIdeal.nD,
    (Cert.Pre_moba_finite.fn (F := Ideal) (m ((c.tc : Thread Cert.MobaReferenceIdeal.nD Cert.MobaReferenceIdeal.τ).loc Cert.MobaReferenceIdeal.main_arg0)) (m ((c.tc : Thread Cert.MobaReferenceIdeal.nD Cert.MobaReferenceIdeal.τ).loc Cert.MobaReferenceIdeal.main_arg1)) (m ((c.tc : Thread Cert.MobaReferenceIdeal.nD Cert.MobaReferenceIdeal.τ).loc Cert.MobaReferenceIdeal.main_arg2)) (m ((c.tc : Thread Cert.MobaReferenceIdeal.nD Cert.MobaReferenceIdeal.τ).loc Cert.MobaReferenceIdeal.main_arg3))).1 = (fun _ => 1#1)
    ∧ (Cert.Pre_moba_finite.fn (F := Ideal) (m ((c.tc : Thread Cert.MobaReferenceIdeal.nD Cert.MobaReferenceIdeal.τ).loc Cert.MobaReferenceIdeal.main_arg0)) (m ((c.tc : Thread Cert.MobaReferenceIdeal.nD Cert.MobaReferenceIdeal.τ).loc Cert.MobaReferenceIdeal.main_arg1)) (m ((c.tc : Thread Cert.MobaReferenceIdeal.nD Cert.MobaReferenceIdeal.τ).loc Cert.MobaReferenceIdeal.main_arg2)) (m ((c.tc : Thread Cert.MobaReferenceIdeal.nD Cert.MobaReferenceIdeal.τ).loc Cert.MobaReferenceIdeal.main_arg3))).2.1 = (fun _ => 1#1)
    ∧ (Cert.Pre_moba_finite.fn (F := Ideal) (m ((c.tc : Thread Cert.MobaReferenceIdeal.nD Cert.MobaReferenceIdeal.τ).loc Cert.MobaReferenceIdeal.main_arg0)) (m ((c.tc : Thread Cert.MobaReferenceIdeal.nD Cert.MobaReferenceIdeal.τ).loc Cert.MobaReferenceIdeal.main_arg1)) (m ((c.tc : Thread Cert.MobaReferenceIdeal.nD Cert.MobaReferenceIdeal.τ).loc Cert.MobaReferenceIdeal.main_arg2)) (m ((c.tc : Thread Cert.MobaReferenceIdeal.nD Cert.MobaReferenceIdeal.τ).loc Cert.MobaReferenceIdeal.main_arg3))).2.2 = (fun _ => 1#1)

def Pre_OprojKernel (m : (ℓ : Loc Cert.OprojKernel.nD Cert.OprojKernel.τ Cert.OprojKernel.sig) → Buf (Elt Bits) ℓ) : Prop :=
  True

def Pre_OprojKernelIdeal (m : (ℓ : Loc Cert.OprojKernelIdeal.nD Cert.OprojKernelIdeal.τ Cert.OprojKernelIdeal.sig) → Buf (Elt Ideal) ℓ) : Prop :=
  True

def Pre_OprojReferenceIdeal (m : (ℓ : Loc Cert.OprojReferenceIdeal.nD Cert.OprojReferenceIdeal.τ Cert.OprojReferenceIdeal.sig) → Buf (Elt Ideal) ℓ) : Prop :=
  True

def Pre_PrepKernel (m : (ℓ : Loc Cert.PrepKernel.nD Cert.PrepKernel.τ Cert.PrepKernel.sig) → Buf (Elt Bits) ℓ) : Prop :=
  True

def Pre_PrepKernelIdeal (m : (ℓ : Loc Cert.PrepKernelIdeal.nD Cert.PrepKernelIdeal.τ Cert.PrepKernelIdeal.sig) → Buf (Elt Ideal) ℓ) : Prop :=
  True

def Pre_PrepReferenceIdeal (m : (ℓ : Loc Cert.PrepReferenceIdeal.nD Cert.PrepReferenceIdeal.τ Cert.PrepReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_mla_finite [hKernelIdeal : Cert.KernelIdeal.Facts] [hPre_mla_finite : Cert.Pre_mla_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_mla_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_mla_finite [hReferenceIdeal : Cert.ReferenceIdeal.Facts] [hPre_mla_finite : Cert.Pre_mla_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_mla_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ExpertsKernel [hExpertsKernel : Cert.ExpertsKernel.Facts] [hPre_experts_in_range : Cert.Pre_experts_in_range.Facts] : Prop :=
  ∀ (m : (ℓ : Loc Cert.ExpertsKernel.nD Cert.ExpertsKernel.τ Cert.ExpertsKernel.sig) → Buf (Elt Bits) ℓ) (g : Dev Cert.ExpertsKernel.nD → PrngReg), Pre_ExpertsKernel m →
    θ_run (Cert.ExpertsKernel.defs (F := Bits)) (onTc (τ := Cert.ExpertsKernel.τ) (Cert.ExpertsKernel.main (F := Bits))) ⟨m, fun _ => 0, g⟩ (fun r => (∀ c : Dev Cert.ExpertsKernel.nD,
      r.2.mem ((c.tc : Thread Cert.ExpertsKernel.nD Cert.ExpertsKernel.τ).loc Cert.ExpertsKernel.main_arg0) = m ((c.tc : Thread Cert.ExpertsKernel.nD Cert.ExpertsKernel.τ).loc Cert.ExpertsKernel.main_arg0)
      ∧ r.2.mem ((c.tc : Thread Cert.ExpertsKernel.nD Cert.ExpertsKernel.τ).loc Cert.ExpertsKernel.main_arg1) = m ((c.tc : Thread Cert.ExpertsKernel.nD Cert.ExpertsKernel.τ).loc Cert.ExpertsKernel.main_arg1)
      ∧ r.2.mem ((c.tc : Thread Cert.ExpertsKernel.nD Cert.ExpertsKernel.τ).loc Cert.ExpertsKernel.main_arg2) = m ((c.tc : Thread Cert.ExpertsKernel.nD Cert.ExpertsKernel.τ).loc Cert.ExpertsKernel.main_arg2)
      ∧ r.2.mem ((c.tc : Thread Cert.ExpertsKernel.nD Cert.ExpertsKernel.τ).loc Cert.ExpertsKernel.main_arg3) = m ((c.tc : Thread Cert.ExpertsKernel.nD Cert.ExpertsKernel.τ).loc Cert.ExpertsKernel.main_arg3)
      ∧ r.2.mem ((c.tc : Thread Cert.ExpertsKernel.nD Cert.ExpertsKernel.τ).loc Cert.ExpertsKernel.main_arg4) = m ((c.tc : Thread Cert.ExpertsKernel.nD Cert.ExpertsKernel.τ).loc Cert.ExpertsKernel.main_arg4)
      ∧ r.2.mem ((c.tc : Thread Cert.ExpertsKernel.nD Cert.ExpertsKernel.τ).loc Cert.ExpertsKernel.main_arg5) = m ((c.tc : Thread Cert.ExpertsKernel.nD Cert.ExpertsKernel.τ).loc Cert.ExpertsKernel.main_arg5)
      ∧ r.2.mem ((c.tc : Thread Cert.ExpertsKernel.nD Cert.ExpertsKernel.τ).loc Cert.ExpertsKernel.main_arg6) = m ((c.tc : Thread Cert.ExpertsKernel.nD Cert.ExpertsKernel.τ).loc Cert.ExpertsKernel.main_arg6)
      ∧ r.2.mem ((c.tc : Thread Cert.ExpertsKernel.nD Cert.ExpertsKernel.τ).loc Cert.ExpertsKernel.main_arg7) = m ((c.tc : Thread Cert.ExpertsKernel.nD Cert.ExpertsKernel.τ).loc Cert.ExpertsKernel.main_arg7)
      ∧ r.2.mem ((c.tc : Thread Cert.ExpertsKernel.nD Cert.ExpertsKernel.τ).loc Cert.ExpertsKernel.main_arg8) = m ((c.tc : Thread Cert.ExpertsKernel.nD Cert.ExpertsKernel.τ).loc Cert.ExpertsKernel.main_arg8))
      ∧ r.2.sem = fun _ => 0)

def quiescent_ExpertsKernelIdeal [hExpertsKernelIdeal : Cert.ExpertsKernelIdeal.Facts] [hPre_experts_in_range : Cert.Pre_experts_in_range.Facts] : Prop :=
  ∀ (m : (ℓ : Loc Cert.ExpertsKernelIdeal.nD Cert.ExpertsKernelIdeal.τ Cert.ExpertsKernelIdeal.sig) → Buf (Elt Ideal) ℓ) (g : Dev Cert.ExpertsKernelIdeal.nD → PrngReg), Pre_ExpertsKernelIdeal m →
    θ_run (Cert.ExpertsKernelIdeal.defs (F := Ideal)) (onTc (τ := Cert.ExpertsKernelIdeal.τ) (Cert.ExpertsKernelIdeal.main (F := Ideal))) ⟨m, fun _ => 0, g⟩ (fun r => (∀ c : Dev Cert.ExpertsKernelIdeal.nD,
      r.2.mem ((c.tc : Thread Cert.ExpertsKernelIdeal.nD Cert.ExpertsKernelIdeal.τ).loc Cert.ExpertsKernelIdeal.main_arg0) = m ((c.tc : Thread Cert.ExpertsKernelIdeal.nD Cert.ExpertsKernelIdeal.τ).loc Cert.ExpertsKernelIdeal.main_arg0)
      ∧ r.2.mem ((c.tc : Thread Cert.ExpertsKernelIdeal.nD Cert.ExpertsKernelIdeal.τ).loc Cert.ExpertsKernelIdeal.main_arg1) = m ((c.tc : Thread Cert.ExpertsKernelIdeal.nD Cert.ExpertsKernelIdeal.τ).loc Cert.ExpertsKernelIdeal.main_arg1)
      ∧ r.2.mem ((c.tc : Thread Cert.ExpertsKernelIdeal.nD Cert.ExpertsKernelIdeal.τ).loc Cert.ExpertsKernelIdeal.main_arg2) = m ((c.tc : Thread Cert.ExpertsKernelIdeal.nD Cert.ExpertsKernelIdeal.τ).loc Cert.ExpertsKernelIdeal.main_arg2)
      ∧ r.2.mem ((c.tc : Thread Cert.ExpertsKernelIdeal.nD Cert.ExpertsKernelIdeal.τ).loc Cert.ExpertsKernelIdeal.main_arg3) = m ((c.tc : Thread Cert.ExpertsKernelIdeal.nD Cert.ExpertsKernelIdeal.τ).loc Cert.ExpertsKernelIdeal.main_arg3)
      ∧ r.2.mem ((c.tc : Thread Cert.ExpertsKernelIdeal.nD Cert.ExpertsKernelIdeal.τ).loc Cert.ExpertsKernelIdeal.main_arg4) = m ((c.tc : Thread Cert.ExpertsKernelIdeal.nD Cert.ExpertsKernelIdeal.τ).loc Cert.ExpertsKernelIdeal.main_arg4)
      ∧ r.2.mem ((c.tc : Thread Cert.ExpertsKernelIdeal.nD Cert.ExpertsKernelIdeal.τ).loc Cert.ExpertsKernelIdeal.main_arg5) = m ((c.tc : Thread Cert.ExpertsKernelIdeal.nD Cert.ExpertsKernelIdeal.τ).loc Cert.ExpertsKernelIdeal.main_arg5)
      ∧ r.2.mem ((c.tc : Thread Cert.ExpertsKernelIdeal.nD Cert.ExpertsKernelIdeal.τ).loc Cert.ExpertsKernelIdeal.main_arg6) = m ((c.tc : Thread Cert.ExpertsKernelIdeal.nD Cert.ExpertsKernelIdeal.τ).loc Cert.ExpertsKernelIdeal.main_arg6)
      ∧ r.2.mem ((c.tc : Thread Cert.ExpertsKernelIdeal.nD Cert.ExpertsKernelIdeal.τ).loc Cert.ExpertsKernelIdeal.main_arg7) = m ((c.tc : Thread Cert.ExpertsKernelIdeal.nD Cert.ExpertsKernelIdeal.τ).loc Cert.ExpertsKernelIdeal.main_arg7)
      ∧ r.2.mem ((c.tc : Thread Cert.ExpertsKernelIdeal.nD Cert.ExpertsKernelIdeal.τ).loc Cert.ExpertsKernelIdeal.main_arg8) = m ((c.tc : Thread Cert.ExpertsKernelIdeal.nD Cert.ExpertsKernelIdeal.τ).loc Cert.ExpertsKernelIdeal.main_arg8))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6)
      ∧ r.2.mem ((c.tc : Thread Cert.ExpertsReferenceIdeal.nD Cert.ExpertsReferenceIdeal.τ).loc Cert.ExpertsReferenceIdeal.main_arg7) = m ((c.tc : Thread Cert.ExpertsReferenceIdeal.nD Cert.ExpertsReferenceIdeal.τ).loc Cert.ExpertsReferenceIdeal.main_arg7)
      ∧ r.2.mem ((c.tc : Thread Cert.ExpertsReferenceIdeal.nD Cert.ExpertsReferenceIdeal.τ).loc Cert.ExpertsReferenceIdeal.main_arg8) = m ((c.tc : Thread Cert.ExpertsReferenceIdeal.nD Cert.ExpertsReferenceIdeal.τ).loc Cert.ExpertsReferenceIdeal.main_arg8))
      ∧ r.2.sem = fun _ => 0)

def quiescent_ExpertsReferenceIdeal_pre_experts_in_range [hExpertsReferenceIdeal : Cert.ExpertsReferenceIdeal.Facts] [hPre_experts_in_range : Cert.Pre_experts_in_range.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_experts_in_range m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6)
      ∧ r.2.mem ((c.tc : Thread Cert.ExpertsReferenceIdeal.nD Cert.ExpertsReferenceIdeal.τ).loc Cert.ExpertsReferenceIdeal.main_arg7) = m ((c.tc : Thread Cert.ExpertsReferenceIdeal.nD Cert.ExpertsReferenceIdeal.τ).loc Cert.ExpertsReferenceIdeal.main_arg7)
      ∧ r.2.mem ((c.tc : Thread Cert.ExpertsReferenceIdeal.nD Cert.ExpertsReferenceIdeal.τ).loc Cert.ExpertsReferenceIdeal.main_arg8) = m ((c.tc : Thread Cert.ExpertsReferenceIdeal.nD Cert.ExpertsReferenceIdeal.τ).loc Cert.ExpertsReferenceIdeal.main_arg8))
      ∧ r.2.sem = fun _ => 0)

def quiescent_MobaKernel [hMobaKernel : Cert.MobaKernel.Facts] : Prop :=
  ∀ (m : (ℓ : Loc Cert.MobaKernel.nD Cert.MobaKernel.τ Cert.MobaKernel.sig) → Buf (Elt Bits) ℓ) (g : Dev Cert.MobaKernel.nD → PrngReg), Pre_MobaKernel m →
    θ_run (Cert.MobaKernel.defs (F := Bits)) (onTc (τ := Cert.MobaKernel.τ) (Cert.MobaKernel.main (F := Bits))) ⟨m, fun _ => 0, g⟩ (fun r => (∀ c : Dev Cert.MobaKernel.nD,
      r.2.mem ((c.tc : Thread Cert.MobaKernel.nD Cert.MobaKernel.τ).loc Cert.MobaKernel.main_arg0) = m ((c.tc : Thread Cert.MobaKernel.nD Cert.MobaKernel.τ).loc Cert.MobaKernel.main_arg0)
      ∧ r.2.mem ((c.tc : Thread Cert.MobaKernel.nD Cert.MobaKernel.τ).loc Cert.MobaKernel.main_arg1) = m ((c.tc : Thread Cert.MobaKernel.nD Cert.MobaKernel.τ).loc Cert.MobaKernel.main_arg1)
      ∧ r.2.mem ((c.tc : Thread Cert.MobaKernel.nD Cert.MobaKernel.τ).loc Cert.MobaKernel.main_arg2) = m ((c.tc : Thread Cert.MobaKernel.nD Cert.MobaKernel.τ).loc Cert.MobaKernel.main_arg2)
      ∧ r.2.mem ((c.tc : Thread Cert.MobaKernel.nD Cert.MobaKernel.τ).loc Cert.MobaKernel.main_arg3) = m ((c.tc : Thread Cert.MobaKernel.nD Cert.MobaKernel.τ).loc Cert.MobaKernel.main_arg3))
      ∧ r.2.sem = fun _ => 0)

def quiescent_MobaKernelIdeal [hMobaKernelIdeal : Cert.MobaKernelIdeal.Facts] : Prop :=
  ∀ (m : (ℓ : Loc Cert.MobaKernelIdeal.nD Cert.MobaKernelIdeal.τ Cert.MobaKernelIdeal.sig) → Buf (Elt Ideal) ℓ) (g : Dev Cert.MobaKernelIdeal.nD → PrngReg), Pre_MobaKernelIdeal m →
    θ_run (Cert.MobaKernelIdeal.defs (F := Ideal)) (onTc (τ := Cert.MobaKernelIdeal.τ) (Cert.MobaKernelIdeal.main (F := Ideal))) ⟨m, fun _ => 0, g⟩ (fun r => (∀ c : Dev Cert.MobaKernelIdeal.nD,
      r.2.mem ((c.tc : Thread Cert.MobaKernelIdeal.nD Cert.MobaKernelIdeal.τ).loc Cert.MobaKernelIdeal.main_arg0) = m ((c.tc : Thread Cert.MobaKernelIdeal.nD Cert.MobaKernelIdeal.τ).loc Cert.MobaKernelIdeal.main_arg0)
      ∧ r.2.mem ((c.tc : Thread Cert.MobaKernelIdeal.nD Cert.MobaKernelIdeal.τ).loc Cert.MobaKernelIdeal.main_arg1) = m ((c.tc : Thread Cert.MobaKernelIdeal.nD Cert.MobaKernelIdeal.τ).loc Cert.MobaKernelIdeal.main_arg1)
      ∧ r.2.mem ((c.tc : Thread Cert.MobaKernelIdeal.nD Cert.MobaKernelIdeal.τ).loc Cert.MobaKernelIdeal.main_arg2) = m ((c.tc : Thread Cert.MobaKernelIdeal.nD Cert.MobaKernelIdeal.τ).loc Cert.MobaKernelIdeal.main_arg2)
      ∧ r.2.mem ((c.tc : Thread Cert.MobaKernelIdeal.nD Cert.MobaKernelIdeal.τ).loc Cert.MobaKernelIdeal.main_arg3) = m ((c.tc : Thread Cert.MobaKernelIdeal.nD Cert.MobaKernelIdeal.τ).loc Cert.MobaKernelIdeal.main_arg3))
      ∧ r.2.sem = fun _ => 0)

def quiescent_MobaKernelIdeal_pre_moba_finite [hMobaKernelIdeal : Cert.MobaKernelIdeal.Facts] [hPre_moba_finite : Cert.Pre_moba_finite.Facts] : Prop :=
  ∀ (m : (ℓ : Loc Cert.MobaKernelIdeal.nD Cert.MobaKernelIdeal.τ Cert.MobaKernelIdeal.sig) → Buf (Elt Ideal) ℓ) (g : Dev Cert.MobaKernelIdeal.nD → PrngReg), Pre_MobaKernelIdeal_moba_finite m →
    θ_run (Cert.MobaKernelIdeal.defs (F := Ideal)) (onTc (τ := Cert.MobaKernelIdeal.τ) (Cert.MobaKernelIdeal.main (F := Ideal))) ⟨m, fun _ => 0, g⟩ (fun r => (∀ c : Dev Cert.MobaKernelIdeal.nD,
      r.2.mem ((c.tc : Thread Cert.MobaKernelIdeal.nD Cert.MobaKernelIdeal.τ).loc Cert.MobaKernelIdeal.main_arg0) = m ((c.tc : Thread Cert.MobaKernelIdeal.nD Cert.MobaKernelIdeal.τ).loc Cert.MobaKernelIdeal.main_arg0)
      ∧ r.2.mem ((c.tc : Thread Cert.MobaKernelIdeal.nD Cert.MobaKernelIdeal.τ).loc Cert.MobaKernelIdeal.main_arg1) = m ((c.tc : Thread Cert.MobaKernelIdeal.nD Cert.MobaKernelIdeal.τ).loc Cert.MobaKernelIdeal.main_arg1)
      ∧ r.2.mem ((c.tc : Thread Cert.MobaKernelIdeal.nD Cert.MobaKernelIdeal.τ).loc Cert.MobaKernelIdeal.main_arg2) = m ((c.tc : Thread Cert.MobaKernelIdeal.nD Cert.MobaKernelIdeal.τ).loc Cert.MobaKernelIdeal.main_arg2)
      ∧ r.2.mem ((c.tc : Thread Cert.MobaKernelIdeal.nD Cert.MobaKernelIdeal.τ).loc Cert.MobaKernelIdeal.main_arg3) = m ((c.tc : Thread Cert.MobaKernelIdeal.nD Cert.MobaKernelIdeal.τ).loc Cert.MobaKernelIdeal.main_arg3))
      ∧ r.2.sem = fun _ => 0)

def quiescent_MobaReferenceIdeal [hMobaReferenceIdeal : Cert.MobaReferenceIdeal.Facts] : Prop :=
  ∀ (m : (ℓ : Loc Cert.MobaReferenceIdeal.nD Cert.MobaReferenceIdeal.τ Cert.MobaReferenceIdeal.sig) → Buf (Elt Ideal) ℓ) (g : Dev Cert.MobaReferenceIdeal.nD → PrngReg), Pre_MobaReferenceIdeal m →
    θ_run (Cert.MobaReferenceIdeal.defs (F := Ideal)) (onTc (τ := Cert.MobaReferenceIdeal.τ) (Cert.MobaReferenceIdeal.main (F := Ideal))) ⟨m, fun _ => 0, g⟩ (fun r => (∀ c : Dev Cert.MobaReferenceIdeal.nD,
      r.2.mem ((c.tc : Thread Cert.MobaReferenceIdeal.nD Cert.MobaReferenceIdeal.τ).loc Cert.MobaReferenceIdeal.main_arg0) = m ((c.tc : Thread Cert.MobaReferenceIdeal.nD Cert.MobaReferenceIdeal.τ).loc Cert.MobaReferenceIdeal.main_arg0)
      ∧ r.2.mem ((c.tc : Thread Cert.MobaReferenceIdeal.nD Cert.MobaReferenceIdeal.τ).loc Cert.MobaReferenceIdeal.main_arg1) = m ((c.tc : Thread Cert.MobaReferenceIdeal.nD Cert.MobaReferenceIdeal.τ).loc Cert.MobaReferenceIdeal.main_arg1)
      ∧ r.2.mem ((c.tc : Thread Cert.MobaReferenceIdeal.nD Cert.MobaReferenceIdeal.τ).loc Cert.MobaReferenceIdeal.main_arg2) = m ((c.tc : Thread Cert.MobaReferenceIdeal.nD Cert.MobaReferenceIdeal.τ).loc Cert.MobaReferenceIdeal.main_arg2)
      ∧ r.2.mem ((c.tc : Thread Cert.MobaReferenceIdeal.nD Cert.MobaReferenceIdeal.τ).loc Cert.MobaReferenceIdeal.main_arg3) = m ((c.tc : Thread Cert.MobaReferenceIdeal.nD Cert.MobaReferenceIdeal.τ).loc Cert.MobaReferenceIdeal.main_arg3))
      ∧ r.2.sem = fun _ => 0)

def quiescent_MobaReferenceIdeal_pre_moba_finite [hMobaReferenceIdeal : Cert.MobaReferenceIdeal.Facts] [hPre_moba_finite : Cert.Pre_moba_finite.Facts] : Prop :=
  ∀ (m : (ℓ : Loc Cert.MobaReferenceIdeal.nD Cert.MobaReferenceIdeal.τ Cert.MobaReferenceIdeal.sig) → Buf (Elt Ideal) ℓ) (g : Dev Cert.MobaReferenceIdeal.nD → PrngReg), Pre_MobaReferenceIdeal_moba_finite m →
    θ_run (Cert.MobaReferenceIdeal.defs (F := Ideal)) (onTc (τ := Cert.MobaReferenceIdeal.τ) (Cert.MobaReferenceIdeal.main (F := Ideal))) ⟨m, fun _ => 0, g⟩ (fun r => (∀ c : Dev Cert.MobaReferenceIdeal.nD,
      r.2.mem ((c.tc : Thread Cert.MobaReferenceIdeal.nD Cert.MobaReferenceIdeal.τ).loc Cert.MobaReferenceIdeal.main_arg0) = m ((c.tc : Thread Cert.MobaReferenceIdeal.nD Cert.MobaReferenceIdeal.τ).loc Cert.MobaReferenceIdeal.main_arg0)
      ∧ r.2.mem ((c.tc : Thread Cert.MobaReferenceIdeal.nD Cert.MobaReferenceIdeal.τ).loc Cert.MobaReferenceIdeal.main_arg1) = m ((c.tc : Thread Cert.MobaReferenceIdeal.nD Cert.MobaReferenceIdeal.τ).loc Cert.MobaReferenceIdeal.main_arg1)
      ∧ r.2.mem ((c.tc : Thread Cert.MobaReferenceIdeal.nD Cert.MobaReferenceIdeal.τ).loc Cert.MobaReferenceIdeal.main_arg2) = m ((c.tc : Thread Cert.MobaReferenceIdeal.nD Cert.MobaReferenceIdeal.τ).loc Cert.MobaReferenceIdeal.main_arg2)
      ∧ r.2.mem ((c.tc : Thread Cert.MobaReferenceIdeal.nD Cert.MobaReferenceIdeal.τ).loc Cert.MobaReferenceIdeal.main_arg3) = m ((c.tc : Thread Cert.MobaReferenceIdeal.nD Cert.MobaReferenceIdeal.τ).loc Cert.MobaReferenceIdeal.main_arg3))
      ∧ r.2.sem = fun _ => 0)

def quiescent_OprojKernel [hOprojKernel : Cert.OprojKernel.Facts] : Prop :=
  ∀ (m : (ℓ : Loc Cert.OprojKernel.nD Cert.OprojKernel.τ Cert.OprojKernel.sig) → Buf (Elt Bits) ℓ) (g : Dev Cert.OprojKernel.nD → PrngReg), Pre_OprojKernel m →
    θ_run (Cert.OprojKernel.defs (F := Bits)) (onTc (τ := Cert.OprojKernel.τ) (Cert.OprojKernel.main (F := Bits))) ⟨m, fun _ => 0, g⟩ (fun r => (∀ c : Dev Cert.OprojKernel.nD,
      r.2.mem ((c.tc : Thread Cert.OprojKernel.nD Cert.OprojKernel.τ).loc Cert.OprojKernel.main_arg0) = m ((c.tc : Thread Cert.OprojKernel.nD Cert.OprojKernel.τ).loc Cert.OprojKernel.main_arg0)
      ∧ r.2.mem ((c.tc : Thread Cert.OprojKernel.nD Cert.OprojKernel.τ).loc Cert.OprojKernel.main_arg1) = m ((c.tc : Thread Cert.OprojKernel.nD Cert.OprojKernel.τ).loc Cert.OprojKernel.main_arg1)
      ∧ r.2.mem ((c.tc : Thread Cert.OprojKernel.nD Cert.OprojKernel.τ).loc Cert.OprojKernel.main_arg2) = m ((c.tc : Thread Cert.OprojKernel.nD Cert.OprojKernel.τ).loc Cert.OprojKernel.main_arg2)
      ∧ r.2.mem ((c.tc : Thread Cert.OprojKernel.nD Cert.OprojKernel.τ).loc Cert.OprojKernel.main_arg3) = m ((c.tc : Thread Cert.OprojKernel.nD Cert.OprojKernel.τ).loc Cert.OprojKernel.main_arg3)
      ∧ r.2.mem ((c.tc : Thread Cert.OprojKernel.nD Cert.OprojKernel.τ).loc Cert.OprojKernel.main_arg4) = m ((c.tc : Thread Cert.OprojKernel.nD Cert.OprojKernel.τ).loc Cert.OprojKernel.main_arg4)
      ∧ r.2.mem ((c.tc : Thread Cert.OprojKernel.nD Cert.OprojKernel.τ).loc Cert.OprojKernel.main_arg5) = m ((c.tc : Thread Cert.OprojKernel.nD Cert.OprojKernel.τ).loc Cert.OprojKernel.main_arg5)
      ∧ r.2.mem ((c.tc : Thread Cert.OprojKernel.nD Cert.OprojKernel.τ).loc Cert.OprojKernel.main_arg6) = m ((c.tc : Thread Cert.OprojKernel.nD Cert.OprojKernel.τ).loc Cert.OprojKernel.main_arg6)
      ∧ r.2.mem ((c.tc : Thread Cert.OprojKernel.nD Cert.OprojKernel.τ).loc Cert.OprojKernel.main_arg7) = m ((c.tc : Thread Cert.OprojKernel.nD Cert.OprojKernel.τ).loc Cert.OprojKernel.main_arg7))
      ∧ r.2.sem = fun _ => 0)

def quiescent_OprojKernelIdeal [hOprojKernelIdeal : Cert.OprojKernelIdeal.Facts] : Prop :=
  ∀ (m : (ℓ : Loc Cert.OprojKernelIdeal.nD Cert.OprojKernelIdeal.τ Cert.OprojKernelIdeal.sig) → Buf (Elt Ideal) ℓ) (g : Dev Cert.OprojKernelIdeal.nD → PrngReg), Pre_OprojKernelIdeal m →
    θ_run (Cert.OprojKernelIdeal.defs (F := Ideal)) (onTc (τ := Cert.OprojKernelIdeal.τ) (Cert.OprojKernelIdeal.main (F := Ideal))) ⟨m, fun _ => 0, g⟩ (fun r => (∀ c : Dev Cert.OprojKernelIdeal.nD,
      r.2.mem ((c.tc : Thread Cert.OprojKernelIdeal.nD Cert.OprojKernelIdeal.τ).loc Cert.OprojKernelIdeal.main_arg0) = m ((c.tc : Thread Cert.OprojKernelIdeal.nD Cert.OprojKernelIdeal.τ).loc Cert.OprojKernelIdeal.main_arg0)
      ∧ r.2.mem ((c.tc : Thread Cert.OprojKernelIdeal.nD Cert.OprojKernelIdeal.τ).loc Cert.OprojKernelIdeal.main_arg1) = m ((c.tc : Thread Cert.OprojKernelIdeal.nD Cert.OprojKernelIdeal.τ).loc Cert.OprojKernelIdeal.main_arg1)
      ∧ r.2.mem ((c.tc : Thread Cert.OprojKernelIdeal.nD Cert.OprojKernelIdeal.τ).loc Cert.OprojKernelIdeal.main_arg2) = m ((c.tc : Thread Cert.OprojKernelIdeal.nD Cert.OprojKernelIdeal.τ).loc Cert.OprojKernelIdeal.main_arg2)
      ∧ r.2.mem ((c.tc : Thread Cert.OprojKernelIdeal.nD Cert.OprojKernelIdeal.τ).loc Cert.OprojKernelIdeal.main_arg3) = m ((c.tc : Thread Cert.OprojKernelIdeal.nD Cert.OprojKernelIdeal.τ).loc Cert.OprojKernelIdeal.main_arg3)
      ∧ r.2.mem ((c.tc : Thread Cert.OprojKernelIdeal.nD Cert.OprojKernelIdeal.τ).loc Cert.OprojKernelIdeal.main_arg4) = m ((c.tc : Thread Cert.OprojKernelIdeal.nD Cert.OprojKernelIdeal.τ).loc Cert.OprojKernelIdeal.main_arg4)
      ∧ r.2.mem ((c.tc : Thread Cert.OprojKernelIdeal.nD Cert.OprojKernelIdeal.τ).loc Cert.OprojKernelIdeal.main_arg5) = m ((c.tc : Thread Cert.OprojKernelIdeal.nD Cert.OprojKernelIdeal.τ).loc Cert.OprojKernelIdeal.main_arg5)
      ∧ r.2.mem ((c.tc : Thread Cert.OprojKernelIdeal.nD Cert.OprojKernelIdeal.τ).loc Cert.OprojKernelIdeal.main_arg6) = m ((c.tc : Thread Cert.OprojKernelIdeal.nD Cert.OprojKernelIdeal.τ).loc Cert.OprojKernelIdeal.main_arg6)
      ∧ r.2.mem ((c.tc : Thread Cert.OprojKernelIdeal.nD Cert.OprojKernelIdeal.τ).loc Cert.OprojKernelIdeal.main_arg7) = m ((c.tc : Thread Cert.OprojKernelIdeal.nD Cert.OprojKernelIdeal.τ).loc Cert.OprojKernelIdeal.main_arg7))
      ∧ r.2.sem = fun _ => 0)

def quiescent_OprojReferenceIdeal [hOprojReferenceIdeal : Cert.OprojReferenceIdeal.Facts] : Prop :=
  ∀ (m : (ℓ : Loc Cert.OprojReferenceIdeal.nD Cert.OprojReferenceIdeal.τ Cert.OprojReferenceIdeal.sig) → Buf (Elt Ideal) ℓ) (g : Dev Cert.OprojReferenceIdeal.nD → PrngReg), Pre_OprojReferenceIdeal m →
    θ_run (Cert.OprojReferenceIdeal.defs (F := Ideal)) (onTc (τ := Cert.OprojReferenceIdeal.τ) (Cert.OprojReferenceIdeal.main (F := Ideal))) ⟨m, fun _ => 0, g⟩ (fun r => (∀ c : Dev Cert.OprojReferenceIdeal.nD,
      r.2.mem ((c.tc : Thread Cert.OprojReferenceIdeal.nD Cert.OprojReferenceIdeal.τ).loc Cert.OprojReferenceIdeal.main_arg0) = m ((c.tc : Thread Cert.OprojReferenceIdeal.nD Cert.OprojReferenceIdeal.τ).loc Cert.OprojReferenceIdeal.main_arg0)
      ∧ r.2.mem ((c.tc : Thread Cert.OprojReferenceIdeal.nD Cert.OprojReferenceIdeal.τ).loc Cert.OprojReferenceIdeal.main_arg1) = m ((c.tc : Thread Cert.OprojReferenceIdeal.nD Cert.OprojReferenceIdeal.τ).loc Cert.OprojReferenceIdeal.main_arg1)
      ∧ r.2.mem ((c.tc : Thread Cert.OprojReferenceIdeal.nD Cert.OprojReferenceIdeal.τ).loc Cert.OprojReferenceIdeal.main_arg2) = m ((c.tc : Thread Cert.OprojReferenceIdeal.nD Cert.OprojReferenceIdeal.τ).loc Cert.OprojReferenceIdeal.main_arg2)
      ∧ r.2.mem ((c.tc : Thread Cert.OprojReferenceIdeal.nD Cert.OprojReferenceIdeal.τ).loc Cert.OprojReferenceIdeal.main_arg3) = m ((c.tc : Thread Cert.OprojReferenceIdeal.nD Cert.OprojReferenceIdeal.τ).loc Cert.OprojReferenceIdeal.main_arg3)
      ∧ r.2.mem ((c.tc : Thread Cert.OprojReferenceIdeal.nD Cert.OprojReferenceIdeal.τ).loc Cert.OprojReferenceIdeal.main_arg4) = m ((c.tc : Thread Cert.OprojReferenceIdeal.nD Cert.OprojReferenceIdeal.τ).loc Cert.OprojReferenceIdeal.main_arg4)
      ∧ r.2.mem ((c.tc : Thread Cert.OprojReferenceIdeal.nD Cert.OprojReferenceIdeal.τ).loc Cert.OprojReferenceIdeal.main_arg5) = m ((c.tc : Thread Cert.OprojReferenceIdeal.nD Cert.OprojReferenceIdeal.τ).loc Cert.OprojReferenceIdeal.main_arg5)
      ∧ r.2.mem ((c.tc : Thread Cert.OprojReferenceIdeal.nD Cert.OprojReferenceIdeal.τ).loc Cert.OprojReferenceIdeal.main_arg6) = m ((c.tc : Thread Cert.OprojReferenceIdeal.nD Cert.OprojReferenceIdeal.τ).loc Cert.OprojReferenceIdeal.main_arg6)
      ∧ r.2.mem ((c.tc : Thread Cert.OprojReferenceIdeal.nD Cert.OprojReferenceIdeal.τ).loc Cert.OprojReferenceIdeal.main_arg7) = m ((c.tc : Thread Cert.OprojReferenceIdeal.nD Cert.OprojReferenceIdeal.τ).loc Cert.OprojReferenceIdeal.main_arg7))
      ∧ r.2.sem = fun _ => 0)

def quiescent_PrepKernel [hPrepKernel : Cert.PrepKernel.Facts] : Prop :=
  ∀ (m : (ℓ : Loc Cert.PrepKernel.nD Cert.PrepKernel.τ Cert.PrepKernel.sig) → Buf (Elt Bits) ℓ) (g : Dev Cert.PrepKernel.nD → PrngReg), Pre_PrepKernel m →
    θ_run (Cert.PrepKernel.defs (F := Bits)) (onTc (τ := Cert.PrepKernel.τ) (Cert.PrepKernel.main (F := Bits))) ⟨m, fun _ => 0, g⟩ (fun r => (∀ c : Dev Cert.PrepKernel.nD,
      r.2.mem ((c.tc : Thread Cert.PrepKernel.nD Cert.PrepKernel.τ).loc Cert.PrepKernel.main_arg0) = m ((c.tc : Thread Cert.PrepKernel.nD Cert.PrepKernel.τ).loc Cert.PrepKernel.main_arg0)
      ∧ r.2.mem ((c.tc : Thread Cert.PrepKernel.nD Cert.PrepKernel.τ).loc Cert.PrepKernel.main_arg1) = m ((c.tc : Thread Cert.PrepKernel.nD Cert.PrepKernel.τ).loc Cert.PrepKernel.main_arg1)
      ∧ r.2.mem ((c.tc : Thread Cert.PrepKernel.nD Cert.PrepKernel.τ).loc Cert.PrepKernel.main_arg2) = m ((c.tc : Thread Cert.PrepKernel.nD Cert.PrepKernel.τ).loc Cert.PrepKernel.main_arg2)
      ∧ r.2.mem ((c.tc : Thread Cert.PrepKernel.nD Cert.PrepKernel.τ).loc Cert.PrepKernel.main_arg3) = m ((c.tc : Thread Cert.PrepKernel.nD Cert.PrepKernel.τ).loc Cert.PrepKernel.main_arg3)
      ∧ r.2.mem ((c.tc : Thread Cert.PrepKernel.nD Cert.PrepKernel.τ).loc Cert.PrepKernel.main_arg4) = m ((c.tc : Thread Cert.PrepKernel.nD Cert.PrepKernel.τ).loc Cert.PrepKernel.main_arg4)
      ∧ r.2.mem ((c.tc : Thread Cert.PrepKernel.nD Cert.PrepKernel.τ).loc Cert.PrepKernel.main_arg5) = m ((c.tc : Thread Cert.PrepKernel.nD Cert.PrepKernel.τ).loc Cert.PrepKernel.main_arg5)
      ∧ r.2.mem ((c.tc : Thread Cert.PrepKernel.nD Cert.PrepKernel.τ).loc Cert.PrepKernel.main_arg6) = m ((c.tc : Thread Cert.PrepKernel.nD Cert.PrepKernel.τ).loc Cert.PrepKernel.main_arg6))
      ∧ r.2.sem = fun _ => 0)

def quiescent_PrepKernelIdeal [hPrepKernelIdeal : Cert.PrepKernelIdeal.Facts] : Prop :=
  ∀ (m : (ℓ : Loc Cert.PrepKernelIdeal.nD Cert.PrepKernelIdeal.τ Cert.PrepKernelIdeal.sig) → Buf (Elt Ideal) ℓ) (g : Dev Cert.PrepKernelIdeal.nD → PrngReg), Pre_PrepKernelIdeal m →
    θ_run (Cert.PrepKernelIdeal.defs (F := Ideal)) (onTc (τ := Cert.PrepKernelIdeal.τ) (Cert.PrepKernelIdeal.main (F := Ideal))) ⟨m, fun _ => 0, g⟩ (fun r => (∀ c : Dev Cert.PrepKernelIdeal.nD,
      r.2.mem ((c.tc : Thread Cert.PrepKernelIdeal.nD Cert.PrepKernelIdeal.τ).loc Cert.PrepKernelIdeal.main_arg0) = m ((c.tc : Thread Cert.PrepKernelIdeal.nD Cert.PrepKernelIdeal.τ).loc Cert.PrepKernelIdeal.main_arg0)
      ∧ r.2.mem ((c.tc : Thread Cert.PrepKernelIdeal.nD Cert.PrepKernelIdeal.τ).loc Cert.PrepKernelIdeal.main_arg1) = m ((c.tc : Thread Cert.PrepKernelIdeal.nD Cert.PrepKernelIdeal.τ).loc Cert.PrepKernelIdeal.main_arg1)
      ∧ r.2.mem ((c.tc : Thread Cert.PrepKernelIdeal.nD Cert.PrepKernelIdeal.τ).loc Cert.PrepKernelIdeal.main_arg2) = m ((c.tc : Thread Cert.PrepKernelIdeal.nD Cert.PrepKernelIdeal.τ).loc Cert.PrepKernelIdeal.main_arg2)
      ∧ r.2.mem ((c.tc : Thread Cert.PrepKernelIdeal.nD Cert.PrepKernelIdeal.τ).loc Cert.PrepKernelIdeal.main_arg3) = m ((c.tc : Thread Cert.PrepKernelIdeal.nD Cert.PrepKernelIdeal.τ).loc Cert.PrepKernelIdeal.main_arg3)
      ∧ r.2.mem ((c.tc : Thread Cert.PrepKernelIdeal.nD Cert.PrepKernelIdeal.τ).loc Cert.PrepKernelIdeal.main_arg4) = m ((c.tc : Thread Cert.PrepKernelIdeal.nD Cert.PrepKernelIdeal.τ).loc Cert.PrepKernelIdeal.main_arg4)
      ∧ r.2.mem ((c.tc : Thread Cert.PrepKernelIdeal.nD Cert.PrepKernelIdeal.τ).loc Cert.PrepKernelIdeal.main_arg5) = m ((c.tc : Thread Cert.PrepKernelIdeal.nD Cert.PrepKernelIdeal.τ).loc Cert.PrepKernelIdeal.main_arg5)
      ∧ r.2.mem ((c.tc : Thread Cert.PrepKernelIdeal.nD Cert.PrepKernelIdeal.τ).loc Cert.PrepKernelIdeal.main_arg6) = m ((c.tc : Thread Cert.PrepKernelIdeal.nD Cert.PrepKernelIdeal.τ).loc Cert.PrepKernelIdeal.main_arg6))
      ∧ r.2.sem = fun _ => 0)

def quiescent_PrepReferenceIdeal [hPrepReferenceIdeal : Cert.PrepReferenceIdeal.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2)
      ∧ r.2.mem ((c.tc : Thread Cert.PrepReferenceIdeal.nD Cert.PrepReferenceIdeal.τ).loc Cert.PrepReferenceIdeal.main_arg3) = m ((c.tc : Thread Cert.PrepReferenceIdeal.nD Cert.PrepReferenceIdeal.τ).loc Cert.PrepReferenceIdeal.main_arg3)
      ∧ r.2.mem ((c.tc : Thread Cert.PrepReferenceIdeal.nD Cert.PrepReferenceIdeal.τ).loc Cert.PrepReferenceIdeal.main_arg4) = m ((c.tc : Thread Cert.PrepReferenceIdeal.nD Cert.PrepReferenceIdeal.τ).loc Cert.PrepReferenceIdeal.main_arg4)
      ∧ r.2.mem ((c.tc : Thread Cert.PrepReferenceIdeal.nD Cert.PrepReferenceIdeal.τ).loc Cert.PrepReferenceIdeal.main_arg5) = m ((c.tc : Thread Cert.PrepReferenceIdeal.nD Cert.PrepReferenceIdeal.τ).loc Cert.PrepReferenceIdeal.main_arg5)
      ∧ r.2.mem ((c.tc : Thread Cert.PrepReferenceIdeal.nD Cert.PrepReferenceIdeal.τ).loc Cert.PrepReferenceIdeal.main_arg6) = m ((c.tc : Thread Cert.PrepReferenceIdeal.nD Cert.PrepReferenceIdeal.τ).loc Cert.PrepReferenceIdeal.main_arg6))
      ∧ r.2.sem = fun _ => 0)

def preserves_Kernel_KernelIdeal : Prop :=
  True

def algebraic_KernelIdeal_ReferenceIdeal_pre_mla_finite [hKernelIdeal : Cert.KernelIdeal.Facts] [hReferenceIdeal : Cert.ReferenceIdeal.Facts] [hPre_mla_finite : Cert.Pre_mla_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_mla_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_ExpertsKernel_ExpertsKernelIdeal : Prop :=
  True

def algebraic_ExpertsKernelIdeal_ExpertsReferenceIdeal [hExpertsKernelIdeal : Cert.ExpertsKernelIdeal.Facts] [hExpertsReferenceIdeal : Cert.ExpertsReferenceIdeal.Facts] [hPre_experts_in_range : Cert.Pre_experts_in_range.Facts] : Prop :=
  ∀ (m : (ℓ : Loc Cert.ExpertsKernelIdeal.nD Cert.ExpertsKernelIdeal.τ Cert.ExpertsKernelIdeal.sig) → Buf (Elt Ideal) ℓ) (g : Dev Cert.ExpertsKernelIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsKernelIdeal m →
    (∀ c : Dev Cert.ExpertsKernelIdeal.nD,
      m' ((c.tc : Thread Cert.ExpertsReferenceIdeal.nD Cert.ExpertsReferenceIdeal.τ).loc Cert.ExpertsReferenceIdeal.main_arg0) = m ((c.tc : Thread Cert.ExpertsKernelIdeal.nD Cert.ExpertsKernelIdeal.τ).loc Cert.ExpertsKernelIdeal.main_arg0)
      ∧ m' ((c.tc : Thread Cert.ExpertsReferenceIdeal.nD Cert.ExpertsReferenceIdeal.τ).loc Cert.ExpertsReferenceIdeal.main_arg1) = m ((c.tc : Thread Cert.ExpertsKernelIdeal.nD Cert.ExpertsKernelIdeal.τ).loc Cert.ExpertsKernelIdeal.main_arg1)
      ∧ m' ((c.tc : Thread Cert.ExpertsReferenceIdeal.nD Cert.ExpertsReferenceIdeal.τ).loc Cert.ExpertsReferenceIdeal.main_arg2) = m ((c.tc : Thread Cert.ExpertsKernelIdeal.nD Cert.ExpertsKernelIdeal.τ).loc Cert.ExpertsKernelIdeal.main_arg2)
      ∧ m' ((c.tc : Thread Cert.ExpertsReferenceIdeal.nD Cert.ExpertsReferenceIdeal.τ).loc Cert.ExpertsReferenceIdeal.main_arg3) = m ((c.tc : Thread Cert.ExpertsKernelIdeal.nD Cert.ExpertsKernelIdeal.τ).loc Cert.ExpertsKernelIdeal.main_arg3)
      ∧ m' ((c.tc : Thread Cert.ExpertsReferenceIdeal.nD Cert.ExpertsReferenceIdeal.τ).loc Cert.ExpertsReferenceIdeal.main_arg4) = m ((c.tc : Thread Cert.ExpertsKernelIdeal.nD Cert.ExpertsKernelIdeal.τ).loc Cert.ExpertsKernelIdeal.main_arg4)
      ∧ m' ((c.tc : Thread Cert.ExpertsReferenceIdeal.nD Cert.ExpertsReferenceIdeal.τ).loc Cert.ExpertsReferenceIdeal.main_arg5) = m ((c.tc : Thread Cert.ExpertsKernelIdeal.nD Cert.ExpertsKernelIdeal.τ).loc Cert.ExpertsKernelIdeal.main_arg5)
      ∧ m' ((c.tc : Thread Cert.ExpertsReferenceIdeal.nD Cert.ExpertsReferenceIdeal.τ).loc Cert.ExpertsReferenceIdeal.main_arg6) = m ((c.tc : Thread Cert.ExpertsKernelIdeal.nD Cert.ExpertsKernelIdeal.τ).loc Cert.ExpertsKernelIdeal.main_arg6)
      ∧ m' ((c.tc : Thread Cert.ExpertsReferenceIdeal.nD Cert.ExpertsReferenceIdeal.τ).loc Cert.ExpertsReferenceIdeal.main_arg7) = m ((c.tc : Thread Cert.ExpertsKernelIdeal.nD Cert.ExpertsKernelIdeal.τ).loc Cert.ExpertsKernelIdeal.main_arg7)
      ∧ m' ((c.tc : Thread Cert.ExpertsReferenceIdeal.nD Cert.ExpertsReferenceIdeal.τ).loc Cert.ExpertsReferenceIdeal.main_arg8) = m ((c.tc : Thread Cert.ExpertsKernelIdeal.nD Cert.ExpertsKernelIdeal.τ).loc Cert.ExpertsKernelIdeal.main_arg8)) →
    ∃ (v0 : (c : Dev Cert.ExpertsKernelIdeal.nD) → Buf (Elt Ideal) ((c.tc : Thread Cert.ExpertsKernelIdeal.nD Cert.ExpertsKernelIdeal.τ).loc Cert.ExpertsKernelIdeal.main_v0)),
      θ_run (Cert.ExpertsKernelIdeal.defs (F := Ideal)) (onTc (τ := Cert.ExpertsKernelIdeal.τ) (Cert.ExpertsKernelIdeal.main (F := Ideal))) ⟨m, fun _ => 0, g⟩ (fun r => ∀ c : Dev Cert.ExpertsKernelIdeal.nD,
          r.2.mem ((c.tc : Thread Cert.ExpertsKernelIdeal.nD Cert.ExpertsKernelIdeal.τ).loc Cert.ExpertsKernelIdeal.main_v0) = v0 c
          ∧ r.2.mem ((c.tc : Thread Cert.ExpertsKernelIdeal.nD Cert.ExpertsKernelIdeal.τ).loc Cert.ExpertsKernelIdeal.main_arg0) = m ((c.tc : Thread Cert.ExpertsKernelIdeal.nD Cert.ExpertsKernelIdeal.τ).loc Cert.ExpertsKernelIdeal.main_arg0)
          ∧ r.2.mem ((c.tc : Thread Cert.ExpertsKernelIdeal.nD Cert.ExpertsKernelIdeal.τ).loc Cert.ExpertsKernelIdeal.main_arg1) = m ((c.tc : Thread Cert.ExpertsKernelIdeal.nD Cert.ExpertsKernelIdeal.τ).loc Cert.ExpertsKernelIdeal.main_arg1)
          ∧ r.2.mem ((c.tc : Thread Cert.ExpertsKernelIdeal.nD Cert.ExpertsKernelIdeal.τ).loc Cert.ExpertsKernelIdeal.main_arg2) = m ((c.tc : Thread Cert.ExpertsKernelIdeal.nD Cert.ExpertsKernelIdeal.τ).loc Cert.ExpertsKernelIdeal.main_arg2)
          ∧ r.2.mem ((c.tc : Thread Cert.ExpertsKernelIdeal.nD Cert.ExpertsKernelIdeal.τ).loc Cert.ExpertsKernelIdeal.main_arg3) = m ((c.tc : Thread Cert.ExpertsKernelIdeal.nD Cert.ExpertsKernelIdeal.τ).loc Cert.ExpertsKernelIdeal.main_arg3)
          ∧ r.2.mem ((c.tc : Thread Cert.ExpertsKernelIdeal.nD Cert.ExpertsKernelIdeal.τ).loc Cert.ExpertsKernelIdeal.main_arg4) = m ((c.tc : Thread Cert.ExpertsKernelIdeal.nD Cert.ExpertsKernelIdeal.τ).loc Cert.ExpertsKernelIdeal.main_arg4)
          ∧ r.2.mem ((c.tc : Thread Cert.ExpertsKernelIdeal.nD Cert.ExpertsKernelIdeal.τ).loc Cert.ExpertsKernelIdeal.main_arg5) = m ((c.tc : Thread Cert.ExpertsKernelIdeal.nD Cert.ExpertsKernelIdeal.τ).loc Cert.ExpertsKernelIdeal.main_arg5)
          ∧ r.2.mem ((c.tc : Thread Cert.ExpertsKernelIdeal.nD Cert.ExpertsKernelIdeal.τ).loc Cert.ExpertsKernelIdeal.main_arg6) = m ((c.tc : Thread Cert.ExpertsKernelIdeal.nD Cert.ExpertsKernelIdeal.τ).loc Cert.ExpertsKernelIdeal.main_arg6)
          ∧ r.2.mem ((c.tc : Thread Cert.ExpertsKernelIdeal.nD Cert.ExpertsKernelIdeal.τ).loc Cert.ExpertsKernelIdeal.main_arg7) = m ((c.tc : Thread Cert.ExpertsKernelIdeal.nD Cert.ExpertsKernelIdeal.τ).loc Cert.ExpertsKernelIdeal.main_arg7)
          ∧ r.2.mem ((c.tc : Thread Cert.ExpertsKernelIdeal.nD Cert.ExpertsKernelIdeal.τ).loc Cert.ExpertsKernelIdeal.main_arg8) = m ((c.tc : Thread Cert.ExpertsKernelIdeal.nD Cert.ExpertsKernelIdeal.τ).loc Cert.ExpertsKernelIdeal.main_arg8))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v37) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5)
          ∧ r.2.mem ((c.tc : Thread Cert.ExpertsReferenceIdeal.nD Cert.ExpertsReferenceIdeal.τ).loc Cert.ExpertsReferenceIdeal.main_arg6) = m' ((c.tc : Thread Cert.ExpertsReferenceIdeal.nD Cert.ExpertsReferenceIdeal.τ).loc Cert.ExpertsReferenceIdeal.main_arg6)
          ∧ r.2.mem ((c.tc : Thread Cert.ExpertsReferenceIdeal.nD Cert.ExpertsReferenceIdeal.τ).loc Cert.ExpertsReferenceIdeal.main_arg7) = m' ((c.tc : Thread Cert.ExpertsReferenceIdeal.nD Cert.ExpertsReferenceIdeal.τ).loc Cert.ExpertsReferenceIdeal.main_arg7)
          ∧ r.2.mem ((c.tc : Thread Cert.ExpertsReferenceIdeal.nD Cert.ExpertsReferenceIdeal.τ).loc Cert.ExpertsReferenceIdeal.main_arg8) = m' ((c.tc : Thread Cert.ExpertsReferenceIdeal.nD Cert.ExpertsReferenceIdeal.τ).loc Cert.ExpertsReferenceIdeal.main_arg8))

def preserves_MobaKernel_MobaKernelIdeal : Prop :=
  True

def algebraic_MobaKernelIdeal_MobaReferenceIdeal_pre_moba_finite [hMobaKernelIdeal : Cert.MobaKernelIdeal.Facts] [hMobaReferenceIdeal : Cert.MobaReferenceIdeal.Facts] [hPre_moba_finite : Cert.Pre_moba_finite.Facts] : Prop :=
  ∀ (m : (ℓ : Loc Cert.MobaKernelIdeal.nD Cert.MobaKernelIdeal.τ Cert.MobaKernelIdeal.sig) → Buf (Elt Ideal) ℓ) (g : Dev Cert.MobaKernelIdeal.nD → PrngReg)
    (m' : (ℓ : Loc Cert.MobaReferenceIdeal.nD Cert.MobaReferenceIdeal.τ Cert.MobaReferenceIdeal.sig) → Buf (Elt Ideal) ℓ) (g' : Dev Cert.MobaReferenceIdeal.nD → PrngReg), Pre_MobaKernelIdeal_moba_finite m →
    (∀ c : Dev Cert.MobaKernelIdeal.nD,
      m' ((c.tc : Thread Cert.MobaReferenceIdeal.nD Cert.MobaReferenceIdeal.τ).loc Cert.MobaReferenceIdeal.main_arg0) = m ((c.tc : Thread Cert.MobaKernelIdeal.nD Cert.MobaKernelIdeal.τ).loc Cert.MobaKernelIdeal.main_arg0)
      ∧ m' ((c.tc : Thread Cert.MobaReferenceIdeal.nD Cert.MobaReferenceIdeal.τ).loc Cert.MobaReferenceIdeal.main_arg1) = m ((c.tc : Thread Cert.MobaKernelIdeal.nD Cert.MobaKernelIdeal.τ).loc Cert.MobaKernelIdeal.main_arg1)
      ∧ m' ((c.tc : Thread Cert.MobaReferenceIdeal.nD Cert.MobaReferenceIdeal.τ).loc Cert.MobaReferenceIdeal.main_arg2) = m ((c.tc : Thread Cert.MobaKernelIdeal.nD Cert.MobaKernelIdeal.τ).loc Cert.MobaKernelIdeal.main_arg2)
      ∧ m' ((c.tc : Thread Cert.MobaReferenceIdeal.nD Cert.MobaReferenceIdeal.τ).loc Cert.MobaReferenceIdeal.main_arg3) = m ((c.tc : Thread Cert.MobaKernelIdeal.nD Cert.MobaKernelIdeal.τ).loc Cert.MobaKernelIdeal.main_arg3)) →
    ∃ (v0 : (c : Dev Cert.MobaKernelIdeal.nD) → Buf (Elt Ideal) ((c.tc : Thread Cert.MobaKernelIdeal.nD Cert.MobaKernelIdeal.τ).loc Cert.MobaKernelIdeal.main_v0)),
      θ_run (Cert.MobaKernelIdeal.defs (F := Ideal)) (onTc (τ := Cert.MobaKernelIdeal.τ) (Cert.MobaKernelIdeal.main (F := Ideal))) ⟨m, fun _ => 0, g⟩ (fun r => ∀ c : Dev Cert.MobaKernelIdeal.nD,
          r.2.mem ((c.tc : Thread Cert.MobaKernelIdeal.nD Cert.MobaKernelIdeal.τ).loc Cert.MobaKernelIdeal.main_v0) = v0 c
          ∧ r.2.mem ((c.tc : Thread Cert.MobaKernelIdeal.nD Cert.MobaKernelIdeal.τ).loc Cert.MobaKernelIdeal.main_arg0) = m ((c.tc : Thread Cert.MobaKernelIdeal.nD Cert.MobaKernelIdeal.τ).loc Cert.MobaKernelIdeal.main_arg0)
          ∧ r.2.mem ((c.tc : Thread Cert.MobaKernelIdeal.nD Cert.MobaKernelIdeal.τ).loc Cert.MobaKernelIdeal.main_arg1) = m ((c.tc : Thread Cert.MobaKernelIdeal.nD Cert.MobaKernelIdeal.τ).loc Cert.MobaKernelIdeal.main_arg1)
          ∧ r.2.mem ((c.tc : Thread Cert.MobaKernelIdeal.nD Cert.MobaKernelIdeal.τ).loc Cert.MobaKernelIdeal.main_arg2) = m ((c.tc : Thread Cert.MobaKernelIdeal.nD Cert.MobaKernelIdeal.τ).loc Cert.MobaKernelIdeal.main_arg2)
          ∧ r.2.mem ((c.tc : Thread Cert.MobaKernelIdeal.nD Cert.MobaKernelIdeal.τ).loc Cert.MobaKernelIdeal.main_arg3) = m ((c.tc : Thread Cert.MobaKernelIdeal.nD Cert.MobaKernelIdeal.τ).loc Cert.MobaKernelIdeal.main_arg3))
      ∧ θ_run (Cert.MobaReferenceIdeal.defs (F := Ideal)) (onTc (τ := Cert.MobaReferenceIdeal.τ) (Cert.MobaReferenceIdeal.main (F := Ideal))) ⟨m', fun _ => 0, g'⟩ (fun r => ∀ c : Dev Cert.MobaReferenceIdeal.nD,
          r.2.mem ((c.tc : Thread Cert.MobaReferenceIdeal.nD Cert.MobaReferenceIdeal.τ).loc Cert.MobaReferenceIdeal.main_v44) = v0 c
          ∧ r.2.mem ((c.tc : Thread Cert.MobaReferenceIdeal.nD Cert.MobaReferenceIdeal.τ).loc Cert.MobaReferenceIdeal.main_arg0) = m' ((c.tc : Thread Cert.MobaReferenceIdeal.nD Cert.MobaReferenceIdeal.τ).loc Cert.MobaReferenceIdeal.main_arg0)
          ∧ r.2.mem ((c.tc : Thread Cert.MobaReferenceIdeal.nD Cert.MobaReferenceIdeal.τ).loc Cert.MobaReferenceIdeal.main_arg1) = m' ((c.tc : Thread Cert.MobaReferenceIdeal.nD Cert.MobaReferenceIdeal.τ).loc Cert.MobaReferenceIdeal.main_arg1)
          ∧ r.2.mem ((c.tc : Thread Cert.MobaReferenceIdeal.nD Cert.MobaReferenceIdeal.τ).loc Cert.MobaReferenceIdeal.main_arg2) = m' ((c.tc : Thread Cert.MobaReferenceIdeal.nD Cert.MobaReferenceIdeal.τ).loc Cert.MobaReferenceIdeal.main_arg2)
          ∧ r.2.mem ((c.tc : Thread Cert.MobaReferenceIdeal.nD Cert.MobaReferenceIdeal.τ).loc Cert.MobaReferenceIdeal.main_arg3) = m' ((c.tc : Thread Cert.MobaReferenceIdeal.nD Cert.MobaReferenceIdeal.τ).loc Cert.MobaReferenceIdeal.main_arg3))

def preserves_OprojKernel_OprojKernelIdeal : Prop :=
  True

def algebraic_OprojKernelIdeal_OprojReferenceIdeal [hOprojKernelIdeal : Cert.OprojKernelIdeal.Facts] [hOprojReferenceIdeal : Cert.OprojReferenceIdeal.Facts] : Prop :=
  ∀ (m : (ℓ : Loc Cert.OprojKernelIdeal.nD Cert.OprojKernelIdeal.τ Cert.OprojKernelIdeal.sig) → Buf (Elt Ideal) ℓ) (g : Dev Cert.OprojKernelIdeal.nD → PrngReg)
    (m' : (ℓ : Loc Cert.OprojReferenceIdeal.nD Cert.OprojReferenceIdeal.τ Cert.OprojReferenceIdeal.sig) → Buf (Elt Ideal) ℓ) (g' : Dev Cert.OprojReferenceIdeal.nD → PrngReg), Pre_OprojKernelIdeal m →
    (∀ c : Dev Cert.OprojKernelIdeal.nD,
      m' ((c.tc : Thread Cert.OprojReferenceIdeal.nD Cert.OprojReferenceIdeal.τ).loc Cert.OprojReferenceIdeal.main_arg0) = m ((c.tc : Thread Cert.OprojKernelIdeal.nD Cert.OprojKernelIdeal.τ).loc Cert.OprojKernelIdeal.main_arg0)
      ∧ m' ((c.tc : Thread Cert.OprojReferenceIdeal.nD Cert.OprojReferenceIdeal.τ).loc Cert.OprojReferenceIdeal.main_arg1) = m ((c.tc : Thread Cert.OprojKernelIdeal.nD Cert.OprojKernelIdeal.τ).loc Cert.OprojKernelIdeal.main_arg1)
      ∧ m' ((c.tc : Thread Cert.OprojReferenceIdeal.nD Cert.OprojReferenceIdeal.τ).loc Cert.OprojReferenceIdeal.main_arg2) = m ((c.tc : Thread Cert.OprojKernelIdeal.nD Cert.OprojKernelIdeal.τ).loc Cert.OprojKernelIdeal.main_arg2)
      ∧ m' ((c.tc : Thread Cert.OprojReferenceIdeal.nD Cert.OprojReferenceIdeal.τ).loc Cert.OprojReferenceIdeal.main_arg3) = m ((c.tc : Thread Cert.OprojKernelIdeal.nD Cert.OprojKernelIdeal.τ).loc Cert.OprojKernelIdeal.main_arg3)
      ∧ m' ((c.tc : Thread Cert.OprojReferenceIdeal.nD Cert.OprojReferenceIdeal.τ).loc Cert.OprojReferenceIdeal.main_arg4) = m ((c.tc : Thread Cert.OprojKernelIdeal.nD Cert.OprojKernelIdeal.τ).loc Cert.OprojKernelIdeal.main_arg4)
      ∧ m' ((c.tc : Thread Cert.OprojReferenceIdeal.nD Cert.OprojReferenceIdeal.τ).loc Cert.OprojReferenceIdeal.main_arg5) = m ((c.tc : Thread Cert.OprojKernelIdeal.nD Cert.OprojKernelIdeal.τ).loc Cert.OprojKernelIdeal.main_arg5)
      ∧ m' ((c.tc : Thread Cert.OprojReferenceIdeal.nD Cert.OprojReferenceIdeal.τ).loc Cert.OprojReferenceIdeal.main_arg6) = m ((c.tc : Thread Cert.OprojKernelIdeal.nD Cert.OprojKernelIdeal.τ).loc Cert.OprojKernelIdeal.main_arg6)
      ∧ m' ((c.tc : Thread Cert.OprojReferenceIdeal.nD Cert.OprojReferenceIdeal.τ).loc Cert.OprojReferenceIdeal.main_arg7) = m ((c.tc : Thread Cert.OprojKernelIdeal.nD Cert.OprojKernelIdeal.τ).loc Cert.OprojKernelIdeal.main_arg7)) →
    ∃ (v0 : (c : Dev Cert.OprojKernelIdeal.nD) → Buf (Elt Ideal) ((c.tc : Thread Cert.OprojKernelIdeal.nD Cert.OprojKernelIdeal.τ).loc Cert.OprojKernelIdeal.main_v8_0)),
      θ_run (Cert.OprojKernelIdeal.defs (F := Ideal)) (onTc (τ := Cert.OprojKernelIdeal.τ) (Cert.OprojKernelIdeal.main (F := Ideal))) ⟨m, fun _ => 0, g⟩ (fun r => ∀ c : Dev Cert.OprojKernelIdeal.nD,
          r.2.mem ((c.tc : Thread Cert.OprojKernelIdeal.nD Cert.OprojKernelIdeal.τ).loc Cert.OprojKernelIdeal.main_v8_0) = v0 c
          ∧ r.2.mem ((c.tc : Thread Cert.OprojKernelIdeal.nD Cert.OprojKernelIdeal.τ).loc Cert.OprojKernelIdeal.main_arg0) = m ((c.tc : Thread Cert.OprojKernelIdeal.nD Cert.OprojKernelIdeal.τ).loc Cert.OprojKernelIdeal.main_arg0)
          ∧ r.2.mem ((c.tc : Thread Cert.OprojKernelIdeal.nD Cert.OprojKernelIdeal.τ).loc Cert.OprojKernelIdeal.main_arg1) = m ((c.tc : Thread Cert.OprojKernelIdeal.nD Cert.OprojKernelIdeal.τ).loc Cert.OprojKernelIdeal.main_arg1)
          ∧ r.2.mem ((c.tc : Thread Cert.OprojKernelIdeal.nD Cert.OprojKernelIdeal.τ).loc Cert.OprojKernelIdeal.main_arg2) = m ((c.tc : Thread Cert.OprojKernelIdeal.nD Cert.OprojKernelIdeal.τ).loc Cert.OprojKernelIdeal.main_arg2)
          ∧ r.2.mem ((c.tc : Thread Cert.OprojKernelIdeal.nD Cert.OprojKernelIdeal.τ).loc Cert.OprojKernelIdeal.main_arg3) = m ((c.tc : Thread Cert.OprojKernelIdeal.nD Cert.OprojKernelIdeal.τ).loc Cert.OprojKernelIdeal.main_arg3)
          ∧ r.2.mem ((c.tc : Thread Cert.OprojKernelIdeal.nD Cert.OprojKernelIdeal.τ).loc Cert.OprojKernelIdeal.main_arg4) = m ((c.tc : Thread Cert.OprojKernelIdeal.nD Cert.OprojKernelIdeal.τ).loc Cert.OprojKernelIdeal.main_arg4)
          ∧ r.2.mem ((c.tc : Thread Cert.OprojKernelIdeal.nD Cert.OprojKernelIdeal.τ).loc Cert.OprojKernelIdeal.main_arg5) = m ((c.tc : Thread Cert.OprojKernelIdeal.nD Cert.OprojKernelIdeal.τ).loc Cert.OprojKernelIdeal.main_arg5)
          ∧ r.2.mem ((c.tc : Thread Cert.OprojKernelIdeal.nD Cert.OprojKernelIdeal.τ).loc Cert.OprojKernelIdeal.main_arg6) = m ((c.tc : Thread Cert.OprojKernelIdeal.nD Cert.OprojKernelIdeal.τ).loc Cert.OprojKernelIdeal.main_arg6)
          ∧ r.2.mem ((c.tc : Thread Cert.OprojKernelIdeal.nD Cert.OprojKernelIdeal.τ).loc Cert.OprojKernelIdeal.main_arg7) = m ((c.tc : Thread Cert.OprojKernelIdeal.nD Cert.OprojKernelIdeal.τ).loc Cert.OprojKernelIdeal.main_arg7))
      ∧ θ_run (Cert.OprojReferenceIdeal.defs (F := Ideal)) (onTc (τ := Cert.OprojReferenceIdeal.τ) (Cert.OprojReferenceIdeal.main (F := Ideal))) ⟨m', fun _ => 0, g'⟩ (fun r => ∀ c : Dev Cert.OprojReferenceIdeal.nD,
          r.2.mem ((c.tc : Thread Cert.OprojReferenceIdeal.nD Cert.OprojReferenceIdeal.τ).loc Cert.OprojReferenceIdeal.main_v29) = v0 c
          ∧ r.2.mem ((c.tc : Thread Cert.OprojReferenceIdeal.nD Cert.OprojReferenceIdeal.τ).loc Cert.OprojReferenceIdeal.main_arg0) = m' ((c.tc : Thread Cert.OprojReferenceIdeal.nD Cert.OprojReferenceIdeal.τ).loc Cert.OprojReferenceIdeal.main_arg0)
          ∧ r.2.mem ((c.tc : Thread Cert.OprojReferenceIdeal.nD Cert.OprojReferenceIdeal.τ).loc Cert.OprojReferenceIdeal.main_arg1) = m' ((c.tc : Thread Cert.OprojReferenceIdeal.nD Cert.OprojReferenceIdeal.τ).loc Cert.OprojReferenceIdeal.main_arg1)
          ∧ r.2.mem ((c.tc : Thread Cert.OprojReferenceIdeal.nD Cert.OprojReferenceIdeal.τ).loc Cert.OprojReferenceIdeal.main_arg2) = m' ((c.tc : Thread Cert.OprojReferenceIdeal.nD Cert.OprojReferenceIdeal.τ).loc Cert.OprojReferenceIdeal.main_arg2)
          ∧ r.2.mem ((c.tc : Thread Cert.OprojReferenceIdeal.nD Cert.OprojReferenceIdeal.τ).loc Cert.OprojReferenceIdeal.main_arg3) = m' ((c.tc : Thread Cert.OprojReferenceIdeal.nD Cert.OprojReferenceIdeal.τ).loc Cert.OprojReferenceIdeal.main_arg3)
          ∧ r.2.mem ((c.tc : Thread Cert.OprojReferenceIdeal.nD Cert.OprojReferenceIdeal.τ).loc Cert.OprojReferenceIdeal.main_arg4) = m' ((c.tc : Thread Cert.OprojReferenceIdeal.nD Cert.OprojReferenceIdeal.τ).loc Cert.OprojReferenceIdeal.main_arg4)
          ∧ r.2.mem ((c.tc : Thread Cert.OprojReferenceIdeal.nD Cert.OprojReferenceIdeal.τ).loc Cert.OprojReferenceIdeal.main_arg5) = m' ((c.tc : Thread Cert.OprojReferenceIdeal.nD Cert.OprojReferenceIdeal.τ).loc Cert.OprojReferenceIdeal.main_arg5)
          ∧ r.2.mem ((c.tc : Thread Cert.OprojReferenceIdeal.nD Cert.OprojReferenceIdeal.τ).loc Cert.OprojReferenceIdeal.main_arg6) = m' ((c.tc : Thread Cert.OprojReferenceIdeal.nD Cert.OprojReferenceIdeal.τ).loc Cert.OprojReferenceIdeal.main_arg6)
          ∧ r.2.mem ((c.tc : Thread Cert.OprojReferenceIdeal.nD Cert.OprojReferenceIdeal.τ).loc Cert.OprojReferenceIdeal.main_arg7) = m' ((c.tc : Thread Cert.OprojReferenceIdeal.nD Cert.OprojReferenceIdeal.τ).loc Cert.OprojReferenceIdeal.main_arg7))

def preserves_PrepKernel_PrepKernelIdeal : Prop :=
  True

def algebraic_PrepKernelIdeal_PrepReferenceIdeal [hPrepKernelIdeal : Cert.PrepKernelIdeal.Facts] [hPrepReferenceIdeal : Cert.PrepReferenceIdeal.Facts] : Prop :=
  ∀ (m : (ℓ : Loc Cert.PrepKernelIdeal.nD Cert.PrepKernelIdeal.τ Cert.PrepKernelIdeal.sig) → Buf (Elt Ideal) ℓ) (g : Dev Cert.PrepKernelIdeal.nD → PrngReg)
    (m' : (ℓ : Loc Cert.PrepReferenceIdeal.nD Cert.PrepReferenceIdeal.τ Cert.PrepReferenceIdeal.sig) → Buf (Elt Ideal) ℓ) (g' : Dev Cert.PrepReferenceIdeal.nD → PrngReg), Pre_PrepKernelIdeal m →
    (∀ c : Dev Cert.PrepKernelIdeal.nD,
      m' ((c.tc : Thread Cert.PrepReferenceIdeal.nD Cert.PrepReferenceIdeal.τ).loc Cert.PrepReferenceIdeal.main_arg0) = m ((c.tc : Thread Cert.PrepKernelIdeal.nD Cert.PrepKernelIdeal.τ).loc Cert.PrepKernelIdeal.main_arg0)
      ∧ m' ((c.tc : Thread Cert.PrepReferenceIdeal.nD Cert.PrepReferenceIdeal.τ).loc Cert.PrepReferenceIdeal.main_arg1) = m ((c.tc : Thread Cert.PrepKernelIdeal.nD Cert.PrepKernelIdeal.τ).loc Cert.PrepKernelIdeal.main_arg1)
      ∧ m' ((c.tc : Thread Cert.PrepReferenceIdeal.nD Cert.PrepReferenceIdeal.τ).loc Cert.PrepReferenceIdeal.main_arg2) = m ((c.tc : Thread Cert.PrepKernelIdeal.nD Cert.PrepKernelIdeal.τ).loc Cert.PrepKernelIdeal.main_arg2)
      ∧ m' ((c.tc : Thread Cert.PrepReferenceIdeal.nD Cert.PrepReferenceIdeal.τ).loc Cert.PrepReferenceIdeal.main_arg3) = m ((c.tc : Thread Cert.PrepKernelIdeal.nD Cert.PrepKernelIdeal.τ).loc Cert.PrepKernelIdeal.main_arg3)
      ∧ m' ((c.tc : Thread Cert.PrepReferenceIdeal.nD Cert.PrepReferenceIdeal.τ).loc Cert.PrepReferenceIdeal.main_arg4) = m ((c.tc : Thread Cert.PrepKernelIdeal.nD Cert.PrepKernelIdeal.τ).loc Cert.PrepKernelIdeal.main_arg4)
      ∧ m' ((c.tc : Thread Cert.PrepReferenceIdeal.nD Cert.PrepReferenceIdeal.τ).loc Cert.PrepReferenceIdeal.main_arg5) = m ((c.tc : Thread Cert.PrepKernelIdeal.nD Cert.PrepKernelIdeal.τ).loc Cert.PrepKernelIdeal.main_arg5)
      ∧ m' ((c.tc : Thread Cert.PrepReferenceIdeal.nD Cert.PrepReferenceIdeal.τ).loc Cert.PrepReferenceIdeal.main_arg6) = m ((c.tc : Thread Cert.PrepKernelIdeal.nD Cert.PrepKernelIdeal.τ).loc Cert.PrepKernelIdeal.main_arg6)) →
    ∃ (v0 : (c : Dev Cert.PrepKernelIdeal.nD) → Buf (Elt Ideal) ((c.tc : Thread Cert.PrepKernelIdeal.nD Cert.PrepKernelIdeal.τ).loc Cert.PrepKernelIdeal.main_v108_2)) (v1 : (c : Dev Cert.PrepKernelIdeal.nD) → Buf (Elt Ideal) ((c.tc : Thread Cert.PrepKernelIdeal.nD Cert.PrepKernelIdeal.τ).loc Cert.PrepKernelIdeal.main_v108_5)),
      θ_run (Cert.PrepKernelIdeal.defs (F := Ideal)) (onTc (τ := Cert.PrepKernelIdeal.τ) (Cert.PrepKernelIdeal.main (F := Ideal))) ⟨m, fun _ => 0, g⟩ (fun r => ∀ c : Dev Cert.PrepKernelIdeal.nD,
          r.2.mem ((c.tc : Thread Cert.PrepKernelIdeal.nD Cert.PrepKernelIdeal.τ).loc Cert.PrepKernelIdeal.main_v108_2) = v0 c
          ∧ r.2.mem ((c.tc : Thread Cert.PrepKernelIdeal.nD Cert.PrepKernelIdeal.τ).loc Cert.PrepKernelIdeal.main_v108_5) = v1 c
          ∧ r.2.mem ((c.tc : Thread Cert.PrepKernelIdeal.nD Cert.PrepKernelIdeal.τ).loc Cert.PrepKernelIdeal.main_arg0) = m ((c.tc : Thread Cert.PrepKernelIdeal.nD Cert.PrepKernelIdeal.τ).loc Cert.PrepKernelIdeal.main_arg0)
          ∧ r.2.mem ((c.tc : Thread Cert.PrepKernelIdeal.nD Cert.PrepKernelIdeal.τ).loc Cert.PrepKernelIdeal.main_arg1) = m ((c.tc : Thread Cert.PrepKernelIdeal.nD Cert.PrepKernelIdeal.τ).loc Cert.PrepKernelIdeal.main_arg1)
          ∧ r.2.mem ((c.tc : Thread Cert.PrepKernelIdeal.nD Cert.PrepKernelIdeal.τ).loc Cert.PrepKernelIdeal.main_arg2) = m ((c.tc : Thread Cert.PrepKernelIdeal.nD Cert.PrepKernelIdeal.τ).loc Cert.PrepKernelIdeal.main_arg2)
          ∧ r.2.mem ((c.tc : Thread Cert.PrepKernelIdeal.nD Cert.PrepKernelIdeal.τ).loc Cert.PrepKernelIdeal.main_arg3) = m ((c.tc : Thread Cert.PrepKernelIdeal.nD Cert.PrepKernelIdeal.τ).loc Cert.PrepKernelIdeal.main_arg3)
          ∧ r.2.mem ((c.tc : Thread Cert.PrepKernelIdeal.nD Cert.PrepKernelIdeal.τ).loc Cert.PrepKernelIdeal.main_arg4) = m ((c.tc : Thread Cert.PrepKernelIdeal.nD Cert.PrepKernelIdeal.τ).loc Cert.PrepKernelIdeal.main_arg4)
          ∧ r.2.mem ((c.tc : Thread Cert.PrepKernelIdeal.nD Cert.PrepKernelIdeal.τ).loc Cert.PrepKernelIdeal.main_arg5) = m ((c.tc : Thread Cert.PrepKernelIdeal.nD Cert.PrepKernelIdeal.τ).loc Cert.PrepKernelIdeal.main_arg5)
          ∧ r.2.mem ((c.tc : Thread Cert.PrepKernelIdeal.nD Cert.PrepKernelIdeal.τ).loc Cert.PrepKernelIdeal.main_arg6) = m ((c.tc : Thread Cert.PrepKernelIdeal.nD Cert.PrepKernelIdeal.τ).loc Cert.PrepKernelIdeal.main_arg6))
      ∧ θ_run (Cert.PrepReferenceIdeal.defs (F := Ideal)) (onTc (τ := Cert.PrepReferenceIdeal.τ) (Cert.PrepReferenceIdeal.main (F := Ideal))) ⟨m', fun _ => 0, g'⟩ (fun r => ∀ c : Dev Cert.PrepReferenceIdeal.nD,
          r.2.mem ((c.tc : Thread Cert.PrepReferenceIdeal.nD Cert.PrepReferenceIdeal.τ).loc Cert.PrepReferenceIdeal.main_v20) = v0 c
          ∧ r.2.mem ((c.tc : Thread Cert.PrepReferenceIdeal.nD Cert.PrepReferenceIdeal.τ).loc Cert.PrepReferenceIdeal.main_v22) = v1 c
          ∧ r.2.mem ((c.tc : Thread Cert.PrepReferenceIdeal.nD Cert.PrepReferenceIdeal.τ).loc Cert.PrepReferenceIdeal.main_arg0) = m' ((c.tc : Thread Cert.PrepReferenceIdeal.nD Cert.PrepReferenceIdeal.τ).loc Cert.PrepReferenceIdeal.main_arg0)
          ∧ r.2.mem ((c.tc : Thread Cert.PrepReferenceIdeal.nD Cert.PrepReferenceIdeal.τ).loc Cert.PrepReferenceIdeal.main_arg1) = m' ((c.tc : Thread Cert.PrepReferenceIdeal.nD Cert.PrepReferenceIdeal.τ).loc Cert.PrepReferenceIdeal.main_arg1)
          ∧ r.2.mem ((c.tc : Thread Cert.PrepReferenceIdeal.nD Cert.PrepReferenceIdeal.τ).loc Cert.PrepReferenceIdeal.main_arg2) = m' ((c.tc : Thread Cert.PrepReferenceIdeal.nD Cert.PrepReferenceIdeal.τ).loc Cert.PrepReferenceIdeal.main_arg2)
          ∧ r.2.mem ((c.tc : Thread Cert.PrepReferenceIdeal.nD Cert.PrepReferenceIdeal.τ).loc Cert.PrepReferenceIdeal.main_arg3) = m' ((c.tc : Thread Cert.PrepReferenceIdeal.nD Cert.PrepReferenceIdeal.τ).loc Cert.PrepReferenceIdeal.main_arg3)
          ∧ r.2.mem ((c.tc : Thread Cert.PrepReferenceIdeal.nD Cert.PrepReferenceIdeal.τ).loc Cert.PrepReferenceIdeal.main_arg4) = m' ((c.tc : Thread Cert.PrepReferenceIdeal.nD Cert.PrepReferenceIdeal.τ).loc Cert.PrepReferenceIdeal.main_arg4)
          ∧ r.2.mem ((c.tc : Thread Cert.PrepReferenceIdeal.nD Cert.PrepReferenceIdeal.τ).loc Cert.PrepReferenceIdeal.main_arg5) = m' ((c.tc : Thread Cert.PrepReferenceIdeal.nD Cert.PrepReferenceIdeal.τ).loc Cert.PrepReferenceIdeal.main_arg5)
          ∧ r.2.mem ((c.tc : Thread Cert.PrepReferenceIdeal.nD Cert.PrepReferenceIdeal.τ).loc Cert.PrepReferenceIdeal.main_arg6) = m' ((c.tc : Thread Cert.PrepReferenceIdeal.nD Cert.PrepReferenceIdeal.τ).loc Cert.PrepReferenceIdeal.main_arg6))

def Claim : Prop :=
  ∃ (hKernel : Cert.Kernel.Facts) (hKernelIdeal : Cert.KernelIdeal.Facts) (hReferenceIdeal : Cert.ReferenceIdeal.Facts) (hExpertsKernel : Cert.ExpertsKernel.Facts) (hExpertsKernelIdeal : Cert.ExpertsKernelIdeal.Facts) (hExpertsReferenceIdeal : Cert.ExpertsReferenceIdeal.Facts) (hMobaKernel : Cert.MobaKernel.Facts) (hMobaKernelIdeal : Cert.MobaKernelIdeal.Facts) (hMobaReferenceIdeal : Cert.MobaReferenceIdeal.Facts) (hOprojKernel : Cert.OprojKernel.Facts) (hOprojKernelIdeal : Cert.OprojKernelIdeal.Facts) (hOprojReferenceIdeal : Cert.OprojReferenceIdeal.Facts) (hPrepKernel : Cert.PrepKernel.Facts) (hPrepKernelIdeal : Cert.PrepKernelIdeal.Facts) (hPrepReferenceIdeal : Cert.PrepReferenceIdeal.Facts) (hPre_mla_finite : Cert.Pre_mla_finite.Facts) (hPre_experts_in_range : Cert.Pre_experts_in_range.Facts) (hPre_moba_finite : Cert.Pre_moba_finite.Facts),
    quiescent_Kernel (hKernel := hKernel)
    ∧ quiescent_KernelIdeal (hKernelIdeal := hKernelIdeal)
    ∧ quiescent_KernelIdeal_pre_mla_finite (hKernelIdeal := hKernelIdeal) (hPre_mla_finite := hPre_mla_finite)
    ∧ quiescent_ReferenceIdeal (hReferenceIdeal := hReferenceIdeal)
    ∧ quiescent_ReferenceIdeal_pre_mla_finite (hReferenceIdeal := hReferenceIdeal) (hPre_mla_finite := hPre_mla_finite)
    ∧ quiescent_ExpertsKernel (hExpertsKernel := hExpertsKernel) (hPre_experts_in_range := hPre_experts_in_range)
    ∧ quiescent_ExpertsKernelIdeal (hExpertsKernelIdeal := hExpertsKernelIdeal) (hPre_experts_in_range := hPre_experts_in_range)
    ∧ quiescent_ExpertsReferenceIdeal (hExpertsReferenceIdeal := hExpertsReferenceIdeal)
    ∧ quiescent_ExpertsReferenceIdeal_pre_experts_in_range (hExpertsReferenceIdeal := hExpertsReferenceIdeal) (hPre_experts_in_range := hPre_experts_in_range)
    ∧ quiescent_MobaKernel (hMobaKernel := hMobaKernel)
    ∧ quiescent_MobaKernelIdeal (hMobaKernelIdeal := hMobaKernelIdeal)
    ∧ quiescent_MobaKernelIdeal_pre_moba_finite (hMobaKernelIdeal := hMobaKernelIdeal) (hPre_moba_finite := hPre_moba_finite)
    ∧ quiescent_MobaReferenceIdeal (hMobaReferenceIdeal := hMobaReferenceIdeal)
    ∧ quiescent_MobaReferenceIdeal_pre_moba_finite (hMobaReferenceIdeal := hMobaReferenceIdeal) (hPre_moba_finite := hPre_moba_finite)
    ∧ quiescent_OprojKernel (hOprojKernel := hOprojKernel)
    ∧ quiescent_OprojKernelIdeal (hOprojKernelIdeal := hOprojKernelIdeal)
    ∧ quiescent_OprojReferenceIdeal (hOprojReferenceIdeal := hOprojReferenceIdeal)
    ∧ quiescent_PrepKernel (hPrepKernel := hPrepKernel)
    ∧ quiescent_PrepKernelIdeal (hPrepKernelIdeal := hPrepKernelIdeal)
    ∧ quiescent_PrepReferenceIdeal (hPrepReferenceIdeal := hPrepReferenceIdeal)
    ∧ preserves_Kernel_KernelIdeal
    ∧ algebraic_KernelIdeal_ReferenceIdeal_pre_mla_finite (hKernelIdeal := hKernelIdeal) (hReferenceIdeal := hReferenceIdeal) (hPre_mla_finite := hPre_mla_finite)
    ∧ preserves_ExpertsKernel_ExpertsKernelIdeal
    ∧ algebraic_ExpertsKernelIdeal_ExpertsReferenceIdeal (hExpertsKernelIdeal := hExpertsKernelIdeal) (hExpertsReferenceIdeal := hExpertsReferenceIdeal) (hPre_experts_in_range := hPre_experts_in_range)
    ∧ preserves_MobaKernel_MobaKernelIdeal
    ∧ algebraic_MobaKernelIdeal_MobaReferenceIdeal_pre_moba_finite (hMobaKernelIdeal := hMobaKernelIdeal) (hMobaReferenceIdeal := hMobaReferenceIdeal) (hPre_moba_finite := hPre_moba_finite)
    ∧ preserves_OprojKernel_OprojKernelIdeal
    ∧ algebraic_OprojKernelIdeal_OprojReferenceIdeal (hOprojKernelIdeal := hOprojKernelIdeal) (hOprojReferenceIdeal := hOprojReferenceIdeal)
    ∧ preserves_PrepKernel_PrepKernelIdeal
    ∧ algebraic_PrepKernelIdeal_PrepReferenceIdeal (hPrepKernelIdeal := hPrepKernelIdeal) (hPrepReferenceIdeal := hPrepReferenceIdeal)
-- ==== Pre_experts_in_range.lean ====
abbrev S288 : Shape := ⟨1, ![288]⟩
abbrev S1 : Shape := ⟨1, ![1]⟩
abbrev S73728x1024 : Shape := ⟨2, ![73728, 1024]⟩
abbrev S32x1024x1024 : Shape := ⟨3, ![32, 1024, 1024]⟩
abbrev S32x1x1024 : Shape := ⟨3, ![32, 1, 1024]⟩
abbrev S_ : Shape := ⟨0, ![]⟩

class Facts : Prop where
  bcast_S_S288 : S_.BroadcastsInDim S288 (![] : Fin 0 → Fin S288.rank)
  bcast_S_S1 : S_.BroadcastsInDim S1 (![] : Fin 0 → Fin S1.rank)

variable [Facts]

def fn {F : FTy → Type} [FloatOps F] (main_arg0 : IVec S288 32) (main_arg1 : IVec S1 32) (main_arg2 : FVec F S73728x1024 .f32) (main_arg3 : FVec F S32x1024x1024 .f32) (main_arg4 : FVec F S32x1x1024 .f32) (main_arg5 : FVec F S32x1024x1024 .f32) (main_arg6 : FVec F S32x1x1024 .f32) (main_arg7 : FVec F S32x1024x1024 .f32) (main_arg8 : FVec F S32x1x1024 .f32) : IVec S288 1 × IVec S1 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 32#32
  let main_v2 : IVec S288 32 := broadcastInDim S288 ![] bcast_S_S288 main_c_0
  let main_v3 : IVec S288 1 := cmpi .slt main_arg0 main_v2
  let main_v4 : IVec S288 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  (main_v4, main_v6)
-- ==== Pre_mla_finite.lean ====
abbrev S16384x1024 : Shape := ⟨2, ![16384, 1024]⟩
abbrev S16384x512 : Shape := ⟨2, ![16384, 512]⟩
abbrev S_ : Shape := ⟨0, ![]⟩

class Facts : Prop where
  bcast_S_S16384x1024 : S_.BroadcastsInDim S16384x1024 (![] : Fin 0 → Fin S16384x1024.rank)

variable [Facts]

def fn {F : FTy → Type} [FloatOps F] (main_arg0 : FVec F S16384x1024 .bf16) (main_arg1 : FVec F S16384x1024 .bf16) (main_arg2 : FVec F S16384x512 .bf16) : IVec S16384x1024 1 × IVec S16384x1024 1 :=
  let main_v0 : FVec F S16384x1024 .bf16 := Host.absf main_arg0
  let main_cst : FVec F S_ .bf16 := constant S_ .bf16 0x7F80#16
  let main_v1 : FVec F S16384x1024 .bf16 := broadcastInDim S16384x1024 ![] bcast_S_S16384x1024 main_cst
  let main_v2 : IVec S16384x1024 1 := cmpf .olt main_v0 main_v1
  let main_v3 : FVec F S16384x1024 .bf16 := Host.absf main_arg1
  let main_cst_0 : FVec F S_ .bf16 := constant S_ .bf16 0x7F80#16
  let main_v4 : FVec F S16384x1024 .bf16 := broadcastInDim S16384x1024 ![] bcast_S_S16384x1024 main_cst_0
  let main_v5 : IVec S16384x1024 1 := cmpf .olt main_v3 main_v4
  (main_v2, main_v5)
-- ==== Pre_moba_finite.lean ====
abbrev S16384x512 : Shape := ⟨2, ![16384, 512]⟩
abbrev S16384x128 : Shape := ⟨2, ![16384, 128]⟩
abbrev S_ : Shape := ⟨0, ![]⟩

class Facts : Prop where
  bcast_S_S16384x512 : S_.BroadcastsInDim S16384x512 (![] : Fin 0 → Fin S16384x512.rank)
  bcast_S_S16384x128 : S_.BroadcastsInDim S16384x128 (![] : Fin 0 → Fin S16384x128.rank)

variable [Facts]

def fn {F : FTy → Type} [FloatOps F] (main_arg0 : FVec F S16384x512 .bf16) (main_arg1 : FVec F S16384x512 .bf16) (main_arg2 : FVec F S16384x512 .bf16) (main_arg3 : FVec F S16384x128 .f32) : IVec S16384x512 1 × IVec S16384x512 1 × IVec S16384x128 1 :=
  let main_v0 : FVec F S16384x512 .bf16 := Host.absf main_arg0
  let main_cst : FVec F S_ .bf16 := constant S_ .bf16 0x7F80#16
  let main_v1 : FVec F S16384x512 .bf16 := broadcastInDim S16384x512 ![] bcast_S_S16384x512 main_cst
  let main_v2 : IVec S16384x512 1 := cmpf .olt main_v0 main_v1
  let main_v3 : FVec F S16384x512 .bf16 := Host.absf main_arg1
  let main_cst_0 : FVec F S_ .bf16 := constant S_ .bf16 0x7F80#16
  let main_v4 : FVec F S16384x512 .bf16 := broadcastInDim S16384x512 ![] bcast_S_S16384x512 main_cst_0
  let main_v5 : IVec S16384x512 1 := cmpf .olt main_v3 main_v4
  let main_cst_1 : FVec F S_ .f32 := constant S_ .f32 0x7F800000#32
  let main_v6 : FVec F S16384x128 .f32 := broadcastInDim S16384x128 ![] bcast_S_S16384x128 main_cst_1
  let main_v7 : IVec S16384x128 1 := cmpf .olt main_arg3 main_v6
  (main_v2, main_v5, main_v7)
-- ==== Kernel.lean ====
abbrev S16384x1024 : Shape := ⟨2, ![16384, 1024]⟩
abbrev S16384x512 : Shape := ⟨2, ![16384, 512]⟩
abbrev S256x256 : Shape := ⟨2, ![256, 256]⟩
abbrev S2048x256 : Shape := ⟨2, ![2048, 256]⟩
abbrev S2048x128 : Shape := ⟨2, ![2048, 128]⟩
abbrev S256x128 : Shape := ⟨2, ![256, 128]⟩
abbrev S256 : Shape := ⟨1, ![256]⟩
abbrev S256x1 : Shape := ⟨2, ![256, 1]⟩

abbrev nBuf : Space → Nat
  | .hbm => 4
  | .vmem => 8
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x512, .bf16⟩
  | .hbm, ⟨3, _⟩ => ⟨S16384x512, .bf16⟩
  | .local _ .vmem, ⟨0, _⟩ => ⟨S256x256, .bf16⟩
  | .local _ .vmem, ⟨1, _⟩ => ⟨S256x256, .bf16⟩
  | .local _ .vmem, ⟨2, _⟩ => ⟨S2048x256, .bf16⟩
  | .local _ .vmem, ⟨3, _⟩ => ⟨S2048x256, .bf16⟩
  | .local _ .vmem, ⟨4, _⟩ => ⟨S2048x128, .bf16⟩
  | .local _ .vmem, ⟨5, _⟩ => ⟨S2048x128, .bf16⟩
  | .local _ .vmem, ⟨6, _⟩ => ⟨S256x128, .bf16⟩
  | .local _ .vmem, ⟨7, _⟩ => ⟨S256x128, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 8], ![false, false, false]⟩

def k0_mult1 (i : grid0.Coords) : BitVec 32 :=
  let arg2 : BitVec 32 := BitVec.ofNat 32 (i 2).val
  let c256_i32 : BitVec 32 := 256#32
  let v0 : BitVec 32 := Scalar.muli arg2 c256_i32
  v0
def k0_off1 (i : grid0.Coords) : Fin 2 → Nat :=
  let arg2 : BitVec 32 := BitVec.ofNat 32 (i 2).val
  let c256_i32 : BitVec 32 := 256#32
  let v0 : BitVec 32 := Scalar.muli arg2 c256_i32
  let v1 : BitVec 32 := v0
  let v3 : Index := Scalar.indexCast v1
  let c0_1 : Index := 0#32
  ![v3.toNat, 0]
def k0_off2 (i : grid0.Coords) : Fin 2 → Nat :=
  let arg2 : BitVec 32 := BitVec.ofNat 32 (i 2).val
  let c256_i32 : BitVec 32 := 256#32
  let v0 : BitVec 32 := Scalar.muli arg2 c256_i32
  let v1 : BitVec 32 := v0
  let v5 : Index := Scalar.indexCast v1
  let c0_2 : Index := 0#32
  ![v5.toNat, 0]
@[reducible] def k0_t1_loop (i : grid0.Coords) : Scf.Loop 32 :=
  let c0_i32 : BitVec 32 := 0#32
  let arg2 : BitVec 32 := BitVec.ofNat 32 (i 2).val
  let v22 : BitVec 32 := Scalar.subi arg2 c0_i32
  let c1_i32 : BitVec 32 := 1#32
  let v24 : BitVec 32 := Scalar.divsi v22 c1_i32
  let v25 : BitVec 32 := Scalar.muli v24 c1_i32
  let v26 : BitVec 32 := Scalar.addi c0_i32 v25
  let c1_i32_7 : BitVec 32 := 1#32
  ⟨c0_i32, v26, c1_i32_7⟩
def k0_mult2 (i : grid0.Coords) (k0_t1 : Fin (k0_t1_loop i).trips) : BitVec 32 :=
  let c0_i32 : BitVec 32 := 0#32
  let c1_i32_7 : BitVec 32 := 1#32
  let arg7 : BitVec 32 := Scf.iv c0_i32 c1_i32_7 k0_t1
  let c256_i32_23 : BitVec 32 := 256#32
  let v66 : BitVec 32 := Scalar.muli arg7 c256_i32_23
  v66
def k0_off3 (i : grid0.Coords) (k0_t1 : Fin (k0_t1_loop i).trips) : Fin 2 → Nat :=
  let c0_i32 : BitVec 32 := 0#32
  let c1_i32_7 : BitVec 32 := 1#32
  let arg7 : BitVec 32 := Scf.iv c0_i32 c1_i32_7 k0_t1
  let c256_i32_23 : BitVec 32 := 256#32
  let v66 : BitVec 32 := Scalar.muli arg7 c256_i32_23
  let v67 : BitVec 32 := v66
  let v68 : Index := Scalar.indexCast v67
  let c0_24 : Index := 0#32
  ![v68.toNat, 0]
def k0_off4 (i : grid0.Coords) (k0_t1 : Fin (k0_t1_loop i).trips) : Fin 2 → Nat :=
  let c0_i32 : BitVec 32 := 0#32
  let c1_i32_7 : BitVec 32 := 1#32
  let arg7 : BitVec 32 := Scf.iv c0_i32 c1_i32_7 k0_t1
  let c256_i32_23 : BitVec 32 := 256#32
  let v66 : BitVec 32 := Scalar.muli arg7 c256_i32_23
  let v67 : BitVec 32 := v66
  let v71 : Index := Scalar.indexCast v67
  let c0_26 : Index := 0#32
  ![v71.toNat, 0]
@[reducible] def k0_t2_loop (i : grid0.Coords) : Scf.Loop 32 :=
  let c0_i32 : BitVec 32 := 0#32
  let arg2 : BitVec 32 := BitVec.ofNat 32 (i 2).val
  let v22 : BitVec 32 := Scalar.subi arg2 c0_i32
  let c1_i32 : BitVec 32 := 1#32
  let v24 : BitVec 32 := Scalar.divsi v22 c1_i32
  let v25 : BitVec 32 := Scalar.muli v24 c1_i32
  let v26 : BitVec 32 := Scalar.addi c0_i32 v25
  let v23 : BitVec 32 := Scalar.addi c0_i32 v22
  let c1_i32_8 : BitVec 32 := 1#32
  ⟨v26, v23, c1_i32_8⟩
def k0_mult3 (i : grid0.Coords) (k0_t2 : Fin (k0_t2_loop i).trips) : BitVec 32 :=
  let c0_i32 : BitVec 32 := 0#32
  let arg2 : BitVec 32 := BitVec.ofNat 32 (i 2).val
  let v22 : BitVec 32 := Scalar.subi arg2 c0_i32
  let c1_i32 : BitVec 32 := 1#32
  let v24 : BitVec 32 := Scalar.divsi v22 c1_i32
  let v25 : BitVec 32 := Scalar.muli v24 c1_i32
  let v26 : BitVec 32 := Scalar.addi c0_i32 v25
  let c1_i32_8 : BitVec 32 := 1#32
  let arg7 : BitVec 32 := Scf.iv v26 c1_i32_8 k0_t2
  let c256_i32_23 : BitVec 32 := 256#32
  let v66 : BitVec 32 := Scalar.muli arg7 c256_i32_23
  v66
def k0_off5 (i : grid0.Coords) (k0_t2 : Fin (k0_t2_loop i).trips) : Fin 2 → Nat :=
  let c0_i32 : BitVec 32 := 0#32
  let arg2 : BitVec 32 := BitVec.ofNat 32 (i 2).val
  let v22 : BitVec 32 := Scalar.subi arg2 c0_i32
  let c1_i32 : BitVec 32 := 1#32
  let v24 : BitVec 32 := Scalar.divsi v22 c1_i32
  let v25 : BitVec 32 := Scalar.muli v24 c1_i32
  let v26 : BitVec 32 := Scalar.addi c0_i32 v25
  let c1_i32_8 : BitVec 32 := 1#32
  let arg7 : BitVec 32 := Scf.iv v26 c1_i32_8 k0_t2
  let c256_i32_23 : BitVec 32 := 256#32
  let v66 : BitVec 32 := Scalar.muli arg7 c256_i32_23
  let v67 : BitVec 32 := v66
  let v68 : Index := Scalar.indexCast v67
  let c0_24 : Index := 0#32
  ![v68.toNat, 0]
def k0_off6 (i : grid0.Coords) (k0_t2 : Fin (k0_t2_loop i).trips) : Fin 2 → Nat :=
  let c0_i32 : BitVec 32 := 0#32
  let arg2 : BitVec 32 := BitVec.ofNat 32 (i 2).val
  let v22 : BitVec 32 := Scalar.subi arg2 c0_i32
  let c1_i32 : BitVec 32 := 1#32
  let v24 : BitVec 32 := Scalar.divsi v22 c1_i32
  let v25 : BitVec 32 := Scalar.muli v24 c1_i32
  let v26 : BitVec 32 := Scalar.addi c0_i32 v25
  let c1_i32_8 : BitVec 32 := 1#32
  let arg7 : BitVec 32 := Scf.iv v26 c1_i32_8 k0_t2
  let c256_i32_23 : BitVec 32 := 256#32
  let v66 : BitVec 32 := Scalar.muli arg7 c256_i32_23
  let v67 : BitVec 32 := v66
  let v71 : Index := Scalar.indexCast v67
  let c0_26 : Index := 0#32
  ![v71.toNat, 0]
def k0_off7 (i : grid0.Coords) : Fin 2 → Nat :=
  let arg2 : BitVec 32 := BitVec.ofNat 32 (i 2).val
  let c256_i32 : BitVec 32 := 256#32
  let v0 : BitVec 32 := Scalar.muli arg2 c256_i32
  let v1 : BitVec 32 := v0
  let v32 : Index := Scalar.indexCast v1
  let c128_10 : Index := 128#32
  ![v32.toNat, 128]
@[reducible] def k0_t3_loop (i : grid0.Coords) : Scf.Loop 32 :=
  let c0_i32_17 : BitVec 32 := 0#32
  let arg2 : BitVec 32 := BitVec.ofNat 32 (i 2).val
  let v51 : BitVec 32 := Scalar.subi arg2 c0_i32_17
  let c1_i32_18 : BitVec 32 := 1#32
  let v53 : BitVec 32 := Scalar.divsi v51 c1_i32_18
  let v54 : BitVec 32 := Scalar.muli v53 c1_i32_18
  let v55 : BitVec 32 := Scalar.addi c0_i32_17 v54
  let c1_i32_19 : BitVec 32 := 1#32
  ⟨c0_i32_17, v55, c1_i32_19⟩
def k0_mult4 (i : grid0.Coords) (k0_t3 : Fin (k0_t3_loop i).trips) : BitVec 32 :=
  let c0_i32_17 : BitVec 32 := 0#32
  let c1_i32_19 : BitVec 32 := 1#32
  let arg7 : BitVec 32 := Scf.iv c0_i32_17 c1_i32_19 k0_t3
  let c256_i32_23 : BitVec 32 := 256#32
  let v66 : BitVec 32 := Scalar.muli arg7 c256_i32_23
  v66
def k0_off8 (i : grid0.Coords) (k0_t3 : Fin (k0_t3_loop i).trips) : Fin 2 → Nat :=
  let c0_i32_17 : BitVec 32 := 0#32
  let c1_i32_19 : BitVec 32 := 1#32
  let arg7 : BitVec 32 := Scf.iv c0_i32_17 c1_i32_19 k0_t3
  let c256_i32_23 : BitVec 32 := 256#32
  let v66 : BitVec 32 := Scalar.muli arg7 c256_i32_23
  let v67 : BitVec 32 := v66
  let v68 : Index := Scalar.indexCast v67
  let c128_24 : Index := 128#32
  ![v68.toNat, 128]
def k0_off9 (i : grid0.Coords) (k0_t3 : Fin (k0_t3_loop i).trips) : Fin 2 → Nat :=
  let c0_i32_17 : BitVec 32 := 0#32
  let c1_i32_19 : BitVec 32 := 1#32
  let arg7 : BitVec 32 := Scf.iv c0_i32_17 c1_i32_19 k0_t3
  let c256_i32_23 : BitVec 32 := 256#32
  let v66 : BitVec 32 := Scalar.muli arg7 c256_i32_23
  let v67 : BitVec 32 := v66
  let v71 : Index := Scalar.indexCast v67
  let c0_26 : Index := 0#32
  ![v71.toNat, 0]
@[reducible] def k0_t4_loop (i : grid0.Coords) : Scf.Loop 32 :=
  let c0_i32_17 : BitVec 32 := 0#32
  let arg2 : BitVec 32 := BitVec.ofNat 32 (i 2).val
  let v51 : BitVec 32 := Scalar.subi arg2 c0_i32_17
  let c1_i32_18 : BitVec 32 := 1#32
  let v53 : BitVec 32 := Scalar.divsi v51 c1_i32_18
  let v54 : BitVec 32 := Scalar.muli v53 c1_i32_18
  let v55 : BitVec 32 := Scalar.addi c0_i32_17 v54
  let v52 : BitVec 32 := Scalar.addi c0_i32_17 v51
  let c1_i32_20 : BitVec 32 := 1#32
  ⟨v55, v52, c1_i32_20⟩
def k0_mult5 (i : grid0.Coords) (k0_t4 : Fin (k0_t4_loop i).trips) : BitVec 32 :=
  let c0_i32_17 : BitVec 32 := 0#32
  let arg2 : BitVec 32 := BitVec.ofNat 32 (i 2).val
  let v51 : BitVec 32 := Scalar.subi arg2 c0_i32_17
  let c1_i32_18 : BitVec 32 := 1#32
  let v53 : BitVec 32 := Scalar.divsi v51 c1_i32_18
  let v54 : BitVec 32 := Scalar.muli v53 c1_i32_18
  let v55 : BitVec 32 := Scalar.addi c0_i32_17 v54
  let c1_i32_20 : BitVec 32 := 1#32
  let arg7 : BitVec 32 := Scf.iv v55 c1_i32_20 k0_t4
  let c256_i32_23 : BitVec 32 := 256#32
  let v66 : BitVec 32 := Scalar.muli arg7 c256_i32_23
  v66
def k0_off10 (i : grid0.Coords) (k0_t4 : Fin (k0_t4_loop i).trips) : Fin 2 → Nat :=
  let c0_i32_17 : BitVec 32 := 0#32
  let arg2 : BitVec 32 := BitVec.ofNat 32 (i 2).val
  let v51 : BitVec 32 := Scalar.subi arg2 c0_i32_17
  let c1_i32_18 : BitVec 32 := 1#32
  let v53 : BitVec 32 := Scalar.divsi v51 c1_i32_18
  let v54 : BitVec 32 := Scalar.muli v53 c1_i32_18
  let v55 : BitVec 32 := Scalar.addi c0_i32_17 v54
  let c1_i32_20 : BitVec 32 := 1#32
  let arg7 : BitVec 32 := Scf.iv v55 c1_i32_20 k0_t4
  let c256_i32_23 : BitVec 32 := 256#32
  let v66 : BitVec 32 := Scalar.muli arg7 c256_i32_23
  let v67 : BitVec 32 := v66
  let v68 : Index := Scalar.indexCast v67
  let c128_24 : Index := 128#32
  ![v68.toNat, 128]
def k0_off11 (i : grid0.Coords) (k0_t4 : Fin (k0_t4_loop i).trips) : Fin 2 → Nat :=
  let c0_i32_17 : BitVec 32 := 0#32
  let arg2 : BitVec 32 := BitVec.ofNat 32 (i 2).val
  let v51 : BitVec 32 := Scalar.subi arg2 c0_i32_17
  let c1_i32_18 : BitVec 32 := 1#32
  let v53 : BitVec 32 := Scalar.divsi v51 c1_i32_18
  let v54 : BitVec 32 := Scalar.muli v53 c1_i32_18
  let v55 : BitVec 32 := Scalar.addi c0_i32_17 v54
  let c1_i32_20 : BitVec 32 := 1#32
  let arg7 : BitVec 32 := Scf.iv v55 c1_i32_20 k0_t4
  let c256_i32_23 : BitVec 32 := 256#32
  let v66 : BitVec 32 := Scalar.muli arg7 c256_i32_23
  let v67 : BitVec 32 := v66
  let v71 : Index := Scalar.indexCast v67
  let c0_26 : Index := 0#32
  ![v71.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S16384x1024 : Shape := ⟨2, ![16384, 1024]⟩
abbrev S16384x512 : Shape := ⟨2, ![16384, 512]⟩
abbrev S8x2048x8x128 : Shape := ⟨4, ![8, 2048, 8, 128]⟩
abbrev S8x2048x8x64 : Shape := ⟨4, ![8, 2048, 8, 64]⟩
abbrev S8x8x2048x2048 : Shape := ⟨4, ![8, 8, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S8x8x2048 : Shape := ⟨3, ![8, 8, 2048]⟩
abbrev S8x8x2048x1 : Shape := ⟨4, ![8, 8, 2048, 1]⟩
abbrev S8x8x64x2048 : Shape := ⟨4, ![8, 8, 64, 2048]⟩

abbrev nBuf : Space → Nat
  | .hbm => 39
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x512, .bf16⟩
  | .hbm, ⟨3, _⟩ => ⟨S16384x1024, .f32⟩
  | .hbm, ⟨4, _⟩ => ⟨S8x2048x8x128, .f32⟩
  | .hbm, ⟨5, _⟩ => ⟨S16384x1024, .f32⟩
  | .hbm, ⟨6, _⟩ => ⟨S8x2048x8x128, .f32⟩
  | .hbm, ⟨7, _⟩ => ⟨S16384x512, .f32⟩
  | .hbm, ⟨8, _⟩ => ⟨S8x2048x8x64, .f32⟩
  | .hbm, ⟨9, _⟩ => ⟨S8x8x2048x2048, .f32⟩
  | .hbm, ⟨10, _⟩ => ⟨S2048, .i32⟩
  | .hbm, ⟨11, _⟩ => ⟨S1x2048, .i32⟩
  | .hbm, ⟨12, _⟩ => ⟨S2048x1, .i32⟩
  | .hbm, ⟨13, _⟩ => ⟨S2048x2048, .i32⟩
  | .hbm, ⟨14, _⟩ => ⟨S2048x2048, .i32⟩
  | .hbm, ⟨15, _⟩ => ⟨S2048x2048, .i1⟩
  | .hbm, ⟨16, _⟩ => ⟨S_, .f32⟩
  | .hbm, ⟨17, _⟩ => ⟨S_, .f32⟩
  | .hbm, ⟨18, _⟩ => ⟨S8x8x2048x2048, .i1⟩
  | .hbm, ⟨19, _⟩ => ⟨S8x8x2048x2048, .f32⟩
  | .hbm, ⟨20, _⟩ => ⟨S8x8x2048x2048, .f32⟩
  | .hbm, ⟨21, _⟩ => ⟨S_, .f32⟩
  | .hbm, ⟨22, _⟩ => ⟨S8x8x2048, .f32⟩
  | .hbm, ⟨23, _⟩ => ⟨S_, .f32⟩
  | .hbm, ⟨24, _⟩ => ⟨S8x8x2048, .f32⟩
  | .hbm, ⟨25, _⟩ => ⟨S8x8x2048, .f32⟩
  | .hbm, ⟨26, _⟩ => ⟨S8x8x2048x1, .f32⟩
  | .hbm, ⟨27, _⟩ => ⟨S8x8x2048x2048, .f32⟩
  | .hbm, ⟨28, _⟩ => ⟨S8x8x2048x2048, .f32⟩
  | .hbm, ⟨29, _⟩ => ⟨S8x8x2048x2048, .f32⟩
  | .hbm, ⟨30, _⟩ => ⟨S_, .f32⟩
  | .hbm, ⟨31, _⟩ => ⟨S8x8x2048, .f32⟩
  | .hbm, ⟨32, _⟩ => ⟨S8x8x2048x1, .f32⟩
  | .hbm, ⟨33, _⟩ => ⟨S8x8x2048x2048, .f32⟩
  | .hbm, ⟨34, _⟩ => ⟨S8x8x2048x2048, .f32⟩
  | .hbm, ⟨35, _⟩ => ⟨S8x8x64x2048, .f32⟩
  | .hbm, ⟨36, _⟩ => ⟨S8x2048x8x64, .f32⟩
  | .hbm, ⟨37, _⟩ => ⟨S16384x512, .f32⟩
  | .hbm, ⟨38, _⟩ => ⟨S16384x512, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== ExpertsKernel.lean ====
abbrev S288 : Shape := ⟨1, ![288]⟩
abbrev S1 : Shape := ⟨1, ![1]⟩
abbrev S73728x1024 : Shape := ⟨2, ![73728, 1024]⟩
abbrev S32x1024x1024 : Shape := ⟨3, ![32, 1024, 1024]⟩
abbrev S32x1x1024 : Shape := ⟨3, ![32, 1, 1024]⟩
abbrev S256x1024 : Shape := ⟨2, ![256, 1024]⟩
abbrev S1x1024x1024 : Shape := ⟨3, ![1, 1024, 1024]⟩
abbrev S1x1x1024 : Shape := ⟨3, ![1, 1, 1024]⟩
abbrev S1024x1024 : Shape := ⟨2, ![1024, 1024]⟩
abbrev S1x1024 : Shape := ⟨2, ![1, 1024]⟩

abbrev nBuf : Space → Nat
  | .hbm => 8
  | .vmem => 19
  | .smem => 2
  | _ => 0

abbrev bufTy : (tb : Table) → Fin (tcTables nBuf tb) → BufTy
  | .hbm, ⟨0, _⟩ => ⟨S73728x1024, .f32⟩
  | .hbm, ⟨1, _⟩ => ⟨S32x1024x1024, .f32⟩
  | .hbm, ⟨2, _⟩ => ⟨S32x1x1024, .f32⟩
  | .hbm, ⟨3, _⟩ => ⟨S32x1024x1024, .f32⟩
  | .hbm, ⟨4, _⟩ => ⟨S32x1x1024, .f32⟩
  | .hbm, ⟨5, _⟩ => ⟨S32x1024x1024, .f32⟩
  | .hbm, ⟨6, _⟩ => ⟨S32x1x1024, .f32⟩
  | .hbm, ⟨7, _⟩ => ⟨S73728x1024, .f32⟩
  | .local _ .vmem, ⟨0, _⟩ => ⟨S256x1024, .f32⟩
  | .local _ .vmem, ⟨1, _⟩ => ⟨S256x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024x1024, .f32⟩
  | .local _ .vmem, ⟨11, _⟩ => ⟨S1x1024x1024, .f32⟩
  | .local _ .vmem, ⟨12, _⟩ => ⟨S1x1x1024, .f32⟩
  | .local _ .vmem, ⟨13, _⟩ => ⟨S1x1x1024, .f32⟩
  | .local _ .vmem, ⟨14, _⟩ => ⟨S256x1024, .f32⟩
  | .local _ .vmem, ⟨15, _⟩ => ⟨S256x1024, .f32⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .smem, ⟨0, _⟩ => ⟨S288, .i32⟩
  | .local _ .smem, ⟨1, _⟩ => ⟨S1, .i32⟩
  | _, _ => ⟨S73728x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_arg8 : Ref sig .tc := ⟨.hbm, 6, rfl⟩
abbrev main_v0 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  ![v2.toNat]
def k0_cond2 (i : grid0.Coords) (v9 : BitVec 32) : BitVec 1 :=
  let arg0 : BitVec 32 := BitVec.ofNat 32 (i 0).val
  let v10 : BitVec 1 := Scalar.cmpi .slt arg0 v9
  let v14 : BitVec 32 := Scalar.extui v10
  let c0_i32_2 : BitVec 32 := 0#32
  let v15 : BitVec 1 := Scalar.cmpi .ne v14 c0_i32_2
  v15

def k0_cond3 (i : grid0.Coords) (v9 : BitVec 32) : BitVec 1 :=
  let arg0 : BitVec 32 := BitVec.ofNat 32 (i 0).val
  let v10 : BitVec 1 := Scalar.cmpi .slt arg0 v9
  let v_true : BitVec 1 := 1#1
  let v16 : BitVec 1 := Scalar.xori v10 v_true
  let v17 : BitVec 32 := Scalar.extui v16
  let c0_i32_3 : BitVec 32 := 0#32
  let v18 : BitVec 1 := Scalar.cmpi .ne v17 c0_i32_3
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ExpertsReferenceIdeal.lean ====
abbrev S288 : Shape := ⟨1, ![288]⟩
abbrev S1 : Shape := ⟨1, ![1]⟩
abbrev S73728x1024 : Shape := ⟨2, ![73728, 1024]⟩
abbrev S32x1024x1024 : Shape := ⟨3, ![32, 1024, 1024]⟩
abbrev S32x1x1024 : Shape := ⟨3, ![32, 1, 1024]⟩
abbrev S288x256x1024 : Shape := ⟨3, ![288, 256, 1024]⟩
abbrev S288x1 : Shape := ⟨2, ![288, 1]⟩
abbrev S288x1024x1024 : Shape := ⟨3, ![288, 1024, 1024]⟩
abbrev S288x1x1024 : Shape := ⟨3, ![288, 1, 1024]⟩
abbrev S_ : Shape := ⟨0, ![]⟩
abbrev S288x1x1 : Shape := ⟨3, ![288, 1, 1]⟩

abbrev nBuf : Space → Nat
  | .hbm => 69
  | .vmem => 0
  | .smem => 0
  | _ => 0

abbrev bufTy : (tb : Table) → Fin (tcTables nBuf tb) → BufTy
  | .hbm, ⟨0, _⟩ => ⟨S288, .i32⟩
  | .hbm, ⟨1, _⟩ => ⟨S1, .i32⟩
  | .hbm, ⟨2, _⟩ => ⟨S73728x1024, .f32⟩
  | .hbm, ⟨3, _⟩ => ⟨S32x1024x1024, .f32⟩
  | .hbm, ⟨4, _⟩ => ⟨S32x1x1024, .f32⟩
  | .hbm, ⟨5, _⟩ => ⟨S32x1024x1024, .f32⟩
  | .hbm, ⟨6, _⟩ => ⟨S32x1x1024, .f32⟩
  | .hbm, ⟨7, _⟩ => ⟨S32x1024x1024, .f32⟩
  | .hbm, ⟨8, _⟩ => ⟨S32x1x1024, .f32⟩
  | .hbm, ⟨9, _⟩ => ⟨S288x256x1024, .f32⟩
  | .hbm, ⟨10, _⟩ => ⟨S288x1, .i32⟩
  | .hbm, ⟨11, _⟩ => ⟨S288x1024x1024, .f32⟩
  | .hbm, ⟨12, _⟩ => ⟨S288x256x1024, .f32⟩
  | .hbm, ⟨13, _⟩ => ⟨S288x1, .i32⟩
  | .hbm, ⟨14, _⟩ => ⟨S288x1x1024, .f32⟩
  | .hbm, ⟨15, _⟩ => ⟨S288x256x1024, .f32⟩
  | .hbm, ⟨16, _⟩ => ⟨S288x256x1024, .f32⟩
  | .hbm, ⟨17, _⟩ => ⟨S_, .f32⟩
  | .hbm, ⟨18, _⟩ => ⟨S288x256x1024, .f32⟩
  | .hbm, ⟨19, _⟩ => ⟨S288x256x1024, .f32⟩
  | .hbm, ⟨20, _⟩ => ⟨S288x1, .i32⟩
  | .hbm, ⟨21, _⟩ => ⟨S288x1024x1024, .f32⟩
  | .hbm, ⟨22, _⟩ => ⟨S288x256x1024, .f32⟩
  | .hbm, ⟨23, _⟩ => ⟨S288x1, .i32⟩
  | .hbm, ⟨24, _⟩ => ⟨S288x1x1024, .f32⟩
  | .hbm, ⟨25, _⟩ => ⟨S288x256x1024, .f32⟩
  | .hbm, ⟨26, _⟩ => ⟨S288x256x1024, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S288x256x1024, .f32⟩
  | .hbm, ⟨31, _⟩ => ⟨S288x256x1024, .f32⟩
  | .hbm, ⟨32, _⟩ => ⟨S_, .f32⟩
  | .hbm, ⟨33, _⟩ => ⟨S288x256x1024, .f32⟩
  | .hbm, ⟨34, _⟩ => ⟨S288x256x1024, .f32⟩
  | .hbm, ⟨35, _⟩ => ⟨S_, .f32⟩
  | .hbm, ⟨36, _⟩ => ⟨S288x256x1024, .f32⟩
  | .hbm, ⟨37, _⟩ => ⟨S288x256x1024, .f32⟩
  | .hbm, ⟨38, _⟩ => ⟨S288x256x1024, .f32⟩
  | .hbm, ⟨39, _⟩ => ⟨S288x256x1024, .f32⟩
  | .hbm, ⟨40, _⟩ => ⟨S_, .f32⟩
  | .hbm, ⟨41, _⟩ => ⟨S288x256x1024, .f32⟩
  | .hbm, ⟨42, _⟩ => ⟨S288x256x1024, .f32⟩
  | .hbm, ⟨43, _⟩ => ⟨S_, .f32⟩
  | .hbm, ⟨44, _⟩ => ⟨S288x256x1024, .f32⟩
  | .hbm, ⟨45, _⟩ => ⟨S288x256x1024, .f32⟩
  | .hbm, ⟨46, _⟩ => ⟨S288x256x1024, .f32⟩
  | .hbm, ⟨47, _⟩ => ⟨S_, .f32⟩
  | .hbm, ⟨48, _⟩ => ⟨S288x256x1024, .f32⟩
  | .hbm, ⟨49, _⟩ => ⟨S288x256x1024, .f32⟩
  | .hbm, ⟨50, _⟩ => ⟨S288x256x1024, .f32⟩
  | .hbm, ⟨51, _⟩ => ⟨S288x1, .i32⟩
  | .hbm, ⟨52, _⟩ => ⟨S288x1024x1024, .f32⟩
  | .hbm, ⟨53, _⟩ => ⟨S288x256x1024, .f32⟩
  | .hbm, ⟨54, _⟩ => ⟨S288x1, .i32⟩
  | .hbm, ⟨55, _⟩ => ⟨S288x1x1024, .f32⟩
  | .hbm, ⟨56, _⟩ => ⟨S288x256x1024, .f32⟩
  | .hbm, ⟨57, _⟩ => ⟨S288x256x1024, .f32⟩
  | .hbm, ⟨58, _⟩ => ⟨S288, .i32⟩
  | .hbm, ⟨59, _⟩ => ⟨S_, .i32⟩
  | .hbm, ⟨60, _⟩ => ⟨S288, .i32⟩
  | .hbm, ⟨61, _⟩ => ⟨S288, .i1⟩
  | .hbm, ⟨62, _⟩ => ⟨S288x1x1, .i1⟩
  | .hbm, ⟨63, _⟩ => ⟨S_, .f32⟩
  | .hbm, ⟨64, _⟩ => ⟨S_, .f32⟩
  | .hbm, ⟨65, _⟩ => ⟨S288x256x1024, .i1⟩
  | .hbm, ⟨66, _⟩ => ⟨S288x256x1024, .f32⟩
  | .hbm, ⟨67, _⟩ => ⟨S288x256x1024, .f32⟩
  | .hbm, ⟨68, _⟩ => ⟨S73728x1024, .f32⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_call1_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_call2_v0 : Ref sig .tc := ⟨.hbm, 20, rfl⟩
abbrev main_v8 : Ref sig .tc := ⟨.hbm, 21, rfl⟩
abbrev main_v9 : Ref sig .tc := ⟨.hbm, 22, rfl⟩
abbrev main_call3_v0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_0 : Ref sig .tc := ⟨.hbm, 27, rfl⟩
abbrev main_cst_1 : Ref sig .tc := ⟨.hbm, 28, rfl⟩
abbrev main_call4_v0 : Ref sig .tc := ⟨.hbm, 29, rfl⟩
abbrev main_call4_v1 : Ref sig .tc := ⟨.hbm, 30, rfl⟩
abbrev main_call4_v2 : Ref sig .tc := ⟨.hbm, 31, rfl⟩
abbrev main_call4_v3 : Ref sig .tc := ⟨.hbm, 32, rfl⟩
abbrev main_call4_v4 : Ref sig .tc := ⟨.hbm, 33, rfl⟩
abbrev main_v13 : Ref sig .tc := ⟨.hbm, 34, rfl⟩
abbrev main_cst_2 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_3 : Ref sig .tc := ⟨.hbm, 40, rfl⟩
abbrev main_v18 : Ref sig .tc := ⟨.hbm, 41, rfl⟩
abbrev main_v19 : Ref sig .tc := ⟨.hbm, 42, rfl⟩
abbrev main_cst_4 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_5 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_call5_v0 : Ref sig .tc := ⟨.hbm, 51, rfl⟩
abbrev main_v26 : Ref sig .tc := ⟨.hbm, 52, rfl⟩
abbrev main_v27 : Ref sig .tc := ⟨.hbm, 53, rfl⟩
abbrev main_call6_v0 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_6 : Ref sig .tc := ⟨.hbm, 63, rfl⟩
abbrev main_call7_v0 : Ref sig .tc := ⟨.hbm, 64, rfl⟩
abbrev main_call7_v1 : Ref sig .tc := ⟨.hbm, 65, rfl⟩
abbrev main_call7_v2 : Ref sig .tc := ⟨.hbm, 66, rfl⟩
abbrev main_v36 : Ref sig .tc := ⟨.hbm, 67, rfl⟩
abbrev main_v37 : Ref sig .tc := ⟨.hbm, 68, rfl⟩

abbrev nD : Nat := 1
abbrev τ : Topo := Topo.v7x

variable {F : FTy → Type} [FloatOps F]
-- ==== MobaKernel.lean ====
abbrev S16384x512 : Shape := ⟨2, ![16384, 512]⟩
abbrev S16384x128 : Shape := ⟨2, ![16384, 128]⟩
abbrev S256x128 : Shape := ⟨2, ![256, 128]⟩
abbrev S2048x128 : Shape := ⟨2, ![2048, 128]⟩
abbrev S256x256 : Shape := ⟨2, ![256, 256]⟩
abbrev S256 : Shape := ⟨1, ![256]⟩
abbrev S256x1 : Shape := ⟨2, ![256, 1]⟩

abbrev nBuf : Space → Nat
  | .hbm => 5
  | .vmem => 10
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x128, .f32⟩
  | .hbm, ⟨4, _⟩ => ⟨S16384x512, .bf16⟩
  | .local _ .vmem, ⟨0, _⟩ => ⟨S256x128, .bf16⟩
  | .local _ .vmem, ⟨1, _⟩ => ⟨S256x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S256x128, .f32⟩
  | .local _ .vmem, ⟨7, _⟩ => ⟨S256x128, .f32⟩
  | .local _ .vmem, ⟨8, _⟩ => ⟨S256x128, .bf16⟩
  | .local _ .vmem, ⟨9, _⟩ => ⟨S256x128, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 8], ![false, false, false]⟩

def k0_mult1 (i : grid0.Coords) : BitVec 32 :=
  let arg2 : BitVec 32 := BitVec.ofNat 32 (i 2).val
  let c256_i32 : BitVec 32 := 256#32
  let v0 : BitVec 32 := Scalar.muli arg2 c256_i32
  v0
def k0_off1 (i : grid0.Coords) : Fin 2 → Nat :=
  let arg2 : BitVec 32 := BitVec.ofNat 32 (i 2).val
  let c256_i32 : BitVec 32 := 256#32
  let v0 : BitVec 32 := Scalar.muli arg2 c256_i32
  let v1 : BitVec 32 := v0
  let v12 : Index := Scalar.indexCast v1
  let c0_3 : Index := 0#32
  ![v12.toNat, 0]
@[reducible] def k0_t1_loop (i : grid0.Coords) : Scf.Loop 32 :=
  let c0_i32_11 : BitVec 32 := 0#32
  let arg2 : BitVec 32 := BitVec.ofNat 32 (i 2).val
  let v33 : BitVec 32 := Scalar.subi arg2 c0_i32_11
  let c1_i32 : BitVec 32 := 1#32
  let v35 : BitVec 32 := Scalar.divsi v33 c1_i32
  let v36 : BitVec 32 := Scalar.muli v35 c1_i32
  let v37 : BitVec 32 := Scalar.addi c0_i32_11 v36
  let c1_i32_12 : BitVec 32 := 1#32
  ⟨c0_i32_11, v37, c1_i32_12⟩
def k0_mult2 (i : grid0.Coords) (k0_t1 : Fin (k0_t1_loop i).trips) : BitVec 32 :=
  let c0_i32_11 : BitVec 32 := 0#32
  let c1_i32_12 : BitVec 32 := 1#32
  let arg8 : BitVec 32 := Scf.iv c0_i32_11 c1_i32_12 k0_t1
  let c256_i32_32 : BitVec 32 := 256#32
  let v84 : BitVec 32 := Scalar.muli arg8 c256_i32_32
  v84
def k0_off2 (i : grid0.Coords) (k0_t1 : Fin (k0_t1_loop i).trips) : Fin 2 → Nat :=
  let c0_i32_11 : BitVec 32 := 0#32
  let c1_i32_12 : BitVec 32 := 1#32
  let arg8 : BitVec 32 := Scf.iv c0_i32_11 c1_i32_12 k0_t1
  let c256_i32_32 : BitVec 32 := 256#32
  let v84 : BitVec 32 := Scalar.muli arg8 c256_i32_32
  let v85 : BitVec 32 := v84
  let v94 : Index := Scalar.indexCast v85
  let c0_35 : Index := 0#32
  ![v94.toNat, 0]
@[reducible] def k0_t2_loop (i : grid0.Coords) : Scf.Loop 32 :=
  let c0_i32_11 : BitVec 32 := 0#32
  let arg2 : BitVec 32 := BitVec.ofNat 32 (i 2).val
  let v33 : BitVec 32 := Scalar.subi arg2 c0_i32_11
  let c1_i32 : BitVec 32 := 1#32
  let v35 : BitVec 32 := Scalar.divsi v33 c1_i32
  let v36 : BitVec 32 := Scalar.muli v35 c1_i32
  let v37 : BitVec 32 := Scalar.addi c0_i32_11 v36
  let v34 : BitVec 32 := Scalar.addi c0_i32_11 v33
  let c1_i32_13 : BitVec 32 := 1#32
  ⟨v37, v34, c1_i32_13⟩
def k0_mult3 (i : grid0.Coords) (k0_t2 : Fin (k0_t2_loop i).trips) : BitVec 32 :=
  let c0_i32_11 : BitVec 32 := 0#32
  let arg2 : BitVec 32 := BitVec.ofNat 32 (i 2).val
  let v33 : BitVec 32 := Scalar.subi arg2 c0_i32_11
  let c1_i32 : BitVec 32 := 1#32
  let v35 : BitVec 32 := Scalar.divsi v33 c1_i32
  let v36 : BitVec 32 := Scalar.muli v35 c1_i32
  let v37 : BitVec 32 := Scalar.addi c0_i32_11 v36
  let c1_i32_13 : BitVec 32 := 1#32
  let arg8 : BitVec 32 := Scf.iv v37 c1_i32_13 k0_t2
  let c256_i32_32 : BitVec 32 := 256#32
  let v84 : BitVec 32 := Scalar.muli arg8 c256_i32_32
  v84
def k0_off3 (i : grid0.Coords) (k0_t2 : Fin (k0_t2_loop i).trips) : Fin 2 → Nat :=
  let c0_i32_11 : BitVec 32 := 0#32
  let arg2 : BitVec 32 := BitVec.ofNat 32 (i 2).val
  let v33 : BitVec 32 := Scalar.subi arg2 c0_i32_11
  let c1_i32 : BitVec 32 := 1#32
  let v35 : BitVec 32 := Scalar.divsi v33 c1_i32
  let v36 : BitVec 32 := Scalar.muli v35 c1_i32
  let v37 : BitVec 32 := Scalar.addi c0_i32_11 v36
  let c1_i32_13 : BitVec 32 := 1#32
  let arg8 : BitVec 32 := Scf.iv v37 c1_i32_13 k0_t2
  let c256_i32_32 : BitVec 32 := 256#32
  let v84 : BitVec 32 := Scalar.muli arg8 c256_i32_32
  let v85 : BitVec 32 := v84
  let v94 : Index := Scalar.indexCast v85
  let c0_35 : Index := 0#32
  ![v94.toNat, 0]
@[reducible] def k0_t3_loop (i : grid0.Coords) : Scf.Loop 32 :=
  let c0_i32_25 : BitVec 32 := 0#32
  let arg2 : BitVec 32 := BitVec.ofNat 32 (i 2).val
  let v70 : BitVec 32 := Scalar.subi arg2 c0_i32_25
  let c1_i32_26 : BitVec 32 := 1#32
  let v72 : BitVec 32 := Scalar.divsi v70 c1_i32_26
  let v73 : BitVec 32 := Scalar.muli v72 c1_i32_26
  let v74 : BitVec 32 := Scalar.addi c0_i32_25 v73
  let c1_i32_27 : BitVec 32 := 1#32
  ⟨c0_i32_25, v74, c1_i32_27⟩
def k0_mult4 (i : grid0.Coords) (k0_t3 : Fin (k0_t3_loop i).trips) : BitVec 32 :=
  let c0_i32_25 : BitVec 32 := 0#32
  let c1_i32_27 : BitVec 32 := 1#32
  let arg8 : BitVec 32 := Scf.iv c0_i32_25 c1_i32_27 k0_t3
  let c256_i32_32 : BitVec 32 := 256#32
  let v84 : BitVec 32 := Scalar.muli arg8 c256_i32_32
  v84
def k0_off4 (i : grid0.Coords) (k0_t3 : Fin (k0_t3_loop i).trips) : Fin 2 → Nat :=
  let c0_i32_25 : BitVec 32 := 0#32
  let c1_i32_27 : BitVec 32 := 1#32
  let arg8 : BitVec 32 := Scf.iv c0_i32_25 c1_i32_27 k0_t3
  let c256_i32_32 : BitVec 32 := 256#32
  let v84 : BitVec 32 := Scalar.muli arg8 c256_i32_32
  let v85 : BitVec 32 := v84
  let v94 : Index := Scalar.indexCast v85
  let c0_35 : Index := 0#32
  ![v94.toNat, 0]
@[reducible] def k0_t4_loop (i : grid0.Coords) : Scf.Loop 32 :=
  let c0_i32_25 : BitVec 32 := 0#32
  let arg2 : BitVec 32 := BitVec.ofNat 32 (i 2).val
  let v70 : BitVec 32 := Scalar.subi arg2 c0_i32_25
  let c1_i32_26 : BitVec 32 := 1#32
  let v72 : BitVec 32 := Scalar.divsi v70 c1_i32_26
  let v73 : BitVec 32 := Scalar.muli v72 c1_i32_26
  let v74 : BitVec 32 := Scalar.addi c0_i32_25 v73
  let v71 : BitVec 32 := Scalar.addi c0_i32_25 v70
  let c1_i32_28 : BitVec 32 := 1#32
  ⟨v74, v71, c1_i32_28⟩
def k0_mult5 (i : grid0.Coords) (k0_t4 : Fin (k0_t4_loop i).trips) : BitVec 32 :=
  let c0_i32_25 : BitVec 32 := 0#32
  let arg2 : BitVec 32 := BitVec.ofNat 32 (i 2).val
  let v70 : BitVec 32 := Scalar.subi arg2 c0_i32_25
  let c1_i32_26 : BitVec 32 := 1#32
  let v72 : BitVec 32 := Scalar.divsi v70 c1_i32_26
  let v73 : BitVec 32 := Scalar.muli v72 c1_i32_26
  let v74 : BitVec 32 := Scalar.addi c0_i32_25 v73
  let c1_i32_28 : BitVec 32 := 1#32
  let arg8 : BitVec 32 := Scf.iv v74 c1_i32_28 k0_t4
  let c256_i32_32 : BitVec 32 := 256#32
  let v84 : BitVec 32 := Scalar.muli arg8 c256_i32_32
  v84
def k0_off5 (i : grid0.Coords) (k0_t4 : Fin (k0_t4_loop i).trips) : Fin 2 → Nat :=
  let c0_i32_25 : BitVec 32 := 0#32
  let arg2 : BitVec 32 := BitVec.ofNat 32 (i 2).val
  let v70 : BitVec 32 := Scalar.subi arg2 c0_i32_25
  let c1_i32_26 : BitVec 32 := 1#32
  let v72 : BitVec 32 := Scalar.divsi v70 c1_i32_26
  let v73 : BitVec 32 := Scalar.muli v72 c1_i32_26
  let v74 : BitVec 32 := Scalar.addi c0_i32_25 v73
  let c1_i32_28 : BitVec 32 := 1#32
  let arg8 : BitVec 32 := Scf.iv v74 c1_i32_28 k0_t4
  let c256_i32_32 : BitVec 32 := 256#32
  let v84 : BitVec 32 := Scalar.muli arg8 c256_i32_32
  let v85 : BitVec 32 := v84
  let v94 : Index := Scalar.indexCast v85
  let c0_35 : Index := 0#32
  ![v94.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== MobaReferenceIdeal.lean ====
abbrev S16384x512 : Shape := ⟨2, ![16384, 512]⟩
abbrev S16384x128 : Shape := ⟨2, ![16384, 128]⟩
abbrev S8x2048x8x64 : Shape := ⟨4, ![8, 2048, 8, 64]⟩
abbrev S8x2048x128 : Shape := ⟨3, ![8, 2048, 128]⟩
abbrev S8x2048x64 : Shape := ⟨3, ![8, 2048, 64]⟩
abbrev S8x2048x8x8 : Shape := ⟨4, ![8, 2048, 8, 8]⟩
abbrev S8x8x2048x2048 : Shape := ⟨4, ![8, 8, 2048, 2048]⟩
abbrev S2048 : Shape := ⟨1, ![2048]⟩
abbrev S8 : Shape := ⟨1, ![8]⟩
abbrev S8x256 : Shape := ⟨2, ![8, 256]⟩
abbrev S8x8x2048x8 : Shape := ⟨4, ![8, 8, 2048, 8]⟩
abbrev S8x8x2048x8x256 : Shape := ⟨5, ![8, 8, 2048, 8, 256]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S8x8x2048 : Shape := ⟨3, ![8, 8, 2048]⟩
abbrev S8x8x2048x1 : Shape := ⟨4, ![8, 8, 2048, 1]⟩
abbrev S8x8x64x2048 : Shape := ⟨4, ![8, 8, 64, 2048]⟩

abbrev nBuf : Space → Nat
  | .hbm => 57
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x128, .f32⟩
  | .hbm, ⟨4, _⟩ => ⟨S16384x512, .f32⟩
  | .hbm, ⟨5, _⟩ => ⟨S8x2048x8x64, .f32⟩
  | .hbm, ⟨6, _⟩ => ⟨S16384x512, .f32⟩
  | .hbm, ⟨7, _⟩ => ⟨S8x2048x8x64, .f32⟩
  | .hbm, ⟨8, _⟩ => ⟨S16384x512, .f32⟩
  | .hbm, ⟨9, _⟩ => ⟨S8x2048x8x64, .f32⟩
  | .hbm, ⟨10, _⟩ => ⟨S8x2048x128, .f32⟩
  | .hbm, ⟨11, _⟩ => ⟨S8x2048x64, .f32⟩
  | .hbm, ⟨12, _⟩ => ⟨S8x2048x8x8, .f32⟩
  | .hbm, ⟨13, _⟩ => ⟨S8x8x2048x2048, .f32⟩
  | .hbm, ⟨14, _⟩ => ⟨S2048, .i32⟩
  | .hbm, ⟨15, _⟩ => ⟨S8, .i32⟩
  | .hbm, ⟨16, _⟩ => ⟨S8x256, .i32⟩
  | .hbm, ⟨17, _⟩ => ⟨S2048, .i32⟩
  | .hbm, ⟨18, _⟩ => ⟨S8x8x2048x8, .f32⟩
  | .hbm, ⟨19, _⟩ => ⟨S8x8x2048x8x256, .f32⟩
  | .hbm, ⟨20, _⟩ => ⟨S8x8x2048x2048, .f32⟩
  | .hbm, ⟨21, _⟩ => ⟨S8x8x2048x2048, .f32⟩
  | .hbm, ⟨22, _⟩ => ⟨S1x2048, .i32⟩
  | .hbm, ⟨23, _⟩ => ⟨S2048x1, .i32⟩
  | .hbm, ⟨24, _⟩ => ⟨S2048x2048, .i32⟩
  | .hbm, ⟨25, _⟩ => ⟨S2048x2048, .i32⟩
  | .hbm, ⟨26, _⟩ => ⟨S2048x2048, .i1⟩
  | .hbm, ⟨27, _⟩ => ⟨S_, .f32⟩
  | .hbm, ⟨28, _⟩ => ⟨S_, .f32⟩
  | .hbm, ⟨29, _⟩ => ⟨S8x8x2048x2048, .i1⟩
  | .hbm, ⟨30, _⟩ => ⟨S8x8x2048x2048, .f32⟩
  | .hbm, ⟨31, _⟩ => ⟨S8x8x2048x2048, .f32⟩
  | .hbm, ⟨32, _⟩ => ⟨S1x2048, .i32⟩
  | .hbm, ⟨33, _⟩ => ⟨S2048x1, .i32⟩
  | .hbm, ⟨34, _⟩ => ⟨S2048x2048, .i32⟩
  | .hbm, ⟨35, _⟩ => ⟨S2048x2048, .i32⟩
  | .hbm, ⟨36, _⟩ => ⟨S2048x2048, .i1⟩
  | .hbm, ⟨37, _⟩ => ⟨S8x8x2048x2048, .i1⟩
  | .hbm, ⟨38, _⟩ => ⟨S8x8x2048x2048, .f32⟩
  | .hbm, ⟨39, _⟩ => ⟨S_, .f32⟩
  | .hbm, ⟨40, _⟩ => ⟨S8x8x2048, .f32⟩
  | .hbm, ⟨41, _⟩ => ⟨S_, .f32⟩
  | .hbm, ⟨42, _⟩ => ⟨S8x8x2048, .f32⟩
  | .hbm, ⟨43, _⟩ => ⟨S8x8x2048, .f32⟩
  | .hbm, ⟨44, _⟩ => ⟨S8x8x2048x1, .f32⟩
  | .hbm, ⟨45, _⟩ => ⟨S8x8x2048x2048, .f32⟩
  | .hbm, ⟨46, _⟩ => ⟨S8x8x2048x2048, .f32⟩
  | .hbm, ⟨47, _⟩ => ⟨S8x8x2048x2048, .f32⟩
  | .hbm, ⟨48, _⟩ => ⟨S_, .f32⟩
  | .hbm, ⟨49, _⟩ => ⟨S8x8x2048, .f32⟩
  | .hbm, ⟨50, _⟩ => ⟨S8x8x2048x1, .f32⟩
  | .hbm, ⟨51, _⟩ => ⟨S8x8x2048x2048, .f32⟩
  | .hbm, ⟨52, _⟩ => ⟨S8x8x2048x2048, .f32⟩
  | .hbm, ⟨53, _⟩ => ⟨S8x8x64x2048, .f32⟩
  | .hbm, ⟨54, _⟩ => ⟨S8x2048x8x64, .f32⟩
  | .hbm, ⟨55, _⟩ => ⟨S16384x512, .f32⟩
  | .hbm, ⟨56, _⟩ => ⟨S16384x512, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_call1_v0 : Ref sig .tc := ⟨.hbm, 37, rfl⟩
abbrev main_v29 : Ref sig .tc := ⟨.hbm, 38, rfl⟩
abbrev main_cst_0 : Ref sig .tc := ⟨.hbm, 39, rfl⟩
abbrev main_v30 : Ref sig .tc := ⟨.hbm, 40, rfl⟩
abbrev main_cst_1 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_2 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩

abbrev nD : Nat := 1
abbrev τ : Topo := Topo.v7x

variable {F : FTy → Type} [FloatOps F]
-- ==== OprojKernel.lean ====
abbrev S16384x512 : Shape := ⟨2, ![16384, 512]⟩
abbrev S16384x1024 : Shape := ⟨2, ![16384, 1024]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S_ : Shape := ⟨0, ![]⟩
abbrev S1024x96 : Shape := ⟨2, ![1024, 96]⟩
abbrev S1024x128 : Shape := ⟨2, ![1024, 128]⟩
abbrev S96 : Shape := ⟨1, ![96]⟩
abbrev S128 : Shape := ⟨1, ![128]⟩
abbrev S1x128 : Shape := ⟨2, ![1, 128]⟩
abbrev S1x1024 : Shape := ⟨2, ![1, 1024]⟩
abbrev S16384x128 : Shape := ⟨2, ![16384, 128]⟩
abbrev S8x128 : Shape := ⟨2, ![8, 128]⟩
abbrev S256x512 : Shape := ⟨2, ![256, 512]⟩
abbrev S256x1024 : Shape := ⟨2, ![256, 1024]⟩
abbrev S256x128 : Shape := ⟨2, ![256, 128]⟩
abbrev S512x1024 : Shape := ⟨2, ![512, 1024]⟩
abbrev S256 : Shape := ⟨1, ![256]⟩
abbrev S256x1 : Shape := ⟨2, ![256, 1]⟩
abbrev S256x256 : Shape := ⟨2, ![256, 256]⟩

abbrev nBuf : Space → Nat
  | .hbm => 22
  | .vmem => 19
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x32, .f32⟩
  | .hbm, ⟨7, _⟩ => ⟨S32, .f32⟩
  | .hbm, ⟨8, _⟩ => ⟨S_, .f32⟩
  | .hbm, ⟨9, _⟩ => ⟨S1024x96, .f32⟩
  | .hbm, ⟨10, _⟩ => ⟨S1024x128, .f32⟩
  | .hbm, ⟨11, _⟩ => ⟨S_, .f32⟩
  | .hbm, ⟨12, _⟩ => ⟨S96, .f32⟩
  | .hbm, ⟨13, _⟩ => ⟨S128, .f32⟩
  | .hbm, ⟨14, _⟩ => ⟨S1x128, .f32⟩
  | .hbm, ⟨15, _⟩ => ⟨S1024x1024, .bf16⟩
  | .hbm, ⟨16, _⟩ => ⟨S1x1024, .f32⟩
  | .hbm, ⟨17, _⟩ => ⟨S1x1024, .f32⟩
  | .hbm, ⟨18, _⟩ => ⟨S16384x1024, .f32⟩
  | .hbm, ⟨19, _⟩ => ⟨S16384x128, .i32⟩
  | .hbm, ⟨20, _⟩ => ⟨S16384x128, .f32⟩
  | .hbm, ⟨21, _⟩ => ⟨S8x128, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x1024, .f32⟩
  | .local _ .vmem, ⟨5, _⟩ => ⟨S256x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1024x128, .f32⟩
  | .local _ .vmem, ⟨10, _⟩ => ⟨S1x128, .f32⟩
  | .local _ .vmem, ⟨11, _⟩ => ⟨S256x1024, .f32⟩
  | .local _ .vmem, ⟨12, _⟩ => ⟨S256x1024, .f32⟩
  | .local _ .vmem, ⟨13, _⟩ => ⟨S256x128, .i32⟩
  | .local _ .vmem, ⟨14, _⟩ => ⟨S256x128, .i32⟩
  | .local _ .vmem, ⟨15, _⟩ => ⟨S256x128, .f32⟩
  | .local _ .vmem, ⟨16, _⟩ => ⟨S256x128, .f32⟩
  | .local _ .vmem, ⟨17, _⟩ => ⟨S8x128, .f32⟩
  | .local _ .vmem, ⟨18, _⟩ => ⟨S8x128, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev main_v8_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== OprojReferenceIdeal.lean ====
abbrev S16384x512 : Shape := ⟨2, ![16384, 512]⟩
abbrev S16384x1024 : Shape := ⟨2, ![16384, 1024]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 44
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x32, .f32⟩
  | .hbm, ⟨7, _⟩ => ⟨S32, .f32⟩
  | .hbm, ⟨8, _⟩ => ⟨S16384x1024, .bf16⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384x1, .f32⟩
  | .hbm, ⟨36, _⟩ => ⟨S16384x1024, .f32⟩
  | .hbm, ⟨37, _⟩ => ⟨S16384x1024, .f32⟩
  | .hbm, ⟨38, _⟩ => ⟨S1x1024, .f32⟩
  | .hbm, ⟨39, _⟩ => ⟨S16384x1024, .f32⟩
  | .hbm, ⟨40, _⟩ => ⟨S16384x1024, .f32⟩
  | .hbm, ⟨41, _⟩ => ⟨S1x1024, .f32⟩
  | .hbm, ⟨42, _⟩ => ⟨S16384x1024, .f32⟩
  | .hbm, ⟨43, _⟩ => ⟨S16384x1024, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== PrepKernel.lean ====
abbrev S8x2048x1024 : Shape := ⟨3, ![8, 2048, 1024]⟩
abbrev S8x2048 : Shape := ⟨2, ![8, 2048]⟩
abbrev S1024x1952 : Shape := ⟨2, ![1024, 1952]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S16384x1 : Shape := ⟨2, ![16384, 1]⟩
abbrev S16 : Shape := ⟨1, ![16]⟩
abbrev S_ : Shape := ⟨0, ![]⟩
abbrev S1x16 : Shape := ⟨2, ![1, 16]⟩
abbrev S16384x16 : Shape := ⟨2, ![16384, 16]⟩
abbrev S16384x64 : Shape := ⟨2, ![16384, 64]⟩
abbrev S16384x32 : Shape := ⟨2, ![16384, 32]⟩
abbrev S16384x128 : Shape := ⟨2, ![16384, 128]⟩
abbrev S8 : Shape := ⟨1, ![8]⟩
abbrev S1x8 : Shape := ⟨2, ![1, 8]⟩
abbrev S16384x8 : Shape := ⟨2, ![16384, 8]⟩
abbrev S16384x48 : Shape := ⟨2, ![16384, 48]⟩
abbrev S1024x256 : Shape := ⟨2, ![1024, 256]⟩
abbrev S1024x128 : Shape := ⟨2, ![1024, 128]⟩
abbrev S1024x32 : Shape := ⟨2, ![1024, 32]⟩
abbrev S1024x512 : Shape := ⟨2, ![1024, 512]⟩
abbrev S1024x64 : Shape := ⟨2, ![1024, 64]⟩
abbrev S1024x16 : Shape := ⟨2, ![1024, 16]⟩
abbrev S1024x8x64 : Shape := ⟨3, ![1024, 8, 64]⟩
abbrev S1024x8x16 : Shape := ⟨3, ![1024, 8, 16]⟩
abbrev S1024x8x8 : Shape := ⟨3, ![1024, 8, 8]⟩
abbrev S1024x8x48 : Shape := ⟨3, ![1024, 8, 48]⟩
abbrev S1024x3200 : Shape := ⟨2, ![1024, 3200]⟩
abbrev S256x8x96 : Shape := ⟨3, ![256, 8, 96]⟩
abbrev S256x8x32 : Shape := ⟨3, ![256, 8, 32]⟩
abbrev S256x8x128 : Shape := ⟨3, ![256, 8, 128]⟩
abbrev S256x1024 : Shape := ⟨2, ![256, 1024]⟩
abbrev S256x8x64 : Shape := ⟨3, ![256, 8, 64]⟩
abbrev S256x8x16 : Shape := ⟨3, ![256, 8, 16]⟩
abbrev S128x8x128 : Shape := ⟨3, ![128, 8, 128]⟩
abbrev S128x8x64 : Shape := ⟨3, ![128, 8, 64]⟩
abbrev S128x512 : Shape := ⟨2, ![128, 512]⟩
abbrev S16384x1024 : Shape := ⟨2, ![16384, 1024]⟩
abbrev S1x256 : Shape := ⟨2, ![1, 256]⟩
abbrev S1x128 : Shape := ⟨2, ![1, 128]⟩
abbrev S16384x512 : Shape := ⟨2, ![16384, 512]⟩
abbrev S256x128 : Shape := ⟨2, ![256, 128]⟩
abbrev S256x512 : Shape := ⟨2, ![256, 512]⟩
abbrev S64x512 : Shape := ⟨2, ![64, 512]⟩
abbrev S256x256 : Shape := ⟨2, ![256, 256]⟩
abbrev S256x1 : Shape := ⟨2, ![256, 1]⟩
abbrev S512 : Shape := ⟨1, ![512]⟩
abbrev S1x512 : Shape := ⟨2, ![1, 512]⟩
abbrev S64x256 : Shape := ⟨2, ![64, 256]⟩
abbrev S8x256 : Shape := ⟨2, ![8, 256]⟩
abbrev S128x256 : Shape := ⟨2, ![128, 256]⟩

abbrev nBuf : Space → Nat
  | .hbm => 145
  | .vmem => 32
  | .smem => 0
  | _ => 0

abbrev hbmTy0_0 (i : Nat) : BufTy := match i % 128 with
  | 0 => ⟨S8x2048x1024, .f32⟩
  | 1 => ⟨S8x2048, .i32⟩
  | 2 => ⟨S1024x1952, .f32⟩
  | 3 => ⟨S256, .f32⟩
  | 4 => ⟨S256x768, .f32⟩
  | 5 => ⟨S128, .f32⟩
  | 6 => ⟨S128x1024, .f32⟩
  | 7 => ⟨S8x2048, .f32⟩
  | 8 => ⟨S16384x1, .f32⟩
  | 9 => ⟨S16, .f32⟩
  | 10 => ⟨S_, .f32⟩
  | 11 => ⟨S16, .f32⟩
  | 12 => ⟨S16, .f32⟩
  | 13 => ⟨S_, .f32⟩
  | 14 => ⟨S16, .f32⟩
  | 15 => ⟨S16, .f32⟩
  | 16 => ⟨S16, .f32⟩
  | 17 => ⟨S_, .f32⟩
  | 18 => ⟨S16, .f32⟩
  | 19 => ⟨S16, .f32⟩
  | 20 => ⟨S_, .f32⟩
  | 21 => ⟨S16, .f32⟩
  | 22 => ⟨S16, .f32⟩
  | 23 => ⟨S1x16, .f32⟩
  | 24 => ⟨S16384x16, .f32⟩
  | 25 => ⟨S16384x16, .f32⟩
  | 26 => ⟨S16384x16, .f32⟩
  | 27 => ⟨S16384x16, .f32⟩
  | 28 => ⟨S16384x16, .f32⟩
  | 29 => ⟨S_, .f32⟩
  | 30 => ⟨S16384x64, .f32⟩
  | 31 => ⟨S_, .f32⟩
  | 32 => ⟨S16384x32, .f32⟩
  | 33 => ⟨S16384x128, .f32⟩
  | 34 => ⟨S_, .f32⟩
  | 35 => ⟨S16384x64, .f32⟩
  | 36 => ⟨S_, .f32⟩
  | 37 => ⟨S16384x32, .f32⟩
  | 38 => ⟨S16384x128, .f32⟩
  | 39 => ⟨S8, .f32⟩
  | 40 => ⟨S_, .f32⟩
  | 41 => ⟨S8, .f32⟩
  | 42 => ⟨S8, .f32⟩
  | 43 => ⟨S_, .f32⟩
  | 44 => ⟨S8, .f32⟩
  | 45 => ⟨S8, .f32⟩
  | 46 => ⟨S8, .f32⟩
  | 47 => ⟨S_, .f32⟩
  | 48 => ⟨S8, .f32⟩
  | 49 => ⟨S8, .f32⟩
  | 50 => ⟨S_, .f32⟩
  | 51 => ⟨S8, .f32⟩
  | 52 => ⟨S8, .f32⟩
  | 53 => ⟨S1x8, .f32⟩
  | 54 => ⟨S16384x8, .f32⟩
  | 55 => ⟨S16384x8, .f32⟩
  | 56 => ⟨S16384x8, .f32⟩
  | 57 => ⟨S16384x8, .f32⟩
  | 58 => ⟨S16384x8, .f32⟩
  | 59 => ⟨S_, .f32⟩
  | 60 => ⟨S16384x48, .f32⟩
  | 61 => ⟨S16384x64, .f32⟩
  | 62 => ⟨S_, .f32⟩
  | 63 => ⟨S16384x48, .f32⟩
  | 64 => ⟨S16384x64, .f32⟩
  | 65 => ⟨S16384x128, .f32⟩
  | 66 => ⟨S16384x128, .f32⟩
  | 67 => ⟨S1024x256, .f32⟩
  | 68 => ⟨S1024x128, .f32⟩
  | 69 => ⟨S1024x32, .f32⟩
  | 70 => ⟨S1024x512, .f32⟩
  | 71 => ⟨S1024x512, .f32⟩
  | 72 => ⟨S1024x512, .f32⟩
  | 73 => ⟨S_, .f32⟩
  | 74 => ⟨S1024x64, .f32⟩
  | 75 => ⟨S_, .f32⟩
  | 76 => ⟨S1024x32, .f32⟩
  | 77 => ⟨S1024x128, .f32⟩
  | 78 => ⟨S_, .f32⟩
  | 79 => ⟨S1024x64, .f32⟩
  | 80 => ⟨S1024x16, .f32⟩
  | 81 => ⟨S1024x16, .f32⟩
  | 82 => ⟨S1024x16, .f32⟩
  | 83 => ⟨S1024x32, .f32⟩
  | 84 => ⟨S_, .f32⟩
  | 85 => ⟨S1024x32, .f32⟩
  | 86 => ⟨S1024x128, .f32⟩
  | 87 => ⟨S1024x8x64, .f32⟩
  | 88 => ⟨S1024x8x16, .f32⟩
  | 89 => ⟨S1024x8x8, .f32⟩
  | 90 => ⟨S1024x8x8, .f32⟩
  | 91 => ⟨S1024x8x8, .f32⟩
  | 92 => ⟨S1024x8x16, .f32⟩
  | 93 => ⟨S_, .f32⟩
  | 94 => ⟨S1024x8x48, .f32⟩
  | 95 => ⟨S1024x8x64, .f32⟩
  | 96 => ⟨S1024x512, .f32⟩
  | 97 => ⟨S1024x8x64, .f32⟩
  | 98 => ⟨S1024x8x16, .f32⟩
  | 99 => ⟨S1024x8x8, .f32⟩
  | 100 => ⟨S1024x8x8, .f32⟩
  | 101 => ⟨S1024x8x8, .f32⟩
  | 102 => ⟨S1024x8x16, .f32⟩
  | 103 => ⟨S_, .f32⟩
  | 104 => ⟨S1024x8x48, .f32⟩
  | 105 => ⟨S1024x8x64, .f32⟩
  | 106 => ⟨S1024x512, .f32⟩
  | 107 => ⟨S1024x3200, .f32⟩
  | 108 => ⟨S1024x3200, .bf16⟩
  | 109 => ⟨S256x8x96, .f32⟩
  | 110 => ⟨S_, .f32⟩
  | 111 => ⟨S256x8x32, .f32⟩
  | 112 => ⟨S256x8x128, .f32⟩
  | 113 => ⟨S256x1024, .f32⟩
  | 114 => ⟨S256x1024, .bf16⟩
  | 115 => ⟨S_, .f32⟩
  | 116 => ⟨S256x8x64, .f32⟩
  | 117 => ⟨S256x8x32, .f32⟩
  | 118 => ⟨S256x8x16, .f32⟩
  | 119 => ⟨S256x8x16, .f32⟩
  | 120 => ⟨S256x8x16, .f32⟩
  | 121 => ⟨S256x8x32, .f32⟩
  | 122 => ⟨S256x8x128, .f32⟩
  | 123 => ⟨S256x1024, .f32⟩
  | 124 => ⟨S256x1024, .bf16⟩
  | 125 => ⟨S128x8x128, .f32⟩
  | 126 => ⟨S128x8x64, .f32⟩
  | 127 => ⟨S_, .f32⟩
  | _ => ⟨S8x2048x1024, .f32⟩

abbrev hbmTy0_1 (i : Nat) : BufTy := match i % 128 with
  | 0 => ⟨S128x8x64, .f32⟩
  | 1 => ⟨S128x8x128, .f32⟩
  | 2 => ⟨S128x1024, .f32⟩
  | 3 => ⟨S128x1024, .bf16⟩
  | 4 => ⟨S128x8x64, .f32⟩
  | 5 => ⟨S128x512, .f32⟩
  | 6 => ⟨S128x512, .bf16⟩
  | 7 => ⟨S16384x1024, .f32⟩
  | 8 => ⟨S1x256, .f32⟩
  | 9 => ⟨S1x128, .f32⟩
  | 10 => ⟨S16384x1024, .bf16⟩
  | 11 => ⟨S16384x1024, .bf16⟩
  | 12 => ⟨S16384x512, .bf16⟩
  | 13 => ⟨S16384x512, .bf16⟩
  | 14 => ⟨S16384x512, .bf16⟩
  | 15 => ⟨S16384x512, .bf16⟩
  | 16 => ⟨S16384x128, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S1024x3200, .bf16⟩
  | .local _ .vmem, ⟨3, _⟩ => ⟨S256x1024, .bf16⟩
  | .local _ .vmem, ⟨4, _⟩ => ⟨S256x1024, .bf16⟩
  | .local _ .vmem, ⟨5, _⟩ => ⟨S128x1024, .bf16⟩
  | .local _ .vmem, ⟨6, _⟩ => ⟨S128x512, .bf16⟩
  | .local _ .vmem, ⟨7, _⟩ => ⟨S1x256, .f32⟩
  | .local _ .vmem, ⟨8, _⟩ => ⟨S1x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x512, .bf16⟩
  | .local _ .vmem, ⟨22, _⟩ => ⟨S256x512, .bf16⟩
  | .local _ .vmem, ⟨23, _⟩ => ⟨S256x512, .bf16⟩
  | .local _ .vmem, ⟨24, _⟩ => ⟨S256x512, .bf16⟩
  | .local _ .vmem, ⟨25, _⟩ => ⟨S256x512, .bf16⟩
  | .local _ .vmem, ⟨26, _⟩ => ⟨S256x512, .bf16⟩
  | .local _ .vmem, ⟨27, _⟩ => ⟨S256x512, .bf16⟩
  | .local _ .vmem, ⟨28, _⟩ => ⟨S256x512, .bf16⟩
  | .local _ .vmem, ⟨29, _⟩ => ⟨S256x128, .f32⟩
  | .local _ .vmem, ⟨30, _⟩ => ⟨S256x128, .f32⟩
  | .local _ .vmem, ⟨31, _⟩ => ⟨S64x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_cst_8 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_9 : Ref sig .tc := ⟨.hbm, 47, rfl⟩
abbrev main_v30 : Ref sig .tc := ⟨.hbm, 48, rfl⟩
abbrev main_v31 : Ref sig .tc := ⟨.hbm, 49, rfl⟩
abbrev main_cst_10 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_11 : Ref sig .tc := ⟨.hbm, 59, rfl⟩
abbrev main_v40 : Ref sig .tc := ⟨.hbm, 60, rfl⟩
abbrev main_v41 : Ref sig .tc := ⟨.hbm, 61, rfl⟩
abbrev main_cst_12 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_13 : Ref sig .tc := ⟨.hbm, 73, rfl⟩
abbrev main_v52 : Ref sig .tc := ⟨.hbm, 74, rfl⟩
abbrev main_cst_14 : Ref sig .tc := ⟨.hbm, 75, rfl⟩
abbrev main_v53 : Ref sig .tc := ⟨.hbm, 76, rfl⟩
abbrev main_v54 : Ref sig .tc := ⟨.hbm, 77, rfl⟩
abbrev main_cst_15 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_16 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_17 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_18 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_19 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_20 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_cst_21 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108_0 : Ref sig .tc := ⟨.hbm, 138, rfl⟩
abbrev main_v108_1 : Ref sig .tc := ⟨.hbm, 139, rfl⟩
abbrev main_v108_2 : Ref sig .tc := ⟨.hbm, 140, rfl⟩
abbrev main_v108_3 : Ref sig .tc := ⟨.hbm, 141, rfl⟩
abbrev main_v108_4 : Ref sig .tc := ⟨.hbm, 142, rfl⟩
abbrev main_v108_5 : Ref sig .tc := ⟨.hbm, 143, rfl⟩
abbrev main_v108_6 : Ref sig .tc := ⟨.hbm, 144, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_scratch0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_18 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x3200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S256x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== PrepReferenceIdeal.lean ====
abbrev S8x2048x1024 : Shape := ⟨3, ![8, 2048, 1024]⟩
abbrev S8x2048 : Shape := ⟨2, ![8, 2048]⟩
abbrev S1024x1952 : Shape := ⟨2, ![1024, 1952]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S8x2048x1952 : Shape := ⟨3, ![8, 2048, 1952]⟩
abbrev S8x2048x128 : Shape := ⟨3, ![8, 2048, 128]⟩
abbrev S8x2048x512 : Shape := ⟨3, ![8, 2048, 512]⟩
abbrev S_ : Shape := ⟨0, ![]⟩
abbrev S8x2048x1 : Shape := ⟨3, ![8, 2048, 1]⟩
abbrev S1x1x128 : Shape := ⟨3, ![1, 1, 128]⟩
abbrev S8x2048x8x128 : Shape := ⟨4, ![8, 2048, 8, 128]⟩
abbrev S8x2048x8x64 : Shape := ⟨4, ![8, 2048, 8, 64]⟩
abbrev S16384x512 : Shape := ⟨2, ![16384, 512]⟩

abbrev nBuf : Space → Nat
  | .hbm => 33
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048, .i32⟩
  | .hbm, ⟨2, _⟩ => ⟨S1024x1952, .f32⟩
  | .hbm, ⟨3, _⟩ => ⟨S256, .f32⟩
  | .hbm, ⟨4, _⟩ => ⟨S256x768, .f32⟩
  | .hbm, ⟨5, _⟩ => ⟨S128, .f32⟩
  | .hbm, ⟨6, _⟩ => ⟨S128x1024, .f32⟩
  | .hbm, ⟨7, _⟩ => ⟨S8x2048x1952, .f32⟩
  | .hbm, ⟨8, _⟩ => ⟨S8x2048x128, .f32⟩
  | .hbm, ⟨9, _⟩ => ⟨S8x2048x512, .f32⟩
  | .hbm, ⟨10, _⟩ => ⟨S8x2048x128, .f32⟩
  | .hbm, ⟨11, _⟩ => ⟨S_, .f32⟩
  | .hbm, ⟨12, _⟩ => ⟨S8x2048, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S8x2048x1, .f32⟩
  | .hbm, ⟨21, _⟩ => ⟨S8x2048x128, .f32⟩
  | .hbm, ⟨22, _⟩ => ⟨S8x2048x128, .f32⟩
  | .hbm, ⟨23, _⟩ => ⟨S1x1x128, .f32⟩
  | .hbm, ⟨24, _⟩ => ⟨S8x2048x128, .f32⟩
  | .hbm, ⟨25, _⟩ => ⟨S8x2048x128, .f32⟩
  | .hbm, ⟨26, _⟩ => ⟨S8x2048x1024, .f32⟩
  | .hbm, ⟨27, _⟩ => ⟨S8x2048x8x128, .f32⟩
  | .hbm, ⟨28, _⟩ => ⟨S8x2048x8x64, .f32⟩
  | .hbm, ⟨29, _⟩ => ⟨S16384x512, .f32⟩
  | .hbm, ⟨30, _⟩ => ⟨S16384x512, .bf16⟩
  | .hbm, ⟨31, _⟩ => ⟨S16384x512, .f32⟩
  | .hbm, ⟨32, _⟩ => ⟨S16384x512, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== Proof.Attn.Online.lean ====
/- The arithmetic of one query row of an attention that is computed block of keys by block of keys: what the running
   maximum, the running denominator and the running numerator are after some set of keys, how one more block changes
   them, and that their quotient is the softmax-weighted sum. Over the extended reals, for any scores and values. -/
module

public import Idealize.ShloMosaic.PureOps.Ideal.Laws

@[expose] public section

noncomputable section

namespace Cert.Attn

open Idealize.ShloMosaic
open scoped BigOperators

theorem exp_bot : Ideal.exp ⊥ = 0 := rfl

/-- The exponential of a difference that is at most zero lies in `[0, 1]`. -/
theorem exp_sub_bounds {a b : EReal} (h : a ≤ b) : 0 ≤ Ideal.exp (a - b) ∧ Ideal.exp (a - b) ≤ 1 := by
  induction a with
  | bot => induction b with
    | bot => simp [exp_bot]
    | top => simp [exp_bot]
    | coe b => simp [exp_bot]
  | top =>
    obtain rfl : b = ⊤ := top_le_iff.mp h
    have e : (⊤ : EReal) - ⊤ = ⊥ := rfl
    simp [e, exp_bot]
  | coe a => induction b with
    | bot => simp at h
    | top => simp [exp_bot]
    | coe b =>
      rw [← EReal.coe_sub]
      have hab : a ≤ b := by exact_mod_cast h
      constructor
      · show (0 : EReal) ≤ ((Real.exp (a - b) : ℝ) : EReal)
        exact_mod_cast (Real.exp_pos _).le
      · show ((Real.exp (a - b) : ℝ) : EReal) ≤ 1
        exact_mod_cast Real.exp_le_one_iff.mpr (by linarith)

theorem exp_sub_nonneg {a b : EReal} (h : a ≤ b) : 0 ≤ Ideal.exp (a - b) := (exp_sub_bounds h).1

theorem exp_sub_ne_top {a b : EReal} (h : a ≤ b) : Ideal.exp (a - b) ≠ ⊤ :=
  ne_top_of_le_ne_top (EReal.coe_ne_top 1) (exp_sub_bounds h).2

/-- Changing the maximum that the exponents are taken against, from `b` to a larger `c`, multiplies by `exp (b - c)`. -/
theorem exp_sub_mul {a b c : EReal} (hab : a ≤ b) (hbc : b ≤ c) :
    Ideal.exp (b - c) * Ideal.exp (a - b) = Ideal.exp (a - c) := by
  induction c with
  | bot =>
    obtain rfl : b = ⊥ := le_bot_iff.mp hbc
    obtain rfl : a = ⊥ := le_bot_iff.mp hab
    have e : (⊥ : EReal) - ⊥ = ⊥ := rfl
    simp [e, exp_bot]
  | top => simp [EReal.sub_top, exp_bot]
  | coe c =>
    induction b with
    | top => simp at hbc
    | bot =>
      obtain rfl : a = ⊥ := le_bot_iff.mp hab
      simp [exp_bot]
    | coe b =>
      induction a with
      | top => simp at hab
      | bot => simp [exp_bot]
      | coe a =>
        rw [← EReal.coe_sub, ← EReal.coe_sub, ← EReal.coe_sub]
        show ((Real.exp (b - c) : ℝ) : EReal) * ((Real.exp (a - b) : ℝ) : EReal) = ((Real.exp (a - c) : ℝ) : EReal)
        rw [← EReal.coe_mul, ← Real.exp_add]
        congr 2
        ring

/-- A nonnegative factor that is not infinite goes into a finite sum. -/
theorem mul_sum_of_nonneg {κ : Type*} (S : Finset κ) (f : κ → EReal) {x : EReal} (h0 : 0 ≤ x) (h1 : x ≠ ⊤) :
    x * ∑ k ∈ S, f k = ∑ k ∈ S, x * f k := by
  classical
  induction S using Finset.induction_on with
  | empty => simp
  | insert k S hk ih => rw [Finset.sum_insert hk, Finset.sum_insert hk, EReal.left_distrib_of_nonneg_of_ne_top h0 h1, ih]

/-- A finite sum of terms none of which is `⊤` is not `⊤`. -/
theorem sum_ne_top {κ : Type*} (S : Finset κ) (f : κ → EReal) (h : ∀ k ∈ S, f k ≠ ⊤) : ∑ k ∈ S, f k ≠ ⊤ := by
  classical
  induction S using Finset.induction_on with
  | empty => simp
  | insert k S hk ih =>
    rw [Finset.sum_insert hk]
    exact EReal.add_ne_top (h k (Finset.mem_insert_self k S)) (ih fun j hj => h j (Finset.mem_insert_of_mem hj))

/-- What the three running quantities of a row are after the keys of `S`: the largest score, the sum of the exponentials
    against it, and the same sum weighted by the values. -/
structure Flash {κ : Type*} (s v : κ → EReal) (S : Finset κ) (m l a : EReal) : Prop where
  max_eq : m = S.sup s
  den_eq : l = ∑ k ∈ S, Ideal.exp (s k - m)
  num_eq : a = ∑ k ∈ S, Ideal.exp (s k - m) * v k

/-- The first block. -/
theorem Flash.first {κ ι : Type*} [Fintype ι] (s v : κ → EReal) (e : ι ↪ κ) :
    Flash s v (Finset.univ.map e) (Finset.univ.sup fun c => s (e c))
      (∑ c, Ideal.exp (s (e c) - Finset.univ.sup fun c => s (e c)))
      (∑ c, Ideal.exp (s (e c) - Finset.univ.sup fun c => s (e c)) * v (e c)) where
  max_eq := by rw [Finset.sup_map]; rfl
  den_eq := by rw [Finset.sum_map]
  num_eq := by rw [Finset.sum_map]

/-- One more block: the new maximum, and the old sums carried over to it. -/
theorem Flash.step {κ ι : Type*} [DecidableEq κ] [Fintype ι] {s v : κ → EReal} {S : Finset κ} {m l a : EReal} (h : Flash s v S m l a)
    (e : ι ↪ κ) (hd : ∀ c, e c ∉ S) {m' : EReal} (hm' : m' = max m (Finset.univ.sup fun c => s (e c))) :
    Flash s v (S ∪ Finset.univ.map e) m'
      (Ideal.exp (m - m') * l + ∑ c, Ideal.exp (s (e c) - m'))
      (Ideal.exp (m - m') * a + ∑ c, Ideal.exp (s (e c) - m') * v (e c)) := by
  have hle : m ≤ m' := hm' ▸ le_max_left _ _
  have hS : ∀ k ∈ S, s k ≤ m := fun k hk => h.max_eq ▸ Finset.le_sup hk
  have hdj : Disjoint S (Finset.univ.map e) := by
    rw [Finset.disjoint_right]
    intro k hk
    obtain ⟨c, -, rfl⟩ := Finset.mem_map.mp hk
    exact hd c
  refine ⟨?_, ?_, ?_⟩
  · rw [Finset.sup_union, Finset.sup_map, ← h.max_eq, hm']; rfl
  · rw [Finset.sum_union hdj, Finset.sum_map, h.den_eq, mul_sum_of_nonneg _ _ (exp_sub_nonneg hle) (exp_sub_ne_top hle)]
    congr 1
    exact Finset.sum_congr rfl fun k hk => exp_sub_mul (hS k hk) hle
  · rw [Finset.sum_union hdj, Finset.sum_map, h.num_eq, mul_sum_of_nonneg _ _ (exp_sub_nonneg hle) (exp_sub_ne_top hle)]
    congr 1
    refine Finset.sum_congr rfl fun k hk => ?_
    rw [← mul_assoc, exp_sub_mul (hS k hk) hle]

/-- The softmax-weighted sum of the values over all keys, written with the maximum, the exponentials and their sum. -/
def softmaxSum {κ : Type*} [Fintype κ] (s v : κ → EReal) : EReal :=
  ∑ k, v k * Ideal.div (Ideal.exp (s k - Finset.univ.sup s)) (∑ j, Ideal.exp (s j - Finset.univ.sup s))

/-- **The quotient of the running numerator by the running denominator is the softmax-weighted sum** over all keys, where
    the keys left out have the score `-∞` and the scores taken are below `+∞` with at least one above `-∞`. -/
theorem Flash.out {κ : Type*} [Fintype κ] [DecidableEq κ] {s v : κ → EReal} {S : Finset κ} {m l a : EReal} (h : Flash s v S m l a)
    (hout : ∀ k, k ∉ S → s k = ⊥) (htop : ∀ k, s k ≠ ⊤) {k₀ : κ} (hk₀ : k₀ ∈ S) (hbot : s k₀ ≠ ⊥) :
    Ideal.div a l = softmaxSum s v := by
  have hM : Finset.univ.sup s = m := by
    rw [h.max_eq]
    apply le_antisymm
    · refine Finset.sup_le fun k _ => ?_
      by_cases hk : k ∈ S
      · exact Finset.le_sup hk
      · rw [hout k hk]; exact bot_le
    · exact Finset.sup_mono (Finset.subset_univ S)
  have hm0 : m ≠ ⊥ := by
    intro e
    have : s k₀ ≤ m := h.max_eq ▸ Finset.le_sup hk₀
    exact hbot (le_bot_iff.mp (e ▸ this))
  obtain ⟨k₁, hk₁, e₁⟩ := Finset.exists_mem_eq_sup S ⟨k₀, hk₀⟩ s
  have hm1 : m ≠ ⊤ := by rw [h.max_eq, e₁]; exact htop k₁
  have hz : ∀ k, k ∉ S → Ideal.exp (s k - m) = 0 := fun k hk => by
    rw [hout k hk, EReal.bot_sub]; rfl
  have hS : ∀ k ∈ S, s k ≤ m := fun k hk => h.max_eq ▸ Finset.le_sup hk
  have hl : ∑ j, Ideal.exp (s j - m) = l := by
    rw [h.den_eq]
    exact (Finset.sum_subset (Finset.subset_univ S) fun k _ hk => hz k hk).symm
  have hone : Ideal.exp (s k₁ - m) = 1 := by
    rw [← e₁, ← h.max_eq]
    clear * - hm0 hm1
    lift m to ℝ using ⟨hm1, hm0⟩
    rw [← EReal.coe_sub, sub_self]
    show ((Real.exp 0 : ℝ) : EReal) = 1
    simp
  have hl1 : 1 ≤ l := by
    rw [h.den_eq, ← hone]
    exact Finset.single_le_sum (f := fun k => Ideal.exp (s k - m)) (fun k hk => exp_sub_nonneg (hS k hk)) hk₁
  have hl0 : l ≠ 0 := fun e => absurd (e ▸ hl1) (by simp)
  have hlinv : 0 ≤ l⁻¹ := EReal.inv_nonneg_of_nonneg (le_trans zero_le_one hl1)
  have hlinv' : l⁻¹ ≠ ⊤ := by
    clear * -
    induction l with
    | bot => rw [EReal.inv_bot]; exact EReal.zero_ne_top
    | top => rw [EReal.inv_top]; exact EReal.zero_ne_top
    | coe l => rw [← EReal.coe_inv]; exact EReal.coe_ne_top _
  unfold softmaxSum
  rw [hM, hl]
  simp only [Ideal.div, if_neg hl0]
  rw [h.num_eq, mul_comm, mul_sum_of_nonneg _ _ hlinv hlinv']
  rw [← Finset.sum_subset (Finset.subset_univ S) fun k _ hk => by rw [hz k hk]; simp]
  refine Finset.sum_congr rfl fun k _ => ?_
  rw [mul_comm (l⁻¹), mul_comm (v k), mul_right_comm]

end Cert.Attn

end
-- ==== Proof.Attn.Pays.lean ====
/- The MLA attention kernel's block steps read at an index, over the extended reals: the scores of a block, the masked
   scores of the diagonal block, and the new maximum, denominator and numerator of a row. -/
module

public import proofs.«01_k».proof.Proof.Gen.KernelIdeal.Value
public import proofs.«01_k».proof.Proof.Attn.Online
public import Idealize.ShloMosaic.Lib.Pointwise

@[expose] public section

noncomputable section

namespace Cert.Attn

open Cert.KernelIdeal Cert.KernelIdeal.Gen Idealize.ShloMosaic Idealize.ShloMosaic.TcCoe Idealize.SL.Sem Idealize.ShloMosaic.Tactic

theorem neg_inf : Ideal.ofBits .f32 0xFF800000#32 = ⊥ := by
  simp [Ideal.ofBits, Ideal.ieee]

/-- A choice by a comparison of two small index words is the choice by the comparison of the numbers. -/
theorem select_sle {α : Type} {a b : ℕ} (ha : a < 2 ^ 31) (hb : b < 2 ^ 31) (x y : α) :
    Scalar.select (IntOp.cmpi .sle (BitVec.ofNat 32 a) (BitVec.ofNat 32 b)) x y = if a ≤ b then x else y := by
  rw [WordCmp.cmpi_sle_ofNat ha hb, Scalar.select]
  by_cases h : a ≤ b <;> simp [h]

theorem select_slt {α : Type} {a b : ℕ} (ha : a < 2 ^ 31) (hb : b < 2 ^ 31) (x y : α) :
    Scalar.select (IntOp.cmpi .slt (BitVec.ofNat 32 a) (BitVec.ofNat 32 b)) x y = if a < b then x else y := by
  rw [WordCmp.cmpi_slt_ofNat ha hb, Scalar.select]
  by_cases h : a < b <;> simp [h]

/-- Row `r` of the queries times row `c` of the keys. -/
theorem pay6_apply (q kb : Vec Ideal S256x128 .bf16) (r c : Fin 256) :
    k0_pay6 (F := Ideal) q kb (ix2 r c) = ∑ d : Fin 128, (q (ix2 r d) : EReal) * kb (ix2 c d) := by
  pointwise [k0_pay6]

/-- The new maximum. -/
theorem pay7_apply (q kb : Vec Ideal S256x128 .bf16) (m : FVec Ideal S256x1 .f32) (r : Fin 256) :
    k0_pay7 (F := Ideal) q m kb (ix2 r 0) = max (m (ix2 r 0)) (Finset.univ.sup fun c : Fin 256 => k0_pay6 (F := Ideal) q kb (ix2 r c)) := by
  pointwise [k0_pay7]
  rw [neg_inf]; rfl

/-- The new denominator. -/
theorem pay10_apply (q kb : Vec Ideal S256x128 .bf16) (m l : FVec Ideal S256x1 .f32) (r : Fin 256) :
    k0_pay10 (F := Ideal) q m l kb (ix2 r 0) = Ideal.exp (m (ix2 r 0) - k0_pay7 (F := Ideal) q m kb (ix2 r 0)) * l (ix2 r 0)
       + ∑ c : Fin 256, Ideal.exp (k0_pay6 (F := Ideal) q kb (ix2 r c) - k0_pay7 (F := Ideal) q m kb (ix2 r 0)) := by
  pointwise [k0_pay10, k0_pay8, k0_pay9]

/-- The new numerator. -/
theorem pay11_apply (q kb vb : Vec Ideal S256x128 .bf16) (m : FVec Ideal S256x1 .f32) (a : FVec Ideal S256x128 .f32) (r : Fin 256) (d : Fin 128) :
    k0_pay11 (F := Ideal) q m a kb vb (ix2 r d) = Ideal.exp (m (ix2 r 0) - k0_pay7 (F := Ideal) q m kb (ix2 r 0)) * a (ix2 r d)
       + ∑ c : Fin 256, Ideal.exp (k0_pay6 (F := Ideal) q kb (ix2 r c) - k0_pay7 (F := Ideal) q m kb (ix2 r 0)) * (vb (ix2 c d) : EReal) := by
  pointwise [k0_pay11, k0_pay8, k0_pay9]

/-- The diagonal block's scores: those of later keys are masked. -/
theorem pay19_apply (q kb : Vec Ideal S256x128 .bf16) (r c : Fin 256) :
    k0_pay19 (F := Ideal) q kb (ix2 r c) = if c.val ≤ r.val then k0_pay6 (F := Ideal) q kb (ix2 r c) else ⊥ := by
  pointwise [k0_pay19, k0_pay6]
  rw [neg_inf]; exact select_sle (by omega) (by omega) _ _

theorem pay20_apply (q kb : Vec Ideal S256x128 .bf16) (r : Fin 256) :
    k0_pay20 (F := Ideal) q kb (ix2 r 0) = Finset.univ.sup fun c : Fin 256 => k0_pay19 (F := Ideal) q kb (ix2 r c) := by
  pointwise [k0_pay20]
  rw [neg_inf]; rfl

theorem pay22_apply (q kb : Vec Ideal S256x128 .bf16) (r : Fin 256) :
    k0_pay22 (F := Ideal) q kb (ix2 r 0)
      = ∑ c : Fin 256, Ideal.exp (k0_pay19 (F := Ideal) q kb (ix2 r c) - k0_pay20 (F := Ideal) q kb (ix2 r 0)) := by
  pointwise [k0_pay22, k0_pay21]

theorem pay23_apply (q kb vb : Vec Ideal S256x128 .bf16) (r : Fin 256) (d : Fin 128) :
    k0_pay23 (F := Ideal) q kb vb (ix2 r d)
      = ∑ c : Fin 256, Ideal.exp (k0_pay19 (F := Ideal) q kb (ix2 r c) - k0_pay20 (F := Ideal) q kb (ix2 r 0)) * (vb (ix2 c d) : EReal) := by
  pointwise [k0_pay23, k0_pay21]

theorem pay18_apply (o : FVec Ideal S256x128 .f32) (l : FVec Ideal S256x1 .f32) (a : FVec Ideal S256x128 .f32) (r : Fin 256) (d : Fin 128) :
    k0_pay18 (F := Ideal) o l a (ix2 r d) = if d.val < 64 then o (ix2 r d) else Ideal.div (a (ix2 r d)) (l (ix2 r 0)) := by
  pointwise [k0_pay18]
  exact select_slt (a := d.val) (b := 64) (by omega) (by omega) _ _

theorem pay36_apply (l : FVec Ideal S256x1 .f32) (a : FVec Ideal S256x128 .f32) (r : Fin 256) (d : Fin 128) :
    k0_pay36 (F := Ideal) l a (ix2 r d) = Ideal.div (a (ix2 r d)) (l (ix2 r 0)) := by
  pointwise [k0_pay36]

end Cert.Attn

end
-- ==== Proof.Attn.State.lean ====
/- The MLA attention kernel's loop over the blocks of keys, as a plain recursion on whole blocks, and what its state
   is for one query row: the running maximum, denominator and numerator after the blocks taken. -/
module

public import proofs.«01_k».proof.Proof.Attn.Pays

@[expose] public section

noncomputable section

namespace Cert.Attn

open Cert.KernelIdeal Cert.KernelIdeal.Gen Idealize.ShloMosaic Idealize.ShloMosaic.TcCoe Idealize.SL.Sem Idealize.ShloMosaic.Tactic

/-- The queries of head `h` of a pair. -/
def qHead (x : Vec Ideal S256x256 .bf16) (h : Fin 2) : Vec Ideal S256x128 .bf16 :=
  fun i => x (ix2 (i 0) ⟨128 * h.val + (i 1).val, by have := (i 1).isLt; have := h.isLt; simp at *; omega⟩)

/-- Block `j` of the keys of head `h` of a pair. -/
def kBlk (x : Vec Ideal S2048x256 .bf16) (h : Fin 2) (j : ℕ) : Vec Ideal S256x128 .bf16 :=
  fun i => x (ix2 ⟨(256 * j + (i 0).val) % 2048, Nat.mod_lt _ (by norm_num)⟩ ⟨128 * h.val + (i 1).val, by have := (i 1).isLt; have := h.isLt; simp at *; omega⟩)

/-- Block `j` of the values of the pair. -/
def vBlk (x : Vec Ideal S2048x128 .bf16) (j : ℕ) : Vec Ideal S256x128 .bf16 :=
  fun i => x (ix2 ⟨(256 * j + (i 0).val) % 2048, Nat.mod_lt _ (by norm_num)⟩ (i 1))

/-- One block of earlier keys. -/
def trip (q kb vb : Vec Ideal S256x128 .bf16) (acc : FVec Ideal S256x1 .f32 × FVec Ideal S256x1 .f32 × FVec Ideal S256x128 .f32) :
    FVec Ideal S256x1 .f32 × FVec Ideal S256x1 .f32 × FVec Ideal S256x128 .f32 :=
  (k0_pay7 q acc.1 kb, k0_pay10 q acc.1 acc.2.1 kb, k0_pay11 q acc.1 acc.2.2 kb vb)

/-- The state after the diagonal block `i` and the first `n` blocks. -/
def state (q : Vec Ideal S256x128 .bf16) (kb vb : ℕ → Vec Ideal S256x128 .bf16) (i : ℕ) :
    ℕ → FVec Ideal S256x1 .f32 × FVec Ideal S256x1 .f32 × FVec Ideal S256x128 .f32
  | 0 => (k0_pay20 q (kb i), k0_pay22 q (kb i), k0_pay23 q (kb i) (vb i))
  | n + 1 => trip q (kb n) (vb n) (state q kb vb i n)

/-- The keys of block `j`, among all. -/
def blkEmb (j : ℕ) (hj : j < 8) : Fin 256 ↪ Fin 2048 where
  toFun c := ⟨256 * j + c.val, by omega⟩
  inj' a b h := by simpa [Fin.ext_iff] using h

theorem blkEmb_val (j : ℕ) (hj : j < 8) (c : Fin 256) : (blkEmb j hj c).val = 256 * j + c.val := rfl

/-- The masked score of key `k` against row `r` of query block `i`. -/
def score (q : Vec Ideal S256x128 .bf16) (x : Vec Ideal S2048x256 .bf16) (h : Fin 2) (i : ℕ) (r : Fin 256) (k : Fin 2048) : EReal :=
  if k.val ≤ 256 * i + r.val then
    ∑ d : Fin 128, (q (ix2 r d) : EReal) * x (ix2 k ⟨128 * h.val + d.val, by have := h.isLt; omega⟩)
  else ⊥

/-- The keys taken after the diagonal block and `n` earlier ones. -/
def taken (i n : ℕ) : Finset (Fin 2048) := Finset.univ.filter fun k => k.val / 256 = i ∨ k.val / 256 < n

theorem taken_zero (i : ℕ) (hi : i < 8) : taken i 0 = Finset.univ.map (blkEmb i hi) := by
  ext k
  simp only [taken, Finset.mem_filter, Finset.mem_univ, true_and, Finset.mem_map, Fin.ext_iff, blkEmb_val]
  constructor
  · intro h; exact ⟨⟨k.val % 256, by omega⟩, by show 256 * _ + k.val % 256 = _; omega⟩
  · rintro ⟨c, hc⟩; have := c.isLt; omega

theorem taken_succ (i n : ℕ) (hn : n < 8) : taken i (n + 1) = taken i n ∪ Finset.univ.map (blkEmb n hn) := by
  ext k
  simp only [taken, Finset.mem_union, Finset.mem_filter, Finset.mem_univ, true_and, Finset.mem_map, Fin.ext_iff, blkEmb_val]
  constructor
  · intro h
    by_cases hk : k.val / 256 = n
    · exact Or.inr ⟨⟨k.val % 256, by omega⟩, by show 256 * _ + k.val % 256 = _; omega⟩
    · left; omega
  · rintro (h | ⟨c, hc⟩)
    · omega
    · have := c.isLt; omega

theorem kBlk_apply (x : Vec Ideal S2048x256 .bf16) (h : Fin 2) (j : ℕ) (hj : j < 8) (c : Fin 256) (d : Fin 128) :
    kBlk x h j (ix2 c d) = x (ix2 (blkEmb j hj c) ⟨128 * h.val + d.val, by have := h.isLt; omega⟩) := by
  unfold kBlk
  congr 2
  exact Fin.ext (Nat.mod_eq_of_lt (by have := c.isLt; simp; omega))

theorem vBlk_apply (x : Vec Ideal S2048x128 .bf16) (j : ℕ) (hj : j < 8) (c : Fin 256) (d : Fin 128) :
    vBlk x j (ix2 c d) = x (ix2 (blkEmb j hj c) d) := by
  unfold vBlk
  congr 2
  exact Fin.ext (Nat.mod_eq_of_lt (by have := c.isLt; simp; omega))

/-- **The state of a row** after the diagonal block and `n` earlier blocks. -/
theorem state_flash (q : Vec Ideal S256x128 .bf16) (x1 : Vec Ideal S2048x256 .bf16) (x2 : Vec Ideal S2048x128 .bf16) (h : Fin 2)
    (i : ℕ) (hi : i < 8) (r : Fin 256) (d : Fin 128) (n : ℕ) (hn : n ≤ i) :
    Flash (score q x1 h i r) (fun k => (x2 (ix2 k d) : EReal)) (taken i n)
      ((state q (kBlk x1 h) (vBlk x2) i n).1 (ix2 r 0)) ((state q (kBlk x1 h) (vBlk x2) i n).2.1 (ix2 r 0))
      ((state q (kBlk x1 h) (vBlk x2) i n).2.2 (ix2 r d)) := by
  induction n with
  | zero =>
    have hs : ∀ c : Fin 256, k0_pay19 (F := Ideal) q (kBlk x1 h i) (ix2 r c) = score q x1 h i r (blkEmb i hi c) := fun c => by
      rw [pay19_apply, pay6_apply]
      simp only [kBlk_apply x1 h i hi]
      unfold score
      exact if_congr (by rw [blkEmb_val]; omega) rfl rfl
    have := Flash.first (score q x1 h i r) (fun k => (x2 (ix2 k d) : EReal)) (blkEmb i hi)
    simp only [state, pay20_apply, pay22_apply, pay23_apply, hs, vBlk_apply x2 i hi, taken_zero i hi]
    exact this
  | succ n ih =>
    have hs : ∀ c : Fin 256, k0_pay6 (F := Ideal) q (kBlk x1 h n) (ix2 r c) = score q x1 h i r (blkEmb n (by omega) c) := fun c => by
      rw [pay6_apply]
      simp only [kBlk_apply x1 h n (by omega)]
      unfold score
      rw [if_pos]
      have := c.isLt
      show 256 * n + c.val ≤ _
      omega
    have hm : ∀ acc : FVec Ideal S256x1 .f32, k0_pay7 (F := Ideal) q acc (kBlk x1 h n) (ix2 r 0)
        = max (acc (ix2 r 0)) (Finset.univ.sup fun c => score q x1 h i r (blkEmb n (by omega) c)) := fun acc => by
      rw [pay7_apply]; simp only [hs]
    have := (ih (by omega)).step (blkEmb n (by omega)) (fun c => by
      have := c.isLt
      simp only [taken, Finset.mem_filter, Finset.mem_univ, true_and, blkEmb_val]
      omega) (hm (state q (kBlk x1 h) (vBlk x2) i n).1)
    rw [taken_succ i n (by omega)]
    simp only [state, trip, pay10_apply, pay11_apply, hs, vBlk_apply x2 n (show n < 8 by omega)]
    exact this

end Cert.Attn

end
-- ==== Proof.Attn.Body.lean ====
/- What the MLA attention kernel's body leaves in its output block, from the blocks it reads: for each of the two heads
   the quotient of the state after the blocks up to the diagonal, by `Attn.state`. -/
module

public import proofs.«01_k».proof.Proof.Attn.State
public import Idealize.ShloMosaic.Lib.Pipeline.ValueKit

@[expose] public section

noncomputable section

namespace Cert.Attn

open Cert.KernelIdeal Cert.KernelIdeal.Gen Idealize.ShloMosaic Idealize.ShloMosaic.TcCoe Idealize.SL.Sem Idealize.ShloMosaic.Tactic

theorem hz2 : (![0, 0] : Fin 2 → Nat) = fun _ => 0 := funext fun a => by fin_cases a <;> rfl

/-- The words of the kernel's loop bounds and offsets, as numbers. -/
theorem word_row : ∀ a : Fin 8, BitVec.toNat (Scalar.indexCast (Scalar.muli (BitVec.ofNat 32 a.val) 256#32)) = 256 * a.val := by decide

theorem word_iv : ∀ a : Fin 8, BitVec.toNat (Scalar.indexCast (Scalar.muli (Scf.iv 0#32 1#32 a.val) 256#32)) = 256 * a.val := by decide

theorem word_trips : ∀ a : Fin 8, Scf.trips 0#32
    (Scalar.addi 0#32 (Scalar.muli (Scalar.divsi (Scalar.subi (BitVec.ofNat 32 a.val) 0#32) 1#32) 1#32)) 1#32 = a.val := by decide

theorem word_trips' : ∀ a : Fin 8, Scf.trips
    (Scalar.addi 0#32 (Scalar.muli (Scalar.divsi (Scalar.subi (BitVec.ofNat 32 a.val) 0#32) 1#32) 1#32))
    (Scalar.addi 0#32 (Scalar.subi (BitVec.ofNat 32 a.val) 0#32)) 1#32 = 0 := by decide

/-- The loads of the body, as the heads and blocks they read. -/
theorem ld_q (x : Vec Ideal S256x256 .bf16) (h : Fin 2) (off : Fin 2 → ℕ) (inb) (hoff : off = ![0, 128 * h.val]) :
    View.ld x (Rect.unit off ![256, 128] inb) = qHead x h := by
  subst hoff
  funext j
  refine View.ld_unit_apply_of x _ _ _ _ _ fun a => ?_
  fin_cases a
  · exact (Nat.zero_add _).symm
  · rfl

theorem ld_k (x : Vec Ideal S2048x256 .bf16) (h : Fin 2) (n : ℕ) (hn : n < 8) (off : Fin 2 → ℕ) (inb) (hoff : off = ![256 * n, 128 * h.val]) :
    View.ld x (Rect.unit off ![256, 128] inb) = kBlk x h n := by
  subst hoff
  funext j
  refine View.ld_unit_apply_of x _ _ _ _ _ fun a => ?_
  fin_cases a
  · have hj : (j 0).val < 256 := (j 0).isLt
    exact Nat.mod_eq_of_lt (by omega)
  · rfl

theorem ld_v (x : Vec Ideal S2048x128 .bf16) (n : ℕ) (hn : n < 8) (off : Fin 2 → ℕ) (inb) (hoff : off = ![256 * n, 0]) :
    View.ld x (Rect.unit off ![256, 128] inb) = vBlk x n := by
  subst hoff
  funext j
  refine View.ld_unit_apply_of x _ _ _ _ _ fun a => ?_
  fin_cases a
  · have hj : (j 0).val < 256 := (j 0).isLt
    exact Nat.mod_eq_of_lt (by omega)
  · exact (Nat.zero_add _).symm

abbrev St := FVec Ideal S256x1 .f32 × FVec Ideal S256x1 .f32 × FVec Ideal S256x128 .f32

/-- Head 0's loop: one trip, and the state before trip `n`. -/
theorem trip1_eq (𝒱 : Variants) (c : Dev nD) (bd : Option 𝒱.V) (i : grid0.Coords) (arg3 : Memref sig .tc .vmem S256x256 .bf16) (harg3 : arg3.IsWhole) (arg4 : Memref sig .tc .vmem S2048x256 .bf16) (harg4 : arg4.IsWhole)
    (arg5 : Memref sig .tc .vmem S2048x128 .bf16) (harg5 : arg5.IsWhole) (arg6 : Memref sig .tc .vmem S256x128 .bf16) (harg6 : arg6.IsWhole)
    (q : Vec Ideal S256x128 .bf16) (x1 : Vec Ideal S2048x256 .bf16) (x2 : Vec Ideal S2048x128 .bf16) (k : Fin (k0_t1_loop i).trips) (acc : St) :
    tripR_k0_t1 (F := Ideal) 𝒱 c bd i arg3 harg3 arg4 harg4 arg5 harg5 arg6 harg6 q (harg4.unread x1) (harg5.unread x2) k acc
      = trip q (kBlk x1 0 k) (vBlk x2 k) acc := by
  have hk : k.val < 8 := lt_of_lt_of_eq k.isLt (word_trips ⟨(i 2).val, (i 2).isLt⟩) |>.trans (i 2).isLt
  unfold tripR_k0_t1 trip_k0_t1; dsimp only
  simp only [View.readAt_eq_ld, harg4.read_unread, harg5.read_unread]
  rw [ld_k x1 0 k hk (k0_off3 i k) _ (by unfold k0_off3; dsimp only; rw [word_iv ⟨k.val, hk⟩]; rfl),
    ld_v x2 k hk (k0_off4 i k) _ (by unfold k0_off4; dsimp only; rw [word_iv ⟨k.val, hk⟩])]
  rfl

theorem st1_eq (𝒱 : Variants) (c : Dev nD) (bd : Option 𝒱.V) (i : grid0.Coords) (arg3 : Memref sig .tc .vmem S256x256 .bf16) (harg3 : arg3.IsWhole) (arg4 : Memref sig .tc .vmem S2048x256 .bf16) (harg4 : arg4.IsWhole)
    (arg5 : Memref sig .tc .vmem S2048x128 .bf16) (harg5 : arg5.IsWhole) (arg6 : Memref sig .tc .vmem S256x128 .bf16) (harg6 : arg6.IsWhole)
    (q : Vec Ideal S256x128 .bf16) (x1 : Vec Ideal S2048x256 .bf16) (x2 : Vec Ideal S2048x128 .bf16) (init : St)
    (h0 : init = state q (kBlk x1 0) (vBlk x2) (i 2).val 0) (n : ℕ) (hn : n ≤ (i 2).val) :
    st_k0_t1 (F := Ideal) 𝒱 c bd i arg3 harg3 arg4 harg4 arg5 harg5 arg6 harg6 q (harg4.unread x1) (harg5.unread x2) init n
      = state q (kBlk x1 0) (vBlk x2) (i 2).val n := by
  induction n with
  | zero => rw [st_k0_t1_zero, h0]
  | succ n ih =>
    have hk : n < (k0_t1_loop i).trips := lt_of_lt_of_eq (Nat.lt_of_succ_le hn) (word_trips ⟨(i 2).val, (i 2).isLt⟩).symm
    rw [st_k0_t1_succ (k := ⟨n, hk⟩), trip1_eq, ih (by omega)]
    rfl

/-- Head 1's loop: one trip, and the state before trip `n`. -/
theorem trip3_eq (𝒱 : Variants) (c : Dev nD) (bd : Option 𝒱.V) (i : grid0.Coords) (arg3 : Memref sig .tc .vmem S256x256 .bf16) (harg3 : arg3.IsWhole) (arg4 : Memref sig .tc .vmem S2048x256 .bf16) (harg4 : arg4.IsWhole)
    (arg5 : Memref sig .tc .vmem S2048x128 .bf16) (harg5 : arg5.IsWhole) (arg6 : Memref sig .tc .vmem S256x128 .bf16) (harg6 : arg6.IsWhole)
    (q : Vec Ideal S256x128 .bf16) (x1 : Vec Ideal S2048x256 .bf16) (x2 : Vec Ideal S2048x128 .bf16) (k : Fin (k0_t3_loop i).trips) (acc : St) :
    tripR_k0_t3 (F := Ideal) 𝒱 c bd i arg3 harg3 arg4 harg4 arg5 harg5 arg6 harg6 q (harg4.unread x1) (harg5.unread x2) k acc
      = trip q (kBlk x1 1 k) (vBlk x2 k) acc := by
  have hk : k.val < 8 := lt_of_lt_of_eq k.isLt (word_trips ⟨(i 2).val, (i 2).isLt⟩) |>.trans (i 2).isLt
  unfold tripR_k0_t3 trip_k0_t3; dsimp only
  simp only [View.readAt_eq_ld, harg4.read_unread, harg5.read_unread]
  rw [ld_k x1 1 k hk (k0_off8 i k) _ (by unfold k0_off8; dsimp only; rw [word_iv ⟨k.val, hk⟩]; rfl),
    ld_v x2 k hk (k0_off9 i k) _ (by unfold k0_off9; dsimp only; rw [word_iv ⟨k.val, hk⟩])]
  rfl

theorem st3_eq (𝒱 : Variants) (c : Dev nD) (bd : Option 𝒱.V) (i : grid0.Coords) (arg3 : Memref sig .tc .vmem S256x256 .bf16) (harg3 : arg3.IsWhole) (arg4 : Memref sig .tc .vmem S2048x256 .bf16) (harg4 : arg4.IsWhole)
    (arg5 : Memref sig .tc .vmem S2048x128 .bf16) (harg5 : arg5.IsWhole) (arg6 : Memref sig .tc .vmem S256x128 .bf16) (harg6 : arg6.IsWhole)
    (q : Vec Ideal S256x128 .bf16) (x1 : Vec Ideal S2048x256 .bf16) (x2 : Vec Ideal S2048x128 .bf16) (init : St)
    (h0 : init = state q (kBlk x1 1) (vBlk x2) (i 2).val 0) (n : ℕ) (hn : n ≤ (i 2).val) :
    st_k0_t3 (F := Ideal) 𝒱 c bd i arg3 harg3 arg4 harg4 arg5 harg5 arg6 harg6 q (harg4.unread x1) (harg5.unread x2) init n
      = state q (kBlk x1 1) (vBlk x2) (i 2).val n := by
  induction n with
  | zero => rw [st_k0_t3_zero, h0]
  | succ n ih =>
    have hk : n < (k0_t3_loop i).trips := lt_of_lt_of_eq (Nat.lt_of_succ_le hn) (word_trips ⟨(i 2).val, (i 2).isLt⟩).symm
    rw [st_k0_t3_succ (k := ⟨n, hk⟩), trip3_eq, ih (by omega)]
    rfl

set_option backward.isDefEq.respectTransparency false in
/-- **The body's output block.** -/
theorem body (c : Dev nD) (i : grid0.Coords) (arg3 : Memref sig .tc .vmem S256x256 .bf16) (harg3 : arg3.IsWhole) (arg4 : Memref sig .tc .vmem S2048x256 .bf16) (harg4 : arg4.IsWhole) (arg5 : Memref sig .tc .vmem S2048x128 .bf16) (harg5 : arg5.IsWhole) (arg6 : Memref sig .tc .vmem S256x128 .bf16) (harg6 : arg6.IsWhole)
    (x0 : Vec Ideal S256x256 .bf16) (x1 : Vec Ideal S2048x256 .bf16) (x2 : Vec Ideal S2048x128 .bf16) :
    out0_A_3 (F := Ideal) c i arg3 harg3 arg4 harg4 arg5 harg5 arg6 harg6 x0 x1 x2 =
      k0_pay18 (k0_pay36 (state (qHead x0 0) (kBlk x1 0) (vBlk x2) (i 2).val (i 2).val).2.1 (state (qHead x0 0) (kBlk x1 0) (vBlk x2) (i 2).val (i 2).val).2.2) (state (qHead x0 1) (kBlk x1 1) (vBlk x2) (i 2).val (i 2).val).2.1 (state (qHead x0 1) (kBlk x1 1) (vBlk x2) (i 2).val (i 2).val).2.2 := by
  unfold out0_A_3
  rw [View.read_writes_eq_canon _ _ _ (cover0_A_3 c i arg3 harg3 arg4 harg4 arg5 harg5 arg6 harg6 x0 x1 x2)]
  unfold kernelRun0_A
  dsimp only
  sl_unfold_words
  rw [View.canon_unit_zero (S := S256x128) hz2]
  simp only [View.readAt_eq_ld, harg3.read_unread, harg4.read_unread, harg5.read_unread]
  have h2 : (i 2).val < 8 := (i 2).isLt
  have hw := word_row ⟨(i 2).val, h2⟩
  have ht := word_trips ⟨(i 2).val, h2⟩
  have ht' := word_trips' ⟨(i 2).val, h2⟩
  simp only at hw ht ht'
  rw [ld_q x0 0 ![0, 0] _ rfl, ld_q x0 1 ![0, 128] _ rfl]
  simp only [ht, ht', st_k0_t2_zero, st_k0_t4_zero]
  rw [ld_k x1 0 (i 2).val h2 ![BitVec.toNat (Scalar.indexCast (Scalar.muli (BitVec.ofNat 32 (i 2).val) 256#32)), 0] _ (by rw [hw]; rfl),
    ld_k x1 1 (i 2).val h2 ![BitVec.toNat (Scalar.indexCast (Scalar.muli (BitVec.ofNat 32 (i 2).val) 256#32)), 128] _ (by rw [hw]; rfl),
    ld_v x2 (i 2).val h2 ![BitVec.toNat (Scalar.indexCast (Scalar.muli (BitVec.ofNat 32 (i 2).val) 256#32)), 0] _ (by rw [hw])]
  rw [st1_eq (hn := le_rfl), st3_eq (hn := le_rfl)]
  · rfl
  · rfl

end Cert.Attn

end
-- ==== Proof.Attn.Finite.lean ====
/- Finite extended reals: sums of products of finite numbers are finite. -/
module

public import Idealize.ShloMosaic.PureOps.Ideal.Laws

@[expose] public section

noncomputable section

namespace Cert.Attn

open scoped BigOperators

/-- Neither infinity. -/
def IsReal (x : EReal) : Prop := x ≠ ⊤ ∧ x ≠ ⊥

theorem IsReal.coe (x : ℝ) : IsReal (x : EReal) := ⟨EReal.coe_ne_top x, EReal.coe_ne_bot x⟩

theorem IsReal.lift {x : EReal} (h : IsReal x) : ∃ r : ℝ, x = r := by
  obtain ⟨h1, h2⟩ := h
  lift x to ℝ using ⟨h1, h2⟩
  exact ⟨x, rfl⟩

theorem IsReal.mul {x y : EReal} (hx : IsReal x) (hy : IsReal y) : IsReal (x * y) := by
  obtain ⟨a, rfl⟩ := hx.lift; obtain ⟨b, rfl⟩ := hy.lift
  rw [← EReal.coe_mul]; exact IsReal.coe _

theorem IsReal.add {x y : EReal} (hx : IsReal x) (hy : IsReal y) : IsReal (x + y) := by
  obtain ⟨a, rfl⟩ := hx.lift; obtain ⟨b, rfl⟩ := hy.lift
  rw [← EReal.coe_add]; exact IsReal.coe _

theorem IsReal.sum {κ : Type*} (S : Finset κ) {f : κ → EReal} (h : ∀ k ∈ S, IsReal (f k)) : IsReal (∑ k ∈ S, f k) := by
  classical
  induction S using Finset.induction_on with
  | empty => rw [Finset.sum_empty]; exact IsReal.coe 0
  | insert k S hk ih =>
    rw [Finset.sum_insert hk]
    exact (h k (Finset.mem_insert_self k S)).add (ih fun j hj => h j (Finset.mem_insert_of_mem hj))

/-- The magnitude below `+∞` says that the number is finite. -/
theorem IsReal.of_abs {x : EReal} (h : max x (-x) < ⊤) : IsReal x := by
  constructor <;> rintro rfl <;> simp at h

end Cert.Attn

end
-- ==== Proof.Attn.Array.lean ====
/- The MLA attention kernel's whole output array, over the extended reals: every entry is the softmax-weighted sum of the
   values of its head, over the keys up to the query. -/
module

public import proofs.«01_k».proof.Proof.Attn.Body
public import proofs.«01_k».proof.Proof.Attn.Finite

@[expose] public section

set_option maxRecDepth 16384
noncomputable section

namespace Cert.Attn

open Cert.KernelIdeal Cert.KernelIdeal.Gen Idealize.ShloMosaic Idealize.ShloMosaic.TcCoe Idealize.SL.Sem Idealize.ShloMosaic.Tactic

/-- The masked score of key `k` against query `q` of head `h` in batch `b`. -/
def mlaScore (Q K : Vec Ideal S16384x1024 .bf16) (b h : Fin 8) (q k : Fin 2048) : EReal :=
  if k.val ≤ q.val then
    ∑ d : Fin 128, (Q (ix2 ⟨b.val * 2048 + q.val, by omega⟩ ⟨h.val * 128 + d.val, by omega⟩) : EReal)
      * K (ix2 ⟨b.val * 2048 + k.val, by omega⟩ ⟨h.val * 128 + d.val, by omega⟩)
  else ⊥

/-- The value of key `k` at lane `d`. -/
def mlaValue (V : Vec Ideal S16384x512 .bf16) (b h : Fin 8) (d : Fin 64) (k : Fin 2048) : EReal :=
  V (ix2 ⟨b.val * 2048 + k.val, by omega⟩ ⟨h.val * 64 + d.val, by omega⟩)

/-- The whole result. -/
def mlaOut (Q K : Vec Ideal S16384x1024 .bf16) (V : Vec Ideal S16384x512 .bf16) : Vec Ideal S16384x512 .bf16 := fun i =>
  softmaxSum
    (mlaScore Q K ⟨(i 0).val / 2048, by have : (i 0).val < 16384 := (i 0).isLt; omega⟩ ⟨(i 1).val / 64, by have : (i 1).val < 512 := (i 1).isLt; omega⟩
      ⟨(i 0).val % 2048, by omega⟩)
    (mlaValue V ⟨(i 0).val / 2048, by have : (i 0).val < 16384 := (i 0).isLt; omega⟩ ⟨(i 1).val / 64, by have : (i 1).val < 512 := (i 1).isLt; omega⟩
      ⟨(i 1).val % 64, by omega⟩)

/-- One entry of a block: with finite queries and keys it is the softmax-weighted sum. -/
theorem quot_eq (q : Vec Ideal S256x128 .bf16) (x1 : Vec Ideal S2048x256 .bf16) (x2 : Vec Ideal S2048x128 .bf16) (h : Fin 2)
    (i : ℕ) (hi : i < 8) (r : Fin 256) (d : Fin 128) (hq : ∀ j, IsReal (q j : EReal)) (hk : ∀ j, IsReal (x1 j : EReal)) :
    Ideal.div ((state q (kBlk x1 h) (vBlk x2) i i).2.2 (ix2 r d)) ((state q (kBlk x1 h) (vBlk x2) i i).2.1 (ix2 r 0))
      = softmaxSum (score q x1 h i r) (fun k => (x2 (ix2 k d) : EReal)) := by
  have hsum : ∀ k : Fin 2048, IsReal (∑ e : Fin 128, (q (ix2 r e) : EReal) * x1 (ix2 k ⟨128 * h.val + e.val, by have := h.isLt; omega⟩)) :=
    fun k => IsReal.sum _ fun e _ => (hq _).mul (hk _)
  refine (state_flash q x1 x2 h i hi r d i le_rfl).out (k₀ := blkEmb i hi r) ?_ ?_ ?_ ?_
  · intro k hk
    simp only [taken, Finset.mem_filter, Finset.mem_univ, true_and, not_or, not_lt] at hk
    unfold score
    exact if_neg (by have := r.isLt; omega)
  · intro k
    unfold score
    split
    · exact (hsum k).1
    · exact bot_ne_top
  · simp only [taken, Finset.mem_filter, Finset.mem_univ, true_and, blkEmb_val]
    have := r.isLt; omega
  · unfold score
    rw [if_pos (by rw [blkEmb_val])]
    exact (hsum _).2

theorem body_apply (q0 q1 : Vec Ideal S256x128 .bf16) (x1 : Vec Ideal S2048x256 .bf16) (x2 : Vec Ideal S2048x128 .bf16)
    (i : ℕ) (hi : i < 8) (r : Fin 256) (d : Fin 128) (hq0 : ∀ j, IsReal (q0 j : EReal)) (hq1 : ∀ j, IsReal (q1 j : EReal)) (hk : ∀ j, IsReal (x1 j : EReal)) :
    k0_pay18 (F := Ideal) (k0_pay36 (state q0 (kBlk x1 0) (vBlk x2) i i).2.1 (state q0 (kBlk x1 0) (vBlk x2) i i).2.2)
        (state q1 (kBlk x1 1) (vBlk x2) i i).2.1 (state q1 (kBlk x1 1) (vBlk x2) i i).2.2 (ix2 r d)
      = if d.val < 64 then softmaxSum (score q0 x1 0 i r) (fun k => (x2 (ix2 k d) : EReal))
        else softmaxSum (score q1 x1 1 i r) (fun k => (x2 (ix2 k d) : EReal)) := by
  rw [pay18_apply, pay36_apply, quot_eq q0 x1 x2 0 i hi r d hq0 hk, quot_eq q1 x1 x2 1 i hi r d hq1 hk]

variable (m : (ℓ : Loc nD τ sig) → Buf (Elt Ideal) ℓ)

theorem idx0 : ∀ t : Fin cfg0.N, win0_0.index t = ![(grid0.coords t 0).val * 8 + (grid0.coords t 2).val, (grid0.coords t 1).val] :=
  (by decide +kernel : ∀ t : Fin grid0.N, _)
theorem idx1 : ∀ t : Fin cfg0.N, win0_1.index t = ![(grid0.coords t 0).val, (grid0.coords t 1).val] :=
  (by decide +kernel : ∀ t : Fin grid0.N, _)
theorem idx2 : ∀ t : Fin cfg0.N, win0_2.index t = ![(grid0.coords t 0).val, (grid0.coords t 1).val] :=
  (by decide +kernel : ∀ t : Fin grid0.N, _)
theorem idx3 : ∀ t : Fin cfg0.N, win0_3.index t = ![(grid0.coords t 0).val * 8 + (grid0.coords t 2).val, (grid0.coords t 1).val] :=
  (by decide +kernel : ∀ t : Fin grid0.N, _)

/-- The blocks a point reads, at coordinates. -/
theorem iblk0_apply (c : Dev nD) (t : Fin cfg0.N) (r e : Fin 256) (i : S16384x1024.Idx)
    (h0 : (i 0).val = (((grid0.coords t 0).val * 8 + (grid0.coords t 2).val)) * 256 + r.val) (h1 : (i 1).val = (grid0.coords t 1).val * 256 + e.val) :
    (iblk m c 0 t : Vec Ideal S256x256 .bf16) (ix2 r e) = (m ((c : Thread nD τ).loc main_arg0) : Vec Ideal S16384x1024 .bf16) i := by
  blk_simp [iblk]
  refine congrArg (m ((c : Thread nD τ).loc main_arg0) : Vec Ideal S16384x1024 .bf16) ?_
  blk_ext [idx0, h0, h1]

theorem iblk1_apply (c : Dev nD) (t : Fin cfg0.N) (r : Fin 2048) (e : Fin 256) (i : S16384x1024.Idx)
    (h0 : (i 0).val = (grid0.coords t 0).val * 2048 + r.val) (h1 : (i 1).val = (grid0.coords t 1).val * 256 + e.val) :
    (iblk m c 1 t : Vec Ideal S2048x256 .bf16) (ix2 r e) = (m ((c : Thread nD τ).loc main_arg1) : Vec Ideal S16384x1024 .bf16) i := by
  blk_simp [iblk]
  refine congrArg (m ((c : Thread nD τ).loc main_arg1) : Vec Ideal S16384x1024 .bf16) ?_
  blk_ext [idx1, h0, h1]

theorem iblk2_apply (c : Dev nD) (t : Fin cfg0.N) (r : Fin 2048) (e : Fin 128) (i : S16384x512.Idx)
    (h0 : (i 0).val = (grid0.coords t 0).val * 2048 + r.val) (h1 : (i 1).val = (grid0.coords t 1).val * 128 + e.val) :
    (iblk m c 2 t : Vec Ideal S2048x128 .bf16) (ix2 r e) = (m ((c : Thread nD τ).loc main_arg2) : Vec Ideal S16384x512 .bf16) i := by
  blk_simp [iblk]
  refine congrArg (m ((c : Thread nD τ).loc main_arg2) : Vec Ideal S16384x512 .bf16) ?_
  blk_ext [idx2, h0, h1]

/-- One head's softmax-weighted sum of a point's blocks is the array's. -/
theorem head_eq (c : Dev nD) (t : Fin cfg0.N) (h : Fin 2) (r : Fin 256) (d : Fin 128) (hd : d.val / 64 = h.val) (i : S16384x512.Idx)
    (h0 : (i 0).val = ((grid0.coords t 0).val * 8 + (grid0.coords t 2).val) * 256 + r.val)
    (h1 : (i 1).val = (grid0.coords t 1).val * 128 + d.val) :
    softmaxSum (score (qHead (iblk m c 0 t) h) (iblk m c 1 t) h (grid0.coords t 2).val r)
        (fun k => ((iblk m c 2 t : Vec Ideal S2048x128 .bf16) (ix2 k d) : EReal))
      = mlaOut (m ((c : Thread nD τ).loc main_arg0)) (m ((c : Thread nD τ).loc main_arg1)) (m ((c : Thread nD τ).loc main_arg2)) i := by
  have hb : (grid0.coords t 0).val < 8 := (grid0.coords t 0).isLt
  have hp : (grid0.coords t 1).val < 4 := (grid0.coords t 1).isLt
  have hq : (grid0.coords t 2).val < 8 := (grid0.coords t 2).isLt
  have hr := r.isLt
  have hdl := d.isLt
  have hh := h.isLt
  unfold mlaOut
  congr 1
  · funext k
    unfold score mlaScore
    refine if_congr (by show _ ↔ k.val ≤ (i 0).val % 2048; omega) (Finset.sum_congr rfl fun e _ => ?_) rfl
    have he := e.isLt
    refine congrArg₂ (· * ·) ?_ ?_
    · refine iblk0_apply m c t r ⟨128 * h.val + e.val, by omega⟩ _ ?_ ?_
      · show (i 0).val / 2048 * 2048 + (i 0).val % 2048 = _; omega
      · show (i 1).val / 64 * 128 + e.val = _ + (128 * h.val + e.val); omega
    · refine iblk1_apply m c t k ⟨128 * h.val + e.val, by omega⟩ _ ?_ ?_
      · show (i 0).val / 2048 * 2048 + k.val = _; omega
      · show (i 1).val / 64 * 128 + e.val = _ + (128 * h.val + e.val); omega
  · funext k
    refine iblk2_apply m c t k d _ ?_ ?_
    · show (i 0).val / 2048 * 2048 + k.val = _; omega
    · show (i 1).val / 64 * 64 + (i 1).val % 64 = _; omega

/-- **The kernel's output array**, for finite queries and keys. -/
theorem array_eq (c : Dev nD) (hQ : ∀ j, IsReal (m ((c : Thread nD τ).loc main_arg0) j : EReal)) (hK : ∀ j, IsReal (m ((c : Thread nD τ).loc main_arg1) j : EReal)) :
    (dats m 0 c).arrAt 3 cfg0.N
      = mlaOut (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold outsAt0
  rw [body]
  have h0 : ((((win0_3.blk t).view.emb y : S16384x512.Idx) 0)).val = ((grid0.coords t 0).val * 8 + (grid0.coords t 2).val) * 256 + (y 0).val := by
    blk_simp [idx3]
  have h1 : ((((win0_3.blk t).view.emb y : S16384x512.Idx) 1)).val = (grid0.coords t 1).val * 128 + (y 1).val := by
    blk_simp [idx3]
  obtain ⟨r, d, hy⟩ : ∃ (r : Fin 256) (d : Fin 128), y = ix2 r d := ⟨y 0, y 1, funext fun a => by fin_cases a <;> rfl⟩
  have hq (h : Fin 2) : ∀ j, IsReal (qHead (iblk m c 0 t) h j : EReal) := fun j => hQ _
  have hk : ∀ j, IsReal ((iblk m c 1 t : Vec Ideal S2048x256 .bf16) j : EReal) := fun j => hK _
  have e0 : (y 0).val = r.val := by rw [hy]; rfl
  have e1 : (y 1).val = d.val := by rw [hy]; rfl
  rw [e0] at h0; rw [e1] at h1
  generalize ((win0_3.blk t).view.emb y : S16384x512.Idx) = i at h0 h1 ⊢
  subst hy
  refine (body_apply _ _ _ _ (grid0.coords t 2).val (grid0.coords t 2).isLt r d (hq 0) (hq 1) hk).trans ?_
  have hdl := d.isLt
  split
  · exact head_eq m c t 0 r d (by show d.val / 64 = 0; omega) i h0 h1
  · exact head_eq m c t 1 r d (by show d.val / 64 = 1; omega) i h0 h1

end Cert.Attn

end
-- ==== Proof.Attn.Reference.lean ====
/- The reference of the MLA attention read at an index: its scores, its row maximum, its softmax and its weighted sum are
   the scores, values and softmax-weighted sum the kernel's array was shown to hold. -/
module

public import proofs.«01_k».proof.Proof.Gen.ReferenceIdeal.Read
public import proofs.«01_k».proof.Proof.Attn.Array

@[expose] public section

noncomputable section

namespace Cert.Attn

open Cert.ReferenceIdeal Cert.ReferenceIdeal.Read Idealize.ShloMosaic Idealize.ShloMosaic.TcCoe Idealize.SL.Sem
open scoped BigOperators

variable (Q K : Vec Ideal S16384x1024 .bf16) (V : Vec Ideal S16384x512 .bf16)

/-- The product of a query and a key. -/
theorem ref_dot (b h : Fin 8) (q k : Fin 2048) :
    val_main_v6 (F := Ideal) Q K (ix4 b h q k) = ∑ d : Fin 128, (Q (ix2 ⟨b.val * 2048 + q.val, by omega⟩ ⟨h.val * 128 + d.val, by omega⟩) : EReal)
      * K (ix2 ⟨b.val * 2048 + k.val, by omega⟩ ⟨h.val * 128 + d.val, by omega⟩) := by
  rw [val_main_v6_apply]
  refine Finset.sum_congr rfl fun d _ => ?_
  rw [val_main_v1_apply, val_main_v3_apply, val_main_v0_apply, val_main_v2_apply]
  show (Q _ : EReal) * (K _ : EReal) = _
  have e1 : idx_main_v1 (lidx_main_v6 (ix4 b h q k) d) = ix2 ⟨b.val * 2048 + q.val, by omega⟩ ⟨h.val * 128 + d.val, by omega⟩ := by
    funext a
    match a with
    | ⟨0, _⟩ => apply Fin.ext; show (((b.val * 2048 + q.val) * 8 + h.val) * 128 + d.val) / 1024 = b.val * 2048 + q.val; omega
    | ⟨1, _⟩ => apply Fin.ext; show (((b.val * 2048 + q.val) * 8 + h.val) * 128 + d.val) % 1024 = h.val * 128 + d.val; omega
  have e2 : idx_main_v3 (ridx_main_v6 (ix4 b h q k) d) = ix2 ⟨b.val * 2048 + k.val, by omega⟩ ⟨h.val * 128 + d.val, by omega⟩ := by
    funext a
    match a with
    | ⟨0, _⟩ => apply Fin.ext; show (((b.val * 2048 + k.val) * 8 + h.val) * 128 + d.val) / 1024 = b.val * 2048 + k.val; omega
    | ⟨1, _⟩ => apply Fin.ext; show (((b.val * 2048 + k.val) * 8 + h.val) * 128 + d.val) % 1024 = h.val * 128 + d.val; omega
  rw [e1, e2]

/-- The masked score. -/
theorem ref_score (b h : Fin 8) (q k : Fin 2048) :
    val_main_v13 (F := Ideal) Q K (ix4 b h q k) = mlaScore Q K b h q k := by
  rw [val_main_v13_apply, val_main_call0_v1_apply, val_main_v12_apply, val_main_v10_apply, val_main_v8_apply, val_main_v7_apply,
    val_main_v11_apply, val_main_v9_apply, val_main_v7_apply, val_main_call0_v2_apply, val_main_call0_v0_apply, val_main_cst_apply, ref_dot]
  refine (select_sle (a := k.val) (b := q.val) (by omega) (by omega) _ _).trans ?_
  unfold mlaScore
  congr 1

/-- The row maximum. -/
theorem ref_max (b h : Fin 8) (q : Fin 2048) :
    val_main_v16 (F := Ideal) Q K (ix3 b h q) = Finset.univ.sup (mlaScore Q K b h q) := by
  have e14 : val_main_v14 (F := Ideal) Q K (ix3 b h q) = Finset.univ.sup (mlaScore Q K b h q) := by
    pointwise [val_main_v14]
    rw [val_main_cst_0_apply]
    have e : (fun k : Fin 2048 => val_main_v13 (F := Ideal) Q K (ix4 b h q k)) = mlaScore Q K b h q := funext fun k => ref_score Q K b h q k
    rw [show (FloatOps.ofBits .f32 0xFF800000#32 : Ideal .f32) = (⊥ : EReal) from neg_inf]
    simp only [e]
    rfl
  rw [val_main_v16_apply, e14, val_main_v15_apply, val_main_cst_1_apply,
    show (FloatOps.ofBits .f32 0xFF800000#32 : Ideal .f32) = (⊥ : EReal) from neg_inf]
  exact bot_sup_eq _

/-- The exponentials. -/
theorem ref_exp (b h : Fin 8) (q k : Fin 2048) :
    val_main_v20 (F := Ideal) Q K (ix4 b h q k) = Ideal.exp (mlaScore Q K b h q k - Finset.univ.sup (mlaScore Q K b h q)) := by
  rw [val_main_v20_apply, val_main_v19_apply, ref_score, val_main_v18_apply, val_main_v17_apply]
  have e : idx_main_v17 (idx_main_v18 (ix4 b h q k)) = ix3 b h q := by
    funext a; match a with
    | ⟨0, _⟩ => rfl
    | ⟨1, _⟩ => rfl
    | ⟨2, _⟩ => rfl
  rw [e, ref_max]
  rfl

/-- Their sum along a row. -/
theorem ref_sum (b h : Fin 8) (q : Fin 2048) :
    val_main_v21 (F := Ideal) Q K (ix3 b h q) = ∑ k, Ideal.exp (mlaScore Q K b h q k - Finset.univ.sup (mlaScore Q K b h q)) := by
  rw [val_main_v21_apply, val_main_cst_2_apply, show (FloatOps.ofBits .f32 0x00000000#32 : Ideal .f32) = (0 : EReal) from by
    show Ideal.ofBits .f32 0x00000000#32 = 0
    simp [Ideal.ofBits, Ideal.ieee]]
  refine (zero_add _).trans (Finset.sum_congr rfl fun k _ => ?_)
  rw [← ref_exp]
  congr 1
  funext a; match a with
  | ⟨0, _⟩ => rfl
  | ⟨1, _⟩ => rfl
  | ⟨2, _⟩ => rfl
  | ⟨3, _⟩ => rfl

/-- The attention weights. -/
theorem ref_weight (b h : Fin 8) (q k : Fin 2048) :
    val_main_v24 (F := Ideal) Q K (ix4 b h q k)
      = Ideal.div (Ideal.exp (mlaScore Q K b h q k - Finset.univ.sup (mlaScore Q K b h q)))
          (∑ j, Ideal.exp (mlaScore Q K b h q j - Finset.univ.sup (mlaScore Q K b h q))) := by
  rw [val_main_v24_apply, ref_exp, val_main_v23_apply, val_main_v22_apply]
  have e : idx_main_v22 (idx_main_v23 (ix4 b h q k)) = ix3 b h q := by
    funext a; match a with
    | ⟨0, _⟩ => rfl
    | ⟨1, _⟩ => rfl
    | ⟨2, _⟩ => rfl
  rw [e, ref_sum]
  rfl

/-- The values. -/
theorem ref_value (b h : Fin 8) (d : Fin 64) (k : Fin 2048) :
    val_main_v5 (F := Ideal) V (ix4 b k h d) = mlaValue V b h d k := by
  rw [val_main_v5_apply, val_main_v4_apply]
  have e : idx_main_v5 (ix4 b k h d) = ix2 ⟨b.val * 2048 + k.val, by omega⟩ ⟨h.val * 64 + d.val, by omega⟩ := by
    funext a
    match a with
    | ⟨0, _⟩ => apply Fin.ext; show (((b.val * 2048 + k.val) * 8 + h.val) * 64 + d.val) / 512 = b.val * 2048 + k.val; omega
    | ⟨1, _⟩ => apply Fin.ext; show (((b.val * 2048 + k.val) * 8 + h.val) * 64 + d.val) % 512 = h.val * 64 + d.val; omega
  rw [e]; rfl

/-- **The reference's result.** -/
theorem ref_out : val_main_v28 (F := Ideal) Q K V = mlaOut Q K V := by
  funext i
  have h0 : (i 0).val < 16384 := (i 0).isLt
  have h1 : (i 1).val < 512 := (i 1).isLt
  rw [val_main_v28_apply, val_main_v27_apply, val_main_v26_apply, val_main_v25_apply]
  show (∑ k : Fin 2048, _) = _
  unfold mlaOut softmaxSum
  refine Finset.sum_congr rfl fun k _ => ?_
  rw [← ref_value, ← ref_weight]
  congr 2
  · funext a
    match a with
    | ⟨0, _⟩ => apply Fin.ext; show ((i 0).val * 512 + (i 1).val) / 1048576 = (i 0).val / 2048; omega
    | ⟨1, _⟩ => rfl
    | ⟨2, _⟩ => apply Fin.ext; show ((i 0).val * 512 + (i 1).val) / 64 % 8 = (i 1).val / 64; omega
    | ⟨3, _⟩ => apply Fin.ext; show ((i 0).val * 512 + (i 1).val) % 64 = (i 1).val % 64; omega
  · funext a
    match a with
    | ⟨0, _⟩ => apply Fin.ext; show ((i 0).val * 512 + (i 1).val) / 1048576 = (i 0).val / 2048; omega
    | ⟨1, _⟩ => apply Fin.ext; show ((i 0).val * 512 + (i 1).val) / 64 % 8 = (i 1).val / 64; omega
    | ⟨2, _⟩ => apply Fin.ext; show ((i 0).val * 512 + (i 1).val) / 512 % 2048 = (i 0).val % 2048; omega
    | ⟨3, _⟩ => rfl

end Cert.Attn

end
-- ==== Proof.Attn.Main.lean ====
/- The value claim of the MLA attention: finite queries and keys, the kernel's run and its array, the reference's run and
   its result. -/
module

public import proofs.«01_k».proof.Defs
public import proofs.«01_k».proof.Proof.Attn.Reference

@[expose] public section

noncomputable section

namespace Cert.Attn

open Idealize.ShloMosaic Idealize.ShloMosaic.TcCoe Idealize.SL.Sem

theorem pre_facts : Cert.Pre_mla_finite.Facts := ⟨by decide⟩

theorem pos_inf : Ideal.ofBits .bf16 0x7F80#16 = ⊤ := by
  simp [Ideal.ofBits, Ideal.ieee]

/-- A magnitude compared below the word of `+∞`: the number is finite. -/
theorem IsReal.of_word {x : EReal}
    (h : FloatOps.cmpf (F := Ideal) (φ := .bf16) .olt (FloatOps.hostAbsf (F := Ideal) (φ := .bf16) x) (FloatOps.ofBits .bf16 0x7F80#16) = 1#1) : IsReal x := by
  rw [show (FloatOps.ofBits .bf16 0x7F80#16 : Ideal .bf16) = (⊤ : EReal) from pos_inf] at h
  refine IsReal.of_abs ?_
  by_contra hn
  have : FloatOps.cmpf (F := Ideal) (φ := .bf16) .olt (max x (-x)) (⊤ : EReal) = 0#1 := by
    show BitVec.ofBool (decide ((max x (-x)) < ⊤)) = 0#1
    rw [decide_eq_false hn]; rfl
  have h' : (1#1 : BitVec 1) = 0#1 := h.symm.trans this
  exact absurd h' (by decide)

/-- The precondition says that every query and every key is finite. -/
theorem finite_of_pre [Cert.Pre_mla_finite.Facts] {Q K : Vec Ideal Cert.KernelIdeal.S16384x1024 .bf16} {V : Vec Ideal Cert.KernelIdeal.S16384x512 .bf16}
    (h : (Cert.Pre_mla_finite.fn (F := Ideal) Q K V).1 = (fun _ => 1#1) ∧ (Cert.Pre_mla_finite.fn (F := Ideal) Q K V).2 = (fun _ => 1#1)) :
    (∀ j, IsReal (Q j : EReal)) ∧ ∀ j, IsReal (K j : EReal) :=
  ⟨fun j => IsReal.of_word (congrFun h.1 j), fun j => IsReal.of_word (congrFun h.2 j)⟩

/-- **The value claim.** -/
theorem algebraic : Cert.algebraic_KernelIdeal_ReferenceIdeal_pre_mla_finite (hKernelIdeal := Cert.KernelIdeal.Gen.facts)
    (hReferenceIdeal := Cert.ReferenceIdeal.Gen.facts) (hPre_mla_finite := pre_facts) := by
  intro m g m' g' hpre hag
  refine ⟨fun c => mlaOut (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · refine (θ_run _ _ _).mono (fun r h c => ?_) (Cert.KernelIdeal.Value.run_blocks (F := Ideal) m g)
    haveI := pre_facts
    obtain ⟨hQ, hK⟩ := finite_of_pre (hpre c)
    obtain ⟨h0, h1⟩ := h c
    exact ⟨h0.trans (array_eq m c hQ hK), h1⟩
  · refine (θ_run _ _ _).mono (fun r h c => ?_) (Cert.ReferenceIdeal.Value.run (F := Ideal) m' g')
    obtain ⟨h0, h1⟩ := h c
    refine ⟨h0.trans ?_, h1⟩
    obtain ⟨a0, a1, a2⟩ := hag c
    rw [Cert.ReferenceIdeal.Read.val_main_v28_eq, ref_out, a0, a1, a2]

/-- The reference terminates without a fault, keeps its arguments and leaves every counter at zero (it has none). -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun r h => ⟨fun c => (h c).2, sem_eq_zero_of_no_sems (by decide) r.2⟩)
    (Cert.ReferenceIdeal.Value.run (F := Ideal) m g)

end Cert.Attn

end
-- ==== Proof.Experts.Tables.lean ====
/- The two tables of the experts call — which expert each block of rows uses, and how many blocks are in use — and the
   facts about machine words that the call's control rests on. -/
module

public import Idealize.ShloMosaic.Lib.Affine
public import Idealize.ShloMosaic.Lib.ValueIdxCore
public import Idealize.ShloMosaic.PureOps.Ideal

@[expose] public section

noncomputable section

namespace Cert.Experts

open Idealize.ShloMosaic Idealize.ShloMosaic.ValueIdx

/-- The tables in range: each block names one of the 32 experts, and some block is in use. -/
structure Tables where
  be : (⟨1, ![288]⟩ : Shape).Idx → BitVec 32
  nu : (⟨1, ![1]⟩ : Shape).Idx → BitVec 32
  be_lt : ∀ x, (be x).toNat < 32
  nu_pos : ∀ x, 0 < (nu x).toInt

/-- Block `n`'s place in the first table. -/
def place (n : ℕ) (h : n < 288) : (⟨1, ![288]⟩ : Shape).Idx := ix1 (n := 288) ⟨n, h⟩

/-- The only place of the second table. -/
def only : (⟨1, ![1]⟩ : Shape).Idx := ix1 (n := 1) 0

theorem eq_only (x : (⟨1, ![1]⟩ : Shape).Idx) : x = only := by
  rw [eq_ix1 x]; exact congrArg _ (Subsingleton.elim (α := Fin 1) _ _)

theorem eq_place (x : (⟨1, ![288]⟩ : Shape).Idx) (n : ℕ) (h : n < 288) (hx : (x 0).val = n) : x = place n h := by
  rw [eq_ix1 x]; exact congrArg _ (Fin.ext hx)

variable (T : Tables)

/-- The expert of block `n`. -/
def Tables.expert (n : ℕ) (h : n < 288) : Fin 32 := ⟨(T.be (place n h)).toNat, T.be_lt _⟩

/-- Whether block `n` is in use. -/
def Tables.active (n : ℕ) : Prop := (n : ℤ) < (T.nu only).toInt

instance (n : ℕ) : Decidable (T.active n) := inferInstanceAs (Decidable (_ < _))

theorem Tables.active_zero : T.active 0 := T.nu_pos only

theorem Tables.active_of_le {n k : ℕ} (h : k ≤ n) (hn : T.active n) : T.active k := by
  unfold Tables.active at *; omega

/-- The conditions the kernel computes of the two bits "in use" and "new expert". -/
theorem bits_load : ∀ a b : BitVec 1,
    (Scalar.cmpi .ne (Scalar.extui (Scalar.andi a b) : BitVec 32) 0#32 = 1#1) ↔ (a = 1#1 ∧ b = 1#1) := by decide
theorem bits_active : ∀ a : BitVec 1, (Scalar.cmpi .ne (Scalar.extui a : BitVec 32) 0#32 = 1#1) ↔ a = 1#1 := by decide
theorem bits_idle : ∀ a : BitVec 1, (Scalar.cmpi .ne (Scalar.extui (Scalar.xori a 1#1) : BitVec 32) 0#32 = 1#1) ↔ ¬ a = 1#1 := by
  decide
theorem bits_or : ∀ a b : BitVec 1, (Scalar.ori a b = 1#1) ↔ (a = 1#1 ∨ b = 1#1) := by decide

theorem cmpi_eq_iff (x y : BitVec 32) : (Scalar.cmpi .eq x y = 1#1) ↔ x = y := by
  show (BitVec.ofBool (x == y) = 1#1) ↔ _
  by_cases h : x = y
  · subst h; simp
  · rw [beq_eq_false_iff_ne.mpr h]; simp [h]
theorem cmpi_ne_iff (x y : BitVec 32) : (Scalar.cmpi .ne x y = 1#1) ↔ x ≠ y := by
  show (BitVec.ofBool (x != y) = 1#1) ↔ _
  by_cases h : x = y
  · subst h; simp
  · rw [show (x != y) = true from by simpa using h]; simp [h]
theorem cmpi_slt_iff (x y : BitVec 32) : (Scalar.cmpi .slt x y = 1#1) ↔ x.toInt < y.toInt := by
  show (BitVec.ofBool (x.slt y) = 1#1) ↔ _
  by_cases h : x.toInt < y.toInt <;> simp [BitVec.slt, h]

theorem toInt_ofNat {n : ℕ} (h : n < 288) : (BitVec.ofNat 32 n).toInt = n := by
  rw [BitVec.toInt_eq_toNat_of_lt (by simp only [BitVec.toNat_ofNat]; omega)]
  simp only [BitVec.toNat_ofNat]; omega

/-- The row block a point reads: its own while in use, the last one in use after. -/
theorem toNat_row_lt (n : ℕ) (h : n < 288) (u : BitVec 32) (hu : 0 < u.toInt) :
    (Scalar.minsi (BitVec.ofNat 32 n) (Scalar.subi u 1#32)).toNat < 288 := by
  show (if (BitVec.ofNat 32 n).slt (u - 1#32) then BitVec.ofNat 32 n else u - 1#32).toNat < 288
  have hN : (BitVec.ofNat 32 n).toNat = n := by simp only [BitVec.toNat_ofNat]; omega
  have h1 : (u - 1#32).toInt = u.toInt - 1 := by
    have := u.toInt_lt; rw [BitVec.toInt_sub]; simp; rw [Int.bmod_eq_of_le] <;> omega
  by_cases hs : (BitVec.ofNat 32 n).slt (u - 1#32)
  · rw [if_pos hs, hN]; exact h
  · rw [if_neg hs]
    have hs' : ¬ (BitVec.ofNat 32 n).toInt < (u - 1#32).toInt := by simpa [BitVec.slt] using hs
    rw [toInt_ofNat h, h1] at hs'
    have h2 : 0 ≤ (u - 1#32).toInt := by omega
    have h3 : ((u - 1#32).toNat : ℤ) = (u - 1#32).toInt := by
      rw [BitVec.toInt_eq_toNat_cond] at h2 ⊢; split at h2 <;> [rw [if_pos ‹_›]; omega]
    omega

/-- In use, that block is the point's own. -/
theorem toNat_row_active (n : ℕ) (h : n < 288) (u : BitVec 32) (hu : (n : ℤ) < u.toInt) :
    (Scalar.minsi (BitVec.ofNat 32 n) (Scalar.subi u 1#32)).toNat = n := by
  show (if (BitVec.ofNat 32 n).slt (u - 1#32) then BitVec.ofNat 32 n else u - 1#32).toNat = n
  have hN : (BitVec.ofNat 32 n).toNat = n := by simp only [BitVec.toNat_ofNat]; omega
  by_cases hs : (BitVec.ofNat 32 n).slt (u - 1#32)
  · rw [if_pos hs, hN]
  · rw [if_neg hs]
    have h1 : (u - 1#32).toInt = u.toInt - 1 := by
      have := u.toInt_lt; rw [BitVec.toInt_sub]; simp; rw [Int.bmod_eq_of_le] <;> omega
    have hs' : ¬ (BitVec.ofNat 32 n).toInt < (u - 1#32).toInt := by simpa [BitVec.slt] using hs
    rw [toInt_ofNat h, h1] at hs'
    have h4 : (u - 1#32).toInt = n := by omega
    have : u - 1#32 = BitVec.ofNat 32 n := BitVec.eq_of_toInt_eq (by rw [h4, toInt_ofNat h])
    rw [this, hN]

/-- The block before block `n`, or block 0 itself. -/
theorem toNat_prev (n : ℕ) (h : n < 288) :
    (Scalar.maxsi (Scalar.subi (BitVec.ofNat 32 n) 1#32) 0#32).toNat = n - 1 := by
  revert n; decide +kernel

end Cert.Experts

end
-- ==== Proof.Experts.Bits.Frame.lean ====
/- The experts pipeline's runs at any tables in range: what the output block and the kept weights hold after each point, and the launch. -/
module

public import proofs.«01_k».proof.Proof.Experts.Bits.Schedule
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.ExpertsKernel.Run

open Cert.Experts Cert.ExpertsKernel Cert.ExpertsKernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The rounds library's resources, whole. -/
abbrev EP : Emb (UR sig nD τ) 𝕄 := emb₁

variable (T : Tables) (m : (ℓ : Loc nD τ sig) → Buf (Elt Bits) ℓ) (ρ : Dev nD → PrngReg)

/-- Each window's staging buffer at point `t`. -/
abbrev ms0_0 (t : Fin (cfgA T).N) : Memref sig .tc .vmem S256x1024 .f32 := spec0_0.stage ((cfgA T).slots t (0 : Fin 8))
abbrev hs0_0 (t : Fin (cfgA T).N) : (ms0_0 T t).IsWhole := hstage0_0 (((cfgA T).slots t (0 : Fin 8)).cast nbuf0_0)
abbrev ms0_1 (t : Fin (cfgA T).N) : Memref sig .tc .vmem S1x1024x1024 .f32 := spec0_1.stage ((cfgA T).slots t (1 : Fin 8))
abbrev hs0_1 (t : Fin (cfgA T).N) : (ms0_1 T t).IsWhole := hstage0_1 (((cfgA T).slots t (1 : Fin 8)).cast nbuf0_1)
abbrev ms0_2 (t : Fin (cfgA T).N) : Memref sig .tc .vmem S1x1x1024 .f32 := spec0_2.stage ((cfgA T).slots t (2 : Fin 8))
abbrev hs0_2 (t : Fin (cfgA T).N) : (ms0_2 T t).IsWhole := hstage0_2 (((cfgA T).slots t (2 : Fin 8)).cast nbuf0_2)
abbrev ms0_3 (t : Fin (cfgA T).N) : Memref sig .tc .vmem S1x1024x1024 .f32 := spec0_3.stage ((cfgA T).slots t (3 : Fin 8))
abbrev hs0_3 (t : Fin (cfgA T).N) : (ms0_3 T t).IsWhole := hstage0_3 (((cfgA T).slots t (3 : Fin 8)).cast nbuf0_3)
abbrev ms0_4 (t : Fin (cfgA T).N) : Memref sig .tc .vmem S1x1x1024 .f32 := spec0_4.stage ((cfgA T).slots t (4 : Fin 8))
abbrev hs0_4 (t : Fin (cfgA T).N) : (ms0_4 T t).IsWhole := hstage0_4 (((cfgA T).slots t (4 : Fin 8)).cast nbuf0_4)
abbrev ms0_5 (t : Fin (cfgA T).N) : Memref sig .tc .vmem S1x1024x1024 .f32 := spec0_5.stage ((cfgA T).slots t (5 : Fin 8))
abbrev hs0_5 (t : Fin (cfgA T).N) : (ms0_5 T t).IsWhole := hstage0_5 (((cfgA T).slots t (5 : Fin 8)).cast nbuf0_5)
abbrev ms0_6 (t : Fin (cfgA T).N) : Memref sig .tc .vmem S1x1x1024 .f32 := spec0_6.stage ((cfgA T).slots t (6 : Fin 8))
abbrev hs0_6 (t : Fin (cfgA T).N) : (ms0_6 T t).IsWhole := hstage0_6 (((cfgA T).slots t (6 : Fin 8)).cast nbuf0_6)
abbrev ms0_7 (t : Fin (cfgA T).N) : Memref sig .tc .vmem S256x1024 .f32 := spec0_7.stage ((cfgA T).slots t (7 : Fin 8))
abbrev hs0_7 (t : Fin (cfgA T).N) : (ms0_7 T t).IsWhole := hstage0_7 (((cfgA T).slots t (7 : Fin 8)).cast nbuf0_7)

/-- Window `w`'s block at point `t`, read off its array at launch. -/
def iblk (c : Dev nD) (w : Fin (cfgA T).W) (t : Fin (cfgA T).N) : (((cfgA T).win w).xblock (crd T t)).Idx → Elt Bits ((cfgA T).win w).elt :=
  (((cfgA T).win w).blk t).view.read (Elt Bits) ((s₀ m ρ).mem (((cfgA T).win w).arr.view.loc (c : Thread nD τ)))

/-- The output block and the three kept weights. -/
abbrev State (c : Dev nD) := (S256x1024.Idx → Elt Bits .f32) × Buf (Elt Bits) ((c : Thread nD τ).loc cc0_scratch0) × Buf (Elt Bits) ((c : Thread nD τ).loc cc0_scratch1) × Buf (Elt Bits) ((c : Thread nD τ).loc cc0_scratch2)

/-- The body's run at point `t` where it loads weights, -/
def runA (c : Dev nD) (t : Fin (cfgA T).N) (h : Loads T (crd T t)) :=
  kernelRun0_A c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (ms0_6 T t) (hs0_6 T t) (ms0_7 T t) (hs0_7 T t) T.be T.nu (iblk T m ρ c (0 : Fin 8) t) (iblk T m ρ c (1 : Fin 8) t) (iblk T m ρ c (2 : Fin 8) t) (iblk T m ρ c (3 : Fin 8) t) (iblk T m ρ c (4 : Fin 8) t) (iblk T m ρ c (5 : Fin 8) t) (iblk T m ρ c (6 : Fin 8) t) h (loads_computes T h) (computes_not_clears T (loads_computes T h))

/-- where it computes with the weights it kept, -/
def runB (c : Dev nD) (t : Fin (cfgA T).N) (p : State c) (h : ¬ Loads T (crd T t)) (h' : Computes T (crd T t)) :=
  kernelRun0_B c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (ms0_6 T t) (hs0_6 T t) (ms0_7 T t) (hs0_7 T t) T.be T.nu (iblk T m ρ c (0 : Fin 8) t) (iblk T m ρ c (1 : Fin 8) t) (iblk T m ρ c (2 : Fin 8) t) (iblk T m ρ c (3 : Fin 8) t) (iblk T m ρ c (4 : Fin 8) t) (iblk T m ρ c (5 : Fin 8) t) (iblk T m ρ c (6 : Fin 8) t) p.2.1 p.2.2.1 p.2.2.2 h h' (computes_not_clears T h')

/-- and past the used blocks. -/
def runC (c : Dev nD) (t : Fin (cfgA T).N) (p : State c) (h : ¬ Loads T (crd T t)) (h' : ¬ Computes T (crd T t)) :=
  kernelRun0_C c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (ms0_6 T t) (hs0_6 T t) (ms0_7 T t) (hs0_7 T t) T.be T.nu (iblk T m ρ c (0 : Fin 8) t) (iblk T m ρ c (1 : Fin 8) t) (iblk T m ρ c (2 : Fin 8) t) (iblk T m ρ c (3 : Fin 8) t) (iblk T m ρ c (4 : Fin 8) t) (iblk T m ρ c (5 : Fin 8) t) (iblk T m ρ c (6 : Fin 8) t) p.2.1 p.2.2.1 p.2.2.2 h h' (clears_of_not T h')

open Classical in
/-- One point: what the output block and the kept weights hold after it, from what they held before. -/
def step0 (c : Dev nD) (t : Fin (cfgA T).N) (p : State c) : State c :=
  if h : Loads T (crd T t) then
    (VO0_7.read (Elt Bits) (VO0_7.writes (Elt Bits) VO0_7.junk (runA T m ρ c t h).1), (runA T m ρ c t h).2.1, (runA T m ρ c t h).2.2.1, (runA T m ρ c t h).2.2.2.1)
  else if h' : Computes T (crd T t) then
    (VO0_7.read (Elt Bits) (VO0_7.writes (Elt Bits) VO0_7.junk (runB T m ρ c t p h h').1), (runB T m ρ c t p h h').2.1, (runB T m ρ c t p h h').2.2.1, (runB T m ρ c t p h h').2.2.2.1)
  else
    (VO0_7.read (Elt Bits) (VO0_7.writes (Elt Bits) VO0_7.junk (runC T m ρ c t p h h').1), (runC T m ρ c t p h h').2.1, (runC T m ρ c t p h h').2.2.1, (runC T m ρ c t p h h').2.2.2.1)

/-- After position `n`. -/
def traj0 (c : Dev nD) : (n : ℕ) → n < (cfgA T).N → State c
  | 0, h => step0 T m ρ c ⟨0, h⟩ (default, default, default, default)
  | n + 1, h => step0 T m ρ c ⟨n + 1, h⟩ (traj0 c n (Nat.lt_of_succ_lt h))

/-- Before position `t`, the end included. -/
def prev0 (c : Dev nD) (t : Fin ((cfgA T).N + 1)) : State c :=
  if h : t.val = 0 then (default, default, default, default) else traj0 T m ρ c (t.val - 1) (by have := t.isLt; omega)

theorem prev0_succ (c : Dev nD) (t : Fin (cfgA T).N) : prev0 T m ρ c t.succ = traj0 T m ρ c t.val t.isLt := by
  unfold prev0; simp only [Fin.val_succ, Nat.add_one_ne_zero, ↓reduceDIte, Nat.add_one_sub_one]

theorem traj0_eq (c : Dev nD) (t : Fin (cfgA T).N) : traj0 T m ρ c t.val t.isLt = step0 T m ρ c t (prev0 T m ρ c t.castSucc) := by
  obtain ⟨n, hn⟩ := t
  cases n with
  | zero => rfl
  | succ n => unfold prev0; simp only [Fin.val_castSucc, Nat.add_one_ne_zero, dif_neg, not_false_eq_true]; rfl

theorem step0_A (c : Dev nD) (t : Fin (cfgA T).N) (p : State c) (h : Loads T (crd T t)) :
    step0 T m ρ c t p = (VO0_7.read (Elt Bits) (VO0_7.writes (Elt Bits) VO0_7.junk (runA T m ρ c t h).1), (runA T m ρ c t h).2.1, (runA T m ρ c t h).2.2.1, (runA T m ρ c t h).2.2.2.1) := by
  unfold step0; simp only [dif_pos h]

theorem step0_B (c : Dev nD) (t : Fin (cfgA T).N) (p : State c) (h : ¬ Loads T (crd T t)) (h' : Computes T (crd T t)) :
    step0 T m ρ c t p = (VO0_7.read (Elt Bits) (VO0_7.writes (Elt Bits) VO0_7.junk (runB T m ρ c t p h h').1), (runB T m ρ c t p h h').2.1, (runB T m ρ c t p h h').2.2.1, (runB T m ρ c t p h h').2.2.2.1) := by
  unfold step0; simp only [dif_neg h, dif_pos h']

theorem step0_C (c : Dev nD) (t : Fin (cfgA T).N) (p : State c) (h : ¬ Loads T (crd T t)) (h' : ¬ Computes T (crd T t)) :
    step0 T m ρ c t p = (VO0_7.read (Elt Bits) (VO0_7.writes (Elt Bits) VO0_7.junk (runC T m ρ c t p h h').1), (runC T m ρ c t p h h').2.1, (runC T m ρ c t p h h').2.2.1, (runC T m ρ c t p h h').2.2.2.1) := by
  unfold step0; simp only [dif_neg h, dif_neg h']

/-- Before point `t`: each kept weight at what the points before left (anything before the first), and the body's halves of the tables. -/
def Phi (c : Dev nD) (t : Fin ((cfgA T).N + 1)) : sProp 𝕄 :=
  iprop((∃ a, ⌜t.val ≠ 0 → a = (prev0 T m ρ c t).2.1⌝ ∗ (scM0_0.view.loc (c : Thread nD τ) ↦{fullShare} a)) ∗ (∃ a, ⌜t.val ≠ 0 → a = (prev0 T m ρ c t).2.2.1⌝ ∗ (scM0_1.view.loc (c : Thread nD τ) ↦{fullShare} a)) ∗ (∃ a, ⌜t.val ≠ 0 → a = (prev0 T m ρ c t).2.2.2⌝ ∗ (scM0_2.view.loc (c : Thread nD τ) ↦{fullShare} a)) ∗ (tbM0_0.view.loc (c : Thread nD τ) ↦{fullShare.right} T.be) ∗ (tbM0_1.view.loc (c : Thread nD τ) ↦{fullShare.right} T.nu))

/-- The pipeline's data on core `c`. -/
def dats (_ : Fin 1) (c : Dev nD) : Dat τ (Elt Bits) Unit ℕ (UR sig nD τ) ℕ (cfgA T) c where
  A w := (s₀ m ρ).mem (((cfgA T).win w).arr.view.loc (c : Thread nD τ))
  after w t := match w with
    | ⟨0, _⟩ => iblk T m ρ c (0 : Fin 8) t
    | ⟨1, _⟩ => iblk T m ρ c (1 : Fin 8) t
    | ⟨2, _⟩ => iblk T m ρ c (2 : Fin 8) t
    | ⟨3, _⟩ => iblk T m ρ c (3 : Fin 8) t
    | ⟨4, _⟩ => iblk T m ρ c (4 : Fin 8) t
    | ⟨5, _⟩ => iblk T m ρ c (5 : Fin 8) t
    | ⟨6, _⟩ => iblk T m ρ c (6 : Fin 8) t
    | ⟨7, _⟩ => (traj0 T m ρ c t.val t.isLt).1
  Φ t := Phi T m ρ c t
  q _ := fullShare
  owed _ := 0

theorem after0_0 (c : Dev nD) (t : Fin (cfgA T).N) : (dats T m ρ 0 c).after (0 : Fin 8) t = iblk T m ρ c (0 : Fin 8) t := rfl
theorem after0_1 (c : Dev nD) (t : Fin (cfgA T).N) : (dats T m ρ 0 c).after (1 : Fin 8) t = iblk T m ρ c (1 : Fin 8) t := rfl
theorem after0_2 (c : Dev nD) (t : Fin (cfgA T).N) : (dats T m ρ 0 c).after (2 : Fin 8) t = iblk T m ρ c (2 : Fin 8) t := rfl
theorem after0_3 (c : Dev nD) (t : Fin (cfgA T).N) : (dats T m ρ 0 c).after (3 : Fin 8) t = iblk T m ρ c (3 : Fin 8) t := rfl
theorem after0_4 (c : Dev nD) (t : Fin (cfgA T).N) : (dats T m ρ 0 c).after (4 : Fin 8) t = iblk T m ρ c (4 : Fin 8) t := rfl
theorem after0_5 (c : Dev nD) (t : Fin (cfgA T).N) : (dats T m ρ 0 c).after (5 : Fin 8) t = iblk T m ρ c (5 : Fin 8) t := rfl
theorem after0_6 (c : Dev nD) (t : Fin (cfgA T).N) : (dats T m ρ 0 c).after (6 : Fin 8) t = iblk T m ρ c (6 : Fin 8) t := rfl
theorem after0_7 (c : Dev nD) (t : Fin (cfgA T).N) : (dats T m ρ 0 c).after (7 : Fin 8) t = (traj0 T m ρ c t.val t.isLt).1 := rfl

/-- An input window holds its block when the body runs. -/
theorem before0_0 (c : Dev nD) (t : Fin (cfgA T).N) (d) : (dats T m ρ 0 c).before (0 : Fin 8) t d = iblk T m ρ c (0 : Fin 8) t :=
  ((dats T m ρ 0 c).before_in_eq_fetched (0 : Fin 8) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA T).N) (d) : (dats T m ρ 0 c).before (1 : Fin 8) t d = iblk T m ρ c (1 : Fin 8) t :=
  ((dats T m ρ 0 c).before_in_eq_fetched (1 : Fin 8) rfl (fun _ => rfl) (fun _ _ _ => rfl) (fun t => by rw [after0_1]; unfold Dat.blockOf iblk; rfl) t d).trans
    (by unfold Dat.fetched Dat.blockOf iblk; rfl)
theorem before0_2 (c : Dev nD) (t : Fin (cfgA T).N) (d) : (dats T m ρ 0 c).before (2 : Fin 8) t d = iblk T m ρ c (2 : Fin 8) t :=
  ((dats T m ρ 0 c).before_in_eq_fetched (2 : Fin 8) rfl (fun _ => rfl) (fun _ _ _ => rfl) (fun t => by rw [after0_2]; unfold Dat.blockOf iblk; rfl) t d).trans
    (by unfold Dat.fetched Dat.blockOf iblk; rfl)
theorem before0_3 (c : Dev nD) (t : Fin (cfgA T).N) (d) : (dats T m ρ 0 c).before (3 : Fin 8) t d = iblk T m ρ c (3 : Fin 8) t :=
  ((dats T m ρ 0 c).before_in_eq_fetched (3 : Fin 8) rfl (fun _ => rfl) (fun _ _ _ => rfl) (fun t => by rw [after0_3]; unfold Dat.blockOf iblk; rfl) t d).trans
    (by unfold Dat.fetched Dat.blockOf iblk; rfl)
theorem before0_4 (c : Dev nD) (t : Fin (cfgA T).N) (d) : (dats T m ρ 0 c).before (4 : Fin 8) t d = iblk T m ρ c (4 : Fin 8) t :=
  ((dats T m ρ 0 c).before_in_eq_fetched (4 : Fin 8) rfl (fun _ => rfl) (fun _ _ _ => rfl) (fun t => by rw [after0_4]; unfold Dat.blockOf iblk; rfl) t d).trans
    (by unfold Dat.fetched Dat.blockOf iblk; rfl)
theorem before0_5 (c : Dev nD) (t : Fin (cfgA T).N) (d) : (dats T m ρ 0 c).before (5 : Fin 8) t d = iblk T m ρ c (5 : Fin 8) t :=
  ((dats T m ρ 0 c).before_in_eq_fetched (5 : Fin 8) rfl (fun _ => rfl) (fun _ _ _ => rfl) (fun t => by rw [after0_5]; unfold Dat.blockOf iblk; rfl) t d).trans
    (by unfold Dat.fetched Dat.blockOf iblk; rfl)
theorem before0_6 (c : Dev nD) (t : Fin (cfgA T).N) (d) : (dats T m ρ 0 c).before (6 : Fin 8) t d = iblk T m ρ c (6 : Fin 8) t :=
  ((dats T m ρ 0 c).before_in_eq_fetched (6 : Fin 8) rfl (fun _ => rfl) (fun _ _ _ => rfl) (fun t => by rw [after0_6]; unfold Dat.blockOf iblk; rfl) t d).trans
    (by unfold Dat.fetched Dat.blockOf iblk; rfl)

/-- The output window holds nothing to read: it was just written back. -/
theorem before0_7 (c : Dev nD) (t : Fin (cfgA T).N) (d) : (dats T m ρ 0 c).before (7 : Fin 8) t d = d := by
  rw [(dats T m ρ 0 c).before_out_traj (7 : Fin 8) rfl (fun _ _ => rfl) (fun t _ hi _ => absurd hi (by rw [idle_out]; decide)) t.val t rfl d]
  rw [fresh_out]; rfl

/-- The body at point `t` on its staging buffers. -/
abbrev bodyAt0 (t : Fin (cfgA T).N) : Prog (TpuEff nD τ sig (Elt Bits) Λ₀ .tc) PUnit :=
  cc0_experts (crd T t) (Memref.whole main_arg0) (Memref.isWhole_whole _) (Memref.whole main_arg1) (Memref.isWhole_whole _) (ms0_0 T t) (hs0_0 T t) (ms0_1 T t) (hs0_1 T t) (ms0_2 T t) (hs0_2 T t) (ms0_3 T t) (hs0_3 T t) (ms0_4 T t) (hs0_4 T t) (ms0_5 T t) (hs0_5 T t) (ms0_6 T t) (hs0_6 T t) (ms0_7 T t) (hs0_7 T t) (Memref.whole cc0_scratch0) (Memref.isWhole_whole _) (Memref.whole cc0_scratch1) (Memref.isWhole_whole _) (Memref.whole cc0_scratch2) (Memref.isWhole_whole _)

/-- What the body starts from at point `t`, -/
abbrev Before (c : Dev nD) (t : Fin (cfgA T).N) : sProp 𝕄 :=
    iprop((dats T m ρ 0 c).Φ t.castSucc ∗ (dats T m ρ 0 c).owesAt () t.castSucc
        ∗ (∃ d, owns (c : Thread nD τ) (ms0_0 T t) fullShare ((dats T m ρ 0 c).before (0 : Fin 8) t d))
        ∗ (∃ d, owns (c : Thread nD τ) (ms0_1 T t) fullShare ((dats T m ρ 0 c).before (1 : Fin 8) t d))
        ∗ (∃ d, owns (c : Thread nD τ) (ms0_2 T t) fullShare ((dats T m ρ 0 c).before (2 : Fin 8) t d))
        ∗ (∃ d, owns (c : Thread nD τ) (ms0_3 T t) fullShare ((dats T m ρ 0 c).before (3 : Fin 8) t d))
        ∗ (∃ d, owns (c : Thread nD τ) (ms0_4 T t) fullShare ((dats T m ρ 0 c).before (4 : Fin 8) t d))
        ∗ (∃ d, owns (c : Thread nD τ) (ms0_5 T t) fullShare ((dats T m ρ 0 c).before (5 : Fin 8) t d))
        ∗ (∃ d, owns (c : Thread nD τ) (ms0_6 T t) fullShare ((dats T m ρ 0 c).before (6 : Fin 8) t d))
        ∗ (∃ d, owns (c : Thread nD τ) (ms0_7 T t) fullShare ((dats T m ρ 0 c).before (7 : Fin 8) t d)))

/-- and what it leaves. -/
abbrev After (c : Dev nD) (t : Fin (cfgA T).N) : sProp 𝕄 :=
          iprop((dats T m ρ 0 c).Φ t.succ ∗ (dats T m ρ 0 c).owesAt () t.succ
            ∗ bigSep Finset.univ fun w : Fin (cfgA T).W =>
                match (cfgA T).idle w ((cfgA T).grid.coords t) with
                | true =>
                  match ((cfgA T).win w).flush t with
                  | false => iprop(∃ d, owns (c : Thread nD τ) (((cfgA T).win w).stage ((cfgA T).slots t w)) fullShare ((dats T m ρ 0 c).before w t d))
                  | true => owns (c : Thread nD τ) (((cfgA T).win w).stage ((cfgA T).slots t w)) fullShare ((dats T m ρ 0 c).after w t)
                | false => owns (c : Thread nD τ) (((cfgA T).win w).stage ((cfgA T).slots t w)) fullShare ((dats T m ρ 0 c).after w t))

set_option maxHeartbeats 4000000 in
/-- The body at a point that loads an expert's weights. -/
theorem sound_A (c : Dev nD) (t : Fin (cfgA T).N) (h : Loads T (crd T t)) :
    Before T m ρ c t ⊢ wp frame (wpE (defs₀ (F := Bits)) Variants.none c none) Set.univ (bodyAt0 T t) fun _ => After T m ρ c t := by
  unfold Before After
  rw [bigSep_W0]
  have i7 := idle_out T (crd T t)
  have f7 := flush_out T t
  rewrite [i7]
  simp only [before0_0, before0_1, before0_2, before0_3, before0_4, before0_5, before0_6, before0_7, after0_0, after0_1, after0_2, after0_3, after0_4, after0_5, after0_6, after0_7, f7]
  rewrite [show (dats T m ρ 0 c).Φ t.succ = Phi T m ρ c t.succ from rfl, show (dats T m ρ 0 c).Φ t.castSucc = Phi T m ρ c t.castSucc from rfl,
    show (dats T m ρ 0 c).owesAt () t.succ = (dats T m ρ 0 c).owesAt () t.castSucc from rfl]
  unfold Phi; simp only [prev0_succ, traj0_eq, step0_A T m ρ c t _ h]
  iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runA T m ρ c t h).2.2.2.2 a0 a1 a2 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [HT0]; · iexact HT0
  isplitl [HT1]; · iexact HT1
  isplitl [H7]; · iexists _; iexact H7
  isplitl [HS0]; · iexact HS0
  isplitl [HS1]; · iexact HS1
  isplitl [HS2]; · iexact HS2
  iintro ⟨H0, H1, H2, H3, H4, H5, H6, HT0, HT1, ⟨%e7, H7⟩, HS0, HS1, HS2⟩
  isplitl [HS0 HS1 HS2 HT0 HT1]
  · isplitl [HS0]
    · iexists _; isplitr; swap
      · iexact HS0
      · ipureintro; intro _; rfl
    isplitl [HS1]
    · iexists _; isplitr; swap
      · iexact HS1
      · ipureintro; intro _; rfl
    isplitl [HS2]
    · iexists _; isplitr; swap
      · iexact HS2
      · ipureintro; intro _; rfl
    isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  isplitl [H4]
  · iapply owns_of_rep; iexact H4
  isplitl [H5]
  · iapply owns_of_rep; iexact H5
  isplitl [H6]
  · iapply owns_of_rep; iexact H6
  unfold owns; iexists _; isplitr; swap
  · iexact H7
  · ipureintro; exact View.read_writes_of_cover _ _ _ _ _ (cover0_A_7 c _ _ _ _ _ _ _ _ _ _ _ _ _ _ _ _ _ _ _ _ _ _ _ _ _ _ _ _ _)

set_option maxHeartbeats 4000000 in
/-- The body at a point that reuses the kept weights. -/
theorem sound_B (c : Dev nD) (t : Fin (cfgA T).N) (h : ¬ Loads T (crd T t)) (h' : Computes T (crd T t)) :
    Before T m ρ c t ⊢ wp frame (wpE (defs₀ (F := Bits)) Variants.none c none) Set.univ (bodyAt0 T t) fun _ => After T m ρ c t := by
  unfold Before After
  rw [bigSep_W0]
  have i7 := idle_out T (crd T t)
  have f7 := flush_out T t
  rewrite [i7]
  simp only [before0_0, before0_1, before0_2, before0_3, before0_4, before0_5, before0_6, before0_7, after0_0, after0_1, after0_2, after0_3, after0_4, after0_5, after0_6, after0_7, f7]
  rewrite [show (dats T m ρ 0 c).Φ t.succ = Phi T m ρ c t.succ from rfl, show (dats T m ρ 0 c).Φ t.castSucc = Phi T m ρ c t.castSucc from rfl,
    show (dats T m ρ 0 c).owesAt () t.succ = (dats T m ρ 0 c).owesAt () t.castSucc from rfl]
  unfold Phi; simp only [prev0_succ, traj0_eq, step0_B T m ρ c t _ h h']
  have ht : t.castSucc.val ≠ 0 := fun h0 => h (loads_zero T t h0)
  simp only [exists_held ht]
  iintro ⟨⟨HS0, HS1, HS2, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runB T m ρ c t (prev0 T m ρ c t.castSucc) h h').2.2.2.2 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [HT0]; · iexact HT0
  isplitl [HT1]; · iexact HT1
  isplitl [H7]; · iexists _; iexact H7
  isplitl [HS0]; · iexact HS0
  isplitl [HS1]; · iexact HS1
  isplitl [HS2]; · iexact HS2
  iintro ⟨H0, H1, H2, H3, H4, H5, H6, HT0, HT1, ⟨%e7, H7⟩, HS0, HS1, HS2⟩
  isplitl [HS0 HS1 HS2 HT0 HT1]
  · isplitl [HS0]
    · iexists _; isplitr; swap
      · iexact HS0
      · ipureintro; intro _; rfl
    isplitl [HS1]
    · iexists _; isplitr; swap
      · iexact HS1
      · ipureintro; intro _; rfl
    isplitl [HS2]
    · iexists _; isplitr; swap
      · iexact HS2
      · ipureintro; intro _; rfl
    isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  isplitl [H4]
  · iapply owns_of_rep; iexact H4
  isplitl [H5]
  · iapply owns_of_rep; iexact H5
  isplitl [H6]
  · iapply owns_of_rep; iexact H6
  unfold owns; iexists _; isplitr; swap
  · iexact H7
  · ipureintro; exact View.read_writes_of_cover _ _ _ _ _ (cover0_B_7 c _ _ _ _ _ _ _ _ _ _ _ _ _ _ _ _ _ _ _ _ _ _ _ _ _ _ _ _ _ _ _ _)

set_option maxHeartbeats 4000000 in
/-- The body past the used blocks. -/
theorem sound_C (c : Dev nD) (t : Fin (cfgA T).N) (h : ¬ Loads T (crd T t)) (h' : ¬ Computes T (crd T t)) :
    Before T m ρ c t ⊢ wp frame (wpE (defs₀ (F := Bits)) Variants.none c none) Set.univ (bodyAt0 T t) fun _ => After T m ρ c t := by
  unfold Before After
  rw [bigSep_W0]
  have i7 := idle_out T (crd T t)
  have f7 := flush_out T t
  rewrite [i7]
  simp only [before0_0, before0_1, before0_2, before0_3, before0_4, before0_5, before0_6, before0_7, after0_0, after0_1, after0_2, after0_3, after0_4, after0_5, after0_6, after0_7, f7]
  rewrite [show (dats T m ρ 0 c).Φ t.succ = Phi T m ρ c t.succ from rfl, show (dats T m ρ 0 c).Φ t.castSucc = Phi T m ρ c t.castSucc from rfl,
    show (dats T m ρ 0 c).owesAt () t.succ = (dats T m ρ 0 c).owesAt () t.castSucc from rfl]
  unfold Phi; simp only [prev0_succ, traj0_eq, step0_C T m ρ c t _ h h']
  have ht : t.castSucc.val ≠ 0 := fun h0 => h (loads_zero T t h0)
  simp only [exists_held ht]
  iintro ⟨⟨HS0, HS1, HS2, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runC T m ρ c t (prev0 T m ρ c t.castSucc) h h').2.2.2.2 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [HT0]; · iexact HT0
  isplitl [HT1]; · iexact HT1
  isplitl [H7]; · iexists _; iexact H7
  isplitl [HS0]; · iexact HS0
  isplitl [HS1]; · iexact HS1
  isplitl [HS2]; · iexact HS2
  iintro ⟨H0, H1, H2, H3, H4, H5, H6, HT0, HT1, ⟨%e7, H7⟩, HS0, HS1, HS2⟩
  isplitl [HS0 HS1 HS2 HT0 HT1]
  · isplitl [HS0]
    · iexists _; isplitr; swap
      · iexact HS0
      · ipureintro; intro _; rfl
    isplitl [HS1]
    · iexists _; isplitr; swap
      · iexact HS1
      · ipureintro; intro _; rfl
    isplitl [HS2]
    · iexists _; isplitr; swap
      · iexact HS2
      · ipureintro; intro _; rfl
    isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  isplitl [H4]
  · iapply owns_of_rep; iexact H4
  isplitl [H5]
  · iapply owns_of_rep; iexact H5
  isplitl [H6]
  · iapply owns_of_rep; iexact H6
  unfold owns; iexists _; isplitr; swap
  · iexact H7
  · ipureintro; exact View.read_writes_of_cover _ _ _ _ _ (cover0_C_7 c _ _ _ _ _ _ _ _ _ _ _ _ _ _ _ _ _ _ _ _ _ _ _ _ _ _ _ _ _ _ _ _)

/-- The body, at every point. -/
theorem body_obligation (c : Dev nD) : BodyObligation (dats T m ρ 0 c) (defs₀ (F := Bits)) Variants.none () Set.univ := fun t => by
  rw [bigSep_W0]
  by_cases h : Loads T (crd T t)
  · exact sound_A T m ρ c t h
  · by_cases h' : Computes T (crd T t)
    · exact sound_B T m ρ c t h h'
    · exact sound_C T m ρ c t h h'

/-- The launch memory's tables are `T`. -/
abbrev Holds : Prop := (∀ c : Dev nD, m ((c : Thread nD τ).loc main_arg0) = T.be) ∧ ∀ c : Dev nD, m ((c : Thread nD τ).loc main_arg1) = T.nu

/-- What the launch starts with. -/
def u₀ : UR sig nD τ :=
  initOf (Pipeline.cells (pcs T) ((launch0 (F := Bits)).cellOf_inj fun _ => adm T))
    (Pipeline.launchToks (pcs T) ((launch0 (F := Bits)).cellOf_inj fun _ => adm T))

/-- Every window holds its array whole. -/
theorem share_eq (c : Dev nD) (w : Fin (cfgA T).W) : (dats T m ρ 0 c).share w = fullShare := by unfold Dat.share; split <;> rfl

/-- The tables one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The first point starts from the tables and the scratch buffers, -/
theorem phi0_intro (c : Dev nD) :
    iprop(BI.emp ∗ Pipeline.prefHeld pre0 c (fun _ => fullShare.right) (adm T).1 ∗ Pipeline.scopedRest spec0 c) ⊢ (dats T m ρ 0 c).Φ 0 := by
  rw [prefHeld_eq, scopedRest0_eq, show (dats T m ρ 0 c).Φ 0 = Phi T m ρ c 0 from rfl]
  unfold Phi
  iintro ⟨-, ⟨HT0, HT1⟩, ⟨%a0, HS0⟩, ⟨%a1, HS1⟩, ⟨%a2, HS2⟩⟩
  isplitl [HS0]
  · iexists a0; isplitr; swap
    · iexact HS0
    · ipureintro; intro h; exact absurd rfl h
  isplitl [HS1]
  · iexists a1; isplitr; swap
    · iexact HS1
    · ipureintro; intro h; exact absurd rfl h
  isplitl [HS2]
  · iexists a2; isplitr; swap
    · iexact HS2
    · ipureintro; intro h; exact absurd rfl h
  isplitl [HT0]
  · iexact HT0
  iexact HT1

/-- and the last gives the scratch buffers back. -/
theorem phiN_exit (c : Dev nD) : (dats T m ρ 0 c).Φ (Fin.last (cfgA T).N) ⊢ iprop(BI.emp ∗ Pipeline.scopedRest spec0 c) := by
  rw [scopedRest0_eq, show (dats T m ρ 0 c).Φ (Fin.last (cfgA T).N) = Phi T m ρ c (Fin.last _) from rfl]
  unfold Phi
  iintro ⟨⟨%a0, -, HS0⟩, ⟨%a1, -, HS1⟩, ⟨%a2, -, HS2⟩, -, -⟩
  isplitr; · iempintro
  isplitl [HS0]
  · iexists a0; iexact HS0
  isplitl [HS1]
  · iexists a1; iexact HS1
  iexists a2; iexact HS2

/-- At the end every array is as the pipeline computes it, and the tables are unchanged. -/
def QC : PUnit × MemSt nD τ sig (Elt Bits) → Prop := fun r =>
  ∀ c : Dev nD, (∀ w : Fin (cfgA T).W, r.2.mem (((cfgA T).win w).arr.view.loc (c : Thread nD τ)) = (dats T m ρ 0 c).arrAt w (cfgA T).N)
    ∧ ∀ j, r.2.mem ((c : Thread nD τ).loc (pre0.ref j)) = (adm T).1 j

/-- The tables at launch. -/
theorem V_pre (hp : Holds T m) (c : Dev nD) (j : Fin 2) : m ((c : Thread nD τ).loc (pre0.ref j)) = (adm T).1 j := by
  fin_cases j
  · exact hp.1 c
  · exact hp.2 c

set_option backward.isDefEq.respectTransparency.types false in
set_option maxHeartbeats 4000000 in
theorem run_main_quiescent (hp : Holds T m) : θ_run (defs (F := Bits)) (onTc (τ := τ) (main (F := Bits))) (s₀ m ρ) (fun r => QC T m ρ r ∧ r.2.sem = fun _ => 0) :=
  Pipeline.θ_run_region_noSem_pf_quiescent pcfgs (fun _ => adm T) (dats T m ρ) () ((launch0 (F := Bits)).cellOf_inj fun _ => adm T) (0 : Fin 1)
    (launch0 (F := Bits)).win.to₀ (launch0 (F := Bits)).pre EP defs₀ Variants.none m ρ main
    (hbody := fun c => (body_obligation T m ρ c).loose) (hne := (launch0 (F := Bits)).block_pos)
    (harr := (launch0 (F := Bits)).arr_whole) (hstage := (launch0 (F := Bits)).stage_whole) (howed := fun _ _ => rfl)
    (u₀ := u₀ T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T) (dats T m ρ) 0 (launch0 (F := Bits)).win.arr_inj c (launch0 (F := Bits)).arr_whole
      (share_eq T m ρ c) _ _ fun _ => rfl)
    (hpf := V_pre T m hp)
    (X := fun _ => iprop(emp)) (Y := fun _ => iprop(emp)) (Z := fun _ => iprop(emp))
    (hX := fun c => by rw [unscopedRestP0_eq]; iintro -; isplitr <;> iempintro)
    (hin := phi0_intro T m ρ)
    (hout := phiN_exit T m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The whole program ends so. -/
theorem run_main (hp : Holds T m) : θ_run (defs (F := Bits)) (onTc (τ := τ) (main (F := Bits))) (s₀ m ρ) (QC T m ρ) :=
  (θ_run defs _ _).mono (fun _ h => h.1) (run_main_quiescent T m ρ hp)

/-- The arguments end unchanged. -/
theorem unchanged (hp : Holds T m) :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 0).trans (hp.1 c).symm, ((h c).2 1).trans (hp.2 c).symm, ((h c).1 (0 : Fin 8)).trans ((dats T m ρ 0 c).arrAt_in (0 : Fin 8) rfl _), ((h c).1 (1 : Fin 8)).trans ((dats T m ρ 0 c).arrAt_in (1 : Fin 8) rfl _), ((h c).1 (2 : Fin 8)).trans ((dats T m ρ 0 c).arrAt_in (2 : Fin 8) rfl _), ((h c).1 (3 : Fin 8)).trans ((dats T m ρ 0 c).arrAt_in (3 : Fin 8) rfl _), ((h c).1 (4 : Fin 8)).trans ((dats T m ρ 0 c).arrAt_in (4 : Fin 8) rfl _), ((h c).1 (5 : Fin 8)).trans ((dats T m ρ 0 c).arrAt_in (5 : Fin 8) rfl _), ((h c).1 (6 : Fin 8)).trans ((dats T m ρ 0 c).arrAt_in (6 : Fin 8) rfl _)⟩) (run_main T m ρ hp)

/-- The arguments end unchanged and every counter is zero. -/
theorem frame (hp : Holds T m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged T m ρ hp) ((θ_run defs _ _).mono (fun _ h => h.2) (run_main_quiescent T m ρ hp))

end Cert.ExpertsKernel.Run

end
-- ==== Proof.Experts.Ideal.Schedule.lean ====
/- The experts pipeline at tables in range: its blocks lie inside the arrays, and what its control decides at each point. -/
module

public import proofs.«01_k».proof.Proof.Gen.ExpertsKernelIdeal.Flash.Runs
public import proofs.«01_k».proof.Proof.Experts.Tables

@[expose] public section

set_option maxRecDepth 16384

noncomputable section

namespace Cert.ExpertsKernelIdeal.Run

open Cert.Experts Cert.ExpertsKernelIdeal Cert.ExpertsKernelIdeal.Gen
open Idealize.ShloMosaic Idealize.ShloMosaic.TcCoe
open Idealize.SL.Sem

variable (T : Tables)

set_option backward.proofsInPublic true in
/-- The tables' contents. -/
def pf : pre0.Contents (Elt Ideal) := fun | ⟨0, _⟩ => T.be | ⟨1, _⟩ => T.nu | ⟨_ + 2, h⟩ => absurd h (by simp)

/-- A block of one expert's array: the expert's number is in range, the other coordinates are zero. -/
theorem expert_inb {b : BitVec 32} {d e : ℕ} (hb : b.toNat < 32) :
    ∀ a : Fin 3, ((![b.toNat, (0#32).toNat, (0#32).toNat] : Fin 3 → ℕ) a + 1) * (![1, d, e] : Fin 3 → ℕ) a ≤ (![32, d, e] : Fin 3 → ℕ) a :=
  okcons (by omega) (okcons (by simp) (okcons (by simp) (fun a => a.elim0)))

/-- Every block the pipeline reads or writes lies inside its array. -/
theorem ok_pf : ok0 (F := Ideal) (pf T) :=
  ⟨fun i => ⟨okcons (by have := toNat_row_lt (i 0).val (i 0).isLt _ (T.nu_pos (Rect.emb (Rect.unit (s := S1) ![0] S1.size inb_S1_S1_0) (Shape.Idx.first (numel1_S1.symm ▸ Nat.one_pos)))); exact Nat.mul_le_mul_right 256 this)
      (okcons (by decide) (fun a => a.elim0)), .inl rfl⟩,
    fun i => ⟨expert_inb (T.be_lt _), .inl rfl⟩, fun i => ⟨expert_inb (T.be_lt _), .inl rfl⟩,
    fun i => ⟨expert_inb (T.be_lt _), .inl rfl⟩, fun i => ⟨expert_inb (T.be_lt _), .inl rfl⟩,
    fun i => ⟨expert_inb (T.be_lt _), .inl rfl⟩, fun i => ⟨expert_inb (T.be_lt _), .inl rfl⟩⟩

/-- The contents as the region takes them, and the pipeline at them. -/
def adm : (pcfg0 (F := Ideal)).Adm := ⟨pf T, ok_pf T⟩
abbrev cfgA : Pipeline.Cfg sig Λ₀ := cfg0 (F := Ideal) (adm T)
abbrev pcs : Fin 1 → Pipeline.Cfg sig Λ₀ := Pipeline.pin (pcfgs (F := Ideal)) fun _ => adm T

/-- Point `t`'s coordinates. -/
abbrev crd (t : Fin (cfgA T).N) : (cfgA T).grid.Coords := (cfgA T).grid.coords t

theorem points (t : Fin (cfgA T).N) : t.val < 288 := t.isLt.trans_eq N_0

theorem crd_val (t : Fin (cfgA T).N) : ((crd T t) 0).val = t.val := by
  have : ∀ t : Fin grid0.N, ((grid0.coords t) 0).val = t.val := by decide +kernel
  exact this t

/-- The words the body reads of the tables. -/
abbrev wNu : BitVec 32 := View.readAt (Elt Ideal) (tbM0_1).view (Rect.unit (s := S1) ![0] S1.size inb_S1_S1_0).toLoadRect T.nu (Shape.Idx.first (numel1_S1.symm ▸ Nat.one_pos))
abbrev wBe (i : grid0.Coords) : BitVec 32 := View.readAt (Elt Ideal) (tbM0_0).view (Rect.unit (s := S288) (k0_off1 i) S1.size (k0_off1_inb i)).toLoadRect T.be (Shape.Idx.first (numel1_S1.symm ▸ Nat.one_pos))
abbrev wPrev (i : grid0.Coords) : BitVec 32 := View.readAt (Elt Ideal) (tbM0_0).view (Rect.unit (s := S288) (k0_off2 i) S1.size (k0_off2_inb i)).toLoadRect T.be (Shape.Idx.first (numel1_S1.symm ▸ Nat.one_pos))

/-- Whether the body loads an expert's weights at point `i`, and whether it computes. -/
abbrev Loads (i : grid0.Coords) : Prop :=
  Scalar.cmpi .ne (Scalar.extui (Scalar.andi (Scalar.cmpi .slt (BitVec.ofNat 32 (i 0).val) (wNu T)) (Scalar.ori (Scalar.cmpi .eq (BitVec.ofNat 32 (i 0).val) 0#32) (Scalar.cmpi .ne (wBe T i) (wPrev T i))))) 0#32 = 1#1
abbrev Computes (i : grid0.Coords) : Prop := k0_cond2 i (wNu T) = 1#1
abbrev Clears (i : grid0.Coords) : Prop := k0_cond3 i (wNu T) = 1#1

theorem wNu_eq : wNu T = T.nu only := congrArg T.nu (eq_only _)

theorem wBe_eq (i : grid0.Coords) : wBe T i = T.be (place (i 0).val (i 0).isLt) :=
  congrArg T.be (eq_place _ _ _ (by
    show (k0_off1 i) 0 + 0 * 1 = _
    rw [k0_off1_eq]; rfl))

theorem wPrev_eq (i : grid0.Coords) : wPrev T i = T.be (place ((i 0).val - 1) (Nat.lt_of_le_of_lt (Nat.sub_le _ _) (i 0).isLt)) :=
  congrArg T.be (eq_place _ _ _ (by
    show (k0_off2 i) 0 + 0 * 1 = _
    exact toNat_prev _ (i 0).isLt))

theorem computes_iff (t : Fin (cfgA T).N) : Computes T (crd T t) ↔ T.active t.val := by
  show (Scalar.cmpi .ne (Scalar.extui (Scalar.cmpi .slt (BitVec.ofNat 32 ((crd T t) 0).val) (wNu T)) : BitVec 32) 0#32 = 1#1) ↔ _
  rw [bits_active, cmpi_slt_iff, wNu_eq, toInt_ofNat ((crd T t) 0).isLt, crd_val]; exact Iff.rfl

theorem clears_iff (t : Fin (cfgA T).N) : Clears T (crd T t) ↔ ¬ T.active t.val := by
  show (Scalar.cmpi .ne (Scalar.extui (Scalar.xori (Scalar.cmpi .slt (BitVec.ofNat 32 ((crd T t) 0).val) (wNu T)) 1#1) : BitVec 32) 0#32 = 1#1) ↔ _
  rw [bits_idle, cmpi_slt_iff, wNu_eq, toInt_ofNat ((crd T t) 0).isLt, crd_val]; exact Iff.rfl

theorem place_congr {n n' : ℕ} (e : n = n') (h : n < 288) (h' : n' < 288) : place n h = place n' h' := by subst e; rfl

theorem wBe_at (t : Fin (cfgA T).N) : wBe T (crd T t) = T.be (place t.val (points T t)) :=
  (wBe_eq T (crd T t)).trans (congrArg T.be (place_congr (crd_val T t) _ _))

theorem wPrev_at (t : Fin (cfgA T).N) : wPrev T (crd T t) = T.be (place (t.val - 1) (by have := points T t; omega)) :=
  (wPrev_eq T (crd T t)).trans (congrArg T.be (place_congr (congrArg (· - 1) (crd_val T t)) _ _))

theorem loads_iff (t : Fin (cfgA T).N) : Loads T (crd T t) ↔
    (T.active t.val ∧ (t.val = 0 ∨ T.be (place t.val (points T t)) ≠ T.be (place (t.val - 1) (by have := points T t; omega)))) := by
  show (Scalar.cmpi .ne _ _ = 1#1) ↔ _
  rw [bits_load, bits_or, cmpi_slt_iff, cmpi_eq_iff, cmpi_ne_iff, wNu_eq, wBe_at, wPrev_at, toInt_ofNat ((crd T t) 0).isLt]
  have h0 : (BitVec.ofNat 32 ((crd T t) 0).val = 0#32) ↔ t.val = 0 := by
    rw [crd_val]; have := points T t
    constructor
    · intro h; have := congrArg BitVec.toNat h; simp only [BitVec.toNat_ofNat] at this; omega
    · intro h; rw [h]
  rw [h0, crd_val]; exact Iff.rfl

theorem loads_zero (t : Fin (cfgA T).N) (h : t.val = 0) : Loads T (crd T t) :=
  (loads_iff T t).mpr ⟨by rw [h]; exact T.active_zero, .inl h⟩

theorem loads_computes {t : Fin (cfgA T).N} (h : Loads T (crd T t)) : Computes T (crd T t) :=
  (computes_iff T t).mpr ((loads_iff T t).mp h).1

theorem computes_not_clears {t : Fin (cfgA T).N} (h : Computes T (crd T t)) : ¬ Clears T (crd T t) :=
  fun h' => (clears_iff T t).mp h' ((computes_iff T t).mp h)

theorem clears_of_not {t : Fin (cfgA T).N} (h : ¬ Computes T (crd T t)) : Clears T (crd T t) :=
  (clears_iff T t).mpr fun h' => h ((computes_iff T t).mpr h')

/-- The output window is stored at every point, -/
theorem idle_out (i : grid0.Coords) : (cfgA T).idle (7 : Fin 8) i = false := by
  have key : ∀ a : BitVec 1, (!((Scalar.cmpi .ne (Scalar.extui a : BitVec 32) 0#32) == 1#1)
      && !((Scalar.cmpi .ne (Scalar.extui (Scalar.xori a 1#1) : BitVec 32) 0#32) == 1#1)) = false := by decide
  exact key _

/-- and written back after every point. -/
theorem flush_out (t : Fin (cfgA T).N) : ((cfgA T).win (7 : Fin 8)).flush t = true := by
  refine (Pipeline.Window.flush_out _ rfl t).mpr ?_
  by_cases h : t.val + 1 = (cfgA T).N
  · exact .inl h
  · refine .inr ⟨Nat.lt_of_le_of_ne t.isLt h, fun he => ?_⟩
    have h0 : (BitVec.ofNat 32 ((crd T ⟨t.val + 1, Nat.lt_of_le_of_ne t.isLt h⟩) 0).val).toNat = (BitVec.ofNat 32 ((crd T t) 0).val).toNat := congrFun he (0 : Fin 2)
    rw [crd_val, crd_val] at h0
    have := points T t
    simp only [BitVec.toNat_ofNat] at h0
    omega

theorem fresh_out (t : Fin (cfgA T).N) : (cfgA T).fresh (7 : Fin 8) t.val = true :=
  Pipeline.Cfg.fresh_tab (cfgA T) (7 : Fin 8) (fun _ => true) rfl (fun t => by rw [flush_out]; rfl) t.val (Nat.le_of_lt t.isLt)

end Cert.ExpertsKernelIdeal.Run

end
-- ==== Proof.Experts.Ideal.Frame.lean ====
/- The experts pipeline's runs at any tables in range: what the output block and the kept weights hold after each point, and the launch. -/
module

public import proofs.«01_k».proof.Proof.Experts.Ideal.Schedule
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.ExpertsKernelIdeal.Run

open Cert.Experts Cert.ExpertsKernelIdeal Cert.ExpertsKernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The rounds library's resources, whole. -/
abbrev EP : Emb (UR sig nD τ) 𝕄 := emb₁

variable (T : Tables) (m : (ℓ : Loc nD τ sig) → Buf (Elt Ideal) ℓ) (ρ : Dev nD → PrngReg)

/-- Each window's staging buffer at point `t`. -/
abbrev ms0_0 (t : Fin (cfgA T).N) : Memref sig .tc .vmem S256x1024 .f32 := spec0_0.stage ((cfgA T).slots t (0 : Fin 8))
abbrev hs0_0 (t : Fin (cfgA T).N) : (ms0_0 T t).IsWhole := hstage0_0 (((cfgA T).slots t (0 : Fin 8)).cast nbuf0_0)
abbrev ms0_1 (t : Fin (cfgA T).N) : Memref sig .tc .vmem S1x1024x1024 .f32 := spec0_1.stage ((cfgA T).slots t (1 : Fin 8))
abbrev hs0_1 (t : Fin (cfgA T).N) : (ms0_1 T t).IsWhole := hstage0_1 (((cfgA T).slots t (1 : Fin 8)).cast nbuf0_1)
abbrev ms0_2 (t : Fin (cfgA T).N) : Memref sig .tc .vmem S1x1x1024 .f32 := spec0_2.stage ((cfgA T).slots t (2 : Fin 8))
abbrev hs0_2 (t : Fin (cfgA T).N) : (ms0_2 T t).IsWhole := hstage0_2 (((cfgA T).slots t (2 : Fin 8)).cast nbuf0_2)
abbrev ms0_3 (t : Fin (cfgA T).N) : Memref sig .tc .vmem S1x1024x1024 .f32 := spec0_3.stage ((cfgA T).slots t (3 : Fin 8))
abbrev hs0_3 (t : Fin (cfgA T).N) : (ms0_3 T t).IsWhole := hstage0_3 (((cfgA T).slots t (3 : Fin 8)).cast nbuf0_3)
abbrev ms0_4 (t : Fin (cfgA T).N) : Memref sig .tc .vmem S1x1x1024 .f32 := spec0_4.stage ((cfgA T).slots t (4 : Fin 8))
abbrev hs0_4 (t : Fin (cfgA T).N) : (ms0_4 T t).IsWhole := hstage0_4 (((cfgA T).slots t (4 : Fin 8)).cast nbuf0_4)
abbrev ms0_5 (t : Fin (cfgA T).N) : Memref sig .tc .vmem S1x1024x1024 .f32 := spec0_5.stage ((cfgA T).slots t (5 : Fin 8))
abbrev hs0_5 (t : Fin (cfgA T).N) : (ms0_5 T t).IsWhole := hstage0_5 (((cfgA T).slots t (5 : Fin 8)).cast nbuf0_5)
abbrev ms0_6 (t : Fin (cfgA T).N) : Memref sig .tc .vmem S1x1x1024 .f32 := spec0_6.stage ((cfgA T).slots t (6 : Fin 8))
abbrev hs0_6 (t : Fin (cfgA T).N) : (ms0_6 T t).IsWhole := hstage0_6 (((cfgA T).slots t (6 : Fin 8)).cast nbuf0_6)
abbrev ms0_7 (t : Fin (cfgA T).N) : Memref sig .tc .vmem S256x1024 .f32 := spec0_7.stage ((cfgA T).slots t (7 : Fin 8))
abbrev hs0_7 (t : Fin (cfgA T).N) : (ms0_7 T t).IsWhole := hstage0_7 (((cfgA T).slots t (7 : Fin 8)).cast nbuf0_7)

/-- Window `w`'s block at point `t`, read off its array at launch. -/
def iblk (c : Dev nD) (w : Fin (cfgA T).W) (t : Fin (cfgA T).N) : (((cfgA T).win w).xblock (crd T t)).Idx → Elt Ideal ((cfgA T).win w).elt :=
  (((cfgA T).win w).blk t).view.read (Elt Ideal) ((s₀ m ρ).mem (((cfgA T).win w).arr.view.loc (c : Thread nD τ)))

/-- The output block and the three kept weights. -/
abbrev State (c : Dev nD) := (S256x1024.Idx → Elt Ideal .f32) × Buf (Elt Ideal) ((c : Thread nD τ).loc cc0_scratch0) × Buf (Elt Ideal) ((c : Thread nD τ).loc cc0_scratch1) × Buf (Elt Ideal) ((c : Thread nD τ).loc cc0_scratch2)

/-- The body's run at point `t` where it loads weights, -/
def runA (c : Dev nD) (t : Fin (cfgA T).N) (h : Loads T (crd T t)) :=
  kernelRun0_A c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (ms0_6 T t) (hs0_6 T t) (ms0_7 T t) (hs0_7 T t) T.be T.nu (iblk T m ρ c (0 : Fin 8) t) (iblk T m ρ c (1 : Fin 8) t) (iblk T m ρ c (2 : Fin 8) t) (iblk T m ρ c (3 : Fin 8) t) (iblk T m ρ c (4 : Fin 8) t) (iblk T m ρ c (5 : Fin 8) t) (iblk T m ρ c (6 : Fin 8) t) h (loads_computes T h) (computes_not_clears T (loads_computes T h))

/-- where it computes with the weights it kept, -/
def runB (c : Dev nD) (t : Fin (cfgA T).N) (p : State c) (h : ¬ Loads T (crd T t)) (h' : Computes T (crd T t)) :=
  kernelRun0_B c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (ms0_6 T t) (hs0_6 T t) (ms0_7 T t) (hs0_7 T t) T.be T.nu (iblk T m ρ c (0 : Fin 8) t) (iblk T m ρ c (1 : Fin 8) t) (iblk T m ρ c (2 : Fin 8) t) (iblk T m ρ c (3 : Fin 8) t) (iblk T m ρ c (4 : Fin 8) t) (iblk T m ρ c (5 : Fin 8) t) (iblk T m ρ c (6 : Fin 8) t) p.2.1 p.2.2.1 p.2.2.2 h h' (computes_not_clears T h')

/-- and past the used blocks. -/
def runC (c : Dev nD) (t : Fin (cfgA T).N) (p : State c) (h : ¬ Loads T (crd T t)) (h' : ¬ Computes T (crd T t)) :=
  kernelRun0_C c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (ms0_6 T t) (hs0_6 T t) (ms0_7 T t) (hs0_7 T t) T.be T.nu (iblk T m ρ c (0 : Fin 8) t) (iblk T m ρ c (1 : Fin 8) t) (iblk T m ρ c (2 : Fin 8) t) (iblk T m ρ c (3 : Fin 8) t) (iblk T m ρ c (4 : Fin 8) t) (iblk T m ρ c (5 : Fin 8) t) (iblk T m ρ c (6 : Fin 8) t) p.2.1 p.2.2.1 p.2.2.2 h h' (clears_of_not T h')

open Classical in
/-- One point: what the output block and the kept weights hold after it, from what they held before. -/
def step0 (c : Dev nD) (t : Fin (cfgA T).N) (p : State c) : State c :=
  if h : Loads T (crd T t) then
    (VO0_7.read (Elt Ideal) (VO0_7.writes (Elt Ideal) VO0_7.junk (runA T m ρ c t h).1), (runA T m ρ c t h).2.1, (runA T m ρ c t h).2.2.1, (runA T m ρ c t h).2.2.2.1)
  else if h' : Computes T (crd T t) then
    (VO0_7.read (Elt Ideal) (VO0_7.writes (Elt Ideal) VO0_7.junk (runB T m ρ c t p h h').1), (runB T m ρ c t p h h').2.1, (runB T m ρ c t p h h').2.2.1, (runB T m ρ c t p h h').2.2.2.1)
  else
    (VO0_7.read (Elt Ideal) (VO0_7.writes (Elt Ideal) VO0_7.junk (runC T m ρ c t p h h').1), (runC T m ρ c t p h h').2.1, (runC T m ρ c t p h h').2.2.1, (runC T m ρ c t p h h').2.2.2.1)

/-- After position `n`. -/
def traj0 (c : Dev nD) : (n : ℕ) → n < (cfgA T).N → State c
  | 0, h => step0 T m ρ c ⟨0, h⟩ (default, default, default, default)
  | n + 1, h => step0 T m ρ c ⟨n + 1, h⟩ (traj0 c n (Nat.lt_of_succ_lt h))

/-- Before position `t`, the end included. -/
def prev0 (c : Dev nD) (t : Fin ((cfgA T).N + 1)) : State c :=
  if h : t.val = 0 then (default, default, default, default) else traj0 T m ρ c (t.val - 1) (by have := t.isLt; omega)

theorem prev0_succ (c : Dev nD) (t : Fin (cfgA T).N) : prev0 T m ρ c t.succ = traj0 T m ρ c t.val t.isLt := by
  unfold prev0; simp only [Fin.val_succ, Nat.add_one_ne_zero, ↓reduceDIte, Nat.add_one_sub_one]

theorem traj0_eq (c : Dev nD) (t : Fin (cfgA T).N) : traj0 T m ρ c t.val t.isLt = step0 T m ρ c t (prev0 T m ρ c t.castSucc) := by
  obtain ⟨n, hn⟩ := t
  cases n with
  | zero => rfl
  | succ n => unfold prev0; simp only [Fin.val_castSucc, Nat.add_one_ne_zero, dif_neg, not_false_eq_true]; rfl

theorem step0_A (c : Dev nD) (t : Fin (cfgA T).N) (p : State c) (h : Loads T (crd T t)) :
    step0 T m ρ c t p = (VO0_7.read (Elt Ideal) (VO0_7.writes (Elt Ideal) VO0_7.junk (runA T m ρ c t h).1), (runA T m ρ c t h).2.1, (runA T m ρ c t h).2.2.1, (runA T m ρ c t h).2.2.2.1) := by
  unfold step0; simp only [dif_pos h]

theorem step0_B (c : Dev nD) (t : Fin (cfgA T).N) (p : State c) (h : ¬ Loads T (crd T t)) (h' : Computes T (crd T t)) :
    step0 T m ρ c t p = (VO0_7.read (Elt Ideal) (VO0_7.writes (Elt Ideal) VO0_7.junk (runB T m ρ c t p h h').1), (runB T m ρ c t p h h').2.1, (runB T m ρ c t p h h').2.2.1, (runB T m ρ c t p h h').2.2.2.1) := by
  unfold step0; simp only [dif_neg h, dif_pos h']

theorem step0_C (c : Dev nD) (t : Fin (cfgA T).N) (p : State c) (h : ¬ Loads T (crd T t)) (h' : ¬ Computes T (crd T t)) :
    step0 T m ρ c t p = (VO0_7.read (Elt Ideal) (VO0_7.writes (Elt Ideal) VO0_7.junk (runC T m ρ c t p h h').1), (runC T m ρ c t p h h').2.1, (runC T m ρ c t p h h').2.2.1, (runC T m ρ c t p h h').2.2.2.1) := by
  unfold step0; simp only [dif_neg h, dif_neg h']

/-- Before point `t`: each kept weight at what the points before left (anything before the first), and the body's halves of the tables. -/
def Phi (c : Dev nD) (t : Fin ((cfgA T).N + 1)) : sProp 𝕄 :=
  iprop((∃ a, ⌜t.val ≠ 0 → a = (prev0 T m ρ c t).2.1⌝ ∗ (scM0_0.view.loc (c : Thread nD τ) ↦{fullShare} a)) ∗ (∃ a, ⌜t.val ≠ 0 → a = (prev0 T m ρ c t).2.2.1⌝ ∗ (scM0_1.view.loc (c : Thread nD τ) ↦{fullShare} a)) ∗ (∃ a, ⌜t.val ≠ 0 → a = (prev0 T m ρ c t).2.2.2⌝ ∗ (scM0_2.view.loc (c : Thread nD τ) ↦{fullShare} a)) ∗ (tbM0_0.view.loc (c : Thread nD τ) ↦{fullShare.right} T.be) ∗ (tbM0_1.view.loc (c : Thread nD τ) ↦{fullShare.right} T.nu))

/-- The pipeline's data on core `c`. -/
def dats (_ : Fin 1) (c : Dev nD) : Dat τ (Elt Ideal) Unit ℕ (UR sig nD τ) ℕ (cfgA T) c where
  A w := (s₀ m ρ).mem (((cfgA T).win w).arr.view.loc (c : Thread nD τ))
  after w t := match w with
    | ⟨0, _⟩ => iblk T m ρ c (0 : Fin 8) t
    | ⟨1, _⟩ => iblk T m ρ c (1 : Fin 8) t
    | ⟨2, _⟩ => iblk T m ρ c (2 : Fin 8) t
    | ⟨3, _⟩ => iblk T m ρ c (3 : Fin 8) t
    | ⟨4, _⟩ => iblk T m ρ c (4 : Fin 8) t
    | ⟨5, _⟩ => iblk T m ρ c (5 : Fin 8) t
    | ⟨6, _⟩ => iblk T m ρ c (6 : Fin 8) t
    | ⟨7, _⟩ => (traj0 T m ρ c t.val t.isLt).1
  Φ t := Phi T m ρ c t
  q _ := fullShare
  owed _ := 0

theorem after0_0 (c : Dev nD) (t : Fin (cfgA T).N) : (dats T m ρ 0 c).after (0 : Fin 8) t = iblk T m ρ c (0 : Fin 8) t := rfl
theorem after0_1 (c : Dev nD) (t : Fin (cfgA T).N) : (dats T m ρ 0 c).after (1 : Fin 8) t = iblk T m ρ c (1 : Fin 8) t := rfl
theorem after0_2 (c : Dev nD) (t : Fin (cfgA T).N) : (dats T m ρ 0 c).after (2 : Fin 8) t = iblk T m ρ c (2 : Fin 8) t := rfl
theorem after0_3 (c : Dev nD) (t : Fin (cfgA T).N) : (dats T m ρ 0 c).after (3 : Fin 8) t = iblk T m ρ c (3 : Fin 8) t := rfl
theorem after0_4 (c : Dev nD) (t : Fin (cfgA T).N) : (dats T m ρ 0 c).after (4 : Fin 8) t = iblk T m ρ c (4 : Fin 8) t := rfl
theorem after0_5 (c : Dev nD) (t : Fin (cfgA T).N) : (dats T m ρ 0 c).after (5 : Fin 8) t = iblk T m ρ c (5 : Fin 8) t := rfl
theorem after0_6 (c : Dev nD) (t : Fin (cfgA T).N) : (dats T m ρ 0 c).after (6 : Fin 8) t = iblk T m ρ c (6 : Fin 8) t := rfl
theorem after0_7 (c : Dev nD) (t : Fin (cfgA T).N) : (dats T m ρ 0 c).after (7 : Fin 8) t = (traj0 T m ρ c t.val t.isLt).1 := rfl

/-- An input window holds its block when the body runs. -/
theorem before0_0 (c : Dev nD) (t : Fin (cfgA T).N) (d) : (dats T m ρ 0 c).before (0 : Fin 8) t d = iblk T m ρ c (0 : Fin 8) t :=
  ((dats T m ρ 0 c).before_in_eq_fetched (0 : Fin 8) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA T).N) (d) : (dats T m ρ 0 c).before (1 : Fin 8) t d = iblk T m ρ c (1 : Fin 8) t :=
  ((dats T m ρ 0 c).before_in_eq_fetched (1 : Fin 8) rfl (fun _ => rfl) (fun _ _ _ => rfl) (fun t => by rw [after0_1]; unfold Dat.blockOf iblk; rfl) t d).trans
    (by unfold Dat.fetched Dat.blockOf iblk; rfl)
theorem before0_2 (c : Dev nD) (t : Fin (cfgA T).N) (d) : (dats T m ρ 0 c).before (2 : Fin 8) t d = iblk T m ρ c (2 : Fin 8) t :=
  ((dats T m ρ 0 c).before_in_eq_fetched (2 : Fin 8) rfl (fun _ => rfl) (fun _ _ _ => rfl) (fun t => by rw [after0_2]; unfold Dat.blockOf iblk; rfl) t d).trans
    (by unfold Dat.fetched Dat.blockOf iblk; rfl)
theorem before0_3 (c : Dev nD) (t : Fin (cfgA T).N) (d) : (dats T m ρ 0 c).before (3 : Fin 8) t d = iblk T m ρ c (3 : Fin 8) t :=
  ((dats T m ρ 0 c).before_in_eq_fetched (3 : Fin 8) rfl (fun _ => rfl) (fun _ _ _ => rfl) (fun t => by rw [after0_3]; unfold Dat.blockOf iblk; rfl) t d).trans
    (by unfold Dat.fetched Dat.blockOf iblk; rfl)
theorem before0_4 (c : Dev nD) (t : Fin (cfgA T).N) (d) : (dats T m ρ 0 c).before (4 : Fin 8) t d = iblk T m ρ c (4 : Fin 8) t :=
  ((dats T m ρ 0 c).before_in_eq_fetched (4 : Fin 8) rfl (fun _ => rfl) (fun _ _ _ => rfl) (fun t => by rw [after0_4]; unfold Dat.blockOf iblk; rfl) t d).trans
    (by unfold Dat.fetched Dat.blockOf iblk; rfl)
theorem before0_5 (c : Dev nD) (t : Fin (cfgA T).N) (d) : (dats T m ρ 0 c).before (5 : Fin 8) t d = iblk T m ρ c (5 : Fin 8) t :=
  ((dats T m ρ 0 c).before_in_eq_fetched (5 : Fin 8) rfl (fun _ => rfl) (fun _ _ _ => rfl) (fun t => by rw [after0_5]; unfold Dat.blockOf iblk; rfl) t d).trans
    (by unfold Dat.fetched Dat.blockOf iblk; rfl)
theorem before0_6 (c : Dev nD) (t : Fin (cfgA T).N) (d) : (dats T m ρ 0 c).before (6 : Fin 8) t d = iblk T m ρ c (6 : Fin 8) t :=
  ((dats T m ρ 0 c).before_in_eq_fetched (6 : Fin 8) rfl (fun _ => rfl) (fun _ _ _ => rfl) (fun t => by rw [after0_6]; unfold Dat.blockOf iblk; rfl) t d).trans
    (by unfold Dat.fetched Dat.blockOf iblk; rfl)

/-- The output window holds nothing to read: it was just written back. -/
theorem before0_7 (c : Dev nD) (t : Fin (cfgA T).N) (d) : (dats T m ρ 0 c).before (7 : Fin 8) t d = d := by
  rw [(dats T m ρ 0 c).before_out_traj (7 : Fin 8) rfl (fun _ _ => rfl) (fun t _ hi _ => absurd hi (by rw [idle_out]; decide)) t.val t rfl d]
  rw [fresh_out]; rfl

/-- The body at point `t` on its staging buffers. -/
abbrev bodyAt0 (t : Fin (cfgA T).N) : Prog (TpuEff nD τ sig (Elt Ideal) Λ₀ .tc) PUnit :=
  cc0_experts (crd T t) (Memref.whole main_arg0) (Memref.isWhole_whole _) (Memref.whole main_arg1) (Memref.isWhole_whole _) (ms0_0 T t) (hs0_0 T t) (ms0_1 T t) (hs0_1 T t) (ms0_2 T t) (hs0_2 T t) (ms0_3 T t) (hs0_3 T t) (ms0_4 T t) (hs0_4 T t) (ms0_5 T t) (hs0_5 T t) (ms0_6 T t) (hs0_6 T t) (ms0_7 T t) (hs0_7 T t) (Memref.whole cc0_scratch0) (Memref.isWhole_whole _) (Memref.whole cc0_scratch1) (Memref.isWhole_whole _) (Memref.whole cc0_scratch2) (Memref.isWhole_whole _)

/-- What the body starts from at point `t`, -/
abbrev Before (c : Dev nD) (t : Fin (cfgA T).N) : sProp 𝕄 :=
    iprop((dats T m ρ 0 c).Φ t.castSucc ∗ (dats T m ρ 0 c).owesAt () t.castSucc
        ∗ (∃ d, owns (c : Thread nD τ) (ms0_0 T t) fullShare ((dats T m ρ 0 c).before (0 : Fin 8) t d))
        ∗ (∃ d, owns (c : Thread nD τ) (ms0_1 T t) fullShare ((dats T m ρ 0 c).before (1 : Fin 8) t d))
        ∗ (∃ d, owns (c : Thread nD τ) (ms0_2 T t) fullShare ((dats T m ρ 0 c).before (2 : Fin 8) t d))
        ∗ (∃ d, owns (c : Thread nD τ) (ms0_3 T t) fullShare ((dats T m ρ 0 c).before (3 : Fin 8) t d))
        ∗ (∃ d, owns (c : Thread nD τ) (ms0_4 T t) fullShare ((dats T m ρ 0 c).before (4 : Fin 8) t d))
        ∗ (∃ d, owns (c : Thread nD τ) (ms0_5 T t) fullShare ((dats T m ρ 0 c).before (5 : Fin 8) t d))
        ∗ (∃ d, owns (c : Thread nD τ) (ms0_6 T t) fullShare ((dats T m ρ 0 c).before (6 : Fin 8) t d))
        ∗ (∃ d, owns (c : Thread nD τ) (ms0_7 T t) fullShare ((dats T m ρ 0 c).before (7 : Fin 8) t d)))

/-- and what it leaves. -/
abbrev After (c : Dev nD) (t : Fin (cfgA T).N) : sProp 𝕄 :=
          iprop((dats T m ρ 0 c).Φ t.succ ∗ (dats T m ρ 0 c).owesAt () t.succ
            ∗ bigSep Finset.univ fun w : Fin (cfgA T).W =>
                match (cfgA T).idle w ((cfgA T).grid.coords t) with
                | true =>
                  match ((cfgA T).win w).flush t with
                  | false => iprop(∃ d, owns (c : Thread nD τ) (((cfgA T).win w).stage ((cfgA T).slots t w)) fullShare ((dats T m ρ 0 c).before w t d))
                  | true => owns (c : Thread nD τ) (((cfgA T).win w).stage ((cfgA T).slots t w)) fullShare ((dats T m ρ 0 c).after w t)
                | false => owns (c : Thread nD τ) (((cfgA T).win w).stage ((cfgA T).slots t w)) fullShare ((dats T m ρ 0 c).after w t))

set_option maxHeartbeats 4000000 in
/-- The body at a point that loads an expert's weights. -/
theorem sound_A (c : Dev nD) (t : Fin (cfgA T).N) (h : Loads T (crd T t)) :
    Before T m ρ c t ⊢ wp frame (wpE (defs₀ (F := Ideal)) Variants.none c none) Set.univ (bodyAt0 T t) fun _ => After T m ρ c t := by
  unfold Before After
  rw [bigSep_W0]
  have i7 := idle_out T (crd T t)
  have f7 := flush_out T t
  rewrite [i7]
  simp only [before0_0, before0_1, before0_2, before0_3, before0_4, before0_5, before0_6, before0_7, after0_0, after0_1, after0_2, after0_3, after0_4, after0_5, after0_6, after0_7, f7]
  rewrite [show (dats T m ρ 0 c).Φ t.succ = Phi T m ρ c t.succ from rfl, show (dats T m ρ 0 c).Φ t.castSucc = Phi T m ρ c t.castSucc from rfl,
    show (dats T m ρ 0 c).owesAt () t.succ = (dats T m ρ 0 c).owesAt () t.castSucc from rfl]
  unfold Phi; simp only [prev0_succ, traj0_eq, step0_A T m ρ c t _ h]
  iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runA T m ρ c t h).2.2.2.2 a0 a1 a2 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [HT0]; · iexact HT0
  isplitl [HT1]; · iexact HT1
  isplitl [H7]; · iexists _; iexact H7
  isplitl [HS0]; · iexact HS0
  isplitl [HS1]; · iexact HS1
  isplitl [HS2]; · iexact HS2
  iintro ⟨H0, H1, H2, H3, H4, H5, H6, HT0, HT1, ⟨%e7, H7⟩, HS0, HS1, HS2⟩
  isplitl [HS0 HS1 HS2 HT0 HT1]
  · isplitl [HS0]
    · iexists _; isplitr; swap
      · iexact HS0
      · ipureintro; intro _; rfl
    isplitl [HS1]
    · iexists _; isplitr; swap
      · iexact HS1
      · ipureintro; intro _; rfl
    isplitl [HS2]
    · iexists _; isplitr; swap
      · iexact HS2
      · ipureintro; intro _; rfl
    isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  isplitl [H4]
  · iapply owns_of_rep; iexact H4
  isplitl [H5]
  · iapply owns_of_rep; iexact H5
  isplitl [H6]
  · iapply owns_of_rep; iexact H6
  unfold owns; iexists _; isplitr; swap
  · iexact H7
  · ipureintro; exact View.read_writes_of_cover _ _ _ _ _ (cover0_A_7 c _ _ _ _ _ _ _ _ _ _ _ _ _ _ _ _ _ _ _ _ _ _ _ _ _ _ _ _ _)

set_option maxHeartbeats 4000000 in
/-- The body at a point that reuses the kept weights. -/
theorem sound_B (c : Dev nD) (t : Fin (cfgA T).N) (h : ¬ Loads T (crd T t)) (h' : Computes T (crd T t)) :
    Before T m ρ c t ⊢ wp frame (wpE (defs₀ (F := Ideal)) Variants.none c none) Set.univ (bodyAt0 T t) fun _ => After T m ρ c t := by
  unfold Before After
  rw [bigSep_W0]
  have i7 := idle_out T (crd T t)
  have f7 := flush_out T t
  rewrite [i7]
  simp only [before0_0, before0_1, before0_2, before0_3, before0_4, before0_5, before0_6, before0_7, after0_0, after0_1, after0_2, after0_3, after0_4, after0_5, after0_6, after0_7, f7]
  rewrite [show (dats T m ρ 0 c).Φ t.succ = Phi T m ρ c t.succ from rfl, show (dats T m ρ 0 c).Φ t.castSucc = Phi T m ρ c t.castSucc from rfl,
    show (dats T m ρ 0 c).owesAt () t.succ = (dats T m ρ 0 c).owesAt () t.castSucc from rfl]
  unfold Phi; simp only [prev0_succ, traj0_eq, step0_B T m ρ c t _ h h']
  have ht : t.castSucc.val ≠ 0 := fun h0 => h (loads_zero T t h0)
  simp only [exists_held ht]
  iintro ⟨⟨HS0, HS1, HS2, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runB T m ρ c t (prev0 T m ρ c t.castSucc) h h').2.2.2.2 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [HT0]; · iexact HT0
  isplitl [HT1]; · iexact HT1
  isplitl [H7]; · iexists _; iexact H7
  isplitl [HS0]; · iexact HS0
  isplitl [HS1]; · iexact HS1
  isplitl [HS2]; · iexact HS2
  iintro ⟨H0, H1, H2, H3, H4, H5, H6, HT0, HT1, ⟨%e7, H7⟩, HS0, HS1, HS2⟩
  isplitl [HS0 HS1 HS2 HT0 HT1]
  · isplitl [HS0]
    · iexists _; isplitr; swap
      · iexact HS0
      · ipureintro; intro _; rfl
    isplitl [HS1]
    · iexists _; isplitr; swap
      · iexact HS1
      · ipureintro; intro _; rfl
    isplitl [HS2]
    · iexists _; isplitr; swap
      · iexact HS2
      · ipureintro; intro _; rfl
    isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  isplitl [H4]
  · iapply owns_of_rep; iexact H4
  isplitl [H5]
  · iapply owns_of_rep; iexact H5
  isplitl [H6]
  · iapply owns_of_rep; iexact H6
  unfold owns; iexists _; isplitr; swap
  · iexact H7
  · ipureintro; exact View.read_writes_of_cover _ _ _ _ _ (cover0_B_7 c _ _ _ _ _ _ _ _ _ _ _ _ _ _ _ _ _ _ _ _ _ _ _ _ _ _ _ _ _ _ _ _)

set_option maxHeartbeats 4000000 in
/-- The body past the used blocks. -/
theorem sound_C (c : Dev nD) (t : Fin (cfgA T).N) (h : ¬ Loads T (crd T t)) (h' : ¬ Computes T (crd T t)) :
    Before T m ρ c t ⊢ wp frame (wpE (defs₀ (F := Ideal)) Variants.none c none) Set.univ (bodyAt0 T t) fun _ => After T m ρ c t := by
  unfold Before After
  rw [bigSep_W0]
  have i7 := idle_out T (crd T t)
  have f7 := flush_out T t
  rewrite [i7]
  simp only [before0_0, before0_1, before0_2, before0_3, before0_4, before0_5, before0_6, before0_7, after0_0, after0_1, after0_2, after0_3, after0_4, after0_5, after0_6, after0_7, f7]
  rewrite [show (dats T m ρ 0 c).Φ t.succ = Phi T m ρ c t.succ from rfl, show (dats T m ρ 0 c).Φ t.castSucc = Phi T m ρ c t.castSucc from rfl,
    show (dats T m ρ 0 c).owesAt () t.succ = (dats T m ρ 0 c).owesAt () t.castSucc from rfl]
  unfold Phi; simp only [prev0_succ, traj0_eq, step0_C T m ρ c t _ h h']
  have ht : t.castSucc.val ≠ 0 := fun h0 => h (loads_zero T t h0)
  simp only [exists_held ht]
  iintro ⟨⟨HS0, HS1, HS2, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runC T m ρ c t (prev0 T m ρ c t.castSucc) h h').2.2.2.2 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [HT0]; · iexact HT0
  isplitl [HT1]; · iexact HT1
  isplitl [H7]; · iexists _; iexact H7
  isplitl [HS0]; · iexact HS0
  isplitl [HS1]; · iexact HS1
  isplitl [HS2]; · iexact HS2
  iintro ⟨H0, H1, H2, H3, H4, H5, H6, HT0, HT1, ⟨%e7, H7⟩, HS0, HS1, HS2⟩
  isplitl [HS0 HS1 HS2 HT0 HT1]
  · isplitl [HS0]
    · iexists _; isplitr; swap
      · iexact HS0
      · ipureintro; intro _; rfl
    isplitl [HS1]
    · iexists _; isplitr; swap
      · iexact HS1
      · ipureintro; intro _; rfl
    isplitl [HS2]
    · iexists _; isplitr; swap
      · iexact HS2
      · ipureintro; intro _; rfl
    isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  isplitl [H4]
  · iapply owns_of_rep; iexact H4
  isplitl [H5]
  · iapply owns_of_rep; iexact H5
  isplitl [H6]
  · iapply owns_of_rep; iexact H6
  unfold owns; iexists _; isplitr; swap
  · iexact H7
  · ipureintro; exact View.read_writes_of_cover _ _ _ _ _ (cover0_C_7 c _ _ _ _ _ _ _ _ _ _ _ _ _ _ _ _ _ _ _ _ _ _ _ _ _ _ _ _ _ _ _ _)

/-- The body, at every point. -/
theorem body_obligation (c : Dev nD) : BodyObligation (dats T m ρ 0 c) (defs₀ (F := Ideal)) Variants.none () Set.univ := fun t => by
  rw [bigSep_W0]
  by_cases h : Loads T (crd T t)
  · exact sound_A T m ρ c t h
  · by_cases h' : Computes T (crd T t)
    · exact sound_B T m ρ c t h h'
    · exact sound_C T m ρ c t h h'

/-- The launch memory's tables are `T`. -/
abbrev Holds : Prop := (∀ c : Dev nD, m ((c : Thread nD τ).loc main_arg0) = T.be) ∧ ∀ c : Dev nD, m ((c : Thread nD τ).loc main_arg1) = T.nu

/-- What the launch starts with. -/
def u₀ : UR sig nD τ :=
  initOf (Pipeline.cells (pcs T) ((launch0 (F := Ideal)).cellOf_inj fun _ => adm T))
    (Pipeline.launchToks (pcs T) ((launch0 (F := Ideal)).cellOf_inj fun _ => adm T))

/-- Every window holds its array whole. -/
theorem share_eq (c : Dev nD) (w : Fin (cfgA T).W) : (dats T m ρ 0 c).share w = fullShare := by unfold Dat.share; split <;> rfl

/-- The tables one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The first point starts from the tables and the scratch buffers, -/
theorem phi0_intro (c : Dev nD) :
    iprop(BI.emp ∗ Pipeline.prefHeld pre0 c (fun _ => fullShare.right) (adm T).1 ∗ Pipeline.scopedRest spec0 c) ⊢ (dats T m ρ 0 c).Φ 0 := by
  rw [prefHeld_eq, scopedRest0_eq, show (dats T m ρ 0 c).Φ 0 = Phi T m ρ c 0 from rfl]
  unfold Phi
  iintro ⟨-, ⟨HT0, HT1⟩, ⟨%a0, HS0⟩, ⟨%a1, HS1⟩, ⟨%a2, HS2⟩⟩
  isplitl [HS0]
  · iexists a0; isplitr; swap
    · iexact HS0
    · ipureintro; intro h; exact absurd rfl h
  isplitl [HS1]
  · iexists a1; isplitr; swap
    · iexact HS1
    · ipureintro; intro h; exact absurd rfl h
  isplitl [HS2]
  · iexists a2; isplitr; swap
    · iexact HS2
    · ipureintro; intro h; exact absurd rfl h
  isplitl [HT0]
  · iexact HT0
  iexact HT1

/-- and the last gives the scratch buffers back. -/
theorem phiN_exit (c : Dev nD) : (dats T m ρ 0 c).Φ (Fin.last (cfgA T).N) ⊢ iprop(BI.emp ∗ Pipeline.scopedRest spec0 c) := by
  rw [scopedRest0_eq, show (dats T m ρ 0 c).Φ (Fin.last (cfgA T).N) = Phi T m ρ c (Fin.last _) from rfl]
  unfold Phi
  iintro ⟨⟨%a0, -, HS0⟩, ⟨%a1, -, HS1⟩, ⟨%a2, -, HS2⟩, -, -⟩
  isplitr; · iempintro
  isplitl [HS0]
  · iexists a0; iexact HS0
  isplitl [HS1]
  · iexists a1; iexact HS1
  iexists a2; iexact HS2

/-- At the end every array is as the pipeline computes it, and the tables are unchanged. -/
def QC : PUnit × MemSt nD τ sig (Elt Ideal) → Prop := fun r =>
  ∀ c : Dev nD, (∀ w : Fin (cfgA T).W, r.2.mem (((cfgA T).win w).arr.view.loc (c : Thread nD τ)) = (dats T m ρ 0 c).arrAt w (cfgA T).N)
    ∧ ∀ j, r.2.mem ((c : Thread nD τ).loc (pre0.ref j)) = (adm T).1 j

/-- The tables at launch. -/
theorem V_pre (hp : Holds T m) (c : Dev nD) (j : Fin 2) : m ((c : Thread nD τ).loc (pre0.ref j)) = (adm T).1 j := by
  fin_cases j
  · exact hp.1 c
  · exact hp.2 c

set_option backward.isDefEq.respectTransparency.types false in
set_option maxHeartbeats 4000000 in
theorem run_main_quiescent (hp : Holds T m) : θ_run (defs (F := Ideal)) (onTc (τ := τ) (main (F := Ideal))) (s₀ m ρ) (fun r => QC T m ρ r ∧ r.2.sem = fun _ => 0) :=
  Pipeline.θ_run_region_noSem_pf_quiescent pcfgs (fun _ => adm T) (dats T m ρ) () ((launch0 (F := Ideal)).cellOf_inj fun _ => adm T) (0 : Fin 1)
    (launch0 (F := Ideal)).win.to₀ (launch0 (F := Ideal)).pre EP defs₀ Variants.none m ρ main
    (hbody := fun c => (body_obligation T m ρ c).loose) (hne := (launch0 (F := Ideal)).block_pos)
    (harr := (launch0 (F := Ideal)).arr_whole) (hstage := (launch0 (F := Ideal)).stage_whole) (howed := fun _ _ => rfl)
    (u₀ := u₀ T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T) (dats T m ρ) 0 (launch0 (F := Ideal)).win.arr_inj c (launch0 (F := Ideal)).arr_whole
      (share_eq T m ρ c) _ _ fun _ => rfl)
    (hpf := V_pre T m hp)
    (X := fun _ => iprop(emp)) (Y := fun _ => iprop(emp)) (Z := fun _ => iprop(emp))
    (hX := fun c => by rw [unscopedRestP0_eq]; iintro -; isplitr <;> iempintro)
    (hin := phi0_intro T m ρ)
    (hout := phiN_exit T m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The whole program ends so. -/
theorem run_main (hp : Holds T m) : θ_run (defs (F := Ideal)) (onTc (τ := τ) (main (F := Ideal))) (s₀ m ρ) (QC T m ρ) :=
  (θ_run defs _ _).mono (fun _ h => h.1) (run_main_quiescent T m ρ hp)

/-- The arguments end unchanged. -/
theorem unchanged (hp : Holds T m) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 0).trans (hp.1 c).symm, ((h c).2 1).trans (hp.2 c).symm, ((h c).1 (0 : Fin 8)).trans ((dats T m ρ 0 c).arrAt_in (0 : Fin 8) rfl _), ((h c).1 (1 : Fin 8)).trans ((dats T m ρ 0 c).arrAt_in (1 : Fin 8) rfl _), ((h c).1 (2 : Fin 8)).trans ((dats T m ρ 0 c).arrAt_in (2 : Fin 8) rfl _), ((h c).1 (3 : Fin 8)).trans ((dats T m ρ 0 c).arrAt_in (3 : Fin 8) rfl _), ((h c).1 (4 : Fin 8)).trans ((dats T m ρ 0 c).arrAt_in (4 : Fin 8) rfl _), ((h c).1 (5 : Fin 8)).trans ((dats T m ρ 0 c).arrAt_in (5 : Fin 8) rfl _), ((h c).1 (6 : Fin 8)).trans ((dats T m ρ 0 c).arrAt_in (6 : Fin 8) rfl _)⟩) (run_main T m ρ hp)

/-- The arguments end unchanged and every counter is zero. -/
theorem frame (hp : Holds T m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged T m ρ hp) ((θ_run defs _ _).mono (fun _ h => h.2) (run_main_quiescent T m ρ hp))

end Cert.ExpertsKernelIdeal.Run

end
-- ==== Proof.Experts.Ideal.Body.lean ====
/- What the experts body leaves at each point: the output block and the kept weights, from the blocks it reads. -/
module

public import proofs.«01_k».proof.Proof.Experts.Ideal.Frame
public import Idealize.ShloMosaic.Lib.Pipeline.ValueKit

@[expose] public section

set_option maxRecDepth 16384
noncomputable section

namespace Cert.ExpertsKernelIdeal.Run

open Cert.Experts Cert.ExpertsKernelIdeal Cert.ExpertsKernelIdeal.Gen Idealize.ShloMosaic Idealize.ShloMosaic.TcCoe Idealize.SL.Sem Idealize.ShloMosaic.Tactic

theorem hz2 : (![0, 0] : Fin 2 → Nat) = fun _ => 0 := funext fun a => by fin_cases a <;> rfl
theorem hz3 : (![0, 0, 0] : Fin 3 → Nat) = fun _ => 0 := funext fun a => by fin_cases a <;> rfl

/-- A load through the whole rectangle of a buffer that stores `x` reads `x`. -/
theorem readAt_rep {sig : RefSig} {κ : Kind} {sp : Space} {S : Shape} {e : EltTy} (v : View sig κ sp S e) {off : Fin S.rank → Nat}
    (h : off = fun _ => 0) (inb : ∀ a, off a + S.size a ≤ S.size a) (x : S.Idx → Elt Ideal e) :
    v.readAt (Elt Ideal) (Rect.unit off S.size inb).toLoadRect (v.rep x) = x := by
  rw [View.readAt_eq_ld, View.read_rep, View.ld_unit_zero h]

/-- A load through the whole rectangle of a whole buffer reads its contents. -/
theorem readAt_whole {sig : RefSig} {κ : Kind} (b : Ref sig κ) {off : Fin b.ty.shape.rank → Nat}
    (h : off = fun _ => 0) (inb : ∀ a, off a + b.ty.shape.size a ≤ b.ty.shape.size a) (f : b.ty.Contents (Elt Ideal)) :
    (View.whole b).readAt (Elt Ideal) (Rect.unit off b.ty.shape.size inb).toLoadRect f = f := by
  rw [View.readAt_eq_ld, View.read_whole, View.ld_unit_zero h]

/-- One store through the whole rectangle of a whole buffer leaves its payload. -/
theorem writes_whole {sig : RefSig} {κ : Kind} (b : Ref sig κ) {off : Fin b.ty.shape.rank → Nat}
    (h : off = fun _ => 0) (inb : ∀ a, off a + b.ty.shape.size a ≤ b.ty.shape.size a) (f : b.ty.Contents (Elt Ideal)) (w : b.ty.shape.Idx → Elt Ideal b.ty.elt) :
    (View.whole b).writes (Elt Ideal) f [⟨Rect.unit off b.ty.shape.size inb, w⟩] = w := by
  have e := View.read_writes_eq_canon (View.whole b) f [(⟨Rect.unit off b.ty.shape.size inb, w⟩ : View.Piece (Elt Ideal) _ _)]
    (fun y => ⟨_, List.mem_singleton_self _, View.mem_set_unit_zero h inb y⟩)
  rw [View.canon_unit_zero h] at e
  exact e

variable (T : Tables) (c : Dev nD) (t : Fin (cfgA T).N)
  (x0 : Vec Ideal S256x1024 .f32) (x1 : Vec Ideal S1x1024x1024 .f32) (x2 : Vec Ideal S1x1x1024 .f32) (x3 : Vec Ideal S1x1024x1024 .f32)
  (x4 : Vec Ideal S1x1x1024 .f32) (x5 : Vec Ideal S1x1024x1024 .f32) (x6 : Vec Ideal S1x1x1024 .f32)
  (a0 a1 a2 : Vec Ideal S1024x1024 .bf16)

set_option backward.isDefEq.respectTransparency false in
theorem outA (h : Loads T (crd T t)) (h' : Computes T (crd T t)) (h'' : ¬ Clears T (crd T t)) :
    VO0_7.read (Elt Ideal) (VO0_7.writes (Elt Ideal) VO0_7.junk (kernelRun0_A c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (ms0_6 T t) (hs0_6 T t) (ms0_7 T t) (hs0_7 T t) T.be T.nu x0 x1 x2 x3 x4 x5 x6 h h' h'').1) = k0_pay4 (F := Ideal) (k0_pay6 x0 (k0_pay1 x1) x2 (k0_pay2 x3) x4 (k0_pay3 x5)) x6 := by
  rw [View.read_writes_eq_canon _ _ _ (cover0_A_7 c _ _ _ _ _ _ _ _ _ _ _ _ _ _ _ _ _ _ _ _ _ _ _ _ _ _ _ _ _)]
  unfold kernelRun0_A
  dsimp only
  sl_unfold_words
  rw [View.canon_unit_zero (S := S256x1024) hz2]
  have e0 := readAt_rep (ms0_0 T t).view hz2 inb_S256x1024_S256x1024_0_0 x0
  have e1 := readAt_rep (ms0_1 T t).view hz3 inb_S1x1024x1024_S1x1024x1024_0_0_0 x1
  have e2 := readAt_rep (ms0_2 T t).view hz3 inb_S1x1x1024_S1x1x1024_0_0_0 x2
  have e3 := readAt_rep (ms0_3 T t).view hz3 inb_S1x1024x1024_S1x1024x1024_0_0_0 x3
  have e4 := readAt_rep (ms0_4 T t).view hz3 inb_S1x1x1024_S1x1x1024_0_0_0 x4
  have e5 := readAt_rep (ms0_5 T t).view hz3 inb_S1x1024x1024_S1x1024x1024_0_0_0 x5
  have e6 := readAt_rep (ms0_6 T t).view hz3 inb_S1x1x1024_S1x1x1024_0_0_0 x6
  simp only [e0, e1, e2, e3, e4, e5, e6, View.readCov_unit_zero (S := S1024x1024) _ hz2]

set_option backward.isDefEq.respectTransparency false in
theorem keepA0 (h : Loads T (crd T t)) (h' : Computes T (crd T t)) (h'' : ¬ Clears T (crd T t)) : (kernelRun0_A c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (ms0_6 T t) (hs0_6 T t) (ms0_7 T t) (hs0_7 T t) T.be T.nu x0 x1 x2 x3 x4 x5 x6 h h' h'').2.1 = k0_pay1 (F := Ideal) x1 := by
  unfold kernelRun0_A
  dsimp only
  sl_unfold_words
  refine (writes_whole cc0_scratch0 hz2 inb_S1024x1024_S1024x1024_0_0 _ _).trans ?_
  exact congrArg k0_pay1 (readAt_rep (ms0_1 T t).view hz3 inb_S1x1024x1024_S1x1024x1024_0_0_0 x1)

set_option backward.isDefEq.respectTransparency false in
theorem keepA1 (h : Loads T (crd T t)) (h' : Computes T (crd T t)) (h'' : ¬ Clears T (crd T t)) : (kernelRun0_A c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (ms0_6 T t) (hs0_6 T t) (ms0_7 T t) (hs0_7 T t) T.be T.nu x0 x1 x2 x3 x4 x5 x6 h h' h'').2.2.1 = k0_pay2 (F := Ideal) x3 := by
  unfold kernelRun0_A
  dsimp only
  sl_unfold_words
  refine (writes_whole cc0_scratch1 hz2 inb_S1024x1024_S1024x1024_0_0 _ _).trans ?_
  exact congrArg k0_pay2 (readAt_rep (ms0_3 T t).view hz3 inb_S1x1024x1024_S1x1024x1024_0_0_0 x3)

set_option backward.isDefEq.respectTransparency false in
theorem keepA2 (h : Loads T (crd T t)) (h' : Computes T (crd T t)) (h'' : ¬ Clears T (crd T t)) : (kernelRun0_A c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (ms0_6 T t) (hs0_6 T t) (ms0_7 T t) (hs0_7 T t) T.be T.nu x0 x1 x2 x3 x4 x5 x6 h h' h'').2.2.2.1 = k0_pay3 (F := Ideal) x5 := by
  unfold kernelRun0_A
  dsimp only
  sl_unfold_words
  refine (writes_whole cc0_scratch2 hz2 inb_S1024x1024_S1024x1024_0_0 _ _).trans ?_
  exact congrArg k0_pay3 (readAt_rep (ms0_5 T t).view hz3 inb_S1x1024x1024_S1x1024x1024_0_0_0 x5)

set_option backward.isDefEq.respectTransparency false in
theorem outB (h : ¬ Loads T (crd T t)) (h' : Computes T (crd T t)) (h'' : ¬ Clears T (crd T t)) :
    VO0_7.read (Elt Ideal) (VO0_7.writes (Elt Ideal) VO0_7.junk (kernelRun0_B c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (ms0_6 T t) (hs0_6 T t) (ms0_7 T t) (hs0_7 T t) T.be T.nu x0 x1 x2 x3 x4 x5 x6 a0 a1 a2 h h' h'').1) = k0_pay4 (F := Ideal) (k0_pay6 x0 a0 x2 a1 x4 a2) x6 := by
  rw [View.read_writes_eq_canon _ _ _ (cover0_B_7 c _ _ _ _ _ _ _ _ _ _ _ _ _ _ _ _ _ _ _ _ _ _ _ _ _ _ _ _ _ _ _ _)]
  unfold kernelRun0_B
  dsimp only
  sl_unfold_words
  rw [View.canon_unit_zero (S := S256x1024) hz2]
  have e0 := readAt_rep (ms0_0 T t).view hz2 inb_S256x1024_S256x1024_0_0 x0
  have e1 := readAt_rep (ms0_1 T t).view hz3 inb_S1x1024x1024_S1x1024x1024_0_0_0 x1
  have e2 := readAt_rep (ms0_2 T t).view hz3 inb_S1x1x1024_S1x1x1024_0_0_0 x2
  have e3 := readAt_rep (ms0_3 T t).view hz3 inb_S1x1024x1024_S1x1024x1024_0_0_0 x3
  have e4 := readAt_rep (ms0_4 T t).view hz3 inb_S1x1x1024_S1x1x1024_0_0_0 x4
  have e5 := readAt_rep (ms0_5 T t).view hz3 inb_S1x1024x1024_S1x1024x1024_0_0_0 x5
  have e6 := readAt_rep (ms0_6 T t).view hz3 inb_S1x1x1024_S1x1x1024_0_0_0 x6
  have w0 : View.readAt (Elt Ideal) (View.whole cc0_scratch0) (Rect.unit (s := S1024x1024) ![0, 0] ![1024, 1024] inb_S1024x1024_S1024x1024_0_0).toLoadRect a0 = a0 := readAt_whole cc0_scratch0 hz2 inb_S1024x1024_S1024x1024_0_0 a0
  have w1 : View.readAt (Elt Ideal) (View.whole cc0_scratch1) (Rect.unit (s := S1024x1024) ![0, 0] ![1024, 1024] inb_S1024x1024_S1024x1024_0_0).toLoadRect a1 = a1 := readAt_whole cc0_scratch1 hz2 inb_S1024x1024_S1024x1024_0_0 a1
  have w2 : View.readAt (Elt Ideal) (View.whole cc0_scratch2) (Rect.unit (s := S1024x1024) ![0, 0] ![1024, 1024] inb_S1024x1024_S1024x1024_0_0).toLoadRect a2 = a2 := readAt_whole cc0_scratch2 hz2 inb_S1024x1024_S1024x1024_0_0 a2
  simp only [e0, e1, e2, e3, e4, e5, e6, w0, w1, w2, View.readCov_unit_zero (S := S1024x1024) _ hz2]

theorem keepB0 (h : ¬ Loads T (crd T t)) (h' : Computes T (crd T t)) (h'' : ¬ Clears T (crd T t)) : (kernelRun0_B c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (ms0_6 T t) (hs0_6 T t) (ms0_7 T t) (hs0_7 T t) T.be T.nu x0 x1 x2 x3 x4 x5 x6 a0 a1 a2 h h' h'').2.1 = a0 := by
  unfold kernelRun0_B; rfl

theorem keepB1 (h : ¬ Loads T (crd T t)) (h' : Computes T (crd T t)) (h'' : ¬ Clears T (crd T t)) : (kernelRun0_B c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (ms0_6 T t) (hs0_6 T t) (ms0_7 T t) (hs0_7 T t) T.be T.nu x0 x1 x2 x3 x4 x5 x6 a0 a1 a2 h h' h'').2.2.1 = a1 := by
  unfold kernelRun0_B; rfl

theorem keepB2 (h : ¬ Loads T (crd T t)) (h' : Computes T (crd T t)) (h'' : ¬ Clears T (crd T t)) : (kernelRun0_B c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (ms0_6 T t) (hs0_6 T t) (ms0_7 T t) (hs0_7 T t) T.be T.nu x0 x1 x2 x3 x4 x5 x6 a0 a1 a2 h h' h'').2.2.2.1 = a2 := by
  unfold kernelRun0_B; rfl

set_option backward.isDefEq.respectTransparency false in
theorem outC (h : ¬ Loads T (crd T t)) (h' : ¬ Computes T (crd T t)) (h'' : Clears T (crd T t)) :
    VO0_7.read (Elt Ideal) (VO0_7.writes (Elt Ideal) VO0_7.junk (kernelRun0_C c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (ms0_6 T t) (hs0_6 T t) (ms0_7 T t) (hs0_7 T t) T.be T.nu x0 x1 x2 x3 x4 x5 x6 a0 a1 a2 h h' h'').1) = k0_pay5 (F := Ideal) := by
  rw [View.read_writes_eq_canon _ _ _ (cover0_C_7 c _ _ _ _ _ _ _ _ _ _ _ _ _ _ _ _ _ _ _ _ _ _ _ _ _ _ _ _ _ _ _ _)]
  unfold kernelRun0_C
  dsimp only
  sl_unfold_words
  rw [View.canon_unit_zero (S := S256x1024) hz2]

theorem keepC0 (h : ¬ Loads T (crd T t)) (h' : ¬ Computes T (crd T t)) (h'' : Clears T (crd T t)) : (kernelRun0_C c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (ms0_6 T t) (hs0_6 T t) (ms0_7 T t) (hs0_7 T t) T.be T.nu x0 x1 x2 x3 x4 x5 x6 a0 a1 a2 h h' h'').2.1 = a0 := by
  unfold kernelRun0_C; rfl

theorem keepC1 (h : ¬ Loads T (crd T t)) (h' : ¬ Computes T (crd T t)) (h'' : Clears T (crd T t)) : (kernelRun0_C c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (ms0_6 T t) (hs0_6 T t) (ms0_7 T t) (hs0_7 T t) T.be T.nu x0 x1 x2 x3 x4 x5 x6 a0 a1 a2 h h' h'').2.2.1 = a1 := by
  unfold kernelRun0_C; rfl

theorem keepC2 (h : ¬ Loads T (crd T t)) (h' : ¬ Computes T (crd T t)) (h'' : Clears T (crd T t)) : (kernelRun0_C c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (ms0_6 T t) (hs0_6 T t) (ms0_7 T t) (hs0_7 T t) T.be T.nu x0 x1 x2 x3 x4 x5 x6 a0 a1 a2 h h' h'').2.2.2.1 = a2 := by
  unfold kernelRun0_C; rfl

end Cert.ExpertsKernelIdeal.Run

end
-- ==== Proof.Experts.Value.lean ====
/- The experts in closed form: one row's output of one expert, and the whole padded result, over the extended reals. -/
module

public import proofs.«01_k».proof.Proof.Experts.Tables
public import proofs.«01_k».proof.Proof.Gen.ExpertsKernelIdeal.Skeleton
public import Idealize.ShloMosaic.Lib.Pointwise

@[expose] public section

noncomputable section

namespace Cert.Experts

open Cert.ExpertsKernelIdeal Cert.ExpertsKernelIdeal.Gen Idealize.ShloMosaic Idealize.ShloMosaic.TcCoe Idealize.SL.Sem Idealize.ShloMosaic.Tactic

/-- One hidden unit: the gate's and the linear path's sums `g` and `u`, clamped, and gated by the sigmoid. -/
def unit (g u : EReal) : EReal :=
  min g (Ideal.ofBits .f32 0x40E00000#32)
    * Ideal.div (Ideal.ofBits .f32 0x3F800000#32) (Ideal.ofBits .f32 0x3F800000#32 + Ideal.exp (Ideal.ofBits .f32 0xBFD9DB23#32 * min g (Ideal.ofBits .f32 0x40E00000#32)))
    * (min (Ideal.ofBits .f32 0x40E00000#32) (max (Ideal.ofBits .f32 0xC0E00000#32) u) + Ideal.ofBits .f32 0x3F800000#32)

/-- One row `x` through one expert's weights, at output column `d`. -/
def row (x : Fin 1024 → EReal) (wg wu wd : Fin 1024 → Fin 1024 → EReal) (bg bu bd : Fin 1024 → EReal) (d : Fin 1024) : EReal :=
  (∑ j : Fin 1024, unit ((∑ k : Fin 1024, x k * wg k j) + bg j) ((∑ k : Fin 1024, x k * wu k j) + bu j) * wd j d) + bd d

/-- The whole padded result: block `n`'s rows go through its expert while it is in use, and are zero after. -/
def expertsOut (T : Tables) (xs : Vec Ideal S73728x1024 .f32) (wg : Vec Ideal S32x1024x1024 .f32) (bg : Vec Ideal S32x1x1024 .f32)
    (wu : Vec Ideal S32x1024x1024 .f32) (bu : Vec Ideal S32x1x1024 .f32) (wd : Vec Ideal S32x1024x1024 .f32) (bd : Vec Ideal S32x1x1024 .f32) :
    Vec Ideal S73728x1024 .f32 := fun i =>
  if T.active ((i 0).val / 256) then
    let e := T.expert ((i 0).val / 256) (by have : (i 0).val < 73728 := (i 0).isLt; omega)
    row (fun k => xs (ix2 (i 0) k)) (fun k j => wg (ix3 e k j)) (fun k j => wu (ix3 e k j)) (fun j d => wd (ix3 e j d))
      (fun j => bg (ix3 e 0 j)) (fun j => bu (ix3 e 0 j)) (fun d => bd (ix3 e 0 d)) (i 1)
  else Ideal.ofBits .f32 0x00000000#32

theorem pay1_apply (w : Vec Ideal S1x1024x1024 .f32) (k j : Fin 1024) : k0_pay1 (F := Ideal) w (ix2 k j) = w (ix3 0 k j) := by
  pointwise [k0_pay1]

theorem pay2_apply (w : Vec Ideal S1x1024x1024 .f32) (k j : Fin 1024) : k0_pay2 (F := Ideal) w (ix2 k j) = w (ix3 0 k j) := by
  pointwise [k0_pay2]

theorem pay3_apply (w : Vec Ideal S1x1024x1024 .f32) (k j : Fin 1024) : k0_pay3 (F := Ideal) w (ix2 k j) = w (ix3 0 k j) := by
  pointwise [k0_pay3]

theorem pay5_apply (i : S256x1024.Idx) : k0_pay5 (F := Ideal) i = Ideal.ofBits .f32 0x00000000#32 := rfl

theorem pay4_apply (y : FVec Ideal S256x1024 .f32) (b : Vec Ideal S1x1x1024 .f32) (r : Fin 256) (d : Fin 1024) :
    k0_pay4 (F := Ideal) y b (ix2 r d) = y (ix2 r d) + b (ix3 0 0 d) := by
  pointwise [k0_pay4]

theorem pay6_apply (x : Vec Ideal S256x1024 .f32) (wg wu wd : Vec Ideal S1024x1024 .bf16) (bg bu : Vec Ideal S1x1x1024 .f32) (r : Fin 256) (d : Fin 1024) :
    k0_pay6 (F := Ideal) x wg bg wu bu wd (ix2 r d)
      = ∑ j : Fin 1024, unit ((∑ k : Fin 1024, (x (ix2 r k) : EReal) * wg (ix2 k j)) + bg (ix3 0 0 j)) ((∑ k : Fin 1024, (x (ix2 r k) : EReal) * wu (ix2 k j)) + bu (ix3 0 0 j)) * wd (ix2 j d) := by
  unfold unit
  pointwise [k0_pay6]

end Cert.Experts

end
-- ==== Proof.Experts.Ideal.Array.lean ====
/- The experts pipeline's whole output array, over the extended reals: each used block's rows through its expert, zeros past the used blocks. -/
module

public import proofs.«01_k».proof.Proof.Experts.Ideal.Body
public import proofs.«01_k».proof.Proof.Experts.Value

@[expose] public section

set_option maxRecDepth 16384
noncomputable section

namespace Cert.ExpertsKernelIdeal.Run

open Cert.Experts Cert.ExpertsKernelIdeal Cert.ExpertsKernelIdeal.Gen Idealize.ShloMosaic Idealize.ShloMosaic.TcCoe Idealize.SL.Sem Idealize.ShloMosaic.Tactic

variable (T : Tables) (m : (ℓ : Loc nD τ sig) → Buf (Elt Ideal) ℓ) (ρ : Dev nD → PrngReg)

/-- The block of rows a used point reads is its own. -/
theorem idx_rows (t : Fin (cfgA T).N) (h : T.active t.val) : ((cfgA T).win (0 : Fin 8)).index t = ![t.val, 0] := by
  funext a
  match a with
  | ⟨0, _⟩ =>
    refine Eq.trans ?_ (toNat_row_active t.val (points T t) (T.nu only) h)
    show (Scalar.minsi (BitVec.ofNat 32 ((crd T t) 0).val) (Scalar.subi (T.nu _) 1#32)).toNat = _
    rw [crd_val]
    exact congrArg (fun u => (Scalar.minsi (BitVec.ofNat 32 t.val) (Scalar.subi u 1#32)).toNat) (congrArg T.nu (eq_only _))
  | ⟨1, _⟩ => rfl

/-- The block of each weight it reads is its expert's. -/
theorem idx_expert (t : Fin (cfgA T).N) (x : (⟨1, ![288]⟩ : Shape).Idx) (h : (x 0).val = (BitVec.ofNat 32 ((crd T t) 0).val).toNat) :
    (T.be x).toNat = (T.expert t.val (points T t)).val := by
  rw [eq_place x t.val (points T t) (by rw [h, crd_val]; have := points T t; simp only [BitVec.toNat_ofNat]; omega)]
  rfl

theorem idx_w1 (t : Fin (cfgA T).N) : ((cfgA T).win (1 : Fin 8)).index t = ![(T.expert t.val (points T t)).val, 0, 0] := by
  funext a
  match a with
  | ⟨0, _⟩ => exact idx_expert T t _ (by first | rfl | (show _ + 0 * 1 = _; rfl))
  | ⟨1, _⟩ => rfl
  | ⟨2, _⟩ => rfl

theorem idx_w2 (t : Fin (cfgA T).N) : ((cfgA T).win (2 : Fin 8)).index t = ![(T.expert t.val (points T t)).val, 0, 0] := by
  funext a
  match a with
  | ⟨0, _⟩ => exact idx_expert T t _ (by first | rfl | (show _ + 0 * 1 = _; rfl))
  | ⟨1, _⟩ => rfl
  | ⟨2, _⟩ => rfl

theorem idx_w3 (t : Fin (cfgA T).N) : ((cfgA T).win (3 : Fin 8)).index t = ![(T.expert t.val (points T t)).val, 0, 0] := by
  funext a
  match a with
  | ⟨0, _⟩ => exact idx_expert T t _ (by first | rfl | (show _ + 0 * 1 = _; rfl))
  | ⟨1, _⟩ => rfl
  | ⟨2, _⟩ => rfl

theorem idx_w4 (t : Fin (cfgA T).N) : ((cfgA T).win (4 : Fin 8)).index t = ![(T.expert t.val (points T t)).val, 0, 0] := by
  funext a
  match a with
  | ⟨0, _⟩ => exact idx_expert T t _ (by first | rfl | (show _ + 0 * 1 = _; rfl))
  | ⟨1, _⟩ => rfl
  | ⟨2, _⟩ => rfl

theorem idx_w5 (t : Fin (cfgA T).N) : ((cfgA T).win (5 : Fin 8)).index t = ![(T.expert t.val (points T t)).val, 0, 0] := by
  funext a
  match a with
  | ⟨0, _⟩ => exact idx_expert T t _ (by first | rfl | (show _ + 0 * 1 = _; rfl))
  | ⟨1, _⟩ => rfl
  | ⟨2, _⟩ => rfl

theorem idx_w6 (t : Fin (cfgA T).N) : ((cfgA T).win (6 : Fin 8)).index t = ![(T.expert t.val (points T t)).val, 0, 0] := by
  funext a
  match a with
  | ⟨0, _⟩ => exact idx_expert T t _ (by first | rfl | (show _ + 0 * 1 = _; rfl))
  | ⟨1, _⟩ => rfl
  | ⟨2, _⟩ => rfl

theorem idx_out (t : Fin (cfgA T).N) : ((cfgA T).win (7 : Fin 8)).index t = ![t.val, 0] := by
  funext a
  match a with
  | ⟨0, _⟩ =>
    show (BitVec.ofNat 32 ((crd T t) 0).val).toNat = t.val
    rw [crd_val]; have := points T t; simp only [BitVec.toNat_ofNat]; omega
  | ⟨1, _⟩ => rfl

theorem rows_apply (c : Dev nD) (t : Fin (cfgA T).N) (h : T.active t.val) (r : Fin 256) (k : Fin 1024) (i : S73728x1024.Idx)
    (h0 : (i 0).val = t.val * 256 + r.val) (h1 : (i 1).val = k.val) :
    (iblk T m ρ c (0 : Fin 8) t : Vec Ideal S256x1024 .f32) (ix2 r k) = (m ((c : Thread nD τ).loc main_arg2) : Vec Ideal S73728x1024 .f32) i := by
  blk_simp [iblk]
  refine congrArg (m ((c : Thread nD τ).loc main_arg2) : Vec Ideal S73728x1024 .f32) ?_
  have e := idx_rows T t h
  blk_ext [e, h0, h1]

theorem w1_apply (c : Dev nD) (t : Fin (cfgA T).N) (k j : Fin 1024) :
    (iblk T m ρ c (1 : Fin 8) t : Vec Ideal S1x1024x1024 .f32) (ix3 0 k j) = (m ((c : Thread nD τ).loc main_arg3) : Vec Ideal S32x1024x1024 .f32) (ix3 (T.expert t.val (points T t)) k j) := by
  blk_simp [iblk]
  refine congrArg (m ((c : Thread nD τ).loc main_arg3) : Vec Ideal S32x1024x1024 .f32) ?_
  have e := idx_w1 T t
  blk_ext [e]

theorem w2_apply (c : Dev nD) (t : Fin (cfgA T).N) (j : Fin 1024) :
    (iblk T m ρ c (2 : Fin 8) t : Vec Ideal S1x1x1024 .f32) (ix3 0 0 j) = (m ((c : Thread nD τ).loc main_arg4) : Vec Ideal S32x1x1024 .f32) (ix3 (T.expert t.val (points T t)) 0 j) := by
  blk_simp [iblk]
  refine congrArg (m ((c : Thread nD τ).loc main_arg4) : Vec Ideal S32x1x1024 .f32) ?_
  have e := idx_w2 T t
  blk_ext [e]

theorem w3_apply (c : Dev nD) (t : Fin (cfgA T).N) (k j : Fin 1024) :
    (iblk T m ρ c (3 : Fin 8) t : Vec Ideal S1x1024x1024 .f32) (ix3 0 k j) = (m ((c : Thread nD τ).loc main_arg5) : Vec Ideal S32x1024x1024 .f32) (ix3 (T.expert t.val (points T t)) k j) := by
  blk_simp [iblk]
  refine congrArg (m ((c : Thread nD τ).loc main_arg5) : Vec Ideal S32x1024x1024 .f32) ?_
  have e := idx_w3 T t
  blk_ext [e]

theorem w4_apply (c : Dev nD) (t : Fin (cfgA T).N) (j : Fin 1024) :
    (iblk T m ρ c (4 : Fin 8) t : Vec Ideal S1x1x1024 .f32) (ix3 0 0 j) = (m ((c : Thread nD τ).loc main_arg6) : Vec Ideal S32x1x1024 .f32) (ix3 (T.expert t.val (points T t)) 0 j) := by
  blk_simp [iblk]
  refine congrArg (m ((c : Thread nD τ).loc main_arg6) : Vec Ideal S32x1x1024 .f32) ?_
  have e := idx_w4 T t
  blk_ext [e]

theorem w5_apply (c : Dev nD) (t : Fin (cfgA T).N) (k j : Fin 1024) :
    (iblk T m ρ c (5 : Fin 8) t : Vec Ideal S1x1024x1024 .f32) (ix3 0 k j) = (m ((c : Thread nD τ).loc main_arg7) : Vec Ideal S32x1024x1024 .f32) (ix3 (T.expert t.val (points T t)) k j) := by
  blk_simp [iblk]
  refine congrArg (m ((c : Thread nD τ).loc main_arg7) : Vec Ideal S32x1024x1024 .f32) ?_
  have e := idx_w5 T t
  blk_ext [e]

theorem w6_apply (c : Dev nD) (t : Fin (cfgA T).N) (j : Fin 1024) :
    (iblk T m ρ c (6 : Fin 8) t : Vec Ideal S1x1x1024 .f32) (ix3 0 0 j) = (m ((c : Thread nD τ).loc main_arg8) : Vec Ideal S32x1x1024 .f32) (ix3 (T.expert t.val (points T t)) 0 j) := by
  blk_simp [iblk]
  refine congrArg (m ((c : Thread nD τ).loc main_arg8) : Vec Ideal S32x1x1024 .f32) ?_
  have e := idx_w6 T t
  blk_ext [e]

/-- An expert's weights at row `k` and column `j`, off the launch memory. -/
abbrev gate (c : Dev nD) (e : Fin 32) (k j : Fin 1024) : EReal := (m ((c : Thread nD τ).loc main_arg3) : Vec Ideal S32x1024x1024 .f32) (ix3 e k j)
abbrev up (c : Dev nD) (e : Fin 32) (k j : Fin 1024) : EReal := (m ((c : Thread nD τ).loc main_arg5) : Vec Ideal S32x1024x1024 .f32) (ix3 e k j)
abbrev down (c : Dev nD) (e : Fin 32) (k j : Fin 1024) : EReal := (m ((c : Thread nD τ).loc main_arg7) : Vec Ideal S32x1024x1024 .f32) (ix3 e k j)

/-- At a used point that loads nothing, the point before has the same expert. -/
theorem same_expert (t : Fin (cfgA T).N) (h : ¬ Loads T (crd T t)) (ha : T.active t.val) :
    t.val ≠ 0 ∧ T.expert (t.val - 1) (by have := points T t; omega) = T.expert t.val (points T t) := by
  rw [loads_iff] at h
  have h' : ¬ (t.val = 0 ∨ T.be (place t.val (points T t)) ≠ T.be (place (t.val - 1) (by have := points T t; omega))) := fun x => h ⟨ha, x⟩
  rw [not_or, not_not] at h'
  exact ⟨h'.1, Fin.ext (show (T.be _).toNat = (T.be _).toNat by rw [h'.2])⟩

/-- What the body keeps after a used point: its expert's weights. -/
def Keeps (c : Dev nD) (e : Fin 32) (p : State c) : Prop :=
  (∀ k j : Fin 1024, (p.2.1 : Vec Ideal S1024x1024 .bf16) (ix2 k j) = gate m c e k j)
    ∧ (∀ k j : Fin 1024, (p.2.2.1 : Vec Ideal S1024x1024 .bf16) (ix2 k j) = up m c e k j)
    ∧ ∀ k j : Fin 1024, (p.2.2.2 : Vec Ideal S1024x1024 .bf16) (ix2 k j) = down m c e k j

/-- The output block and the kept weights after a point, in its three cases. -/
theorem step0_out_A (c : Dev nD) (t : Fin (cfgA T).N) (p : State c) (h : Loads T (crd T t)) :
    (step0 T m ρ c t p).1 = k0_pay4 (F := Ideal) (k0_pay6 (iblk T m ρ c (0 : Fin 8) t) (k0_pay1 (iblk T m ρ c (1 : Fin 8) t)) (iblk T m ρ c (2 : Fin 8) t)
      (k0_pay2 (iblk T m ρ c (3 : Fin 8) t)) (iblk T m ρ c (4 : Fin 8) t) (k0_pay3 (iblk T m ρ c (5 : Fin 8) t))) (iblk T m ρ c (6 : Fin 8) t) := by
  rw [step0_A T m ρ c t p h]
  dsimp only
  unfold runA
  exact outA T c t (iblk T m ρ c (0 : Fin 8) t) (iblk T m ρ c (1 : Fin 8) t) (iblk T m ρ c (2 : Fin 8) t) (iblk T m ρ c (3 : Fin 8) t) (iblk T m ρ c (4 : Fin 8) t) (iblk T m ρ c (5 : Fin 8) t) (iblk T m ρ c (6 : Fin 8) t) h (loads_computes T h) (computes_not_clears T (loads_computes T h))

theorem step0_out_B (c : Dev nD) (t : Fin (cfgA T).N) (p : State c) (h : ¬ Loads T (crd T t)) (h' : Computes T (crd T t)) :
    (step0 T m ρ c t p).1 = k0_pay4 (F := Ideal) (k0_pay6 (iblk T m ρ c (0 : Fin 8) t) p.2.1 (iblk T m ρ c (2 : Fin 8) t)
      p.2.2.1 (iblk T m ρ c (4 : Fin 8) t) p.2.2.2) (iblk T m ρ c (6 : Fin 8) t) := by
  rw [step0_B T m ρ c t p h h']
  dsimp only
  unfold runB
  exact outB T c t (iblk T m ρ c (0 : Fin 8) t) (iblk T m ρ c (1 : Fin 8) t) (iblk T m ρ c (2 : Fin 8) t) (iblk T m ρ c (3 : Fin 8) t) (iblk T m ρ c (4 : Fin 8) t) (iblk T m ρ c (5 : Fin 8) t) (iblk T m ρ c (6 : Fin 8) t) p.2.1 p.2.2.1 p.2.2.2 h h' (computes_not_clears T h')

theorem step0_out_C (c : Dev nD) (t : Fin (cfgA T).N) (p : State c) (h : ¬ Loads T (crd T t)) (h' : ¬ Computes T (crd T t)) :
    (step0 T m ρ c t p).1 = k0_pay5 (F := Ideal) := by
  rw [step0_C T m ρ c t p h h']
  dsimp only
  unfold runC
  exact outC T c t (iblk T m ρ c (0 : Fin 8) t) (iblk T m ρ c (1 : Fin 8) t) (iblk T m ρ c (2 : Fin 8) t) (iblk T m ρ c (3 : Fin 8) t) (iblk T m ρ c (4 : Fin 8) t) (iblk T m ρ c (5 : Fin 8) t) (iblk T m ρ c (6 : Fin 8) t) p.2.1 p.2.2.1 p.2.2.2 h h' (clears_of_not T h')

theorem step0_keep0_A (c : Dev nD) (t : Fin (cfgA T).N) (p : State c) (h : Loads T (crd T t)) :
    (step0 T m ρ c t p).2.1 = k0_pay1 (F := Ideal) (iblk T m ρ c (1 : Fin 8) t) := by
  rw [step0_A T m ρ c t p h]
  dsimp only
  unfold runA
  exact keepA0 T c t (iblk T m ρ c (0 : Fin 8) t) (iblk T m ρ c (1 : Fin 8) t) (iblk T m ρ c (2 : Fin 8) t) (iblk T m ρ c (3 : Fin 8) t) (iblk T m ρ c (4 : Fin 8) t) (iblk T m ρ c (5 : Fin 8) t) (iblk T m ρ c (6 : Fin 8) t) h (loads_computes T h) (computes_not_clears T (loads_computes T h))

theorem step0_keep1_A (c : Dev nD) (t : Fin (cfgA T).N) (p : State c) (h : Loads T (crd T t)) :
    (step0 T m ρ c t p).2.2.1 = k0_pay2 (F := Ideal) (iblk T m ρ c (3 : Fin 8) t) := by
  rw [step0_A T m ρ c t p h]
  dsimp only
  unfold runA
  exact keepA1 T c t (iblk T m ρ c (0 : Fin 8) t) (iblk T m ρ c (1 : Fin 8) t) (iblk T m ρ c (2 : Fin 8) t) (iblk T m ρ c (3 : Fin 8) t) (iblk T m ρ c (4 : Fin 8) t) (iblk T m ρ c (5 : Fin 8) t) (iblk T m ρ c (6 : Fin 8) t) h (loads_computes T h) (computes_not_clears T (loads_computes T h))

theorem step0_keep2_A (c : Dev nD) (t : Fin (cfgA T).N) (p : State c) (h : Loads T (crd T t)) :
    (step0 T m ρ c t p).2.2.2 = k0_pay3 (F := Ideal) (iblk T m ρ c (5 : Fin 8) t) := by
  rw [step0_A T m ρ c t p h]
  dsimp only
  unfold runA
  exact keepA2 T c t (iblk T m ρ c (0 : Fin 8) t) (iblk T m ρ c (1 : Fin 8) t) (iblk T m ρ c (2 : Fin 8) t) (iblk T m ρ c (3 : Fin 8) t) (iblk T m ρ c (4 : Fin 8) t) (iblk T m ρ c (5 : Fin 8) t) (iblk T m ρ c (6 : Fin 8) t) h (loads_computes T h) (computes_not_clears T (loads_computes T h))

theorem step0_keep0_B (c : Dev nD) (t : Fin (cfgA T).N) (p : State c) (h : ¬ Loads T (crd T t)) (h' : Computes T (crd T t)) :
    (step0 T m ρ c t p).2.1 = p.2.1 := by
  rw [step0_B T m ρ c t p h h']
  dsimp only
  unfold runB
  exact keepB0 T c t (iblk T m ρ c (0 : Fin 8) t) (iblk T m ρ c (1 : Fin 8) t) (iblk T m ρ c (2 : Fin 8) t) (iblk T m ρ c (3 : Fin 8) t) (iblk T m ρ c (4 : Fin 8) t) (iblk T m ρ c (5 : Fin 8) t) (iblk T m ρ c (6 : Fin 8) t) p.2.1 p.2.2.1 p.2.2.2 h h' (computes_not_clears T h')

theorem step0_keep1_B (c : Dev nD) (t : Fin (cfgA T).N) (p : State c) (h : ¬ Loads T (crd T t)) (h' : Computes T (crd T t)) :
    (step0 T m ρ c t p).2.2.1 = p.2.2.1 := by
  rw [step0_B T m ρ c t p h h']
  dsimp only
  unfold runB
  exact keepB1 T c t (iblk T m ρ c (0 : Fin 8) t) (iblk T m ρ c (1 : Fin 8) t) (iblk T m ρ c (2 : Fin 8) t) (iblk T m ρ c (3 : Fin 8) t) (iblk T m ρ c (4 : Fin 8) t) (iblk T m ρ c (5 : Fin 8) t) (iblk T m ρ c (6 : Fin 8) t) p.2.1 p.2.2.1 p.2.2.2 h h' (computes_not_clears T h')

theorem step0_keep2_B (c : Dev nD) (t : Fin (cfgA T).N) (p : State c) (h : ¬ Loads T (crd T t)) (h' : Computes T (crd T t)) :
    (step0 T m ρ c t p).2.2.2 = p.2.2.2 := by
  rw [step0_B T m ρ c t p h h']
  dsimp only
  unfold runB
  exact keepB2 T c t (iblk T m ρ c (0 : Fin 8) t) (iblk T m ρ c (1 : Fin 8) t) (iblk T m ρ c (2 : Fin 8) t) (iblk T m ρ c (3 : Fin 8) t) (iblk T m ρ c (4 : Fin 8) t) (iblk T m ρ c (5 : Fin 8) t) (iblk T m ρ c (6 : Fin 8) t) p.2.1 p.2.2.1 p.2.2.2 h h' (computes_not_clears T h')

theorem keeps_A (c : Dev nD) (t : Fin (cfgA T).N) (p : State c) (h : Loads T (crd T t)) :
    Keeps m c (T.expert t.val (points T t)) (step0 T m ρ c t p) := by
  unfold Keeps
  rw [step0_keep0_A T m ρ c t p h, step0_keep1_A T m ρ c t p h, step0_keep2_A T m ρ c t p h]
  exact ⟨fun k j => (pay1_apply _ k j).trans (w1_apply T m ρ c t k j), fun k j => (pay2_apply _ k j).trans (w3_apply T m ρ c t k j),
    fun k j => (pay3_apply _ k j).trans (w5_apply T m ρ c t k j)⟩

theorem keeps_B (c : Dev nD) (t : Fin (cfgA T).N) (p : State c) (e : Fin 32) (h : ¬ Loads T (crd T t)) (h' : Computes T (crd T t))
    (hp : Keeps m c e p) : Keeps m c e (step0 T m ρ c t p) := by
  unfold Keeps
  rw [step0_keep0_B T m ρ c t p h h', step0_keep1_B T m ρ c t p h h', step0_keep2_B T m ρ c t p h h']
  exact hp

/-- After every used point the body keeps its expert's weights. -/
theorem keeps (c : Dev nD) : ∀ (n : ℕ) (hn : n < (cfgA T).N), T.active n → Keeps m c (T.expert n (points T ⟨n, hn⟩)) (traj0 T m ρ c n hn)
  | 0, hn, _ => keeps_A T m ρ c ⟨0, hn⟩ _ (loads_zero T _ rfl)
  | n + 1, hn, ha => by
    have ih := keeps c n (Nat.lt_of_succ_lt hn) (T.active_of_le (Nat.le_succ n) ha)
    by_cases h : Loads T (crd T ⟨n + 1, hn⟩)
    · exact keeps_A T m ρ c ⟨n + 1, hn⟩ _ h
    · have e := (same_expert T ⟨n + 1, hn⟩ h ha).2
      exact keeps_B T m ρ c ⟨n + 1, hn⟩ _ _ h ((computes_iff T _).mpr ha) (e ▸ ih)

/-- What a used point writes: its rows through its expert. -/
def rowOut (c : Dev nD) (t : Fin (cfgA T).N) (r : Fin 256) (d : Fin 1024) : EReal :=
  row (fun k => (m ((c : Thread nD τ).loc main_arg2) : Vec Ideal S73728x1024 .f32) (ix2 ⟨t.val * 256 + r.val, by have := points T t; omega⟩ k))
    (gate m c (T.expert t.val (points T t))) (up m c (T.expert t.val (points T t))) (down m c (T.expert t.val (points T t)))
    (fun j => (m ((c : Thread nD τ).loc main_arg4) : Vec Ideal S32x1x1024 .f32) (ix3 (T.expert t.val (points T t)) 0 j))
    (fun j => (m ((c : Thread nD τ).loc main_arg6) : Vec Ideal S32x1x1024 .f32) (ix3 (T.expert t.val (points T t)) 0 j))
    (fun j => (m ((c : Thread nD τ).loc main_arg8) : Vec Ideal S32x1x1024 .f32) (ix3 (T.expert t.val (points T t)) 0 j)) d

/-- The body's arithmetic on a used point's blocks, with its expert's weights kept. -/
theorem row_eq (c : Dev nD) (t : Fin (cfgA T).N) (ha : T.active t.val) (w0 w1 w2 : Vec Ideal S1024x1024 .bf16)
    (h0 : ∀ k j, w0 (ix2 k j) = gate m c (T.expert t.val (points T t)) k j) (h1 : ∀ k j, w1 (ix2 k j) = up m c (T.expert t.val (points T t)) k j)
    (h2 : ∀ k j, w2 (ix2 k j) = down m c (T.expert t.val (points T t)) k j) (r : Fin 256) (d : Fin 1024) :
    k0_pay4 (F := Ideal) (k0_pay6 (iblk T m ρ c (0 : Fin 8) t) w0 (iblk T m ρ c (2 : Fin 8) t) w1 (iblk T m ρ c (4 : Fin 8) t) w2)
      (iblk T m ρ c (6 : Fin 8) t) (ix2 r d) = rowOut T m c t r d := by
  refine (pay4_apply _ _ r d).trans ?_
  unfold rowOut row
  refine congrArg₂ (· + ·) ((pay6_apply _ _ _ _ _ _ r d).trans (Finset.sum_congr rfl fun j _ => ?_)) (w6_apply T m ρ c t d)
  refine congrArg₂ (· * ·) (congrArg₂ unit ?_ ?_) (h2 j d)
  · exact congrArg₂ (· + ·) (Finset.sum_congr rfl fun k _ => congrArg₂ (· * ·) (rows_apply T m ρ c t ha r k _ rfl rfl) (h0 k j)) (w2_apply T m ρ c t j)
  · exact congrArg₂ (· + ·) (Finset.sum_congr rfl fun k _ => congrArg₂ (· * ·) (rows_apply T m ρ c t ha r k _ rfl rfl) (h1 k j)) (w4_apply T m ρ c t j)

theorem out_used (c : Dev nD) (t : Fin (cfgA T).N) (ha : T.active t.val) (r : Fin 256) (d : Fin 1024) :
    (traj0 T m ρ c t.val t.isLt).1 (ix2 r d) = rowOut T m c t r d := by
  rw [traj0_eq]
  by_cases h : Loads T (crd T t)
  · rw [step0_out_A T m ρ c t _ h]
    exact row_eq T m ρ c t ha _ _ _ (fun k j => (pay1_apply _ k j).trans (w1_apply T m ρ c t k j)) (fun k j => (pay2_apply _ k j).trans (w3_apply T m ρ c t k j))
      (fun k j => (pay3_apply _ k j).trans (w5_apply T m ρ c t k j)) r d
  · have h' := (computes_iff T t).mpr ha
    obtain ⟨hz, he⟩ := same_expert T t h ha
    have hk : Keeps m c (T.expert t.val (points T t)) (prev0 T m ρ c t.castSucc) := by
      rw [← he]
      unfold prev0
      rw [dif_neg (by simpa using hz)]
      exact keeps T m ρ c (t.val - 1) _ (T.active_of_le (Nat.sub_le _ _) ha)
    rw [step0_out_B T m ρ c t _ h h']
    exact row_eq T m ρ c t ha _ _ _ hk.1 hk.2.1 hk.2.2 r d

theorem out_unused (c : Dev nD) (t : Fin (cfgA T).N) (ha : ¬ T.active t.val) (i : S256x1024.Idx) :
    (traj0 T m ρ c t.val t.isLt).1 i = Ideal.ofBits .f32 0x00000000#32 := by
  have h' : ¬ Computes T (crd T t) := fun x => ha ((computes_iff T t).mp x)
  have h : ¬ Loads T (crd T t) := fun x => h' (loads_computes T x)
  rw [traj0_eq, step0_out_C T m ρ c t _ h h']
  exact pay5_apply i

theorem expert_congr {n n' : ℕ} (e : n = n') (h : n < 288) (h' : n' < 288) : T.expert n h = T.expert n' h' := by subst e; rfl

/-- Every block of the output is some point's. -/
theorem covers : ((cfgA T).win (7 : Fin 8)).Covers := by
  unfold Pipeline.Window.Covers
  refine ⟨fun a => ?_, fun β => ⟨⟨(β (0 : Fin 2)).val, (lt_of_lt_of_eq (β (0 : Fin 2)).isLt (show (73728 + 256 - 1) / 256 = 288 by norm_num)).trans_eq N_0.symm⟩, flush_out T _, fun a => ⟨?_, .inl rfl⟩⟩⟩
  · match a with
    | ⟨0, _⟩ => exact (by decide : 0 < 256)
    | ⟨1, _⟩ => exact (by decide : 0 < 1024)
  · rw [idx_out]
    match a with
    | ⟨0, _⟩ => rfl
    | ⟨1, _⟩ =>
      have h : (β (1 : Fin 2)).val < 1 := lt_of_lt_of_eq (β (1 : Fin 2)).isLt (show (1024 + 1024 - 1) / 1024 = 1 by norm_num)
      exact (Nat.lt_one_iff.mp h).symm

/-- One entry of the result, from its block's point. -/
theorem entry (c : Dev nD) (t : Fin (cfgA T).N) (r : Fin 256) (d : Fin 1024) (i : S73728x1024.Idx) (h0 : (i 0).val = t.val * 256 + r.val) (h1 : (i 1).val = d.val) :
    (traj0 T m ρ c t.val t.isLt).1 (ix2 r d)
      = expertsOut T (m ((c : Thread nD τ).loc main_arg2)) (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) i := by
  have ht := points T t
  have hr := r.isLt
  have hn : (i 0).val / 256 = t.val := by omega
  have hrow : i 0 = (⟨t.val * 256 + r.val, by omega⟩ : Fin 73728) := Fin.ext h0
  have hcol : i 1 = d := Fin.ext h1
  unfold expertsOut
  by_cases ha : T.active t.val
  · rw [if_pos (hn.symm ▸ ha), out_used T m ρ c t ha r d]
    dsimp only
    rw [expert_congr T hn _ ht, hrow, hcol]
    rfl
  · rw [if_neg (hn.symm ▸ ha)]
    exact out_unused T m ρ c t ha _

/-- The pipeline's output array. -/
theorem array (c : Dev nD) : (dats T m ρ 0 c).arrAt (7 : Fin 8) (cfgA T).N
    = (expertsOut T (m ((c : Thread nD τ).loc main_arg2)) (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) : Vec Ideal S73728x1024 .f32) := by
  refine Pipeline.Dat.arrAt_eq_of_covers (dats T m ρ 0 c) (7 : Fin 8) _ (covers T) fun t hf y => ?_
  rw [after0_7]
  obtain ⟨r, d, hy⟩ : ∃ (r : Fin 256) (d : Fin 1024), y = ix2 r d := ⟨y 0, y 1, funext fun a => by fin_cases a <;> rfl⟩
  have e := idx_out T t
  have h0 : ((((((cfgA T).win (7 : Fin 8)).blk t).view.emb y : S73728x1024.Idx) 0)).val = t.val * 256 + (y 0).val := by
    blk_simp [e]
  have h1 : ((((((cfgA T).win (7 : Fin 8)).blk t).view.emb y : S73728x1024.Idx) 1)).val = (y 1).val := by
    blk_simp [e]
  blk_simp
  have e0 : (y 0).val = r.val := by rw [hy]; rfl
  have e1 : (y 1).val = d.val := by rw [hy]; rfl
  rw [e0] at h0; rw [e1] at h1
  generalize ((((cfgA T).win (7 : Fin 8)).blk t).view.emb y : S73728x1024.Idx) = i at h0 h1 ⊢
  subst hy
  exact entry T m ρ c t r d i h0 h1

end Cert.ExpertsKernelIdeal.Run

end
-- ==== Proof.Experts.Reference.lean ====
/- The experts' reference read at an index: it looks each block's expert up, and its result is the closed form. -/
module

public import proofs.«01_k».proof.Proof.Gen.ExpertsReferenceIdeal.Read
public import proofs.«01_k».proof.Proof.Experts.Value

@[expose] public section

noncomputable section

namespace Cert.Experts

open Cert.ExpertsReferenceIdeal Cert.ExpertsReferenceIdeal.Read Idealize.ShloMosaic Idealize.ShloMosaic.TcCoe Idealize.SL.Sem
open scoped BigOperators

section Take
variable {α : Type}

/-- Dimension numbers that take whole matrices of a stack `[N, C, D]`, one per entry of `[B, 1]`. -/
abbrev stackDims (N B C D : Nat) (wf : GatherDims.WF ⟨3, ![N, C, D]⟩ ⟨2, ![B, 1]⟩ ⟨3, ![B, C, D]⟩ [1, 2] [0] [] [0] [] 1 ![1, C, D]) :
    GatherDims ⟨3, ![N, C, D]⟩ ⟨2, ![B, 1]⟩ ⟨3, ![B, C, D]⟩ where
  offsetDims := [1, 2]
  collapsedSliceDims := [0]
  operandBatchingDims := []
  startIndicesBatchingDims := []
  startIndexMap := [0]
  indexVectorDim := 1
  sliceSizes := ![1, C, D]
  wf := wf

/-- Such a lookup at `(b, i, j)`: entry `(i, j)` of the matrix that entry `b` names, read signed and clamped into the stack. -/
theorem take_stack_apply {N B C D w : Nat} (hN : 0 < N) (wf : GatherDims.WF ⟨3, ![N, C, D]⟩ ⟨2, ![B, 1]⟩ ⟨3, ![B, C, D]⟩ [1, 2] [0] [] [0] [] 1 ![1, C, D])
    (x : (⟨3, ![N, C, D]⟩ : Shape).Idx → α) (idx : IVec ⟨2, ![B, 1]⟩ w) (b : Fin B) (i : Fin C) (j : Fin D) :
    Host.gather (stackDims N B C D wf) x idx (ix3 b i j) = x (ix3 ⟨min (idx (ix2 b 0)).toInt.toNat (N - 1), by omega⟩ i j) := by
  unfold Host.gather
  congr 1
  funext a
  refine Fin.ext ?_
  show (stackDims N B C D wf).start (ix3 b i j) idx a + (stackDims N B C D wf).batchCoord (ix3 b i j) a + (stackDims N B C D wf).offCoord (ix3 b i j) a = _
  rw [GatherDims.batchCoord_eq_zero _ _ _ List.not_mem_nil]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ (stackDims N B C D wf).startIndexMap from List.mem_singleton.mpr rfl)]
    have hsi : (stackDims N B C D wf).siIdx (ix3 b i j) ⟨List.idxOf (0 : Fin 3) (stackDims N B C D wf).startIndexMap,
        List.idxOf_lt_length_iff.2 (List.mem_singleton.mpr rfl)⟩ = ix2 b 0 := by
      funext k; refine Fin.ext ?_
      match k with
      | ⟨0, _⟩ => rfl
      | ⟨1, _⟩ => rfl
    rw [hsi]
    rfl
  · unfold GatherDims.start
    rw [dif_neg (show ¬ (1 : Fin 3) ∈ (stackDims N B C D wf).startIndexMap from by simp)]
    simp only [Nat.zero_add, Nat.add_zero]
    rfl
  · unfold GatherDims.start
    rw [dif_neg (show ¬ (2 : Fin 3) ∈ (stackDims N B C D wf).startIndexMap from by simp)]
    simp only [Nat.zero_add, Nat.add_zero]
    rfl

end Take

variable (T : Tables)

/-- A number in range names itself. -/
theorem clamp_expert (n : Fin 288) : min ((T.be (place n.val n.isLt)).toInt.toNat) (32 - 1) = (T.expert n.val n.isLt).val := by
  have h := T.be_lt (place n.val n.isLt)
  rw [BitVec.toInt_eq_toNat_of_lt (by omega), Int.toNat_natCast]
  show min _ 31 = (T.be (place n.val n.isLt)).toNat
  omega

theorem take_weights (x : Vec Ideal S32x1024x1024 .f32) (idx : IVec S288x1 32) (n : Fin 288) (h : idx (ix2 n 0) = T.be (place n.val n.isLt)) (k j : Fin 1024) :
    Host.gather gather_S32x1024x1024_S288x1_S288x1024x1024_12_0_n_n_0_1_110241024 x idx (ix3 n k j) = x (ix3 (T.expert n.val n.isLt) k j) := by
  refine (take_stack_apply (N := 32) (B := 288) (C := 1024) (D := 1024) (by decide) _ x idx n k j).trans ?_
  have e : (⟨min (idx (ix2 n 0)).toInt.toNat (32 - 1), by omega⟩ : Fin 32) = T.expert n.val n.isLt := Fin.ext (by
    show min (idx (ix2 n 0)).toInt.toNat (32 - 1) = _
    rw [h]; exact clamp_expert T n)
  rw [e]

theorem take_bias (x : Vec Ideal S32x1x1024 .f32) (idx : IVec S288x1 32) (n : Fin 288) (h : idx (ix2 n 0) = T.be (place n.val n.isLt)) (j : Fin 1024) :
    Host.gather gather_S32x1x1024_S288x1_S288x1x1024_12_0_n_n_0_1_111024 x idx (ix3 n 0 j) = x (ix3 (T.expert n.val n.isLt) 0 j) := by
  refine (take_stack_apply (N := 32) (B := 288) (C := 1) (D := 1024) (by decide) _ x idx n 0 j).trans ?_
  have e : (⟨min (idx (ix2 n 0)).toInt.toNat (32 - 1), by omega⟩ : Fin 32) = T.expert n.val n.isLt := Fin.ext (by
    show min (idx (ix2 n 0)).toInt.toNat (32 - 1) = _
    rw [h]; exact clamp_expert T n)
  rw [e]

/-- The table as a column, at a block. -/
theorem at_place (n : Fin 288) : val_main_call0_v0 (F := Ideal) T.be (ix2 n 0) = T.be (place n.val n.isLt) := by
  rw [val_main_call0_v0_apply]
  exact congrArg T.be (eq_place _ n.val n.isLt rfl)

variable (X : Vec Ideal S73728x1024 .f32) (Wg Wu Wd : Vec Ideal S32x1024x1024 .f32) (Bg Bu Bd : Vec Ideal S32x1x1024 .f32)

/-- The rows, block by block. -/
theorem ref_rows (n : Fin 288) (r : Fin 256) (k : Fin 1024) : val_main_v0 (F := Ideal) X (ix3 n r k) = X (ix2 ⟨n.val * 256 + r.val, by omega⟩ k) := by
  rw [val_main_v0_apply]
  refine congrArg X (funext fun a => ?_)
  match a with
  | ⟨0, _⟩ => apply Fin.ext; show ((n.val * 256 + r.val) * 1024 + k.val) / 1024 = n.val * 256 + r.val; omega
  | ⟨1, _⟩ => apply Fin.ext; show ((n.val * 256 + r.val) * 1024 + k.val) % 1024 = k.val; omega

/-- The gate's sum and the linear path's. -/
theorem ref_gate (n : Fin 288) (r : Fin 256) (j : Fin 1024) : val_main_v5 (F := Ideal) T.be X Wg Bg (ix3 n r j)
    = (∑ k : Fin 1024, (X (ix2 ⟨n.val * 256 + r.val, by omega⟩ k) : EReal) * Wg (ix3 (T.expert n.val n.isLt) k j)) + Bg (ix3 (T.expert n.val n.isLt) 0 j) := by
  rw [val_main_v5_apply, val_main_v2_apply, val_main_v4_apply]
  refine congrArg₂ (· + ·) (Finset.sum_congr rfl fun k _ => congrArg₂ (· * ·) ?_ ?_) ?_
  · exact (congrArg (val_main_v0 (F := Ideal) X) (eq_ix3 _)).trans (ref_rows X n r k)
  · exact (congrArg (val_main_v1 (F := Ideal) T.be Wg) (eq_ix3 _)).trans (take_weights T Wg _ n (at_place T _) k j)
  · exact (congrArg (val_main_v3 (F := Ideal) T.be Bg) (eq_ix3 _)).trans (take_bias T Bg _ n (at_place T _) j)

theorem ref_up (n : Fin 288) (r : Fin 256) (j : Fin 1024) : val_main_v12 (F := Ideal) T.be X Wu Bu (ix3 n r j)
    = (∑ k : Fin 1024, (X (ix2 ⟨n.val * 256 + r.val, by omega⟩ k) : EReal) * Wu (ix3 (T.expert n.val n.isLt) k j)) + Bu (ix3 (T.expert n.val n.isLt) 0 j) := by
  rw [val_main_v12_apply, val_main_v9_apply, val_main_v11_apply]
  refine congrArg₂ (· + ·) (Finset.sum_congr rfl fun k _ => congrArg₂ (· * ·) ?_ ?_) ?_
  · exact (congrArg (val_main_v0 (F := Ideal) X) (eq_ix3 _)).trans (ref_rows X n r k)
  · exact (congrArg (val_main_v8 (F := Ideal) T.be Wu) (eq_ix3 _)).trans (take_weights T Wu _ n (at_place T _) k j)
  · exact (congrArg (val_main_v10 (F := Ideal) T.be Bu) (eq_ix3 _)).trans (take_bias T Bu _ n (at_place T _) j)

/-- The kernel's constant is the negated one of the reference. -/
theorem neg_slope : Ideal.ofBits .f32 0xBFD9DB23#32 = -Ideal.ofBits .f32 0x3FD9DB23#32 := by
  simp [Ideal.ofBits, Ideal.ieee]

/-- The hidden unit. -/
theorem ref_unit (i : S288x256x1024.Idx) : val_main_v25 (F := Ideal) T.be X Wg Bg Wu Bu i
    = unit (val_main_v5 (F := Ideal) T.be X Wg Bg i) (val_main_v12 (F := Ideal) T.be X Wu Bu i) := by
  unfold unit
  rw [neg_slope, EReal.neg_mul]
  rfl

/-- Whether the block is in use. -/
theorem ref_used (n : Fin 288) (r : Fin 256) (d : Fin 1024) (x y : EReal) :
    Scalar.select (val_main_call7_v1 (F := Ideal) T.nu (ix3 n r d)) x y = if T.active n.val then x else y := by
  rw [val_main_call7_v1_apply, val_main_v35_apply, val_main_v34_apply, val_main_v31_apply, val_main_v33_apply]
  have e : val_main_v32 (F := Ideal) T.nu (idx_main_v33 (idx_main_v35 (idx_main_call7_v1 (ix3 n r d)))) = T.nu only := congrArg T.nu (eq_only _)
  rw [e]
  have h := (cmpi_slt_iff (BitVec.ofNat 32 n.val) (T.nu only))
  rw [toInt_ofNat n.isLt] at h
  show (if Scalar.cmpi .slt (BitVec.ofNat 32 n.val) (T.nu only) = 1#1 then x else y) = _
  exact if_congr h rfl rfl

theorem ref_out : val_main_v37 (F := Ideal) T.be T.nu X Wg Bg Wu Bu Wd Bd = expertsOut T X Wg Bg Wu Bu Wd Bd := by
  funext i
  obtain ⟨R, d, rfl⟩ : ∃ (R : Fin 73728) (d : Fin 1024), i = ix2 R d := ⟨i 0, i 1, eq_ix2 i⟩
  rw [val_main_v37_apply]
  have ei : idx_main_v37 (ix2 R d) = ix3 (⟨R.val / 256, by omega⟩ : Fin 288) (⟨R.val % 256, by omega⟩ : Fin 256) d := by
    funext a
    match a with
    | ⟨0, _⟩ => apply Fin.ext; show (R.val * 1024 + d.val) / 262144 = R.val / 256; omega
    | ⟨1, _⟩ => apply Fin.ext; show (R.val * 1024 + d.val) / 1024 % 256 = R.val % 256; omega
    | ⟨2, _⟩ => apply Fin.ext; show (R.val * 1024 + d.val) % 1024 = d.val; omega
  rw [ei, val_main_v36_apply, ref_used]
  unfold expertsOut
  refine if_congr Iff.rfl ?_ rfl
  dsimp only
  rw [val_main_v30_apply, val_main_v27_apply, val_main_v29_apply]
  unfold row
  have hrow : (⟨R.val / 256 * 256 + R.val % 256, by omega⟩ : Fin 73728) = R := Fin.ext (by show R.val / 256 * 256 + R.val % 256 = R.val; omega)
  refine congrArg₂ (· + ·) (Finset.sum_congr rfl fun j _ => congrArg₂ (· * ·) ?_ ?_) ?_
  · refine (congrArg (val_main_v25 (F := Ideal) T.be X Wg Bg Wu Bu) (eq_ix3 _)).trans ?_
    rw [ref_unit]
    refine congrArg₂ unit ((ref_gate T X Wg Bg ⟨R.val / 256, by omega⟩ ⟨R.val % 256, by omega⟩ j).trans ?_) ((ref_up T X Wu Bu ⟨R.val / 256, by omega⟩ ⟨R.val % 256, by omega⟩ j).trans ?_)
    · rw [hrow]; rfl
    · rw [hrow]; rfl
  · exact (congrArg (val_main_v26 (F := Ideal) T.be Wd) (eq_ix3 _)).trans (take_weights T Wd _ _ (at_place T _) j d)
  · exact (congrArg (val_main_v28 (F := Ideal) T.be Bd) (eq_ix3 _)).trans (take_bias T Bd _ _ (at_place T _) d)

end Cert.Experts

end
-- ==== Proof.Experts.Main.lean ====
/- The experts call's claims: the precondition says that the two tables are in range, and with it the frames and the value
   claim follow. -/
module

public import proofs.«01_k».proof.Defs
public import proofs.«01_k».proof.Proof.Experts.Bits.Frame
public import proofs.«01_k».proof.Proof.Experts.Ideal.Array
public import proofs.«01_k».proof.Proof.Experts.Reference

@[expose] public section

noncomputable section

namespace Cert.Experts

open Idealize.ShloMosaic Idealize.ShloMosaic.TcCoe Idealize.SL.Sem

theorem pre_facts : Cert.Pre_experts_in_range.Facts := ⟨by decide, by decide⟩

theorem andi_iff : ∀ a b : BitVec 1, (Scalar.andi a b = 1#1) ↔ (a = 1#1 ∧ b = 1#1) := by decide

theorem cmpi_sge_iff (x y : BitVec 32) : (Scalar.cmpi .sge x y = 1#1) ↔ y.toInt ≤ x.toInt := by
  show (BitVec.ofBool (y.sle x) = 1#1) ↔ _
  by_cases h : y.toInt ≤ x.toInt <;> simp [BitVec.sle, h]

/-- The precondition, read at each entry of the two tables. -/
theorem in_range [Cert.Pre_experts_in_range.Facts] {F : FTy → Type} [FloatOps F] {be : IVec Cert.Pre_experts_in_range.S288 32} {nu : IVec Cert.Pre_experts_in_range.S1 32}
    {x2 : FVec F Cert.Pre_experts_in_range.S73728x1024 .f32} {x3 x5 x7 : FVec F Cert.Pre_experts_in_range.S32x1024x1024 .f32}
    {x4 x6 x8 : FVec F Cert.Pre_experts_in_range.S32x1x1024 .f32}
    (h : (Cert.Pre_experts_in_range.fn (F := F) be nu x2 x3 x4 x5 x6 x7 x8).1 = (fun _ => 1#1)
      ∧ (Cert.Pre_experts_in_range.fn (F := F) be nu x2 x3 x4 x5 x6 x7 x8).2 = (fun _ => 1#1)) :
    (∀ j, (be j).toNat < 32) ∧ ∀ j, 0 < (nu j).toInt := by
  constructor
  · intro j
    have e : Scalar.andi (Scalar.cmpi .sge (be j) 0#32) (Scalar.cmpi .slt (be j) 32#32) = 1#1 := congrFun h.1 j
    obtain ⟨e0, e1⟩ := (andi_iff _ _).mp e
    have h0 : (0#32 : BitVec 32).toInt ≤ (be j).toInt := (cmpi_sge_iff _ _).mp e0
    have h1 : (be j).toInt < (32#32 : BitVec 32).toInt := (cmpi_slt_iff _ _).mp e1
    rw [show (0#32 : BitVec 32).toInt = 0 by decide] at h0
    rw [show (32#32 : BitVec 32).toInt = 32 by decide] at h1
    rw [BitVec.toInt_eq_toNat_cond] at h0 h1
    split at h0 <;> omega
  · intro j
    have e : Scalar.cmpi .sge (nu j) 1#32 = 1#1 := congrFun h.2 j
    have h0 : (1#32 : BitVec 32).toInt ≤ (nu j).toInt := (cmpi_sge_iff _ _).mp e
    rw [show (1#32 : BitVec 32).toInt = 1 by decide] at h0
    omega

/-- Tables that satisfy the precondition are in range. -/
theorem tables_bits (m : (ℓ : Loc Cert.ExpertsKernel.nD Cert.ExpertsKernel.τ Cert.ExpertsKernel.sig) → Buf (Elt Bits) ℓ)
    (hp : Cert.Pre_ExpertsKernel (hPre_experts_in_range := pre_facts) m) : ∃ T, Cert.ExpertsKernel.Run.Holds T m := by
  haveI := pre_facts
  obtain ⟨c₀⟩ : Nonempty (Dev Cert.ExpertsKernel.nD) := ⟨(⟨0, by decide⟩ : Fin 1)⟩
  obtain ⟨hb, hn⟩ := in_range (hp c₀)
  exact ⟨⟨m ((c₀.tc : Thread Cert.ExpertsKernel.nD Cert.ExpertsKernel.τ).loc Cert.ExpertsKernel.main_arg0), m ((c₀.tc : Thread Cert.ExpertsKernel.nD Cert.ExpertsKernel.τ).loc Cert.ExpertsKernel.main_arg1), hb, hn⟩,
    fun c => by rw [show c = c₀ from Subsingleton.elim (α := Fin 1) c c₀], fun c => by rw [show c = c₀ from Subsingleton.elim (α := Fin 1) c c₀]⟩

/-- Tables that satisfy the precondition are in range. -/
theorem tables_ideal (m : (ℓ : Loc Cert.ExpertsKernelIdeal.nD Cert.ExpertsKernelIdeal.τ Cert.ExpertsKernelIdeal.sig) → Buf (Elt Ideal) ℓ)
    (hp : Cert.Pre_ExpertsKernelIdeal (hPre_experts_in_range := pre_facts) m) : ∃ T, Cert.ExpertsKernelIdeal.Run.Holds T m := by
  haveI := pre_facts
  obtain ⟨c₀⟩ : Nonempty (Dev Cert.ExpertsKernelIdeal.nD) := ⟨(⟨0, by decide⟩ : Fin 1)⟩
  obtain ⟨hb, hn⟩ := in_range (hp c₀)
  exact ⟨⟨m ((c₀.tc : Thread Cert.ExpertsKernelIdeal.nD Cert.ExpertsKernelIdeal.τ).loc Cert.ExpertsKernelIdeal.main_arg0), m ((c₀.tc : Thread Cert.ExpertsKernelIdeal.nD Cert.ExpertsKernelIdeal.τ).loc Cert.ExpertsKernelIdeal.main_arg1), hb, hn⟩,
    fun c => by rw [show c = c₀ from Subsingleton.elim (α := Fin 1) c c₀], fun c => by rw [show c = c₀ from Subsingleton.elim (α := Fin 1) c c₀]⟩

/-- The kernel's frame. -/
theorem kernel_frame : Cert.quiescent_ExpertsKernel (hExpertsKernel := Cert.ExpertsKernel.Gen.facts) (hPre_experts_in_range := pre_facts) := by
  intro m g hp
  obtain ⟨T, hT⟩ := tables_bits m hp
  exact Cert.ExpertsKernel.Run.frame T m g hT

/-- The frame of the kernel over the extended reals. -/
theorem ideal_frame : Cert.quiescent_ExpertsKernelIdeal (hExpertsKernelIdeal := Cert.ExpertsKernelIdeal.Gen.facts) (hPre_experts_in_range := pre_facts) := by
  intro m g hp
  obtain ⟨T, hT⟩ := tables_ideal m hp
  exact Cert.ExpertsKernelIdeal.Run.frame T m g hT

/-- The reference terminates without a fault, keeps its arguments and leaves every counter at zero (it has none). -/
theorem reference_frame (m : (ℓ : Loc Cert.ExpertsReferenceIdeal.nD Cert.ExpertsReferenceIdeal.τ Cert.ExpertsReferenceIdeal.sig) → Buf (Elt Ideal) ℓ)
    (g : Dev Cert.ExpertsReferenceIdeal.nD → PrngReg) :
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6)
      ∧ r.2.mem ((c.tc : Thread Cert.ExpertsReferenceIdeal.nD Cert.ExpertsReferenceIdeal.τ).loc Cert.ExpertsReferenceIdeal.main_arg7) = m ((c.tc : Thread Cert.ExpertsReferenceIdeal.nD Cert.ExpertsReferenceIdeal.τ).loc Cert.ExpertsReferenceIdeal.main_arg7)
      ∧ r.2.mem ((c.tc : Thread Cert.ExpertsReferenceIdeal.nD Cert.ExpertsReferenceIdeal.τ).loc Cert.ExpertsReferenceIdeal.main_arg8) = m ((c.tc : Thread Cert.ExpertsReferenceIdeal.nD Cert.ExpertsReferenceIdeal.τ).loc Cert.ExpertsReferenceIdeal.main_arg8))
      ∧ r.2.sem = fun _ => 0) :=
  (θ_run _ _ _).mono (fun r h => ⟨fun c => (h c).2, sem_eq_zero_of_no_sems (by decide) r.2⟩)
    (Cert.ExpertsReferenceIdeal.Value.run (F := Ideal) m g)

/-- **The value claim.** -/
theorem algebraic : Cert.algebraic_ExpertsKernelIdeal_ExpertsReferenceIdeal (hExpertsKernelIdeal := Cert.ExpertsKernelIdeal.Gen.facts)
    (hExpertsReferenceIdeal := Cert.ExpertsReferenceIdeal.Gen.facts) (hPre_experts_in_range := pre_facts) := by
  intro m g m' g' hpre hag
  obtain ⟨T, hT⟩ := tables_ideal m hpre
  refine ⟨fun c => expertsOut T (m ((c.tc : Thread Cert.ExpertsKernelIdeal.nD Cert.ExpertsKernelIdeal.τ).loc Cert.ExpertsKernelIdeal.main_arg2)) (m ((c.tc : Thread Cert.ExpertsKernelIdeal.nD Cert.ExpertsKernelIdeal.τ).loc Cert.ExpertsKernelIdeal.main_arg3)) (m ((c.tc : Thread Cert.ExpertsKernelIdeal.nD Cert.ExpertsKernelIdeal.τ).loc Cert.ExpertsKernelIdeal.main_arg4)) (m ((c.tc : Thread Cert.ExpertsKernelIdeal.nD Cert.ExpertsKernelIdeal.τ).loc Cert.ExpertsKernelIdeal.main_arg5)) (m ((c.tc : Thread Cert.ExpertsKernelIdeal.nD Cert.ExpertsKernelIdeal.τ).loc Cert.ExpertsKernelIdeal.main_arg6)) (m ((c.tc : Thread Cert.ExpertsKernelIdeal.nD Cert.ExpertsKernelIdeal.τ).loc Cert.ExpertsKernelIdeal.main_arg7)) (m ((c.tc : Thread Cert.ExpertsKernelIdeal.nD Cert.ExpertsKernelIdeal.τ).loc Cert.ExpertsKernelIdeal.main_arg8)), ?_, ?_⟩
  · refine (θ_run _ _ _).mono (fun r h c => ?_) (θ_run_and (Cert.ExpertsKernelIdeal.Run.run_main T m g hT) (Cert.ExpertsKernelIdeal.Run.unchanged T m g hT))
    exact ⟨((h.1 c).1 (7 : Fin 8)).trans (Cert.ExpertsKernelIdeal.Run.array T m g c), h.2 c⟩
  · refine (θ_run _ _ _).mono (fun r h c => ?_) (Cert.ExpertsReferenceIdeal.Value.run (F := Ideal) m' g')
    obtain ⟨h0, h1⟩ := h c
    refine ⟨h0.trans ?_, h1⟩
    obtain ⟨a0, a1, a2, a3, a4, a5, a6, a7, a8⟩ := hag c
    rw [Cert.ExpertsReferenceIdeal.Read.val_main_v37_eq, a0, a1, a2, a3, a4, a5, a6, a7, a8, hT.1 c, hT.2 c, ref_out]

end Cert.Experts

end
-- ==== Proof.Moba.Pays.lean ====
/- The MoBA attention kernel's block steps over the extended reals: the queries of one head of a pair, the scores of an
   earlier block with its selection bias, the masked scores of the diagonal block, and one step of the running maximum,
   denominator and numerator as a function of a block's scores and values alone, for both heads. -/
module

public import proofs.«01_k».proof.Proof.Gen.MobaKernelIdeal.Value
public import proofs.«01_k».proof.Proof.Attn.Pays
public import Idealize.ShloMosaic.Lib.Pointwise

@[expose] public section

noncomputable section

namespace Cert.Moba

open Cert.MobaKernelIdeal Cert.MobaKernelIdeal.Gen Idealize.ShloMosaic Idealize.ShloMosaic.TcCoe Idealize.SL.Sem Idealize.ShloMosaic.Tactic

/-- The running maximum, denominator and numerator of a block of query rows. -/
abbrev St := FVec Ideal S256x1 .f32 × FVec Ideal S256x1 .f32 × FVec Ideal S256x128 .f32

/-- The largest score of a row. -/
def rowMax (s : FVec Ideal S256x256 .f32) (r : Fin 256) : EReal := Finset.univ.sup fun c : Fin 256 => (s (ix2 r c) : EReal)

/-- The state after the first block taken. -/
def first (s : FVec Ideal S256x256 .f32) (vb : Vec Ideal S256x128 .bf16) : St :=
  (fun i => rowMax s (i 0),
   fun i => ∑ c : Fin 256, Ideal.exp (s (ix2 (i 0) c) - rowMax s (i 0)),
   fun i => ∑ c : Fin 256, Ideal.exp (s (ix2 (i 0) c) - rowMax s (i 0)) * (vb (ix2 c (i 1)) : EReal))

theorem first_max (s : FVec Ideal S256x256 .f32) (vb : Vec Ideal S256x128 .bf16) (r : Fin 256) : (first s vb).1 (ix2 r 0) = rowMax s r := rfl

/-- The new maximum of a row. -/
def newMax (s : FVec Ideal S256x256 .f32) (m : FVec Ideal S256x1 .f32) (r : Fin 256) : EReal := max (m (ix2 r 0)) (rowMax s r)

/-- The state after one more block. -/
def step (s : FVec Ideal S256x256 .f32) (vb : Vec Ideal S256x128 .bf16) (acc : St) : St :=
  (fun i => newMax s acc.1 (i 0),
   fun i => Ideal.exp (acc.1 (ix2 (i 0) 0) - newMax s acc.1 (i 0)) * acc.2.1 (ix2 (i 0) 0)
     + ∑ c : Fin 256, Ideal.exp (s (ix2 (i 0) c) - newMax s acc.1 (i 0)),
   fun i => Ideal.exp (acc.1 (ix2 (i 0) 0) - newMax s acc.1 (i 0)) * acc.2.2 i
     + ∑ c : Fin 256, Ideal.exp (s (ix2 (i 0) c) - newMax s acc.1 (i 0)) * (vb (ix2 c (i 1)) : EReal))

/-- Two states are equal when they agree at every row and lane. -/
theorem St.ext {a b : St} (h1 : ∀ r : Fin 256, a.1 (ix2 r 0) = b.1 (ix2 r 0)) (h2 : ∀ r : Fin 256, a.2.1 (ix2 r 0) = b.2.1 (ix2 r 0))
    (h3 : ∀ (r : Fin 256) (d : Fin 128), a.2.2 (ix2 r d) = b.2.2 (ix2 r d)) : a = b := by
  have e1 (i : S256x1.Idx) : ∃ r : Fin 256, i = ix2 r 0 := ⟨i 0, funext fun a => by
    match a with
    | ⟨0, _⟩ => rfl
    | ⟨1, _⟩ => exact Subsingleton.elim (α := Fin 1) _ _⟩
  refine Prod.ext (funext fun i => ?_) (Prod.ext (funext fun i => ?_) (funext fun i => ?_))
  · obtain ⟨r, rfl⟩ := e1 i; exact h1 r
  · obtain ⟨r, rfl⟩ := e1 i; exact h2 r
  · obtain ⟨r, d, rfl⟩ : ∃ (r : Fin 256) (d : Fin 128), i = ix2 r d := ⟨i 0, i 1, eq_ix2 i⟩
    exact h3 r d

/-- Head 0's diagonal block. -/
theorem first0_eq (q kb vb : Vec Ideal S256x128 .bf16) :
    ((k0_pay4 (F := Ideal) q kb, k0_pay6 (F := Ideal) q kb, k0_pay7 (F := Ideal) q kb vb) : St) = first (k0_pay3 (F := Ideal) q kb) vb := by
  have hm (r : Fin 256) : k0_pay4 (F := Ideal) q kb (ix2 r 0) = rowMax (k0_pay3 (F := Ideal) q kb) r := by
    pointwise [k0_pay4]
    rw [Attn.neg_inf]; rfl
  refine St.ext (fun r => ?_) (fun r => ?_) (fun r d => ?_)
  · rw [first_max, ← hm]
  · show k0_pay6 (F := Ideal) q kb (ix2 r 0) = ∑ c : Fin 256, Ideal.exp (k0_pay3 (F := Ideal) q kb (ix2 r c) - rowMax (k0_pay3 (F := Ideal) q kb) r)
    rw [← hm]
    pointwise [k0_pay6, k0_pay5]
  · show k0_pay7 (F := Ideal) q kb vb (ix2 r d) = ∑ c : Fin 256, Ideal.exp (k0_pay3 (F := Ideal) q kb (ix2 r c) - rowMax (k0_pay3 (F := Ideal) q kb) r) * (vb (ix2 c d) : EReal)
    rw [← hm]
    pointwise [k0_pay7, k0_pay5]

/-- Head 1's diagonal block. -/
theorem first1_eq (q : Vec Ideal S256x128 .bf16) (v4 : IVec S256x128 32) (kb vb : Vec Ideal S256x128 .bf16) :
    ((k0_pay23 (F := Ideal) q v4 kb, k0_pay25 (F := Ideal) q v4 kb, k0_pay26 (F := Ideal) q v4 kb vb) : St) = first (k0_pay22 (F := Ideal) q v4 kb) vb := by
  have hm (r : Fin 256) : k0_pay23 (F := Ideal) q v4 kb (ix2 r 0) = rowMax (k0_pay22 (F := Ideal) q v4 kb) r := by
    pointwise [k0_pay23]
    rw [Attn.neg_inf]; rfl
  refine St.ext (fun r => ?_) (fun r => ?_) (fun r d => ?_)
  · rw [first_max, ← hm]
  · show k0_pay25 (F := Ideal) q v4 kb (ix2 r 0) = ∑ c : Fin 256, Ideal.exp (k0_pay22 (F := Ideal) q v4 kb (ix2 r c) - rowMax (k0_pay22 (F := Ideal) q v4 kb) r)
    rw [← hm]
    pointwise [k0_pay25, k0_pay24]
  · show k0_pay26 (F := Ideal) q v4 kb vb (ix2 r d) = ∑ c : Fin 256, Ideal.exp (k0_pay22 (F := Ideal) q v4 kb (ix2 r c) - rowMax (k0_pay22 (F := Ideal) q v4 kb) r) * (vb (ix2 c d) : EReal)
    rw [← hm]
    pointwise [k0_pay26, k0_pay24]

/-- Head 0's earlier block. -/
theorem step0_eq (i : grid0.Coords) (v3 : Vec Ideal S256x128 .f32) (v4 : IVec S256x128 32) (q : Vec Ideal S256x128 .bf16) (v32 c0 : BitVec 32)
    (k : Fin (k0_t1_loop i).trips) (kb vb : Vec Ideal S256x128 .bf16) (acc : St) :
    ((k0_pay9 (F := Ideal) i v3 v4 q v32 c0 k acc.1 kb, k0_pay12 (F := Ideal) i v3 v4 q v32 c0 k acc.1 acc.2.1 kb,
      k0_pay13 (F := Ideal) i v3 v4 q v32 c0 k acc.1 acc.2.2 kb vb) : St) = step (k0_pay8 (F := Ideal) i v3 v4 q v32 c0 k kb) vb acc := by
  have hm (r : Fin 256) : k0_pay9 (F := Ideal) i v3 v4 q v32 c0 k acc.1 kb (ix2 r 0) = newMax (k0_pay8 (F := Ideal) i v3 v4 q v32 c0 k kb) acc.1 r := by
    pointwise [k0_pay9]
    rw [Attn.neg_inf]; rfl
  refine St.ext (fun r => hm r) (fun r => ?_) (fun r d => ?_)
  · show k0_pay12 (F := Ideal) i v3 v4 q v32 c0 k acc.1 acc.2.1 kb (ix2 r 0)
      = Ideal.exp (acc.1 (ix2 r 0) - newMax (k0_pay8 (F := Ideal) i v3 v4 q v32 c0 k kb) acc.1 r) * acc.2.1 (ix2 r 0)
        + ∑ c : Fin 256, Ideal.exp (k0_pay8 (F := Ideal) i v3 v4 q v32 c0 k kb (ix2 r c) - newMax (k0_pay8 (F := Ideal) i v3 v4 q v32 c0 k kb) acc.1 r)
    rw [← hm]
    pointwise [k0_pay12, k0_pay10, k0_pay11]
  · show k0_pay13 (F := Ideal) i v3 v4 q v32 c0 k acc.1 acc.2.2 kb vb (ix2 r d)
      = Ideal.exp (acc.1 (ix2 r 0) - newMax (k0_pay8 (F := Ideal) i v3 v4 q v32 c0 k kb) acc.1 r) * acc.2.2 (ix2 r d)
        + ∑ c : Fin 256, Ideal.exp (k0_pay8 (F := Ideal) i v3 v4 q v32 c0 k kb (ix2 r c) - newMax (k0_pay8 (F := Ideal) i v3 v4 q v32 c0 k kb) acc.1 r) * (vb (ix2 c d) : EReal)
    rw [← hm]
    pointwise [k0_pay13, k0_pay10, k0_pay11]

/-- Head 1's earlier block. -/
theorem step1_eq (i : grid0.Coords) (a1 : BitVec 32) (q : Vec Ideal S256x128 .bf16) (v3 : Vec Ideal S256x128 .f32) (v4 : IVec S256x128 32)
    (k : Fin (k0_t3_loop i).trips) (kb vb : Vec Ideal S256x128 .bf16) (acc : St) :
    ((k0_pay28 (F := Ideal) i a1 q v3 v4 k acc.1 kb, k0_pay31 (F := Ideal) i a1 q v3 v4 k acc.1 acc.2.1 kb,
      k0_pay32 (F := Ideal) i a1 q v3 v4 k acc.1 acc.2.2 kb vb) : St) = step (k0_pay27 (F := Ideal) i a1 q v3 v4 k kb) vb acc := by
  have hm (r : Fin 256) : k0_pay28 (F := Ideal) i a1 q v3 v4 k acc.1 kb (ix2 r 0) = newMax (k0_pay27 (F := Ideal) i a1 q v3 v4 k kb) acc.1 r := by
    pointwise [k0_pay28]
    rw [Attn.neg_inf]; rfl
  refine St.ext (fun r => hm r) (fun r => ?_) (fun r d => ?_)
  · show k0_pay31 (F := Ideal) i a1 q v3 v4 k acc.1 acc.2.1 kb (ix2 r 0)
      = Ideal.exp (acc.1 (ix2 r 0) - newMax (k0_pay27 (F := Ideal) i a1 q v3 v4 k kb) acc.1 r) * acc.2.1 (ix2 r 0)
        + ∑ c : Fin 256, Ideal.exp (k0_pay27 (F := Ideal) i a1 q v3 v4 k kb (ix2 r c) - newMax (k0_pay27 (F := Ideal) i a1 q v3 v4 k kb) acc.1 r)
    rw [← hm]
    pointwise [k0_pay31, k0_pay29, k0_pay30]
  · show k0_pay32 (F := Ideal) i a1 q v3 v4 k acc.1 acc.2.2 kb vb (ix2 r d)
      = Ideal.exp (acc.1 (ix2 r 0) - newMax (k0_pay27 (F := Ideal) i a1 q v3 v4 k kb) acc.1 r) * acc.2.2 (ix2 r d)
        + ∑ c : Fin 256, Ideal.exp (k0_pay27 (F := Ideal) i a1 q v3 v4 k kb (ix2 r c) - newMax (k0_pay27 (F := Ideal) i a1 q v3 v4 k kb) acc.1 r) * (vb (ix2 c d) : EReal)
    rw [← hm]
    pointwise [k0_pay32, k0_pay29, k0_pay30]

end Cert.Moba

end
-- ==== Proof.Moba.Scores.lean ====
/- The scores of the MoBA attention kernel's blocks, read at an index: a product over the lanes of one head, the other
   lanes of the pair being set to zero, and for an earlier block the selection bias of that head and block. -/
module

public import proofs.«01_k».proof.Proof.Moba.Pays

@[expose] public section

noncomputable section

namespace Cert.Moba

open Cert.MobaKernelIdeal Cert.MobaKernelIdeal.Gen Idealize.ShloMosaic Idealize.ShloMosaic.TcCoe Idealize.SL.Sem Idealize.ShloMosaic.Tactic

/-- The number of each lane. -/
abbrev lanes : IVec S256x128 32 := iota .tc S256x128 32 [1] iota_S256x128_d1_w32

/-- The product of row `r` of the queries and row `c` of a block of keys, over the lanes of head `h`. -/
def dot (q kb : Vec Ideal S256x128 .bf16) (h : Fin 2) (r c : Fin 256) : EReal :=
  ∑ e : Fin 64, (q (ix2 r ⟨64 * h.val + e.val, by omega⟩) : EReal) * kb (ix2 c ⟨64 * h.val + e.val, by omega⟩)

theorem zero_word : Ideal.ofBits .f32 0x00000000#32 = 0 := by
  simp [Ideal.ofBits, Ideal.ieee]

/-- Choosing the value at the lanes from `lo` to `hi` and zero elsewhere. -/
theorem select_range : ∀ d : Fin 128,
    (IntOp.andi (IntOp.cmpi .sge (BitVec.ofNat 32 d.val) 0#32) (IntOp.cmpi .slt (BitVec.ofNat 32 d.val) 64#32) = 1#1 ↔ d.val < 64)
    ∧ (IntOp.andi (IntOp.cmpi .sge (BitVec.ofNat 32 d.val) 64#32) (IntOp.cmpi .slt (BitVec.ofNat 32 d.val) 128#32) = 1#1 ↔ ¬ d.val < 64) := by
  decide

/-- A sum over the lanes of the pair with the lanes of the other head at zero. -/
theorem sum_head (f : Fin 128 → EReal) (g : Fin 128 → EReal) :
    (∑ d : Fin 128, (if d.val < 64 then f d else 0) * g d = ∑ e : Fin 64, f ⟨e.val, by omega⟩ * g ⟨e.val, by omega⟩)
    ∧ (∑ d : Fin 128, (if d.val < 64 then 0 else f d) * g d = ∑ e : Fin 64, f ⟨64 + e.val, by omega⟩ * g ⟨64 + e.val, by omega⟩) := by
  constructor
  · refine (Fin.sum_univ_add (a := 64) (b := 64) fun d : Fin 128 => (if d.val < 64 then f d else 0) * g d).trans ?_
    refine (congrArg₂ (· + ·) (Finset.sum_congr rfl fun e _ => ?_) (Finset.sum_eq_zero fun e _ => ?_)).trans (add_zero _)
    · rw [if_pos (by show e.val < 64; exact e.isLt)]; rfl
    · rw [if_neg (by show ¬ 64 + e.val < 64; omega), zero_mul]
  · refine (Fin.sum_univ_add (a := 64) (b := 64) fun d : Fin 128 => (if d.val < 64 then 0 else f d) * g d).trans ?_
    refine (congrArg₂ (· + ·) (Finset.sum_eq_zero fun e _ => ?_) (Finset.sum_congr rfl fun e _ => ?_)).trans (zero_add _)
    · rw [if_pos (by show e.val < 64; exact e.isLt), zero_mul]
    · rw [if_neg (by show ¬ 64 + e.val < 64; omega)]; rfl

theorem pay2_apply (q : Vec Ideal S256x128 .bf16) (r : Fin 256) (d : Fin 128) :
    k0_pay2 (F := Ideal) q (ix2 r d) = if d.val < 64 then (q (ix2 r d) : EReal) else 0 := by
  pointwise [k0_pay2]
  rw [Scalar.select]
  exact if_congr (select_range d).1 rfl rfl

theorem pay21_apply (q : Vec Ideal S256x128 .bf16) (r : Fin 256) (d : Fin 128) :
    k0_pay21 (F := Ideal) q lanes (ix2 r d) = if d.val < 64 then 0 else (q (ix2 r d) : EReal) := by
  pointwise [k0_pay21]
  rw [Scalar.select, ← ite_not (p := d.val < 64)]
  exact if_congr (select_range d).2 rfl rfl

/-- The diagonal block's scores: those of later keys are masked. -/
theorem pay3_apply (q kb : Vec Ideal S256x128 .bf16) (r c : Fin 256) :
    k0_pay3 (F := Ideal) q kb (ix2 r c) = if c.val ≤ r.val then dot q kb 0 r c else ⊥ := by
  have e : k0_pay3 (F := Ideal) q kb (ix2 r c) = if c.val ≤ r.val then ∑ d : Fin 128, (k0_pay2 (F := Ideal) q (ix2 r d) : EReal) * kb (ix2 c d) else ⊥ := by
    pointwise [k0_pay3]
    rw [Attn.neg_inf]; exact Attn.select_sle (by omega) (by omega) _ _
  rw [e]
  simp only [pay2_apply]
  refine if_congr Iff.rfl (((sum_head _ _).1).trans (Finset.sum_congr rfl fun e _ => ?_)) rfl
  simp

theorem pay22_apply (q kb : Vec Ideal S256x128 .bf16) (r c : Fin 256) :
    k0_pay22 (F := Ideal) q lanes kb (ix2 r c) = if c.val ≤ r.val then dot q kb 1 r c else ⊥ := by
  have e : k0_pay22 (F := Ideal) q lanes kb (ix2 r c)
      = if c.val ≤ r.val then ∑ d : Fin 128, (k0_pay21 (F := Ideal) q lanes (ix2 r d) : EReal) * kb (ix2 c d) else ⊥ := by
    pointwise [k0_pay22]
    rw [Attn.neg_inf]; exact Attn.select_sle (by omega) (by omega) _ _
  rw [e]
  simp only [pay21_apply]
  exact if_congr Iff.rfl (((sum_head _ _).2).trans (Finset.sum_congr rfl fun e _ => rfl)) rfl

/-- The lane of a head's bias for a block, as the kernel computes it. -/
theorem lane_word : ∀ (p : Fin 4) (n : Fin 8) (d : Fin 128),
    (IntOp.cmpi .eq (BitVec.ofNat 32 d.val) (Scalar.addi (Scalar.muli (Scalar.addi (Scalar.muli (BitVec.ofNat 32 p.val) 2#32) 0#32) 8#32) (Scf.iv 0#32 1#32 n.val)) = 1#1
      ↔ d.val = (p.val * 2 + 0) * 8 + n.val)
    ∧ (IntOp.cmpi .eq (BitVec.ofNat 32 d.val) (Scalar.addi (Scalar.muli (Scalar.addi (Scalar.muli (BitVec.ofNat 32 p.val) 2#32) 1#32) 8#32) (Scf.iv 0#32 1#32 n.val)) = 1#1
      ↔ d.val = (p.val * 2 + 1) * 8 + n.val) := by
  decide +kernel

/-- A sum with a single lane kept. -/
theorem sum_lane (f : Fin 128 → EReal) (n : Fin 128) : (∑ d : Fin 128, if d.val = n.val then f d else 0) = f n := by
  simp only [← Fin.ext_iff]
  simp

/-- An earlier block's scores. -/
theorem pay8_apply (i : grid0.Coords) (v3 : Vec Ideal S256x128 .f32) (q : Vec Ideal S256x128 .bf16) (p : Fin 4)
    (k : Fin (k0_t1_loop i).trips) (hk : k.val < 8) (kb : Vec Ideal S256x128 .bf16) (r c : Fin 256) :
    k0_pay8 (F := Ideal) i v3 lanes (k0_pay2 q) (Scalar.addi (Scalar.muli (BitVec.ofNat 32 p.val) 2#32) 0#32) 0#32 k kb (ix2 r c)
      = dot q kb 0 r c + v3 (ix2 r ⟨(p.val * 2 + 0) * 8 + k.val, by omega⟩) := by
  have e : k0_pay8 (F := Ideal) i v3 lanes (k0_pay2 q) (Scalar.addi (Scalar.muli (BitVec.ofNat 32 p.val) 2#32) 0#32) 0#32 k kb (ix2 r c)
      = (∑ d : Fin 128, (k0_pay2 (F := Ideal) q (ix2 r d) : EReal) * kb (ix2 c d))
        + ∑ d : Fin 128, Scalar.select (IntOp.cmpi .eq (BitVec.ofNat 32 d.val)
            (Scalar.addi (Scalar.muli (Scalar.addi (Scalar.muli (BitVec.ofNat 32 p.val) 2#32) 0#32) 8#32) (Scf.iv 0#32 1#32 k.val)))
            (v3 (ix2 r d) : EReal) (Ideal.ofBits .f32 0x00000000#32) := by
    pointwise [k0_pay8]
  rw [e]
  simp only [pay2_apply, Scalar.select, zero_word]
  refine congrArg₂ (· + ·) ?_ ?_
  · refine ((sum_head _ _).1).trans (Finset.sum_congr rfl fun e _ => ?_)
    simp
  · refine (Finset.sum_congr rfl fun d _ => if_congr ((lane_word p ⟨k.val, hk⟩ d).1) rfl rfl).trans ?_
    exact sum_lane (fun d => (v3 (ix2 r d) : EReal)) ⟨(p.val * 2 + 0) * 8 + k.val, by omega⟩

theorem pay27_apply (i : grid0.Coords) (v3 : Vec Ideal S256x128 .f32) (q : Vec Ideal S256x128 .bf16) (p : Fin 4)
    (k : Fin (k0_t3_loop i).trips) (hk : k.val < 8) (kb : Vec Ideal S256x128 .bf16) (r c : Fin 256) :
    k0_pay27 (F := Ideal) i (BitVec.ofNat 32 p.val) q v3 lanes k kb (ix2 r c)
      = dot q kb 1 r c + v3 (ix2 r ⟨(p.val * 2 + 1) * 8 + k.val, by omega⟩) := by
  have e : k0_pay27 (F := Ideal) i (BitVec.ofNat 32 p.val) q v3 lanes k kb (ix2 r c)
      = (∑ d : Fin 128, (k0_pay21 (F := Ideal) q lanes (ix2 r d) : EReal) * kb (ix2 c d))
        + ∑ d : Fin 128, Scalar.select (IntOp.cmpi .eq (BitVec.ofNat 32 d.val)
            (Scalar.addi (Scalar.muli (Scalar.addi (Scalar.muli (BitVec.ofNat 32 p.val) 2#32) 1#32) 8#32) (Scf.iv 0#32 1#32 k.val)))
            (v3 (ix2 r d) : EReal) (Ideal.ofBits .f32 0x00000000#32) := by
    pointwise [k0_pay27]
  rw [e]
  simp only [pay21_apply, Scalar.select, zero_word]
  refine congrArg₂ (· + ·) ?_ ?_
  · exact ((sum_head _ _).2).trans (Finset.sum_congr rfl fun e _ => rfl)
  · refine (Finset.sum_congr rfl fun d _ => if_congr ((lane_word p ⟨k.val, hk⟩ d).2) rfl rfl).trans ?_
    exact sum_lane (fun d => (v3 (ix2 r d) : EReal)) ⟨(p.val * 2 + 1) * 8 + k.val, by omega⟩

theorem pay20_apply (l : FVec Ideal S256x1 .f32) (a : FVec Ideal S256x128 .f32) (r : Fin 256) (d : Fin 128) :
    k0_pay20 (F := Ideal) l a (ix2 r d) = Ideal.div (a (ix2 r d)) (l (ix2 r 0)) := by
  pointwise [k0_pay20]

theorem pay39_apply (l : FVec Ideal S256x1 .f32) (a : FVec Ideal S256x128 .f32) (r : Fin 256) (d : Fin 128) :
    k0_pay39 (F := Ideal) l a (ix2 r d) = Ideal.div (a (ix2 r d)) (l (ix2 r 0)) := by
  pointwise [k0_pay39]

/-- The two heads' lanes side by side. -/
theorem pay1_apply (a b : FVec Ideal S256x128 .f32) (r : Fin 256) (d : Fin 128) :
    k0_pay1 (F := Ideal) lanes a b 64#32 (ix2 r d) = if d.val < 64 then a (ix2 r d) else b (ix2 r d) := by
  pointwise [k0_pay1]
  exact Attn.select_slt (a := d.val) (b := 64) (by omega) (by omega) _ _

end Cert.Moba

end
-- ==== Proof.Moba.State.lean ====
/- The MoBA attention kernel's loop over the blocks of keys, as a plain recursion on whole blocks, and what its state is
   for one query row: the running maximum, denominator and numerator after the blocks taken. -/
module

public import proofs.«01_k».proof.Proof.Moba.Scores
public import proofs.«01_k».proof.Proof.Attn.State

@[expose] public section

noncomputable section

namespace Cert.Moba

open Cert.MobaKernelIdeal Cert.MobaKernelIdeal.Gen Idealize.ShloMosaic Idealize.ShloMosaic.TcCoe Idealize.SL.Sem Idealize.ShloMosaic.Tactic
open Cert.Attn (Flash blkEmb blkEmb_val taken taken_zero taken_succ)

/-- Block `j` of the keys, or of the values, of the pair. -/
def blk (x : Vec Ideal S2048x128 .bf16) (j : ℕ) : Vec Ideal S256x128 .bf16 :=
  fun i => x (ix2 ⟨(256 * j + (i 0).val) % 2048, Nat.mod_lt _ (by norm_num)⟩ (i 1))

theorem blk_apply (x : Vec Ideal S2048x128 .bf16) (j : ℕ) (hj : j < 8) (c : Fin 256) (d : Fin 128) :
    blk x j (ix2 c d) = x (ix2 (blkEmb j hj c) d) := by
  unfold blk
  congr 2
  exact Fin.ext (Nat.mod_eq_of_lt (by have := c.isLt; simp; omega))

/-- The lane of the bias of head `h` of pair `p` for block `n`. -/
def lane (p : Fin 4) (h : Fin 2) (n : ℕ) : Fin 128 := ⟨((p.val * 2 + h.val) * 8 + n) % 128, Nat.mod_lt _ (by norm_num)⟩

/-- The scores of the diagonal block. -/
def diag (q kb : Vec Ideal S256x128 .bf16) (h : Fin 2) : FVec Ideal S256x256 .f32 :=
  fun i => if (i 1).val ≤ (i 0).val then dot q kb h (i 0) (i 1) else ⊥

/-- The scores of an earlier block. -/
def past (q kb : Vec Ideal S256x128 .bf16) (x3 : Vec Ideal S256x128 .f32) (p : Fin 4) (h : Fin 2) (n : ℕ) : FVec Ideal S256x256 .f32 :=
  fun i => dot q kb h (i 0) (i 1) + x3 (ix2 (i 0) (lane p h n))

/-- The state after the diagonal block `i` and the first `n` blocks. -/
def state (q : Vec Ideal S256x128 .bf16) (x1 x2 : Vec Ideal S2048x128 .bf16) (x3 : Vec Ideal S256x128 .f32) (p : Fin 4) (h : Fin 2) (i : ℕ) : ℕ → St
  | 0 => first (diag q (blk x1 i) h) (blk x2 i)
  | n + 1 => step (past q (blk x1 n) x3 p h n) (blk x2 n) (state q x1 x2 x3 p h i n)

/-- The product of row `r` of the queries and key `k`, over the lanes of head `h`. -/
def keyDot (q : Vec Ideal S256x128 .bf16) (x1 : Vec Ideal S2048x128 .bf16) (h : Fin 2) (r : Fin 256) (k : Fin 2048) : EReal :=
  ∑ e : Fin 64, (q (ix2 r ⟨64 * h.val + e.val, by omega⟩) : EReal) * x1 (ix2 k ⟨64 * h.val + e.val, by omega⟩)

/-- The score of key `k` against row `r` of query block `i`: with its block's bias before that block, causal within. -/
def score (q : Vec Ideal S256x128 .bf16) (x1 : Vec Ideal S2048x128 .bf16) (x3 : Vec Ideal S256x128 .f32) (p : Fin 4) (h : Fin 2) (i : ℕ)
    (r : Fin 256) (k : Fin 2048) : EReal :=
  if k.val / 256 < i then keyDot q x1 h r k + x3 (ix2 r (lane p h (k.val / 256)))
  else if k.val ≤ 256 * i + r.val then keyDot q x1 h r k else ⊥

theorem dot_blk (q : Vec Ideal S256x128 .bf16) (x1 : Vec Ideal S2048x128 .bf16) (h : Fin 2) (j : ℕ) (hj : j < 8) (r c : Fin 256) :
    dot q (blk x1 j) h r c = keyDot q x1 h r (blkEmb j hj c) := by
  unfold dot keyDot
  exact Finset.sum_congr rfl fun e _ => by rw [blk_apply x1 j hj]

/-- **The state of a row** after the diagonal block and `n` earlier blocks. -/
theorem state_flash (q : Vec Ideal S256x128 .bf16) (x1 x2 : Vec Ideal S2048x128 .bf16) (x3 : Vec Ideal S256x128 .f32) (p : Fin 4) (h : Fin 2)
    (i : ℕ) (hi : i < 8) (r : Fin 256) (d : Fin 128) (n : ℕ) (hn : n ≤ i) :
    Flash (score q x1 x3 p h i r) (fun k => (x2 (ix2 k d) : EReal)) (taken i n)
      ((state q x1 x2 x3 p h i n).1 (ix2 r 0)) ((state q x1 x2 x3 p h i n).2.1 (ix2 r 0)) ((state q x1 x2 x3 p h i n).2.2 (ix2 r d)) := by
  induction n with
  | zero =>
    have hs : ∀ c : Fin 256, diag q (blk x1 i) h (ix2 r c) = score q x1 x3 p h i r (blkEmb i hi c) := fun c => by
      have hc := c.isLt
      show (if c.val ≤ r.val then dot q (blk x1 i) h r c else ⊥) = _
      unfold score
      rw [dot_blk q x1 h i hi, blkEmb_val, if_neg (show ¬ (256 * i + c.val) / 256 < i by omega)]
      exact if_congr (by omega) rfl rfl
    have hm : rowMax (diag q (blk x1 i) h) r = Finset.univ.sup fun c => score q x1 x3 p h i r (blkEmb i hi c) := by
      unfold rowMax; simp only [hs]
    have := Flash.first (score q x1 x3 p h i r) (fun k => (x2 (ix2 k d) : EReal)) (blkEmb i hi)
    rw [taken_zero i hi]
    show Flash _ _ _ (rowMax (diag q (blk x1 i) h) r) (∑ c : Fin 256, Ideal.exp (diag q (blk x1 i) h (ix2 r c) - rowMax (diag q (blk x1 i) h) r))
      (∑ c : Fin 256, Ideal.exp (diag q (blk x1 i) h (ix2 r c) - rowMax (diag q (blk x1 i) h) r) * (blk x2 i (ix2 c d) : EReal))
    simp only [hm, hs, blk_apply x2 i hi]
    exact this
  | succ n ih =>
    have hs : ∀ c : Fin 256, past q (blk x1 n) x3 p h n (ix2 r c) = score q x1 x3 p h i r (blkEmb n (by omega) c) := fun c => by
      have hc := c.isLt
      show dot q (blk x1 n) h r c + x3 (ix2 r (lane p h n)) = _
      have e : (blkEmb n (by omega) c).val / 256 = n := by rw [blkEmb_val]; omega
      unfold score
      rw [dot_blk q x1 h n (by omega), e, if_pos (by omega)]
    have hm : newMax (past q (blk x1 n) x3 p h n) (state q x1 x2 x3 p h i n).1 r
        = max ((state q x1 x2 x3 p h i n).1 (ix2 r 0)) (Finset.univ.sup fun c => score q x1 x3 p h i r (blkEmb n (by omega) c)) := by
      unfold newMax rowMax; simp only [hs]
    have := (ih (by omega)).step (blkEmb n (by omega)) (fun c => by
      have := c.isLt
      simp only [taken, Finset.mem_filter, Finset.mem_univ, true_and, blkEmb_val]
      omega) hm
    rw [taken_succ i n (by omega)]
    show Flash _ _ _ (newMax (past q (blk x1 n) x3 p h n) (state q x1 x2 x3 p h i n).1 r)
      (Ideal.exp ((state q x1 x2 x3 p h i n).1 (ix2 r 0) - newMax (past q (blk x1 n) x3 p h n) (state q x1 x2 x3 p h i n).1 r) * (state q x1 x2 x3 p h i n).2.1 (ix2 r 0)
        + ∑ c : Fin 256, Ideal.exp (past q (blk x1 n) x3 p h n (ix2 r c) - newMax (past q (blk x1 n) x3 p h n) (state q x1 x2 x3 p h i n).1 r))
      (Ideal.exp ((state q x1 x2 x3 p h i n).1 (ix2 r 0) - newMax (past q (blk x1 n) x3 p h n) (state q x1 x2 x3 p h i n).1 r) * (state q x1 x2 x3 p h i n).2.2 (ix2 r d)
        + ∑ c : Fin 256, Ideal.exp (past q (blk x1 n) x3 p h n (ix2 r c) - newMax (past q (blk x1 n) x3 p h n) (state q x1 x2 x3 p h i n).1 r) * (blk x2 n (ix2 c d) : EReal))
    simp only [hs, blk_apply x2 n (show n < 8 by omega)]
    exact this

/-- The kernel's scores are these. -/
theorem diag0_eq (q kb : Vec Ideal S256x128 .bf16) : k0_pay3 (F := Ideal) q kb = diag q kb 0 := funext fun i => by
  obtain ⟨r, c, rfl⟩ : ∃ (r c : Fin 256), i = ix2 r c := ⟨i 0, i 1, eq_ix2 i⟩
  rw [pay3_apply]; rfl

theorem diag1_eq (q kb : Vec Ideal S256x128 .bf16) : k0_pay22 (F := Ideal) q lanes kb = diag q kb 1 := funext fun i => by
  obtain ⟨r, c, rfl⟩ : ∃ (r c : Fin 256), i = ix2 r c := ⟨i 0, i 1, eq_ix2 i⟩
  rw [pay22_apply]; rfl

theorem past0_eq (i : grid0.Coords) (x3 : Vec Ideal S256x128 .f32) (q : Vec Ideal S256x128 .bf16) (p : Fin 4)
    (k : Fin (k0_t1_loop i).trips) (hk : k.val < 8) (kb : Vec Ideal S256x128 .bf16) :
    k0_pay8 (F := Ideal) i x3 lanes (k0_pay2 q) (Scalar.addi (Scalar.muli (BitVec.ofNat 32 p.val) 2#32) 0#32) 0#32 k kb = past q kb x3 p 0 k.val :=
  funext fun j => by
    obtain ⟨r, c, rfl⟩ : ∃ (r c : Fin 256), j = ix2 r c := ⟨j 0, j 1, eq_ix2 j⟩
    rw [pay8_apply i x3 q p k hk]
    have e : (⟨(p.val * 2 + 0) * 8 + k.val, by omega⟩ : Fin 128) = lane p 0 k.val :=
      Fin.ext (by show (p.val * 2 + 0) * 8 + k.val = ((p.val * 2 + 0) * 8 + k.val) % 128; omega)
    rw [e]; rfl

theorem past1_eq (i : grid0.Coords) (x3 : Vec Ideal S256x128 .f32) (q : Vec Ideal S256x128 .bf16) (p : Fin 4)
    (k : Fin (k0_t3_loop i).trips) (hk : k.val < 8) (kb : Vec Ideal S256x128 .bf16) :
    k0_pay27 (F := Ideal) i (BitVec.ofNat 32 p.val) q x3 lanes k kb = past q kb x3 p 1 k.val :=
  funext fun j => by
    obtain ⟨r, c, rfl⟩ : ∃ (r c : Fin 256), j = ix2 r c := ⟨j 0, j 1, eq_ix2 j⟩
    rw [pay27_apply i x3 q p k hk]
    have e : (⟨(p.val * 2 + 1) * 8 + k.val, by omega⟩ : Fin 128) = lane p 1 k.val :=
      Fin.ext (by show (p.val * 2 + 1) * 8 + k.val = ((p.val * 2 + 1) * 8 + k.val) % 128; omega)
    rw [e]; rfl

end Cert.Moba

end
-- ==== Proof.Moba.Body.lean ====
/- What the MoBA attention kernel's body leaves in its output block, from the blocks it reads: for each of the two heads
   the quotient of the state after the blocks up to the diagonal, by `Moba.state`. -/
module

public import proofs.«01_k».proof.Proof.Moba.State
public import proofs.«01_k».proof.Proof.Attn.Body
public import Idealize.ShloMosaic.Lib.Pipeline.ValueKit

@[expose] public section

noncomputable section

namespace Cert.Moba

open Cert.MobaKernelIdeal Cert.MobaKernelIdeal.Gen Idealize.ShloMosaic Idealize.ShloMosaic.TcCoe Idealize.SL.Sem Idealize.ShloMosaic.Tactic
open Cert.Attn (hz2 word_row word_iv word_trips word_trips')

/-- The loads of the body, as the blocks they read. -/
theorem ld_blk (x : Vec Ideal S2048x128 .bf16) (n : ℕ) (hn : n < 8) (off : Fin 2 → ℕ) (inb) (hoff : off = ![256 * n, 0]) :
    View.ld x (Rect.unit off ![256, 128] inb) = blk x n := by
  subst hoff
  funext j
  refine View.ld_unit_apply_of x _ _ _ _ _ fun a => ?_
  fin_cases a
  · have hj : (j 0).val < 256 := (j 0).isLt
    exact Nat.mod_eq_of_lt (by omega)
  · exact (Nat.zero_add _).symm

/-- Head 0's loop: one trip, and the state before trip `n`. -/
theorem trip1_eq (𝒱 : Variants) (c : Dev nD) (bd : Option 𝒱.V) (i : grid0.Coords) (arg3 : Memref sig .tc .vmem S256x128 .bf16) (harg3 : arg3.IsWhole) (arg4 : Memref sig .tc .vmem S2048x128 .bf16) (harg4 : arg4.IsWhole)
    (arg5 : Memref sig .tc .vmem S2048x128 .bf16) (harg5 : arg5.IsWhole) (arg6 : Memref sig .tc .vmem S256x128 .f32) (harg6 : arg6.IsWhole)
    (arg7 : Memref sig .tc .vmem S256x128 .bf16) (harg7 : arg7.IsWhole)
    (arg1 arg2 v1 : BitVec 32) (v2 : Vec Ideal S256x128 .bf16) (v23 v28 : FVec Ideal S256x1 .f32) (v30 : FVec Ideal S256x128 .f32) (v37 : BitVec 32)
    (x0 : Vec Ideal S256x128 .bf16) (x1 x2 : Vec Ideal S2048x128 .bf16) (x3 : Vec Ideal S256x128 .f32) (k : Fin (k0_t1_loop i).trips) (acc : St) :
    tripR_k0_t1 (F := Ideal) 𝒱 c bd i arg3 harg3 arg4 harg4 arg5 harg5 arg6 harg6 arg7 harg7 arg1 arg2 v1 v2 x3 lanes (k0_pay2 x0) v23 v28 v30 (Scalar.addi (Scalar.muli (BitVec.ofNat 32 (i 1).val) 2#32) 0#32) 0#32 v37 (harg4.unread x1) (harg5.unread x2) k acc
      = step (past x0 (blk x1 k) x3 ⟨(i 1).val, (i 1).isLt⟩ 0 k) (blk x2 k) acc := by
  have hk : k.val < 8 := lt_of_lt_of_eq k.isLt (word_trips ⟨(i 2).val, (i 2).isLt⟩) |>.trans (i 2).isLt
  unfold tripR_k0_t1 trip_k0_t1; dsimp only
  simp only [View.readAt_eq_ld, harg4.read_unread, harg5.read_unread]
  rw [ld_blk x1 k hk (k0_off2 i k) _ (by unfold k0_off2; dsimp only; rw [word_iv ⟨k.val, hk⟩]),
    ld_blk x2 k hk (k0_off2 i k) _ (by unfold k0_off2; dsimp only; rw [word_iv ⟨k.val, hk⟩])]
  rw [← past0_eq i x3 x0 ⟨(i 1).val, (i 1).isLt⟩ k hk, ← step0_eq]

theorem st1_eq (𝒱 : Variants) (c : Dev nD) (bd : Option 𝒱.V) (i : grid0.Coords) (arg3 : Memref sig .tc .vmem S256x128 .bf16) (harg3 : arg3.IsWhole) (arg4 : Memref sig .tc .vmem S2048x128 .bf16) (harg4 : arg4.IsWhole)
    (arg5 : Memref sig .tc .vmem S2048x128 .bf16) (harg5 : arg5.IsWhole) (arg6 : Memref sig .tc .vmem S256x128 .f32) (harg6 : arg6.IsWhole)
    (arg7 : Memref sig .tc .vmem S256x128 .bf16) (harg7 : arg7.IsWhole)
    (arg1 arg2 v1 : BitVec 32) (v2 : Vec Ideal S256x128 .bf16) (v23 v28 : FVec Ideal S256x1 .f32) (v30 : FVec Ideal S256x128 .f32) (v37 : BitVec 32)
    (x0 : Vec Ideal S256x128 .bf16) (x1 x2 : Vec Ideal S2048x128 .bf16) (x3 : Vec Ideal S256x128 .f32) (init : St)
    (h0 : init = state x0 x1 x2 x3 ⟨(i 1).val, (i 1).isLt⟩ 0 (i 2).val 0) (n : ℕ) (hn : n ≤ (i 2).val) :
    st_k0_t1 (F := Ideal) 𝒱 c bd i arg3 harg3 arg4 harg4 arg5 harg5 arg6 harg6 arg7 harg7 arg1 arg2 v1 v2 x3 lanes (k0_pay2 x0) v23 v28 v30 (Scalar.addi (Scalar.muli (BitVec.ofNat 32 (i 1).val) 2#32) 0#32) 0#32 v37 (harg4.unread x1) (harg5.unread x2) init n
      = state x0 x1 x2 x3 ⟨(i 1).val, (i 1).isLt⟩ 0 (i 2).val n := by
  induction n with
  | zero => rw [st_k0_t1_zero, h0]
  | succ n ih =>
    have hk : n < (k0_t1_loop i).trips := lt_of_lt_of_eq (Nat.lt_of_succ_le hn) (word_trips ⟨(i 2).val, (i 2).isLt⟩).symm
    rw [st_k0_t1_succ (k := ⟨n, hk⟩), trip1_eq, ih (by omega)]
    rfl

/-- Head 1's loop: one trip, and the state before trip `n`. -/
theorem trip3_eq (𝒱 : Variants) (c : Dev nD) (bd : Option 𝒱.V) (i : grid0.Coords) (arg3 : Memref sig .tc .vmem S256x128 .bf16) (harg3 : arg3.IsWhole) (arg4 : Memref sig .tc .vmem S2048x128 .bf16) (harg4 : arg4.IsWhole)
    (arg5 : Memref sig .tc .vmem S2048x128 .bf16) (harg5 : arg5.IsWhole) (arg6 : Memref sig .tc .vmem S256x128 .f32) (harg6 : arg6.IsWhole)
    (arg7 : Memref sig .tc .vmem S256x128 .bf16) (harg7 : arg7.IsWhole)
    (arg2 v1 : BitVec 32) (v11 : Vec Ideal S256x128 .bf16) (v23 v28 : FVec Ideal S256x1 .f32) (v30 : FVec Ideal S256x128 .f32) (v32 c0 v37 : BitVec 32)
    (x0 : Vec Ideal S256x128 .bf16) (x1 x2 : Vec Ideal S2048x128 .bf16) (x3 : Vec Ideal S256x128 .f32) (k : Fin (k0_t3_loop i).trips) (acc : St) :
    tripR_k0_t3 (F := Ideal) 𝒱 c bd i arg3 harg3 arg4 harg4 arg5 harg5 arg6 harg6 arg7 harg7 (BitVec.ofNat 32 (i 1).val) arg2 v1 x0 x3 lanes v11 v23 v28 v30 v32 c0 v37 (harg4.unread x1) (harg5.unread x2) k acc
      = step (past x0 (blk x1 k) x3 ⟨(i 1).val, (i 1).isLt⟩ 1 k) (blk x2 k) acc := by
  have hk : k.val < 8 := lt_of_lt_of_eq k.isLt (word_trips ⟨(i 2).val, (i 2).isLt⟩) |>.trans (i 2).isLt
  unfold tripR_k0_t3 trip_k0_t3; dsimp only
  simp only [View.readAt_eq_ld, harg4.read_unread, harg5.read_unread]
  rw [ld_blk x1 k hk (k0_off4 i k) _ (by unfold k0_off4; dsimp only; rw [word_iv ⟨k.val, hk⟩]),
    ld_blk x2 k hk (k0_off4 i k) _ (by unfold k0_off4; dsimp only; rw [word_iv ⟨k.val, hk⟩])]
  rw [← past1_eq i x3 x0 ⟨(i 1).val, (i 1).isLt⟩ k hk, ← step1_eq]

theorem st3_eq (𝒱 : Variants) (c : Dev nD) (bd : Option 𝒱.V) (i : grid0.Coords) (arg3 : Memref sig .tc .vmem S256x128 .bf16) (harg3 : arg3.IsWhole) (arg4 : Memref sig .tc .vmem S2048x128 .bf16) (harg4 : arg4.IsWhole)
    (arg5 : Memref sig .tc .vmem S2048x128 .bf16) (harg5 : arg5.IsWhole) (arg6 : Memref sig .tc .vmem S256x128 .f32) (harg6 : arg6.IsWhole)
    (arg7 : Memref sig .tc .vmem S256x128 .bf16) (harg7 : arg7.IsWhole)
    (arg2 v1 : BitVec 32) (v11 : Vec Ideal S256x128 .bf16) (v23 v28 : FVec Ideal S256x1 .f32) (v30 : FVec Ideal S256x128 .f32) (v32 c0 v37 : BitVec 32)
    (x0 : Vec Ideal S256x128 .bf16) (x1 x2 : Vec Ideal S2048x128 .bf16) (x3 : Vec Ideal S256x128 .f32) (init : St)
    (h0 : init = state x0 x1 x2 x3 ⟨(i 1).val, (i 1).isLt⟩ 1 (i 2).val 0) (n : ℕ) (hn : n ≤ (i 2).val) :
    st_k0_t3 (F := Ideal) 𝒱 c bd i arg3 harg3 arg4 harg4 arg5 harg5 arg6 harg6 arg7 harg7 (BitVec.ofNat 32 (i 1).val) arg2 v1 x0 x3 lanes v11 v23 v28 v30 v32 c0 v37 (harg4.unread x1) (harg5.unread x2) init n
      = state x0 x1 x2 x3 ⟨(i 1).val, (i 1).isLt⟩ 1 (i 2).val n := by
  induction n with
  | zero => rw [st_k0_t3_zero, h0]
  | succ n ih =>
    have hk : n < (k0_t3_loop i).trips := lt_of_lt_of_eq (Nat.lt_of_succ_le hn) (word_trips ⟨(i 2).val, (i 2).isLt⟩).symm
    rw [st_k0_t3_succ (k := ⟨n, hk⟩), trip3_eq, ih (by omega)]
    rfl

set_option backward.isDefEq.respectTransparency false in
/-- **The body's output block.** -/
theorem body (c : Dev nD) (i : grid0.Coords) (arg3 : Memref sig .tc .vmem S256x128 .bf16) (harg3 : arg3.IsWhole) (arg4 : Memref sig .tc .vmem S2048x128 .bf16) (harg4 : arg4.IsWhole)
    (arg5 : Memref sig .tc .vmem S2048x128 .bf16) (harg5 : arg5.IsWhole) (arg6 : Memref sig .tc .vmem S256x128 .f32) (harg6 : arg6.IsWhole)
    (arg7 : Memref sig .tc .vmem S256x128 .bf16) (harg7 : arg7.IsWhole)
    (x0 : Vec Ideal S256x128 .bf16) (x1 x2 : Vec Ideal S2048x128 .bf16) (x3 : Vec Ideal S256x128 .f32) :
    out0_A_4 (F := Ideal) c i arg3 harg3 arg4 harg4 arg5 harg5 arg6 harg6 arg7 harg7 x0 x1 x2 x3 =
      k0_pay1 lanes (k0_pay20 (state x0 x1 x2 x3 ⟨(i 1).val, (i 1).isLt⟩ 0 (i 2).val (i 2).val).2.1 (state x0 x1 x2 x3 ⟨(i 1).val, (i 1).isLt⟩ 0 (i 2).val (i 2).val).2.2)
        (k0_pay39 (state x0 x1 x2 x3 ⟨(i 1).val, (i 1).isLt⟩ 1 (i 2).val (i 2).val).2.1 (state x0 x1 x2 x3 ⟨(i 1).val, (i 1).isLt⟩ 1 (i 2).val (i 2).val).2.2) 64#32 := by
  unfold out0_A_4
  rw [View.read_writes_eq_canon _ _ _ (cover0_A_4 c i arg3 harg3 arg4 harg4 arg5 harg5 arg6 harg6 arg7 harg7 x0 x1 x2 x3)]
  unfold kernelRun0_A
  dsimp only
  sl_unfold_words
  rw [View.canon_unit_zero (S := S256x128) hz2]
  simp only [View.readAt_eq_ld, harg3.read_unread, harg4.read_unread, harg5.read_unread, harg6.read_unread]
  have h2 : (i 2).val < 8 := (i 2).isLt
  have hw := word_row ⟨(i 2).val, h2⟩
  have ht := word_trips ⟨(i 2).val, h2⟩
  have ht' := word_trips' ⟨(i 2).val, h2⟩
  simp only at hw ht ht'
  simp only [View.ld_unit_zero (S := S256x128) hz2]
  simp only [ht, ht', st_k0_t2_zero, st_k0_t4_zero]
  rw [ld_blk x1 (i 2).val h2 ![BitVec.toNat (Scalar.indexCast (Scalar.muli (BitVec.ofNat 32 (i 2).val) 256#32)), 0] _ (by rw [hw]),
    ld_blk x2 (i 2).val h2 ![BitVec.toNat (Scalar.indexCast (Scalar.muli (BitVec.ofNat 32 (i 2).val) 256#32)), 0] _ (by rw [hw])]
  rw [st1_eq (hn := le_rfl), st3_eq (hn := le_rfl)]
  · rw [first1_eq, diag1_eq]; rfl
  · rw [first0_eq, diag0_eq]; rfl

end Cert.Moba

end
-- ==== Proof.Moba.Array.lean ====
/- The MoBA attention kernel's whole output array, over the extended reals: every entry is the softmax-weighted sum of the
   values of its head, over the keys up to the query, the keys of earlier blocks scored with their block's bias. -/
module

public import proofs.«01_k».proof.Proof.Moba.Body
public import proofs.«01_k».proof.Proof.Attn.Finite

@[expose] public section

set_option maxRecDepth 16384
noncomputable section

namespace Cert.Moba

open Cert.MobaKernelIdeal Cert.MobaKernelIdeal.Gen Idealize.ShloMosaic Idealize.ShloMosaic.TcCoe Idealize.SL.Sem Idealize.ShloMosaic.Tactic
open Cert.Attn (Flash blkEmb blkEmb_val taken softmaxSum IsReal)

/-- The product of query `q` and key `k` of head `h` in batch `b`. -/
def mobaDot (Q K : Vec Ideal S16384x512 .bf16) (b h : Fin 8) (q k : Fin 2048) : EReal :=
  ∑ e : Fin 64, (Q (ix2 ⟨b.val * 2048 + q.val, by omega⟩ ⟨h.val * 64 + e.val, by omega⟩) : EReal)
    * K (ix2 ⟨b.val * 2048 + k.val, by omega⟩ ⟨h.val * 64 + e.val, by omega⟩)

/-- The score of key `k` against query `q`: a key of an earlier block takes its block's bias, a key of the query's own
    block is scored when it is not after the query. -/
def mobaScore (Q K : Vec Ideal S16384x512 .bf16) (G : Vec Ideal S16384x128 .f32) (b h : Fin 8) (q k : Fin 2048) : EReal :=
  if k.val / 256 < q.val / 256 then
    mobaDot Q K b h q k + G (ix2 ⟨b.val * 2048 + q.val, by omega⟩ ⟨h.val * 8 + k.val / 256, by omega⟩)
  else if k.val ≤ q.val then mobaDot Q K b h q k else ⊥

/-- The value of key `k` at lane `d`. -/
def mobaValue (V : Vec Ideal S16384x512 .bf16) (b h : Fin 8) (d : Fin 64) (k : Fin 2048) : EReal :=
  V (ix2 ⟨b.val * 2048 + k.val, by omega⟩ ⟨h.val * 64 + d.val, by omega⟩)

/-- The whole result. -/
def mobaOut (Q K V : Vec Ideal S16384x512 .bf16) (G : Vec Ideal S16384x128 .f32) : Vec Ideal S16384x512 .bf16 := fun i =>
  softmaxSum
    (mobaScore Q K G ⟨(i 0).val / 2048, by have : (i 0).val < 16384 := (i 0).isLt; omega⟩ ⟨(i 1).val / 64, by have : (i 1).val < 512 := (i 1).isLt; omega⟩
      ⟨(i 0).val % 2048, by omega⟩)
    (mobaValue V ⟨(i 0).val / 2048, by have : (i 0).val < 16384 := (i 0).isLt; omega⟩ ⟨(i 1).val / 64, by have : (i 1).val < 512 := (i 1).isLt; omega⟩
      ⟨(i 1).val % 64, by omega⟩)

/-- One entry of a block: with finite queries and keys and no bias `+∞` it is the softmax-weighted sum. -/
theorem quot_eq (q : Vec Ideal S256x128 .bf16) (x1 x2 : Vec Ideal S2048x128 .bf16) (x3 : Vec Ideal S256x128 .f32) (p : Fin 4) (h : Fin 2)
    (i : ℕ) (hi : i < 8) (r : Fin 256) (d : Fin 128) (hq : ∀ j, IsReal (q j : EReal)) (hk : ∀ j, IsReal (x1 j : EReal)) (hg : ∀ j, (x3 j : EReal) ≠ ⊤) :
    Ideal.div ((state q x1 x2 x3 p h i i).2.2 (ix2 r d)) ((state q x1 x2 x3 p h i i).2.1 (ix2 r 0))
      = softmaxSum (score q x1 x3 p h i r) (fun k => (x2 (ix2 k d) : EReal)) := by
  have hsum : ∀ k : Fin 2048, IsReal (keyDot q x1 h r k) := fun k => IsReal.sum _ fun e _ => (hq _).mul (hk _)
  have hr := r.isLt
  refine (state_flash q x1 x2 x3 p h i hi r d i le_rfl).out (k₀ := blkEmb i hi r) ?_ ?_ ?_ ?_
  · intro k hk
    simp only [taken, Finset.mem_filter, Finset.mem_univ, true_and, not_or, not_lt] at hk
    unfold score
    rw [if_neg (show ¬ k.val / 256 < i by omega)]
    exact if_neg (by omega)
  · intro k
    unfold score
    split
    · exact EReal.add_ne_top (hsum k).1 (hg _)
    · split
      · exact (hsum k).1
      · exact bot_ne_top
  · simp only [taken, Finset.mem_filter, Finset.mem_univ, true_and, blkEmb_val]
    omega
  · unfold score
    rw [if_neg (show ¬ (blkEmb i hi r).val / 256 < i by rw [blkEmb_val]; omega), if_pos (by rw [blkEmb_val])]
    exact (hsum _).2

theorem body_apply (q : Vec Ideal S256x128 .bf16) (x1 x2 : Vec Ideal S2048x128 .bf16) (x3 : Vec Ideal S256x128 .f32) (p : Fin 4)
    (i : ℕ) (hi : i < 8) (r : Fin 256) (d : Fin 128) (hq : ∀ j, IsReal (q j : EReal)) (hk : ∀ j, IsReal (x1 j : EReal)) (hg : ∀ j, (x3 j : EReal) ≠ ⊤) :
    k0_pay1 (F := Ideal) lanes (k0_pay20 (state q x1 x2 x3 p 0 i i).2.1 (state q x1 x2 x3 p 0 i i).2.2)
        (k0_pay39 (state q x1 x2 x3 p 1 i i).2.1 (state q x1 x2 x3 p 1 i i).2.2) 64#32 (ix2 r d)
      = if d.val < 64 then softmaxSum (score q x1 x3 p 0 i r) (fun k => (x2 (ix2 k d) : EReal))
        else softmaxSum (score q x1 x3 p 1 i r) (fun k => (x2 (ix2 k d) : EReal)) := by
  rw [pay1_apply, pay20_apply, pay39_apply, quot_eq q x1 x2 x3 p 0 i hi r d hq hk hg, quot_eq q x1 x2 x3 p 1 i hi r d hq hk hg]

variable (m : (ℓ : Loc nD τ sig) → Buf (Elt Ideal) ℓ)

theorem idx0 : ∀ t : Fin cfg0.N, win0_0.index t = ![(grid0.coords t 0).val * 8 + (grid0.coords t 2).val, (grid0.coords t 1).val] :=
  (by decide +kernel : ∀ t : Fin grid0.N, _)
theorem idx1 : ∀ t : Fin cfg0.N, win0_1.index t = ![(grid0.coords t 0).val, (grid0.coords t 1).val] :=
  (by decide +kernel : ∀ t : Fin grid0.N, _)
theorem idx2 : ∀ t : Fin cfg0.N, win0_2.index t = ![(grid0.coords t 0).val, (grid0.coords t 1).val] :=
  (by decide +kernel : ∀ t : Fin grid0.N, _)
theorem idx3 : ∀ t : Fin cfg0.N, win0_3.index t = ![(grid0.coords t 0).val * 8 + (grid0.coords t 2).val, 0] :=
  (by decide +kernel : ∀ t : Fin grid0.N, _)
theorem idx4 : ∀ t : Fin cfg0.N, win0_4.index t = ![(grid0.coords t 0).val * 8 + (grid0.coords t 2).val, (grid0.coords t 1).val] :=
  (by decide +kernel : ∀ t : Fin grid0.N, _)

/-- The blocks a point reads, at coordinates. -/
theorem iblk0_apply (c : Dev nD) (t : Fin cfg0.N) (r : Fin 256) (e : Fin 128) (i : S16384x512.Idx)
    (h0 : (i 0).val = (((grid0.coords t 0).val * 8 + (grid0.coords t 2).val)) * 256 + r.val) (h1 : (i 1).val = (grid0.coords t 1).val * 128 + e.val) :
    (iblk m c 0 t : Vec Ideal S256x128 .bf16) (ix2 r e) = (m ((c : Thread nD τ).loc main_arg0) : Vec Ideal S16384x512 .bf16) i := by
  blk_simp [iblk]
  refine congrArg (m ((c : Thread nD τ).loc main_arg0) : Vec Ideal S16384x512 .bf16) ?_
  blk_ext [idx0, h0, h1]

theorem iblk1_apply (c : Dev nD) (t : Fin cfg0.N) (r : Fin 2048) (e : Fin 128) (i : S16384x512.Idx)
    (h0 : (i 0).val = (grid0.coords t 0).val * 2048 + r.val) (h1 : (i 1).val = (grid0.coords t 1).val * 128 + e.val) :
    (iblk m c 1 t : Vec Ideal S2048x128 .bf16) (ix2 r e) = (m ((c : Thread nD τ).loc main_arg1) : Vec Ideal S16384x512 .bf16) i := by
  blk_simp [iblk]
  refine congrArg (m ((c : Thread nD τ).loc main_arg1) : Vec Ideal S16384x512 .bf16) ?_
  blk_ext [idx1, h0, h1]

theorem iblk2_apply (c : Dev nD) (t : Fin cfg0.N) (r : Fin 2048) (e : Fin 128) (i : S16384x512.Idx)
    (h0 : (i 0).val = (grid0.coords t 0).val * 2048 + r.val) (h1 : (i 1).val = (grid0.coords t 1).val * 128 + e.val) :
    (iblk m c 2 t : Vec Ideal S2048x128 .bf16) (ix2 r e) = (m ((c : Thread nD τ).loc main_arg2) : Vec Ideal S16384x512 .bf16) i := by
  blk_simp [iblk]
  refine congrArg (m ((c : Thread nD τ).loc main_arg2) : Vec Ideal S16384x512 .bf16) ?_
  blk_ext [idx2, h0, h1]

theorem iblk3_apply (c : Dev nD) (t : Fin cfg0.N) (r : Fin 256) (e : Fin 128) (i : S16384x128.Idx)
    (h0 : (i 0).val = (((grid0.coords t 0).val * 8 + (grid0.coords t 2).val)) * 256 + r.val) (h1 : (i 1).val = e.val) :
    (iblk m c 3 t : Vec Ideal S256x128 .f32) (ix2 r e) = (m ((c : Thread nD τ).loc main_arg3) : Vec Ideal S16384x128 .f32) i := by
  blk_simp [iblk]
  refine congrArg (m ((c : Thread nD τ).loc main_arg3) : Vec Ideal S16384x128 .f32) ?_
  blk_ext [idx3, h0, h1]

/-- One head's softmax-weighted sum of a point's blocks is the array's. -/
theorem head_eq (c : Dev nD) (t : Fin cfg0.N) (h : Fin 2) (r : Fin 256) (d : Fin 128) (hd : d.val / 64 = h.val) (i : S16384x512.Idx)
    (h0 : (i 0).val = ((grid0.coords t 0).val * 8 + (grid0.coords t 2).val) * 256 + r.val)
    (h1 : (i 1).val = (grid0.coords t 1).val * 128 + d.val) :
    softmaxSum (score (iblk m c 0 t) (iblk m c 1 t) (iblk m c 3 t) ⟨(grid0.coords t 1).val, (grid0.coords t 1).isLt⟩ h (grid0.coords t 2).val r)
        (fun k => ((iblk m c 2 t : Vec Ideal S2048x128 .bf16) (ix2 k d) : EReal))
      = mobaOut (m ((c : Thread nD τ).loc main_arg0)) (m ((c : Thread nD τ).loc main_arg1)) (m ((c : Thread nD τ).loc main_arg2))
          (m ((c : Thread nD τ).loc main_arg3)) i := by
  have hb : (grid0.coords t 0).val < 8 := (grid0.coords t 0).isLt
  have hp : (grid0.coords t 1).val < 4 := (grid0.coords t 1).isLt
  have hq : (grid0.coords t 2).val < 8 := (grid0.coords t 2).isLt
  have hr := r.isLt
  have hdl := d.isLt
  have hh := h.isLt
  unfold mobaOut
  refine congrArg₂ softmaxSum ?_ ?_
  · funext k
    have hk := k.isLt
    have hdot : keyDot (iblk m c 0 t) (iblk m c 1 t) h r k
        = mobaDot (m ((c : Thread nD τ).loc main_arg0)) (m ((c : Thread nD τ).loc main_arg1)) ⟨(i 0).val / 2048, by omega⟩ ⟨(i 1).val / 64, by omega⟩
            ⟨(i 0).val % 2048, by omega⟩ k := by
      unfold keyDot mobaDot
      refine Finset.sum_congr rfl fun e _ => ?_
      have he := e.isLt
      refine congrArg₂ (· * ·) ?_ ?_
      · refine iblk0_apply m c t r ⟨64 * h.val + e.val, by omega⟩ _ ?_ ?_
        · show (i 0).val / 2048 * 2048 + (i 0).val % 2048 = ((grid0.coords t 0).val * 8 + (grid0.coords t 2).val) * 256 + r.val; omega
        · show (i 1).val / 64 * 64 + e.val = (grid0.coords t 1).val * 128 + (64 * h.val + e.val); omega
      · refine iblk1_apply m c t k ⟨64 * h.val + e.val, by omega⟩ _ ?_ ?_
        · show (i 0).val / 2048 * 2048 + k.val = (grid0.coords t 0).val * 2048 + k.val; omega
        · show (i 1).val / 64 * 64 + e.val = (grid0.coords t 1).val * 128 + (64 * h.val + e.val); omega
    unfold score mobaScore
    rw [hdot]
    refine if_congr (by show _ ↔ k.val / 256 < (i 0).val % 2048 / 256; omega) (congrArg₂ (· + ·) rfl ?_)
      (if_congr (by show _ ↔ k.val ≤ (i 0).val % 2048; omega) rfl rfl)
    refine iblk3_apply m c t r _ _ ?_ ?_
    · show (i 0).val / 2048 * 2048 + (i 0).val % 2048 = ((grid0.coords t 0).val * 8 + (grid0.coords t 2).val) * 256 + r.val; omega
    · show (i 1).val / 64 * 8 + k.val / 256 = (((grid0.coords t 1).val * 2 + h.val) * 8 + k.val / 256) % 128; omega
  · funext k
    refine iblk2_apply m c t k d _ ?_ ?_
    · show (i 0).val / 2048 * 2048 + k.val = (grid0.coords t 0).val * 2048 + k.val; omega
    · show (i 1).val / 64 * 64 + (i 1).val % 64 = (grid0.coords t 1).val * 128 + d.val; omega

/-- **The kernel's output array**, for finite queries and keys and no bias `+∞`. -/
theorem array_eq (c : Dev nD) (hQ : ∀ j, IsReal (m ((c : Thread nD τ).loc main_arg0) j : EReal)) (hK : ∀ j, IsReal (m ((c : Thread nD τ).loc main_arg1) j : EReal))
    (hG : ∀ j, Ne (α := EReal) (m ((c : Thread nD τ).loc main_arg3) j) ⊤) :
    (dats m 0 c).arrAt 4 cfg0.N
      = mobaOut (m ((c : Thread nD τ).loc main_arg0)) (m ((c : Thread nD τ).loc main_arg1)) (m ((c : Thread nD τ).loc main_arg2))
          (m ((c : Thread nD τ).loc main_arg3)) := by
  refine (dats m 0 c).arrAt_eq_of_covers 4 _ (by decide +kernel) fun t hf y => ?_
  blk_simp
  rw [after0_4]
  unfold outsAt0
  rw [body]
  have h0 : ((((win0_4.blk t).view.emb y : S16384x512.Idx) 0)).val = ((grid0.coords t 0).val * 8 + (grid0.coords t 2).val) * 256 + (y 0).val := by
    blk_simp [idx4]
  have h1 : ((((win0_4.blk t).view.emb y : S16384x512.Idx) 1)).val = (grid0.coords t 1).val * 128 + (y 1).val := by
    blk_simp [idx4]
  obtain ⟨r, d, hy⟩ : ∃ (r : Fin 256) (d : Fin 128), y = ix2 r d := ⟨y 0, y 1, funext fun a => by fin_cases a <;> rfl⟩
  have hq : ∀ j, IsReal ((iblk m c 0 t : Vec Ideal S256x128 .bf16) j : EReal) := fun j => hQ _
  have hk : ∀ j, IsReal ((iblk m c 1 t : Vec Ideal S2048x128 .bf16) j : EReal) := fun j => hK _
  have hg : ∀ j, Ne (α := EReal) ((iblk m c 3 t : Vec Ideal S256x128 .f32) j) ⊤ := fun j => hG _
  have e0 : (y 0).val = r.val := by rw [hy]; rfl
  have e1 : (y 1).val = d.val := by rw [hy]; rfl
  rw [e0] at h0; rw [e1] at h1
  generalize ((win0_4.blk t).view.emb y : S16384x512.Idx) = i at h0 h1 ⊢
  subst hy
  refine (body_apply _ _ _ _ ⟨(grid0.coords t 1).val, (grid0.coords t 1).isLt⟩ (grid0.coords t 2).val (grid0.coords t 2).isLt r d hq hk hg).trans ?_
  have hdl := d.isLt
  split
  · exact head_eq m c t 0 r d (by show d.val / 64 = 0; omega) i h0 h1
  · exact head_eq m c t 1 r d (by show d.val / 64 = 1; omega) i h0 h1

end Cert.Moba

end
-- ==== Proof.Moba.Reference.lean ====
/- The reference of the MoBA attention read at an index: its scores with the bias and the mask, its row maximum, its softmax
   and its weighted sum are those the kernel's array was shown to hold. -/
module

public import proofs.«01_k».proof.Proof.Gen.MobaReferenceIdeal.Read
public import proofs.«01_k».proof.Proof.Moba.Array

@[expose] public section

noncomputable section

namespace Cert.Moba

open Cert.MobaReferenceIdeal Cert.MobaReferenceIdeal.Read Idealize.ShloMosaic Idealize.ShloMosaic.TcCoe Idealize.SL.Sem
open Cert.Attn (softmaxSum select_sle select_slt neg_inf)
open scoped BigOperators

variable (Q K V : Vec Ideal S16384x512 .bf16) (G : Vec Ideal S16384x128 .f32)

/-- The product of a query and a key. -/
theorem ref_dot (b h : Fin 8) (q k : Fin 2048) :
    val_main_v9 (F := Ideal) Q K (ix4 b h q k) = mobaDot Q K b h q k := by
  rw [val_main_v9_apply]
  unfold mobaDot
  refine Finset.sum_congr rfl fun e _ => ?_
  rw [val_main_v1_apply, val_main_v3_apply, val_main_v0_apply, val_main_v2_apply]
  show (Q _ : EReal) * (K _ : EReal) = _
  have e1 : idx_main_v1 (lidx_main_v9 (ix4 b h q k) e) = ix2 ⟨b.val * 2048 + q.val, by omega⟩ ⟨h.val * 64 + e.val, by omega⟩ := by
    funext a
    match a with
    | ⟨0, _⟩ => apply Fin.ext; show (((b.val * 2048 + q.val) * 8 + h.val) * 64 + e.val) / 512 = b.val * 2048 + q.val; omega
    | ⟨1, _⟩ => apply Fin.ext; show (((b.val * 2048 + q.val) * 8 + h.val) * 64 + e.val) % 512 = h.val * 64 + e.val; omega
  have e2 : idx_main_v3 (ridx_main_v9 (ix4 b h q k) e) = ix2 ⟨b.val * 2048 + k.val, by omega⟩ ⟨h.val * 64 + e.val, by omega⟩ := by
    funext a
    match a with
    | ⟨0, _⟩ => apply Fin.ext; show (((b.val * 2048 + k.val) * 8 + h.val) * 64 + e.val) / 512 = b.val * 2048 + k.val; omega
    | ⟨1, _⟩ => apply Fin.ext; show (((b.val * 2048 + k.val) * 8 + h.val) * 64 + e.val) % 512 = h.val * 64 + e.val; omega
  rw [e1, e2]

/-- The bias of a query, a head and a block of keys. -/
theorem ref_gate (b h : Fin 8) (q : Fin 2048) (n : Fin 8) :
    val_main_v14 (F := Ideal) G (ix4 b h q n) = G (ix2 ⟨b.val * 2048 + q.val, by omega⟩ ⟨h.val * 8 + n.val, by omega⟩) := by
  have hb := b.isLt
  have hh := h.isLt
  have hq := q.isLt
  have hn := n.isLt
  rw [val_main_v14_apply, val_main_v8_apply, val_main_v7_apply, val_main_v6_apply]
  refine congrArg G ?_
  have e0 : (((b.val * 2048 + q.val) * 8 + h.val) * 8 + n.val) / 131072 = b.val := by omega
  have e1 : (((b.val * 2048 + q.val) * 8 + h.val) * 8 + n.val) / 64 % 2048 = q.val := by omega
  have e2 : (((b.val * 2048 + q.val) * 8 + h.val) * 8 + n.val) % 64 = h.val * 8 + n.val := by omega
  funext a
  match a with
  | ⟨0, _⟩ =>
    apply Fin.ext
    show (((((b.val * 2048 + q.val) * 8 + h.val) * 8 + n.val) / 131072 * 2048 + (((b.val * 2048 + q.val) * 8 + h.val) * 8 + n.val) / 64 % 2048) * 128
      + (((b.val * 2048 + q.val) * 8 + h.val) * 8 + n.val) % 64) / 128 = b.val * 2048 + q.val
    rw [e0, e1, e2]; omega
  | ⟨1, _⟩ =>
    apply Fin.ext
    show (((((b.val * 2048 + q.val) * 8 + h.val) * 8 + n.val) / 131072 * 2048 + (((b.val * 2048 + q.val) * 8 + h.val) * 8 + n.val) / 64 % 2048) * 128
      + (((b.val * 2048 + q.val) * 8 + h.val) * 8 + n.val) % 64) % 128 = h.val * 8 + n.val
    rw [e0, e1, e2]; omega

/-- The bias of a query and a key is that of the key's block. -/
theorem ref_bias (b h : Fin 8) (q k : Fin 2048) :
    val_main_v16 (F := Ideal) G (ix4 b h q k) = G (ix2 ⟨b.val * 2048 + q.val, by omega⟩ ⟨h.val * 8 + k.val / 256, by omega⟩) := by
  have hb := b.isLt
  have hh := h.isLt
  have hq := q.isLt
  have hk := k.isLt
  rw [val_main_v16_apply, val_main_v15_apply]
  refine Eq.trans (congrArg _ ?_) (ref_gate G b h q ⟨k.val / 256, by omega⟩)
  funext a
  match a with
  | ⟨0, _⟩ => apply Fin.ext; show (((b.val * 8 + h.val) * 2048 + q.val) * 2048 + k.val) / 33554432 = b.val; omega
  | ⟨1, _⟩ => apply Fin.ext; show (((b.val * 8 + h.val) * 2048 + q.val) * 2048 + k.val) / 4194304 % 8 = h.val; omega
  | ⟨2, _⟩ => apply Fin.ext; show (((b.val * 8 + h.val) * 2048 + q.val) * 2048 + k.val) / 2048 % 2048 = q.val; omega
  | ⟨3, _⟩ => apply Fin.ext; show (((b.val * 8 + h.val) * 2048 + q.val) * 2048 + k.val) / 256 % 8 = k.val / 256; omega

/-- The causal scores. -/
theorem ref_causal (b h : Fin 8) (q k : Fin 2048) :
    val_main_v23 (F := Ideal) Q K (ix4 b h q k) = if k.val ≤ q.val then mobaDot Q K b h q k else ⊥ := by
  rw [val_main_v23_apply, val_main_call0_v1_apply, val_main_v22_apply, val_main_v20_apply, val_main_v18_apply, val_main_v10_apply,
    val_main_v21_apply, val_main_v19_apply, val_main_v10_apply, val_main_call0_v2_apply, val_main_call0_v0_apply, val_main_cst_apply, ref_dot,
    show (FloatOps.ofBits .f32 0xFF800000#32 : Ideal .f32) = (⊥ : EReal) from neg_inf]
  exact select_sle (a := k.val) (b := q.val) (by omega) (by omega) _ _

/-- The scores: the biased ones before the query's block, the causal ones from it on. -/
theorem ref_score (b h : Fin 8) (q k : Fin 2048) :
    val_main_v29 (F := Ideal) Q K G (ix4 b h q k) = mobaScore Q K G b h q k := by
  rw [val_main_v29_apply, val_main_call1_v0_apply, val_main_v28_apply, val_main_v26_apply, val_main_v24_apply, val_main_v13_apply, val_main_v12_apply,
    val_main_v11_apply, val_main_v27_apply, val_main_v25_apply, val_main_v13_apply, val_main_v12_apply, val_main_v11_apply,
    val_main_v17_apply, ref_causal, ref_dot, ref_bias]
  exact select_slt (a := k.val / 256) (b := q.val / 256) (by omega) (by omega) _ _

/-- The row maximum. -/
theorem ref_max (b h : Fin 8) (q : Fin 2048) :
    val_main_v32 (F := Ideal) Q K G (ix3 b h q) = Finset.univ.sup (mobaScore Q K G b h q) := by
  have e30 : val_main_v30 (F := Ideal) Q K G (ix3 b h q) = Finset.univ.sup (mobaScore Q K G b h q) := by
    pointwise [val_main_v30]
    rw [val_main_cst_0_apply]
    have e : (fun k : Fin 2048 => val_main_v29 (F := Ideal) Q K G (ix4 b h q k)) = mobaScore Q K G b h q := funext fun k => ref_score Q K G b h q k
    rw [show (FloatOps.ofBits .f32 0xFF800000#32 : Ideal .f32) = (⊥ : EReal) from neg_inf]
    simp only [e]
    rfl
  rw [val_main_v32_apply, e30, val_main_v31_apply, val_main_cst_1_apply,
    show (FloatOps.ofBits .f32 0xFF800000#32 : Ideal .f32) = (⊥ : EReal) from neg_inf]
  exact bot_sup_eq _

/-- The exponentials. -/
theorem ref_exp (b h : Fin 8) (q k : Fin 2048) :
    val_main_v36 (F := Ideal) Q K G (ix4 b h q k) = Ideal.exp (mobaScore Q K G b h q k - Finset.univ.sup (mobaScore Q K G b h q)) := by
  rw [val_main_v36_apply, val_main_v35_apply, ref_score, val_main_v34_apply, val_main_v33_apply]
  have e : idx_main_v33 (idx_main_v34 (ix4 b h q k)) = ix3 b h q := by
    funext a; match a with
    | ⟨0, _⟩ => rfl
    | ⟨1, _⟩ => rfl
    | ⟨2, _⟩ => rfl
  rw [e, ref_max]
  rfl

/-- Their sum along a row. -/
theorem ref_sum (b h : Fin 8) (q : Fin 2048) :
    val_main_v37 (F := Ideal) Q K G (ix3 b h q) = ∑ k, Ideal.exp (mobaScore Q K G b h q k - Finset.univ.sup (mobaScore Q K G b h q)) := by
  rw [val_main_v37_apply, val_main_cst_2_apply, show (FloatOps.ofBits .f32 0x00000000#32 : Ideal .f32) = (0 : EReal) from zero_word]
  refine (zero_add _).trans (Finset.sum_congr rfl fun k _ => ?_)
  rw [← ref_exp]
  congr 1
  funext a; match a with
  | ⟨0, _⟩ => rfl
  | ⟨1, _⟩ => rfl
  | ⟨2, _⟩ => rfl
  | ⟨3, _⟩ => rfl

/-- The attention weights. -/
theorem ref_weight (b h : Fin 8) (q k : Fin 2048) :
    val_main_v40 (F := Ideal) Q K G (ix4 b h q k)
      = Ideal.div (Ideal.exp (mobaScore Q K G b h q k - Finset.univ.sup (mobaScore Q K G b h q)))
          (∑ j, Ideal.exp (mobaScore Q K G b h q j - Finset.univ.sup (mobaScore Q K G b h q))) := by
  rw [val_main_v40_apply, ref_exp, val_main_v39_apply, val_main_v38_apply]
  have e : idx_main_v38 (idx_main_v39 (ix4 b h q k)) = ix3 b h q := by
    funext a; match a with
    | ⟨0, _⟩ => rfl
    | ⟨1, _⟩ => rfl
    | ⟨2, _⟩ => rfl
  rw [e, ref_sum]
  rfl

/-- The values. -/
theorem ref_value (b h : Fin 8) (d : Fin 64) (k : Fin 2048) :
    val_main_v5 (F := Ideal) V (ix4 b k h d) = mobaValue V b h d k := by
  rw [val_main_v5_apply, val_main_v4_apply]
  have e : idx_main_v5 (ix4 b k h d) = ix2 ⟨b.val * 2048 + k.val, by omega⟩ ⟨h.val * 64 + d.val, by omega⟩ := by
    funext a
    match a with
    | ⟨0, _⟩ => apply Fin.ext; show (((b.val * 2048 + k.val) * 8 + h.val) * 64 + d.val) / 512 = b.val * 2048 + k.val; omega
    | ⟨1, _⟩ => apply Fin.ext; show (((b.val * 2048 + k.val) * 8 + h.val) * 64 + d.val) % 512 = h.val * 64 + d.val; omega
  rw [e]; rfl

/-- **The reference's result.** -/
theorem ref_out : val_main_v44 (F := Ideal) Q K V G = mobaOut Q K V G := by
  funext i
  have h0 : (i 0).val < 16384 := (i 0).isLt
  have h1 : (i 1).val < 512 := (i 1).isLt
  rw [val_main_v44_apply, val_main_v43_apply, val_main_v42_apply, val_main_v41_apply]
  unfold mobaOut softmaxSum
  show (∑ k : Fin 2048, (_ : EReal)) = _
  refine Finset.sum_congr rfl fun k _ => ?_
  rw [← ref_value, ← ref_weight]
  congr 2
  · funext a
    match a with
    | ⟨0, _⟩ => apply Fin.ext; show ((i 0).val * 512 + (i 1).val) / 1048576 = (i 0).val / 2048; omega
    | ⟨1, _⟩ => rfl
    | ⟨2, _⟩ => apply Fin.ext; show ((i 0).val * 512 + (i 1).val) / 64 % 8 = (i 1).val / 64; omega
    | ⟨3, _⟩ => apply Fin.ext; show ((i 0).val * 512 + (i 1).val) % 64 = (i 1).val % 64; omega
  · funext a
    match a with
    | ⟨0, _⟩ => apply Fin.ext; show ((i 0).val * 512 + (i 1).val) / 1048576 = (i 0).val / 2048; omega
    | ⟨1, _⟩ => apply Fin.ext; show ((i 0).val * 512 + (i 1).val) / 64 % 8 = (i 1).val / 64; omega
    | ⟨2, _⟩ => apply Fin.ext; show ((i 0).val * 512 + (i 1).val) / 512 % 2048 = (i 0).val % 2048; omega
    | ⟨3, _⟩ => rfl

end Cert.Moba

end
-- ==== Proof.Moba.Main.lean ====
/- The value claim of the MoBA attention: finite queries and keys and no bias `+∞`, the kernel's run and its array, the
   reference's run and its result. -/
module

public import proofs.«01_k».proof.Defs
public import proofs.«01_k».proof.Proof.Attn.Main
public import proofs.«01_k».proof.Proof.Moba.Reference

@[expose] public section

noncomputable section

namespace Cert.Moba

open Idealize.ShloMosaic Idealize.ShloMosaic.TcCoe Idealize.SL.Sem
open Cert.Attn (IsReal IsReal.of_word)

theorem pre_facts : Cert.Pre_moba_finite.Facts := ⟨by decide, by decide⟩

/-- A number compared below the single-precision word of `+∞` is not `+∞`. -/
theorem ne_top_of_word {x : EReal} (h : FloatOps.cmpf (F := Ideal) (φ := .f32) .olt x (FloatOps.ofBits .f32 0x7F800000#32) = 1#1) : x ≠ ⊤ := by
  rw [show (FloatOps.ofBits .f32 0x7F800000#32 : Ideal .f32) = (⊤ : EReal) from by
    show Ideal.ofBits .f32 0x7F800000#32 = ⊤
    simp [Ideal.ofBits, Ideal.ieee]] at h
  rintro rfl
  have : FloatOps.cmpf (F := Ideal) (φ := .f32) .olt (⊤ : EReal) (⊤ : EReal) = 0#1 := by
    show BitVec.ofBool (decide ((⊤ : EReal) < ⊤)) = 0#1
    rw [decide_eq_false (lt_irrefl _)]; rfl
  have h' : (1#1 : BitVec 1) = 0#1 := h.symm.trans this
  exact absurd h' (by decide)

/-- What the precondition says. -/
theorem finite_of_pre [Cert.Pre_moba_finite.Facts] {Q K V : Vec Ideal Cert.MobaKernelIdeal.S16384x512 .bf16} {G : Vec Ideal Cert.MobaKernelIdeal.S16384x128 .f32}
    (h : (Cert.Pre_moba_finite.fn (F := Ideal) Q K V G).1 = (fun _ => 1#1) ∧ (Cert.Pre_moba_finite.fn (F := Ideal) Q K V G).2.1 = (fun _ => 1#1)
      ∧ (Cert.Pre_moba_finite.fn (F := Ideal) Q K V G).2.2 = (fun _ => 1#1)) :
    (∀ j, IsReal (Q j : EReal)) ∧ (∀ j, IsReal (K j : EReal)) ∧ ∀ j, Ne (α := EReal) (G j) ⊤ :=
  ⟨fun j => IsReal.of_word (congrFun h.1 j), fun j => IsReal.of_word (congrFun h.2.1 j), fun j => ne_top_of_word (congrFun h.2.2 j)⟩

/-- **The value claim.** -/
theorem algebraic : Cert.algebraic_MobaKernelIdeal_MobaReferenceIdeal_pre_moba_finite (hMobaKernelIdeal := Cert.MobaKernelIdeal.Gen.facts)
    (hMobaReferenceIdeal := Cert.MobaReferenceIdeal.Gen.facts) (hPre_moba_finite := pre_facts) := by
  intro m g m' g' hpre hag
  refine ⟨fun c => mobaOut (m ((c.tc : Thread Cert.MobaKernelIdeal.nD Cert.MobaKernelIdeal.τ).loc Cert.MobaKernelIdeal.main_arg0))
    (m ((c.tc : Thread Cert.MobaKernelIdeal.nD Cert.MobaKernelIdeal.τ).loc Cert.MobaKernelIdeal.main_arg1))
    (m ((c.tc : Thread Cert.MobaKernelIdeal.nD Cert.MobaKernelIdeal.τ).loc Cert.MobaKernelIdeal.main_arg2))
    (m ((c.tc : Thread Cert.MobaKernelIdeal.nD Cert.MobaKernelIdeal.τ).loc Cert.MobaKernelIdeal.main_arg3)), ?_, ?_⟩
  · refine (θ_run _ _ _).mono (fun r h c => ?_) (Cert.MobaKernelIdeal.Value.run_blocks (F := Ideal) m g)
    haveI := pre_facts
    obtain ⟨hQ, hK, hG⟩ := finite_of_pre (hpre c)
    obtain ⟨h0, h1⟩ := h c
    exact ⟨h0.trans (array_eq m c hQ hK hG), h1⟩
  · refine (θ_run _ _ _).mono (fun r h c => ?_) (Cert.MobaReferenceIdeal.Value.run (F := Ideal) m' g')
    obtain ⟨h0, h1⟩ := h c
    refine ⟨h0.trans ?_, h1⟩
    obtain ⟨a0, a1, a2, a3⟩ := hag c
    rw [Cert.MobaReferenceIdeal.Read.val_main_v44_eq, ref_out, a0, a1, a2, a3]

/-- The reference terminates without a fault, keeps its arguments and leaves every counter at zero (it has none). -/
theorem reference_frame (m : (ℓ : Loc Cert.MobaReferenceIdeal.nD Cert.MobaReferenceIdeal.τ Cert.MobaReferenceIdeal.sig) → Buf (Elt Ideal) ℓ)
    (g : Dev Cert.MobaReferenceIdeal.nD → PrngReg) :
    θ_run (Cert.MobaReferenceIdeal.defs (F := Ideal)) (onTc (τ := Cert.MobaReferenceIdeal.τ) (Cert.MobaReferenceIdeal.main (F := Ideal))) ⟨m, fun _ => 0, g⟩ (fun r => (∀ c : Dev Cert.MobaReferenceIdeal.nD,
      r.2.mem ((c.tc : Thread Cert.MobaReferenceIdeal.nD Cert.MobaReferenceIdeal.τ).loc Cert.MobaReferenceIdeal.main_arg0) = m ((c.tc : Thread Cert.MobaReferenceIdeal.nD Cert.MobaReferenceIdeal.τ).loc Cert.MobaReferenceIdeal.main_arg0)
      ∧ r.2.mem ((c.tc : Thread Cert.MobaReferenceIdeal.nD Cert.MobaReferenceIdeal.τ).loc Cert.MobaReferenceIdeal.main_arg1) = m ((c.tc : Thread Cert.MobaReferenceIdeal.nD Cert.MobaReferenceIdeal.τ).loc Cert.MobaReferenceIdeal.main_arg1)
      ∧ r.2.mem ((c.tc : Thread Cert.MobaReferenceIdeal.nD Cert.MobaReferenceIdeal.τ).loc Cert.MobaReferenceIdeal.main_arg2) = m ((c.tc : Thread Cert.MobaReferenceIdeal.nD Cert.MobaReferenceIdeal.τ).loc Cert.MobaReferenceIdeal.main_arg2)
      ∧ r.2.mem ((c.tc : Thread Cert.MobaReferenceIdeal.nD Cert.MobaReferenceIdeal.τ).loc Cert.MobaReferenceIdeal.main_arg3) = m ((c.tc : Thread Cert.MobaReferenceIdeal.nD Cert.MobaReferenceIdeal.τ).loc Cert.MobaReferenceIdeal.main_arg3))
      ∧ r.2.sem = fun _ => 0) :=
  (θ_run _ _ _).mono (fun r h => ⟨fun c => (h c).2, sem_eq_zero_of_no_sems (by decide) r.2⟩)
    (Cert.MobaReferenceIdeal.Value.run (F := Ideal) m g)

end Cert.Moba

end
-- ==== Proof.Oproj.Value.lean ====
/- The output projection with its residual and layer norm in closed form over the extended reals, and what the kernel's body
   computes of one block of rows. -/
module

public import proofs.«01_k».proof.Proof.Gen.OprojKernelIdeal.Skeleton
public import Idealize.ShloMosaic.Lib.Pointwise

@[expose] public section

noncomputable section

namespace Cert.Oproj

open Cert.OprojKernelIdeal Cert.OprojKernelIdeal.Gen Idealize.ShloMosaic Idealize.ShloMosaic.TcCoe Idealize.SL.Sem Idealize.ShloMosaic.Tactic
open scoped BigOperators

/-- The mean of a row of 1024 entries. -/
def mean (h : Fin 1024 → EReal) : EReal := Ideal.div (∑ k, h k) (Ideal.ofBits .f32 0x44800000#32)

/-- The layer norm of a row at column `d`, with gain `g` and bias `b`. -/
def norm (h : Fin 1024 → EReal) (g b : EReal) (d : Fin 1024) : EReal :=
  (h d - mean h) * Ideal.rsqrt (mean (fun k => (h k - mean h) * (h k - mean h)) + Ideal.ofBits .f32 0x3727C5AC#32) * g + b

/-- A scaled residual entry plus the projection of the two attentions' outputs. -/
def mixed (x p q : EReal) : EReal := Ideal.ofBits .f32 0x3F9837F0#32 * x + (p + q)

/-- Row `n` before the norm. -/
def hidden (A M : Vec Ideal S16384x512 .bf16) (X : Vec Ideal S16384x1024 .f32) (W : Vec Ideal S1024x1024 .f32) (n : Fin 16384) (k : Fin 1024) : EReal :=
  mixed (X (ix2 n k)) (∑ e : Fin 512, (A (ix2 n e) : EReal) * W (ix2 ⟨e.val, by omega⟩ k)) (∑ e : Fin 512, (M (ix2 n e) : EReal) * W (ix2 ⟨512 + e.val, by omega⟩ k))

/-- The whole result. -/
def oprojOut (A M : Vec Ideal S16384x512 .bf16) (X : Vec Ideal S16384x1024 .f32) (W : Vec Ideal S1024x1024 .f32) (g b : Vec Ideal S1024 .f32) :
    Vec Ideal S16384x1024 .f32 := fun i => norm (hidden A M X W (i 0)) (g (ix1 (i 1))) (b (ix1 (i 1))) (i 1)

variable (a p : Vec Ideal S256x512 .bf16) (w1 w2 : Vec Ideal S512x1024 .bf16) (x : Vec Ideal S256x1024 .f32) (g b : Vec Ideal S1x1024 .f32)

/-- A block's row before the norm. -/
def blkHidden (r : Fin 256) (k : Fin 1024) : EReal :=
  mixed (x (ix2 r k)) (∑ e : Fin 512, (a (ix2 r e) : EReal) * w1 (ix2 e k)) (∑ e : Fin 512, (p (ix2 r e) : EReal) * w2 (ix2 e k))

theorem pay9_apply (r : Fin 256) (d : Fin 1024) :
    k0_pay9 (F := Ideal) a w1 p w2 x (ix2 r d) = blkHidden a p w1 w2 x r d - mean (blkHidden a p w1 w2 x r) := by
  unfold mean blkHidden mixed
  pointwise [k0_pay9]

theorem pay10_apply (r : Fin 256) :
    k0_pay10 (F := Ideal) a w1 p w2 x (ix2 r 0)
      = Ideal.rsqrt (mean (fun k => (blkHidden a p w1 w2 x r k - mean (blkHidden a p w1 w2 x r)) * (blkHidden a p w1 w2 x r k - mean (blkHidden a p w1 w2 x r)))
          + Ideal.ofBits .f32 0x3727C5AC#32) := by
  simp only [← pay9_apply]
  conv_rhs => unfold mean
  pointwise [k0_pay10]

theorem pay11_apply (y : FVec Ideal S256x1024 .f32) (z : FVec Ideal S256x1 .f32) (r : Fin 256) (d : Fin 1024) :
    k0_pay11 (F := Ideal) (k0_pay7 g) (k0_pay8 b) y z (ix2 r d) = y (ix2 r d) * z (ix2 r 0) * g (ix2 0 d) + b (ix2 0 d) := by
  pointwise [k0_pay11, k0_pay7, k0_pay8]

/-- One entry of a block's result. -/
theorem block_apply (r : Fin 256) (d : Fin 1024) :
    k0_pay11 (F := Ideal) (k0_pay7 g) (k0_pay8 b) (k0_pay9 a w1 p w2 x) (k0_pay10 a w1 p w2 x) (ix2 r d)
      = norm (blkHidden a p w1 w2 x r) (g (ix2 0 d)) (b (ix2 0 d)) d := by
  rw [pay11_apply, pay9_apply, pay10_apply]
  rfl

end Cert.Oproj

end
-- ==== Proof.Oproj.Body.lean ====
/- What the output projection's body leaves in its block of rows, from the blocks it reads, at the first grid point and after. -/
module

public import proofs.«01_k».proof.Proof.Gen.OprojKernelIdeal.Value
public import proofs.«01_k».proof.Proof.Oproj.Value
public import Idealize.ShloMosaic.Lib.Pipeline.ValueKit

@[expose] public section

set_option maxRecDepth 16384
noncomputable section

namespace Cert.Oproj

open Cert.OprojKernelIdeal Cert.OprojKernelIdeal.Gen Idealize.ShloMosaic Idealize.ShloMosaic.TcCoe Idealize.SL.Sem Idealize.ShloMosaic.Tactic

theorem hz2 : (![0, 0] : Fin 2 → Nat) = fun _ => 0 := funext fun a => by fin_cases a <;> rfl

/-- The half of the weights a product reads: the first 512 rows or the last. -/
def half (w : Vec Ideal S1024x1024 .bf16) (h : Fin 2) : Vec Ideal S512x1024 .bf16 := fun j =>
  w (ix2 ⟨512 * h.val + (j 0).val, by have : (j 0).val < 512 := (j 0).isLt; omega⟩ (j 1))

theorem ld_half (w : Vec Ideal S1024x1024 .bf16) (h : Fin 2) (off : Fin 2 → ℕ) (inb) (hoff : off = ![512 * h.val, 0]) :
    View.ld w (Rect.unit off ![512, 1024] inb) = half w h := by
  subst hoff
  funext j
  refine View.ld_unit_apply_of w _ _ _ _ _ fun a => ?_
  fin_cases a
  · rfl
  · exact (Nat.zero_add _).symm

/-- The block of results, from the blocks of the two attentions' outputs, the residual, the weights, the gain and the bias. -/
def block (x0 x1 : Vec Ideal S256x512 .bf16) (x2 : Vec Ideal S256x1024 .f32) (x3 : Vec Ideal S1024x1024 .bf16) (x4 x5 : Vec Ideal S1x1024 .f32) :
    Vec Ideal S256x1024 .f32 :=
  k0_pay11 (F := Ideal) (k0_pay7 x4) (k0_pay8 x5) (k0_pay9 x0 (half x3 0) x1 (half x3 1) x2) (k0_pay10 x0 (half x3 0) x1 (half x3 1) x2)

set_option backward.isDefEq.respectTransparency false in
/-- The first grid point's block. -/
theorem body_first (c : Dev nD) (i : grid0.Coords) (arg1 : Memref sig .tc .vmem S256x512 .bf16) (harg1 : arg1.IsWhole) (arg2 : Memref sig .tc .vmem S256x512 .bf16) (harg2 : arg2.IsWhole) (arg3 : Memref sig .tc .vmem S256x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x128 .f32) (harg7 : arg7.IsWhole) (arg8 : Memref sig .tc .vmem S1x128 .f32) (harg8 : arg8.IsWhole) (arg9 : Memref sig .tc .vmem S256x1024 .f32) (harg9 : arg9.IsWhole) (arg10 : Memref sig .tc .vmem S256x128 .i32) (harg10 : arg10.IsWhole) (arg11 : Memref sig .tc .vmem S256x128 .f32) (harg11 : arg11.IsWhole) (arg12 : Memref sig .tc .vmem S8x128 .f32) (harg12 : arg12.IsWhole) (arg13 : Memref sig .tc .vmem S8x128 .f32) (harg13 : arg13.IsWhole) (hc0 : cond0_0 i)
    (x0 : Vec Ideal S256x512 .bf16) (x1 : Vec Ideal S256x512 .bf16) (x2 : Vec Ideal S256x1024 .f32) (x3 : Vec Ideal S1024x1024 .bf16) (x4 : Vec Ideal S1x1024 .f32) (x5 : Vec Ideal S1x1024 .f32) (x6 : Vec Ideal S1024x128 .f32) (x7 : Vec Ideal S1x128 .f32) :
    out0_A_8 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 = block x0 x1 x2 x3 x4 x5 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7)]
  unfold kernelRun0_A
  dsimp only
  sl_unfold_words
  rw [View.canon_unit_zero (S := S256x1024) hz2]
  simp only [View.readAt_eq_ld, harg1.read_unread, harg2.read_unread, harg3.read_unread, harg4.read_unread, harg5.read_unread, harg6.read_unread]
  rw [ld_half x3 0 ![0, 0] _ rfl, ld_half x3 1 ![512, 0] _ rfl]
  simp only [View.ld_unit_zero (S := S256x512) hz2, View.ld_unit_zero (S := S256x1024) hz2, View.ld_unit_zero (S := S1x1024) hz2]
  rfl

set_option backward.isDefEq.respectTransparency false in
/-- Every later point's block. -/
theorem body_later (c : Dev nD) (i : grid0.Coords) (arg1 : Memref sig .tc .vmem S256x512 .bf16) (harg1 : arg1.IsWhole) (arg2 : Memref sig .tc .vmem S256x512 .bf16) (harg2 : arg2.IsWhole) (arg3 : Memref sig .tc .vmem S256x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x128 .f32) (harg7 : arg7.IsWhole) (arg8 : Memref sig .tc .vmem S1x128 .f32) (harg8 : arg8.IsWhole) (arg9 : Memref sig .tc .vmem S256x1024 .f32) (harg9 : arg9.IsWhole) (arg10 : Memref sig .tc .vmem S256x128 .i32) (harg10 : arg10.IsWhole) (arg11 : Memref sig .tc .vmem S256x128 .f32) (harg11 : arg11.IsWhole) (arg12 : Memref sig .tc .vmem S8x128 .f32) (harg12 : arg12.IsWhole) (arg13 : Memref sig .tc .vmem S8x128 .f32) (harg13 : arg13.IsWhole) (hc0 : ¬cond0_0 i)
    (x0 : Vec Ideal S256x512 .bf16) (x1 : Vec Ideal S256x512 .bf16) (x2 : Vec Ideal S256x1024 .f32) (x3 : Vec Ideal S1024x1024 .bf16) (x4 : Vec Ideal S1x1024 .f32) (x5 : Vec Ideal S1x1024 .f32) (x6 : Vec Ideal S1024x128 .f32) (x7 : Vec Ideal S1x128 .f32) (xs0 : Vec Ideal S8x128 .f32) :
    out0_B_8 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0 = block x0 x1 x2 x3 x4 x5 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0)]
  unfold kernelRun0_B
  dsimp only
  sl_unfold_words
  rw [View.canon_unit_zero (S := S256x1024) hz2]
  simp only [View.readAt_eq_ld, harg1.read_unread, harg2.read_unread, harg3.read_unread, harg4.read_unread, harg5.read_unread, harg6.read_unread]
  rw [ld_half x3 0 ![0, 0] _ rfl, ld_half x3 1 ![512, 0] _ rfl]
  simp only [View.ld_unit_zero (S := S256x512) hz2, View.ld_unit_zero (S := S256x1024) hz2, View.ld_unit_zero (S := S1x1024) hz2]
  rfl

variable (m : (ℓ : Loc nD τ sig) → Buf (Elt Ideal) ℓ)

/-- What a point leaves in its block of results. -/
theorem outs_eq (c : Dev nD) (t : Fin cfg0.N) :
    (outsAt0 m c t.val t.isLt).1 = block (iblk m c 0 t) (iblk m c 1 t) (iblk m c 2 t) (iblk m c 3 t) (iblk m c 4 t) (iblk m c 5 t) := by
  by_cases h0 : t.val % 64 = 0
  · rw [outsAt0_A m c t h0]
    dsimp only
    rw [body_first]
  · rw [outsAt0_B m c t h0]
    dsimp only
    rw [body_later]

end Cert.Oproj

end
-- ==== Proof.Oproj.Array.lean ====
/- The output projection's whole array, over the extended reals: every entry is the layer norm of its row of scaled residual
   plus projection. -/
module

public import proofs.«01_k».proof.Proof.Oproj.Body

@[expose] public section

set_option maxRecDepth 16384
noncomputable section

namespace Cert.Oproj

open Cert.OprojKernelIdeal Cert.OprojKernelIdeal.Gen Idealize.ShloMosaic Idealize.ShloMosaic.TcCoe Idealize.SL.Sem Idealize.ShloMosaic.Tactic

variable (m : (ℓ : Loc nD τ sig) → Buf (Elt Ideal) ℓ)

/-- The region finds the weights, the gain and the bias as the call was given them. -/
theorem weights_eq (c : Dev nD) (k d : Fin 1024) :
    (V m c main_v5 : Vec Ideal S1024x1024 .bf16) (ix2 k d) = (m ((c : Thread nD τ).loc main_arg3) : Vec Ideal S1024x1024 .f32) (ix2 k d) := by
  have e : V m c main_v5 = (truncf (F := Ideal) .bf16 (m ((c : Thread nD τ).loc main_arg3) : FVec Ideal S1024x1024 .f32) bitsLt_bf16_f32 : FVec Ideal S1024x1024 .bf16) := by
    dsimp only [V, hostOps0]
    rfl
  rw [e]
  rfl

theorem gain_eq (c : Dev nD) (d : Fin 1024) :
    (V m c main_v6 : Vec Ideal S1x1024 .f32) (ix2 0 d) = (m ((c : Thread nD τ).loc main_arg4) : Vec Ideal S1024 .f32) (ix1 d) := by
  have e : (V m c main_v6 : Vec Ideal S1x1024 .f32) = shapeCast S1x1024 (m ((c : Thread nD τ).loc main_arg4) : Vec Ideal S1024 .f32) shapeCasts_S1024_S1x1024 := by
    dsimp only [V, hostOps0]
    rfl
  rw [e]
  pointwise

theorem bias_eq (c : Dev nD) (d : Fin 1024) :
    (V m c main_v7 : Vec Ideal S1x1024 .f32) (ix2 0 d) = (m ((c : Thread nD τ).loc main_arg5) : Vec Ideal S1024 .f32) (ix1 d) := by
  have e : (V m c main_v7 : Vec Ideal S1x1024 .f32) = shapeCast S1x1024 (m ((c : Thread nD τ).loc main_arg5) : Vec Ideal S1024 .f32) shapeCasts_S1024_S1x1024 := by
    dsimp only [V, hostOps0]
    rfl
  rw [e]
  pointwise

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx8 : ∀ t : Fin cfg0.N, win0_8.index t = ![t.val, 0] := (by decide +kernel : ∀ t : Fin grid0.N, _)

/-- The blocks a point reads, at coordinates. -/
theorem iblk0_apply (c : Dev nD) (t : Fin cfg0.N) (r : Fin 256) (e : Fin 512) (n : Fin 16384) (h : n.val = t.val * 256 + r.val) :
    (iblk m c 0 t : Vec Ideal S256x512 .bf16) (ix2 r e) = (m ((c : Thread nD τ).loc main_arg0) : Vec Ideal S16384x512 .bf16) (ix2 n e) := by
  blk_simp [iblk]
  rw [V_main_arg0]
  refine congrArg (m ((c : Thread nD τ).loc main_arg0) : Vec Ideal S16384x512 .bf16) ?_
  blk_ext [idx0, h]

theorem iblk1_apply (c : Dev nD) (t : Fin cfg0.N) (r : Fin 256) (e : Fin 512) (n : Fin 16384) (h : n.val = t.val * 256 + r.val) :
    (iblk m c 1 t : Vec Ideal S256x512 .bf16) (ix2 r e) = (m ((c : Thread nD τ).loc main_arg1) : Vec Ideal S16384x512 .bf16) (ix2 n e) := by
  blk_simp [iblk]
  rw [V_main_arg1]
  refine congrArg (m ((c : Thread nD τ).loc main_arg1) : Vec Ideal S16384x512 .bf16) ?_
  blk_ext [idx1, h]

theorem iblk2_apply (c : Dev nD) (t : Fin cfg0.N) (r : Fin 256) (e : Fin 1024) (n : Fin 16384) (h : n.val = t.val * 256 + r.val) :
    (iblk m c 2 t : Vec Ideal S256x1024 .f32) (ix2 r e) = (m ((c : Thread nD τ).loc main_arg2) : Vec Ideal S16384x1024 .f32) (ix2 n e) := by
  blk_simp [iblk]
  rw [V_main_arg2]
  refine congrArg (m ((c : Thread nD τ).loc main_arg2) : Vec Ideal S16384x1024 .f32) ?_
  blk_ext [idx2, h]

theorem iblk3_apply (c : Dev nD) (t : Fin cfg0.N) (k d : Fin 1024) :
    (iblk m c 3 t : Vec Ideal S1024x1024 .bf16) (ix2 k d) = (m ((c : Thread nD τ).loc main_arg3) : Vec Ideal S1024x1024 .f32) (ix2 k d) := by
  refine Eq.trans ?_ (weights_eq m c k d)
  blk_simp [iblk]
  refine congrArg (V m c main_v5 : Vec Ideal S1024x1024 .bf16) ?_
  blk_ext [idx3]

theorem iblk4_apply (c : Dev nD) (t : Fin cfg0.N) (d : Fin 1024) :
    (iblk m c 4 t : Vec Ideal S1x1024 .f32) (ix2 0 d) = (m ((c : Thread nD τ).loc main_arg4) : Vec Ideal S1024 .f32) (ix1 d) := by
  refine Eq.trans ?_ (gain_eq m c d)
  blk_simp [iblk]
  refine congrArg (V m c main_v6 : Vec Ideal S1x1024 .f32) ?_
  blk_ext [idx4]

theorem iblk5_apply (c : Dev nD) (t : Fin cfg0.N) (d : Fin 1024) :
    (iblk m c 5 t : Vec Ideal S1x1024 .f32) (ix2 0 d) = (m ((c : Thread nD τ).loc main_arg5) : Vec Ideal S1024 .f32) (ix1 d) := by
  refine Eq.trans ?_ (bias_eq m c d)
  blk_simp [iblk]
  refine congrArg (V m c main_v7 : Vec Ideal S1x1024 .f32) ?_
  blk_ext [idx5]

/-- A block's row before the norm is the array's. -/
theorem hidden_eq (c : Dev nD) (t : Fin cfg0.N) (r : Fin 256) (n : Fin 16384) (h : n.val = t.val * 256 + r.val) (k : Fin 1024) :
    blkHidden (iblk m c 0 t) (iblk m c 1 t) (half (iblk m c 3 t) 0) (half (iblk m c 3 t) 1) (iblk m c 2 t) r k
      = hidden (m ((c : Thread nD τ).loc main_arg0)) (m ((c : Thread nD τ).loc main_arg1)) (m ((c : Thread nD τ).loc main_arg2))
          (m ((c : Thread nD τ).loc main_arg3)) n k := by
  have hw : ∀ (u : Fin 2) (e : Fin 512), (half (iblk m c 3 t) u (ix2 e k) : EReal)
      = (m ((c : Thread nD τ).loc main_arg3) : Vec Ideal S1024x1024 .f32) (ix2 ⟨512 * u.val + e.val, by omega⟩ k) := fun u e => iblk3_apply m c t _ k
  unfold blkHidden hidden
  rw [iblk2_apply m c t r k n h]
  refine congrArg₂ (mixed _) (Finset.sum_congr rfl fun e _ => ?_) (Finset.sum_congr rfl fun e _ => ?_)
  · refine congrArg₂ (· * ·) (iblk0_apply m c t r e n h) ((hw 0 e).trans (congrArg (m ((c : Thread nD τ).loc main_arg3) : Vec Ideal S1024x1024 .f32) ?_))
    funext a; match a with
    | ⟨0, _⟩ => exact Fin.ext (by show 512 * 0 + e.val = e.val; omega)
    | ⟨1, _⟩ => rfl
  · exact congrArg₂ (· * ·) (iblk1_apply m c t r e n h) (hw 1 e)

/-- **The kernel's output array.** -/
theorem array_eq (c : Dev nD) :
    (dats m 0 c).arrAt 8 cfg0.N
      = oprojOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (dats m 0 c).arrAt_eq_of_covers 8 _ (by decide +kernel) fun t hf y => ?_
  blk_simp
  rw [after0_8, outs_eq]
  have h0 : ((((win0_8.blk t).view.emb y : S16384x1024.Idx) 0)).val = t.val * 256 + (y 0).val := by
    blk_simp [idx8]
  have h1 : ((((win0_8.blk t).view.emb y : S16384x1024.Idx) 1)).val = (y 1).val := by
    blk_simp [idx8]
  obtain ⟨r, d, hy⟩ : ∃ (r : Fin 256) (d : Fin 1024), y = ix2 r d := ⟨y 0, y 1, funext fun a => by fin_cases a <;> rfl⟩
  have e0 : (y 0).val = r.val := by rw [hy]; rfl
  have e1 : (y 1).val = d.val := by rw [hy]; rfl
  rw [e0] at h0; rw [e1] at h1
  generalize ((win0_8.blk t).view.emb y : S16384x1024.Idx) = i at h0 h1 ⊢
  subst hy
  obtain ⟨n, d', rfl⟩ : ∃ (n : Fin 16384) (d' : Fin 1024), i = ix2 n d' := ⟨i 0, i 1, eq_ix2 i⟩
  obtain rfl : d' = d := Fin.ext h1
  refine (block_apply _ _ _ _ _ _ _ r d').trans ?_
  rw [funext (hidden_eq m c t r n h0), iblk4_apply, iblk5_apply]
  rfl

end Cert.Oproj

end
-- ==== Proof.Oproj.Reference.lean ====
/- The reference of the output projection read at an index. -/
module

public import proofs.«01_k».proof.Proof.Gen.OprojReferenceIdeal.Read
public import proofs.«01_k».proof.Proof.Oproj.Value
public import proofs.«01_k».proof.Proof.Moba.Scores

@[expose] public section

set_option maxRecDepth 16384
noncomputable section

namespace Cert.Oproj

open Cert.OprojReferenceIdeal Cert.OprojReferenceIdeal.Read Idealize.ShloMosaic Idealize.ShloMosaic.TcCoe Idealize.SL.Sem Idealize.ShloMosaic.Tactic
open scoped BigOperators

variable (A M : Vec Ideal S16384x512 .bf16) (X : Vec Ideal S16384x1024 .f32) (W : Vec Ideal S1024x1024 .f32) (g b : Vec Ideal S1024 .f32)

/-- The two attentions' outputs side by side. -/
theorem ref_left (n : Fin 16384) (e : Fin 512) : val_main_v0 (F := Ideal) A M (ix2 n ⟨e.val, by omega⟩) = A (ix2 n e) := by
  unfold val_main_v0
  pointwise

theorem ref_right (n : Fin 16384) (e : Fin 512) : val_main_v0 (F := Ideal) A M (ix2 n ⟨512 + e.val, by omega⟩) = M (ix2 n e) := by
  unfold val_main_v0
  pointwise

/-- The projection: the sum over both attentions' lanes is the two attentions' sums. -/
theorem ref_mix (n : Fin 16384) (d : Fin 1024) :
    val_main_v2 (F := Ideal) A M W (ix2 n d)
      = (∑ e : Fin 512, (A (ix2 n e) : EReal) * W (ix2 ⟨e.val, by omega⟩ d)) + ∑ e : Fin 512, (M (ix2 n e) : EReal) * W (ix2 ⟨512 + e.val, by omega⟩ d) := by
  rw [val_main_v2_apply]
  refine (Fin.sum_univ_add (a := 512) (b := 512) _).trans ?_
  refine congrArg₂ (· + ·) (Finset.sum_congr rfl fun e _ => ?_) (Finset.sum_congr rfl fun e _ => ?_)
  · refine congrArg₂ (· * ·) (Eq.trans ?_ (ref_left A M n e)) (congrArg W ?_)
    · rw [val_main_v1_apply]
      refine congrArg (val_main_v0 (F := Ideal) A M) ?_
      funext a; match a with
      | ⟨0, _⟩ => rfl
      | ⟨1, _⟩ => rfl
    · funext a; match a with
      | ⟨0, _⟩ => rfl
      | ⟨1, _⟩ => rfl
  · refine congrArg₂ (· * ·) (Eq.trans ?_ (ref_right A M n e)) (congrArg W ?_)
    · rw [val_main_v1_apply]
      refine congrArg (val_main_v0 (F := Ideal) A M) ?_
      funext a; match a with
      | ⟨0, _⟩ => rfl
      | ⟨1, _⟩ => rfl
    · funext a; match a with
      | ⟨0, _⟩ => rfl
      | ⟨1, _⟩ => rfl

/-- A row before the norm. -/
theorem ref_hidden (n : Fin 16384) (d : Fin 1024) : val_main_v5 (F := Ideal) A M X W (ix2 n d) = hidden A M X W n d := by
  rw [val_main_v5_apply, ref_mix, val_main_v4_apply, val_main_v3_apply, val_main_cst_apply]
  rfl

/-- Its mean. -/
theorem ref_mean (n : Fin 16384) : val_main_v9 (F := Ideal) A M X W (ix2 n 0) = mean (hidden A M X W n) := by
  rw [val_main_v9_apply, val_main_v7_apply, val_main_v8_apply, val_main_cst_1_apply, val_main_v6_apply, val_main_cst_0_apply]
  refine congrArg₂ Ideal.div ?_ rfl
  rw [show (FloatOps.ofBits .f32 0x00000000#32 : Ideal .f32) = (0 : EReal) from Cert.Moba.zero_word]
  refine (zero_add _).trans (Finset.sum_congr rfl fun k _ => ?_)
  rw [← ref_hidden]
  refine congrArg (val_main_v5 (F := Ideal) A M X W) ?_
  funext a; match a with
  | ⟨0, _⟩ => rfl
  | ⟨1, _⟩ => rfl

/-- A row less its mean. -/
theorem ref_centred (n : Fin 16384) (d : Fin 1024) : val_main_v18 (F := Ideal) A M X W (ix2 n d) = hidden A M X W n d - mean (hidden A M X W n) := by
  rw [val_main_v18_apply, ref_hidden, val_main_v17_apply, ← ref_mean]
  refine congrArg (hidden A M X W n d - ·) (congrArg (val_main_v9 (F := Ideal) A M X W) ?_)
  funext a; match a with
  | ⟨0, _⟩ => rfl
  | ⟨1, _⟩ => rfl

theorem ref_centred' (n : Fin 16384) (d : Fin 1024) : val_main_v11 (F := Ideal) A M X W (ix2 n d) = hidden A M X W n d - mean (hidden A M X W n) := by
  rw [val_main_v11_apply, ref_hidden, val_main_v10_apply, ← ref_mean]
  refine congrArg (hidden A M X W n d - ·) (congrArg (val_main_v9 (F := Ideal) A M X W) ?_)
  funext a; match a with
  | ⟨0, _⟩ => rfl
  | ⟨1, _⟩ => rfl

/-- The reciprocal root of a row's variance. -/
theorem ref_rsqrt (n : Fin 16384) : val_main_v21 (F := Ideal) A M X W (ix2 n 0)
    = Ideal.rsqrt (mean (fun k => (hidden A M X W n k - mean (hidden A M X W n)) * (hidden A M X W n k - mean (hidden A M X W n))) + Ideal.ofBits .f32 0x3727C5AC#32) := by
  rw [val_main_v21_apply, val_main_v20_apply, val_main_v16_apply, val_main_v14_apply, val_main_v15_apply, val_main_v19_apply, val_main_cst_3_apply, val_main_cst_4_apply,
    val_main_v13_apply, val_main_cst_2_apply]
  refine congrArg (fun s : EReal => Ideal.rsqrt (Ideal.div s (Ideal.ofBits .f32 0x44800000#32) + Ideal.ofBits .f32 0x3727C5AC#32)) ?_
  rw [show (FloatOps.ofBits .f32 0x00000000#32 : Ideal .f32) = (0 : EReal) from Cert.Moba.zero_word]
  refine (zero_add _).trans (Finset.sum_congr rfl fun k _ => ?_)
  have e : idx_main_v13 (idx_main_v14 (ix2 n 0)) k = ix2 n k := by
    funext a; match a with
    | ⟨0, _⟩ => rfl
    | ⟨1, _⟩ => rfl
  rw [val_main_v12_apply, e, ref_centred']
  rfl

/-- **The reference's result.** -/
theorem ref_out : val_main_v29 (F := Ideal) A M X W g b = oprojOut A M X W g b := by
  funext i
  obtain ⟨n, d, rfl⟩ : ∃ (n : Fin 16384) (d : Fin 1024), i = ix2 n d := ⟨i 0, i 1, eq_ix2 i⟩
  rw [val_main_v29_apply, val_main_v26_apply, val_main_v23_apply, ref_centred, val_main_v22_apply, val_main_v25_apply, val_main_v24_apply,
    val_main_v28_apply, val_main_v27_apply]
  have e : idx_main_v22 (ix2 n d) = ix2 n 0 := by
    funext a; match a with
    | ⟨0, _⟩ => rfl
    | ⟨1, _⟩ => rfl
  have eg : idx_main_v24 (idx_main_v25 (ix2 n d)) = ix1 d := by
    funext a; match a with
    | ⟨0, _⟩ => rfl
  have eb : idx_main_v27 (idx_main_v28 (ix2 n d)) = ix1 d := by
    funext a; match a with
    | ⟨0, _⟩ => rfl
  rw [e, ref_rsqrt, eg, eb]
  rfl

end Cert.Oproj

end
-- ==== Proof.Oproj.Main.lean ====
/- The value claim of the output projection: the kernel's run and its array, the reference's run and its result. -/
module

public import proofs.«01_k».proof.Defs
public import proofs.«01_k».proof.Proof.Oproj.Array
public import proofs.«01_k».proof.Proof.Oproj.Reference

@[expose] public section

noncomputable section

namespace Cert.Oproj

open Idealize.ShloMosaic Idealize.ShloMosaic.TcCoe Idealize.SL.Sem

/-- **The value claim.** -/
theorem algebraic : Cert.algebraic_OprojKernelIdeal_OprojReferenceIdeal (hOprojKernelIdeal := Cert.OprojKernelIdeal.Gen.facts)
    (hOprojReferenceIdeal := Cert.OprojReferenceIdeal.Gen.facts) := by
  intro m g m' g' _ hag
  refine ⟨fun c => oprojOut (m ((c.tc : Thread Cert.OprojKernelIdeal.nD Cert.OprojKernelIdeal.τ).loc Cert.OprojKernelIdeal.main_arg0))
    (m ((c.tc : Thread Cert.OprojKernelIdeal.nD Cert.OprojKernelIdeal.τ).loc Cert.OprojKernelIdeal.main_arg1))
    (m ((c.tc : Thread Cert.OprojKernelIdeal.nD Cert.OprojKernelIdeal.τ).loc Cert.OprojKernelIdeal.main_arg2))
    (m ((c.tc : Thread Cert.OprojKernelIdeal.nD Cert.OprojKernelIdeal.τ).loc Cert.OprojKernelIdeal.main_arg3))
    (m ((c.tc : Thread Cert.OprojKernelIdeal.nD Cert.OprojKernelIdeal.τ).loc Cert.OprojKernelIdeal.main_arg4))
    (m ((c.tc : Thread Cert.OprojKernelIdeal.nD Cert.OprojKernelIdeal.τ).loc Cert.OprojKernelIdeal.main_arg5)), ?_, ?_⟩
  · refine (θ_run _ _ _).mono (fun r h c => ?_) (Cert.OprojKernelIdeal.Value.run_blocks (F := Ideal) m g)
    obtain ⟨h0, _, _, _, h1⟩ := h c
    exact ⟨h0.trans (array_eq m c), h1⟩
  · refine (θ_run _ _ _).mono (fun r h c => ?_) (Cert.OprojReferenceIdeal.Value.run (F := Ideal) m' g')
    obtain ⟨h0, h1⟩ := h c
    refine ⟨h0.trans ?_, h1⟩
    obtain ⟨a0, a1, a2, a3, a4, a5, _⟩ := hag c
    rw [Cert.OprojReferenceIdeal.Read.val_main_v29_eq, ref_out, a0, a1, a2, a3, a4, a5]

/-- The reference terminates without a fault, keeps its arguments and leaves every counter at zero (it has none). -/
theorem reference_frame : Cert.quiescent_OprojReferenceIdeal (hOprojReferenceIdeal := Cert.OprojReferenceIdeal.Gen.facts) := fun m g _ =>
  (θ_run _ _ _).mono (fun r h => ⟨fun c => (h c).2, sem_eq_zero_of_no_sems (by decide) r.2⟩)
    (Cert.OprojReferenceIdeal.Value.run (F := Ideal) m g)

end Cert.Oproj

end
-- ==== Proof.Prep.Value.lean ====
/- The value paths of the input projection in closed form over the extended reals, and what the kernel's body computes of one
   block of rows. -/
module

public import proofs.«01_k».proof.Proof.Gen.PrepKernelIdeal.Skeleton
public import Idealize.ShloMosaic.Lib.Pointwise

@[expose] public section

noncomputable section

namespace Cert.Prep

open Cert.PrepKernelIdeal Cert.PrepKernelIdeal.Gen Idealize.ShloMosaic Idealize.ShloMosaic.TcCoe Idealize.SL.Sem Idealize.ShloMosaic.Tactic
open scoped BigOperators

/-- The root mean square norm of a row of 128 entries at column `e`, with gain `g`. -/
def rms (h : Fin 128 → EReal) (g : EReal) (e : Fin 128) : EReal :=
  h e * Ideal.rsqrt (Ideal.div (∑ k, h k * h k) (Ideal.ofBits .f32 0x43000000#32) + Ideal.ofBits .f32 0x358637BD#32) * g

/-- Entry `k` of token `n`, the tokens of all sequences counted through. -/
def token (X : Vec Ideal S8x2048x1024 .f32) (n : Fin 16384) (k : Fin 1024) : EReal :=
  X (ix3 ⟨n.val / 2048, by omega⟩ ⟨n.val % 2048, by omega⟩ k)

/-- Column `j` of token `n`'s projection. -/
def proj (X : Vec Ideal S8x2048x1024 .f32) (W : Vec Ideal S1024x1952 .f32) (n : Fin 16384) (j : Fin 1952) : EReal :=
  ∑ k : Fin 1024, token X n k * W (ix2 k j)

/-- Column `e` of token `n`'s key and value latent. -/
def latent (X : Vec Ideal S8x2048x1024 .f32) (W : Vec Ideal S1024x1952 .f32) (n : Fin 16384) (e : Fin 128) : EReal :=
  proj X W n ⟨256 + e.val, by omega⟩

/-- The column of the second projection where lane `d` of the values lies: each head's values follow its keys. -/
def valueCol (d : Fin 512) : Fin 1024 := ⟨d.val / 64 * 128 + (64 + d.val % 64), by omega⟩

/-- The low-rank attention's values. -/
def vaOut (X : Vec Ideal S8x2048x1024 .f32) (W : Vec Ideal S1024x1952 .f32) (g : Vec Ideal S128 .f32) (U : Vec Ideal S128x1024 .f32) :
    Vec Ideal S16384x512 .bf16 := fun i => ∑ e : Fin 128, rms (latent X W (i 0)) (g (ix1 e)) e * U (ix2 e (valueCol (i 1)))

/-- The block attention's values. -/
def mvOut (X : Vec Ideal S8x2048x1024 .f32) (W : Vec Ideal S1024x1952 .f32) : Vec Ideal S16384x512 .bf16 := fun i =>
  proj X W (i 0) ⟨1440 + (i 1).val, by have : (i 1).val < 512 := (i 1).isLt; omega⟩

variable (x : Vec Ideal S256x1024 .f32) (r : Fin 256)

theorem pay44_apply (w : Vec Ideal S1024x512 .bf16) (d : Fin 512) :
    k0_pay44 (F := Ideal) (k0_pay2 x) w (ix2 r d) = ∑ k : Fin 1024, (x (ix2 r k) : EReal) * w (ix2 k d) := by
  pointwise [k0_pay44, k0_pay2]

theorem pay8_apply (w : Vec Ideal S1024x128 .bf16) (e : Fin 128) :
    k0_pay8 (F := Ideal) x w (ix2 r e) = ∑ k : Fin 1024, (x (ix2 r k) : EReal) * w (ix2 k e) := by
  pointwise [k0_pay8, k0_pay2]

theorem pay15_apply (y : FVec Ideal S256x128 .f32) (g : Vec Ideal S1x128 .f32) (e : Fin 128) :
    k0_pay15 (F := Ideal) y g (ix2 r e) = rms (fun k => y (ix2 r k)) (g (ix2 0 e)) e := by
  unfold rms
  pointwise [k0_pay15]

theorem pay19_apply (y : FVec Ideal S256x128 .f32) (g : Vec Ideal S1x128 .f32) (u : Vec Ideal S128x512 .bf16) (d : Fin 512) :
    k0_pay40 (F := Ideal) (k0_pay19 y g u) (ix2 r d) = ∑ e : Fin 128, rms (fun k => y (ix2 r k)) (g (ix2 0 e)) e * u (ix2 e d) := by
  simp only [← pay15_apply]
  pointwise [k0_pay40, k0_pay19]

theorem pay49_apply (y : FVec Ideal S256x512 .f32) (d : Fin 512) : k0_pay49 (F := Ideal) y (ix2 r d) = y (ix2 r d) := by
  pointwise [k0_pay49]

end Cert.Prep

end
-- ==== Proof.Prep.Body.lean ====
/- What the input projection's body leaves in its blocks of values, from the blocks it reads, at the first point of a sequence
   and after. -/
module

public import proofs.«01_k».proof.Proof.Gen.PrepKernelIdeal.Value
public import proofs.«01_k».proof.Proof.Prep.Value
public import Idealize.ShloMosaic.Lib.Pipeline.ValueKit

@[expose] public section

set_option maxRecDepth 16384
set_option maxHeartbeats 4000000
noncomputable section

namespace Cert.Prep

open Cert.PrepKernelIdeal Cert.PrepKernelIdeal.Gen Idealize.ShloMosaic Idealize.ShloMosaic.TcCoe Idealize.SL.Sem Idealize.ShloMosaic.Tactic

theorem hz2 : (![0, 0] : Fin 2 → Nat) = fun _ => 0 := funext fun a => by fin_cases a <;> rfl

/-- The latent's columns of the weights, and the block attention's value columns. -/
def latentW (w : Vec Ideal S1024x3200 .bf16) : Vec Ideal S1024x128 .bf16 := fun j =>
  w (ix2 (j 0) ⟨256 + (j 1).val, by have : (j 1).val < 128 := (j 1).isLt; omega⟩)
def lastW (w : Vec Ideal S1024x3200 .bf16) : Vec Ideal S1024x512 .bf16 := fun j =>
  w (ix2 (j 0) ⟨2688 + (j 1).val, by have : (j 1).val < 512 := (j 1).isLt; omega⟩)

theorem ld_latent (w : Vec Ideal S1024x3200 .bf16) (off : Fin 2 → ℕ) (inb) (hoff : off = ![0, 256]) :
    View.ld w (Rect.unit off ![1024, 128] inb) = latentW w := by
  subst hoff
  funext j
  refine View.ld_unit_apply_of w _ _ _ _ _ fun a => ?_
  fin_cases a
  · exact (Nat.zero_add _).symm
  · rfl

theorem ld_last (w : Vec Ideal S1024x3200 .bf16) (off : Fin 2 → ℕ) (inb) (hoff : off = ![0, 2688]) :
    View.ld w (Rect.unit off ![1024, 512] inb) = lastW w := by
  subst hoff
  funext j
  refine View.ld_unit_apply_of w _ _ _ _ _ fun a => ?_
  fin_cases a
  · exact (Nat.zero_add _).symm
  · rfl

/-- The low-rank attention's block of values. -/
def vaBlock (x0 : Vec Ideal S256x1024 .f32) (x1 : Vec Ideal S1024x3200 .bf16) (x5 : Vec Ideal S128x512 .bf16) (x7 : Vec Ideal S1x128 .f32) : Vec Ideal S256x512 .bf16 :=
  k0_pay40 (F := Ideal) (k0_pay19 (k0_pay8 x0 (latentW x1)) x7 x5)

/-- The block attention's block of values. -/
def mvBlock (x0 : Vec Ideal S256x1024 .f32) (x1 : Vec Ideal S1024x3200 .bf16) : Vec Ideal S256x512 .bf16 :=
  k0_pay49 (F := Ideal) (k0_pay44 (k0_pay2 x0) (lastW x1))

set_option backward.isDefEq.respectTransparency false in
/-- The low-rank attention's values at the first point of a sequence. -/
theorem va_first (c : Dev nD) (i : grid0.Coords) (arg2 : Memref sig .tc .vmem S256x1024 .f32) (harg2 : arg2.IsWhole) (arg3 : Memref sig .tc .vmem S1024x3200 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S128x1024 .bf16) (harg6 : arg6.IsWhole) (arg7 : Memref sig .tc .vmem S128x512 .bf16) (harg7 : arg7.IsWhole) (arg8 : Memref sig .tc .vmem S1x256 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S256x512 .bf16) (harg16 : arg16.IsWhole) (arg17 : Memref sig .tc .vmem S256x512 .bf16) (harg17 : arg17.IsWhole) (arg18 : Memref sig .tc .vmem S256x512 .bf16) (harg18 : arg18.IsWhole) (arg19 : Memref sig .tc .vmem S256x512 .bf16) (harg19 : arg19.IsWhole) (arg20 : Memref sig .tc .vmem S256x128 .f32) (harg20 : arg20.IsWhole) (arg21 : Memref sig .tc .vmem S64x512 .f32) (harg21 : arg21.IsWhole) (hc0 : cond0_0 i)
    (x0 : Vec Ideal S256x1024 .f32) (x1 : Vec Ideal S1024x3200 .bf16) (x2 : Vec Ideal S256x1024 .bf16) (x3 : Vec Ideal S256x1024 .bf16) (x4 : Vec Ideal S128x1024 .bf16) (x5 : Vec Ideal S128x512 .bf16) (x6 : Vec Ideal S1x256 .f32) (x7 : Vec Ideal S1x128 .f32) (x8 : Vec Ideal S256x128 .f32) (x9 : Vec Ideal S256x128 .f32) (x10 : Vec Ideal S256x128 .f32) (x11 : Vec Ideal S256x128 .f32) :
    out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 = vaBlock x0 x1 x5 x7 := by
  unfold out0_A_14
  rw [View.read_writes_eq_canon _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11)]
  unfold kernelRun0_A
  dsimp only
  sl_unfold_words
  rw [View.canon_unit_zero (S := S256x512) hz2]
  simp only [View.readAt_eq_ld, harg2.read_unread, harg3.read_unread, harg7.read_unread, harg9.read_unread]
  rw [ld_latent x1 ![0, 256] _ rfl]
  simp only [View.ld_unit_zero (S := S256x1024) hz2, View.ld_unit_zero (S := S128x512) hz2, View.ld_unit_zero (S := S1x128) hz2]
  rfl

set_option backward.isDefEq.respectTransparency false in
/-- And at a later point. -/
theorem va_later (c : Dev nD) (i : grid0.Coords) (arg2 : Memref sig .tc .vmem S256x1024 .f32) (harg2 : arg2.IsWhole) (arg3 : Memref sig .tc .vmem S1024x3200 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S128x1024 .bf16) (harg6 : arg6.IsWhole) (arg7 : Memref sig .tc .vmem S128x512 .bf16) (harg7 : arg7.IsWhole) (arg8 : Memref sig .tc .vmem S1x256 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S256x512 .bf16) (harg16 : arg16.IsWhole) (arg17 : Memref sig .tc .vmem S256x512 .bf16) (harg17 : arg17.IsWhole) (arg18 : Memref sig .tc .vmem S256x512 .bf16) (harg18 : arg18.IsWhole) (arg19 : Memref sig .tc .vmem S256x512 .bf16) (harg19 : arg19.IsWhole) (arg20 : Memref sig .tc .vmem S256x128 .f32) (harg20 : arg20.IsWhole) (arg21 : Memref sig .tc .vmem S64x512 .f32) (harg21 : arg21.IsWhole) (hc0 : ¬cond0_0 i)
    (x0 : Vec Ideal S256x1024 .f32) (x1 : Vec Ideal S1024x3200 .bf16) (x2 : Vec Ideal S256x1024 .bf16) (x3 : Vec Ideal S256x1024 .bf16) (x4 : Vec Ideal S128x1024 .bf16) (x5 : Vec Ideal S128x512 .bf16) (x6 : Vec Ideal S1x256 .f32) (x7 : Vec Ideal S1x128 .f32) (x8 : Vec Ideal S256x128 .f32) (x9 : Vec Ideal S256x128 .f32) (x10 : Vec Ideal S256x128 .f32) (x11 : Vec Ideal S256x128 .f32) (xs0 : Vec Ideal S64x512 .f32) :
    out0_B_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xs0 = vaBlock x0 x1 x5 x7 := by
  unfold out0_B_14
  rw [View.read_writes_eq_canon _ _ _ (cover0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xs0)]
  unfold kernelRun0_B
  dsimp only
  sl_unfold_words
  rw [View.canon_unit_zero (S := S256x512) hz2]
  simp only [View.readAt_eq_ld, harg2.read_unread, harg3.read_unread, harg7.read_unread, harg9.read_unread]
  rw [ld_latent x1 ![0, 256] _ rfl]
  simp only [View.ld_unit_zero (S := S256x1024) hz2, View.ld_unit_zero (S := S128x512) hz2, View.ld_unit_zero (S := S1x128) hz2]
  rfl

set_option backward.isDefEq.respectTransparency false in
/-- The block attention's values at the first point of a sequence. -/
theorem mv_first (c : Dev nD) (i : grid0.Coords) (arg2 : Memref sig .tc .vmem S256x1024 .f32) (harg2 : arg2.IsWhole) (arg3 : Memref sig .tc .vmem S1024x3200 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S128x1024 .bf16) (harg6 : arg6.IsWhole) (arg7 : Memref sig .tc .vmem S128x512 .bf16) (harg7 : arg7.IsWhole) (arg8 : Memref sig .tc .vmem S1x256 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S256x512 .bf16) (harg16 : arg16.IsWhole) (arg17 : Memref sig .tc .vmem S256x512 .bf16) (harg17 : arg17.IsWhole) (arg18 : Memref sig .tc .vmem S256x512 .bf16) (harg18 : arg18.IsWhole) (arg19 : Memref sig .tc .vmem S256x512 .bf16) (harg19 : arg19.IsWhole) (arg20 : Memref sig .tc .vmem S256x128 .f32) (harg20 : arg20.IsWhole) (arg21 : Memref sig .tc .vmem S64x512 .f32) (harg21 : arg21.IsWhole) (hc0 : cond0_0 i)
    (x0 : Vec Ideal S256x1024 .f32) (x1 : Vec Ideal S1024x3200 .bf16) (x2 : Vec Ideal S256x1024 .bf16) (x3 : Vec Ideal S256x1024 .bf16) (x4 : Vec Ideal S128x1024 .bf16) (x5 : Vec Ideal S128x512 .bf16) (x6 : Vec Ideal S1x256 .f32) (x7 : Vec Ideal S1x128 .f32) (x8 : Vec Ideal S256x128 .f32) (x9 : Vec Ideal S256x128 .f32) (x10 : Vec Ideal S256x128 .f32) (x11 : Vec Ideal S256x128 .f32) :
    out0_A_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 = mvBlock x0 x1 := by
  unfold out0_A_17
  rw [View.read_writes_eq_canon _ _ _ (cover0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11)]
  unfold kernelRun0_A
  dsimp only
  sl_unfold_words
  rw [View.canon_unit_zero (S := S256x512) hz2]
  simp only [View.readAt_eq_ld, harg2.read_unread, harg3.read_unread, harg7.read_unread, harg9.read_unread]
  rw [ld_last x1 ![0, 2688] _ rfl]
  simp only [View.ld_unit_zero (S := S256x1024) hz2]
  rfl

set_option backward.isDefEq.respectTransparency false in
/-- And at a later point. -/
theorem mv_later (c : Dev nD) (i : grid0.Coords) (arg2 : Memref sig .tc .vmem S256x1024 .f32) (harg2 : arg2.IsWhole) (arg3 : Memref sig .tc .vmem S1024x3200 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S128x1024 .bf16) (harg6 : arg6.IsWhole) (arg7 : Memref sig .tc .vmem S128x512 .bf16) (harg7 : arg7.IsWhole) (arg8 : Memref sig .tc .vmem S1x256 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S256x512 .bf16) (harg16 : arg16.IsWhole) (arg17 : Memref sig .tc .vmem S256x512 .bf16) (harg17 : arg17.IsWhole) (arg18 : Memref sig .tc .vmem S256x512 .bf16) (harg18 : arg18.IsWhole) (arg19 : Memref sig .tc .vmem S256x512 .bf16) (harg19 : arg19.IsWhole) (arg20 : Memref sig .tc .vmem S256x128 .f32) (harg20 : arg20.IsWhole) (arg21 : Memref sig .tc .vmem S64x512 .f32) (harg21 : arg21.IsWhole) (hc0 : ¬cond0_0 i)
    (x0 : Vec Ideal S256x1024 .f32) (x1 : Vec Ideal S1024x3200 .bf16) (x2 : Vec Ideal S256x1024 .bf16) (x3 : Vec Ideal S256x1024 .bf16) (x4 : Vec Ideal S128x1024 .bf16) (x5 : Vec Ideal S128x512 .bf16) (x6 : Vec Ideal S1x256 .f32) (x7 : Vec Ideal S1x128 .f32) (x8 : Vec Ideal S256x128 .f32) (x9 : Vec Ideal S256x128 .f32) (x10 : Vec Ideal S256x128 .f32) (x11 : Vec Ideal S256x128 .f32) (xs0 : Vec Ideal S64x512 .f32) :
    out0_B_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xs0 = mvBlock x0 x1 := by
  unfold out0_B_17
  rw [View.read_writes_eq_canon _ _ _ (cover0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xs0)]
  unfold kernelRun0_B
  dsimp only
  sl_unfold_words
  rw [View.canon_unit_zero (S := S256x512) hz2]
  simp only [View.readAt_eq_ld, harg2.read_unread, harg3.read_unread, harg7.read_unread, harg9.read_unread]
  rw [ld_last x1 ![0, 2688] _ rfl]
  simp only [View.ld_unit_zero (S := S256x1024) hz2]
  rfl

variable (m : (ℓ : Loc nD τ sig) → Buf (Elt Ideal) ℓ)

/-- What a point leaves in its two blocks of values. -/
theorem va_eq (c : Dev nD) (t : Fin cfg0.N) :
    (outsAt0 m c t.val t.isLt).2.2.1 = vaBlock (iblk m c 0 t) (iblk m c 1 t) (iblk m c 5 t) (iblk m c 7 t) := by
  by_cases h0 : t.val % 8 = 0
  · rw [outsAt0_A m c t h0]
    dsimp only
    rw [va_first]
  · rw [outsAt0_B m c t h0]
    dsimp only
    rw [va_later]

theorem mv_eq (c : Dev nD) (t : Fin cfg0.N) :
    (outsAt0 m c t.val t.isLt).2.2.2.2.2.1 = mvBlock (iblk m c 0 t) (iblk m c 1 t) := by
  by_cases h0 : t.val % 8 = 0
  · rw [outsAt0_A m c t h0]
    dsimp only
    rw [mv_first]
  · rw [outsAt0_B m c t h0]
    dsimp only
    rw [mv_later]

end Cert.Prep

end
-- ==== Proof.Prep.Host.lean ====
/- What the region of the input projection finds of the weights its value paths read: columns of the arguments. -/
module

public import proofs.«01_k».proof.Proof.Gen.PrepKernelIdeal.Frame
public import proofs.«01_k».proof.Proof.Prep.Value

@[expose] public section

set_option maxRecDepth 16384
noncomputable section

namespace Cert.Prep

open Cert.PrepKernelIdeal Cert.PrepKernelIdeal.Gen Idealize.ShloMosaic Idealize.ShloMosaic.TcCoe Idealize.SL.Sem Idealize.ShloMosaic.Tactic

/-- Nine blocks of columns side by side. -/
def nine (a0 : Vec Ideal S1024x256 .f32) (a1 a2 a3 : Vec Ideal S1024x128 .f32) (a4 a5 a6 a7 a8 : Vec Ideal S1024x512 .f32) : Vec Ideal S1024x3200 .f32 :=
  concatenate S1024x3200 1 [⟨S1024x256, a0⟩, ⟨S1024x128, a1⟩, ⟨S1024x128, a2⟩, ⟨S1024x128, a3⟩, ⟨S1024x512, a4⟩, ⟨S1024x512, a5⟩, ⟨S1024x512, a6⟩, ⟨S1024x512, a7⟩, ⟨S1024x512, a8⟩]
    concatenates_S1024x256_S1024x128_S1024x128_S1024x128_S1024x512_S1024x512_S1024x512_S1024x512_S1024x512_S1024x3200_d1

section
variable (a0 : Vec Ideal S1024x256 .f32) (a1 a2 a3 : Vec Ideal S1024x128 .f32) (a4 a5 a6 a7 a8 : Vec Ideal S1024x512 .f32)

theorem nine_latent (k : Fin 1024) (e : Fin 128) : nine a0 a1 a2 a3 a4 a5 a6 a7 a8 (ix2 k ⟨256 + e.val, by omega⟩) = a1 (ix2 k e) := by
  unfold nine
  pointwise

theorem nine_last (k : Fin 1024) (d : Fin 512) : nine a0 a1 a2 a3 a4 a5 a6 a7 a8 (ix2 k ⟨2688 + d.val, by omega⟩) = a8 (ix2 k d) := by
  unfold nine
  pointwise
  repeat rw [dif_neg (by omega)]
  refine congrArg a8 ?_
  funext a; match a with
  | ⟨0, _⟩ => rfl
  | ⟨1, _⟩ => exact Fin.ext (by show _ = d.val; simp only [ix2]; omega)
end

variable (m : (ℓ : Loc nD τ sig) → Buf (Elt Ideal) ℓ)

set_option maxHeartbeats 4000000 in
/-- The projection's weights as the region finds them: nine blocks of columns, rounded. -/
theorem win_eq (c : Dev nD) : V m c main_v81 = (truncf (F := Ideal) .bf16 (nine (V m c main_v46) (V m c main_v47) (V m c main_v54) (V m c main_v61) (V m c main_v49)
    (V m c main_v70) (V m c main_v50) (V m c main_v79) (V m c main_v51) : FVec Ideal S1024x3200 .f32) bitsLt_bf16_f32 : FVec Ideal S1024x3200 .bf16) := by
  dsimp only [V, hostOps0]
  rfl

theorem latent_cols (c : Dev nD) :
    V m c main_v47 = extractStridedSlice S1024x128 ![0, 256] (m ((c : Thread nD τ).loc main_arg2) : Vec Ideal S1024x1952 .f32) slices_S1024x1952_S1024x128_0_256 := by
  dsimp only [V, hostOps0]
  rfl

theorem last_cols (c : Dev nD) :
    V m c main_v51 = extractStridedSlice S1024x512 ![0, 1440] (m ((c : Thread nD τ).loc main_arg2) : Vec Ideal S1024x1952 .f32) slices_S1024x1952_S1024x512_0_1440 := by
  dsimp only [V, hostOps0]
  rfl

theorem win_latent (c : Dev nD) (k : Fin 1024) (e : Fin 128) :
    (V m c main_v81 : Vec Ideal S1024x3200 .bf16) (ix2 k ⟨256 + e.val, by omega⟩) = (m ((c : Thread nD τ).loc main_arg2) : Vec Ideal S1024x1952 .f32) (ix2 k ⟨256 + e.val, by omega⟩) := by
  rw [win_eq]
  refine (nine_latent _ _ _ _ _ _ _ _ _ k e).trans ?_
  rw [latent_cols]
  pointwise

theorem win_last (c : Dev nD) (k : Fin 1024) (d : Fin 512) :
    (V m c main_v81 : Vec Ideal S1024x3200 .bf16) (ix2 k ⟨2688 + d.val, by omega⟩) = (m ((c : Thread nD τ).loc main_arg2) : Vec Ideal S1024x1952 .f32) (ix2 k ⟨1440 + d.val, by omega⟩) := by
  rw [win_eq]
  refine (nine_last _ _ _ _ _ _ _ _ _ k d).trans ?_
  rw [last_cols]
  pointwise

theorem flat_apply (X : Vec Ideal S8x2048x1024 .f32) (n : Fin 16384) (k : Fin 1024) :
    shapeCast S16384x1024 X shapeCasts_S8x2048x1024_S16384x1024 (ix2 n k) = token X n k := by
  unfold token
  exact shapeCast_apply X shapeCasts_S8x2048x1024_S16384x1024 (ix2 n k) (ix3 ⟨n.val / 2048, by omega⟩ ⟨n.val % 2048, by omega⟩ k)
    (by rewrite [Shape.rowMajor_val_three, Shape.rowMajor_val_two]; show (n.val / 2048 * 2048 + n.val % 2048) * 1024 + k.val = n.val * 1024 + k.val; omega)

theorem tokens_eq (c : Dev nD) (n : Fin 16384) (k : Fin 1024) :
    (V m c main_v105 : Vec Ideal S16384x1024 .f32) (ix2 n k) = token (m ((c : Thread nD τ).loc main_arg0)) n k := by
  have e : (V m c main_v105 : Vec Ideal S16384x1024 .f32) = shapeCast S16384x1024 (m ((c : Thread nD τ).loc main_arg0) : Vec Ideal S8x2048x1024 .f32) shapeCasts_S8x2048x1024_S16384x1024 := by
    dsimp only [V, hostOps0]
    rfl
  rw [e]
  exact flat_apply _ n k

theorem gain_eq (c : Dev nD) (e : Fin 128) :
    (V m c main_v107 : Vec Ideal S1x128 .f32) (ix2 0 e) = (m ((c : Thread nD τ).loc main_arg5) : Vec Ideal S128 .f32) (ix1 e) := by
  have h : (V m c main_v107 : Vec Ideal S1x128 .f32) = shapeCast S1x128 (m ((c : Thread nD τ).loc main_arg5) : Vec Ideal S128 .f32) shapeCasts_S128_S1x128 := by
    dsimp only [V, hostOps0]
    rfl
  rw [h]
  pointwise

/-- The second projection's values, without the keys between them. -/
def valueCols (u : Vec Ideal S128x1024 .f32) : Vec Ideal S128x512 .f32 :=
  shapeCast S128x512 (extractStridedSlice S128x8x64 ![0, 0, 64] (shapeCast S128x8x128 u shapeCasts_S128x1024_S128x8x128) slices_S128x8x128_S128x8x64_0_0_64) shapeCasts_S128x8x64_S128x512

theorem valueCols_apply (u : Vec Ideal S128x1024 .f32) (e : Fin 128) (d : Fin 512) : valueCols u (ix2 e d) = u (ix2 e (valueCol d)) := by
  unfold valueCols valueCol
  pointwise

theorem values_eq (c : Dev nD) (e : Fin 128) (d : Fin 512) :
    (V m c main_v104 : Vec Ideal S128x512 .bf16) (ix2 e d) = (m ((c : Thread nD τ).loc main_arg6) : Vec Ideal S128x1024 .f32) (ix2 e (valueCol d)) := by
  have h : V m c main_v104 = (truncf (F := Ideal) .bf16 (valueCols (m ((c : Thread nD τ).loc main_arg6)) : FVec Ideal S128x512 .f32) bitsLt_bf16_f32 : FVec Ideal S128x512 .bf16) := by
    dsimp only [V, hostOps0]
    rfl
  rw [h]
  exact valueCols_apply _ e d

end Cert.Prep

end
-- ==== Proof.Prep.Array.lean ====
/- The input projection's two arrays of values, over the extended reals. -/
module

public import proofs.«01_k».proof.Proof.Prep.Body
public import proofs.«01_k».proof.Proof.Prep.Host

@[expose] public section

set_option maxRecDepth 16384
noncomputable section

namespace Cert.Prep

open Cert.PrepKernelIdeal Cert.PrepKernelIdeal.Gen Idealize.ShloMosaic Idealize.ShloMosaic.TcCoe Idealize.SL.Sem Idealize.ShloMosaic.Tactic
open scoped BigOperators

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx5 : ∀ t : Fin cfg0.N, win0_5.index t = ![0, 0] := (by decide +kernel : ∀ t : Fin grid0.N, _)
theorem idx7 : ∀ t : Fin cfg0.N, win0_7.index t = ![0, 0] := (by decide +kernel : ∀ t : Fin grid0.N, _)
theorem idx14 : ∀ t : Fin cfg0.N, win0_14.index t = ![t.val, 0] := (by decide +kernel : ∀ t : Fin grid0.N, _)
theorem idx17 : ∀ t : Fin cfg0.N, win0_17.index t = ![t.val, 0] := (by decide +kernel : ∀ t : Fin grid0.N, _)

/-- The blocks a point reads, at coordinates. -/
theorem iblk0_apply (c : Dev nD) (t : Fin cfg0.N) (r : Fin 256) (k : Fin 1024) (n : Fin 16384) (h : n.val = t.val * 256 + r.val) :
    (iblk m c 0 t : Vec Ideal S256x1024 .f32) (ix2 r k) = token (m ((c : Thread nD τ).loc main_arg0)) n k := by
  refine Eq.trans ?_ (tokens_eq m c n k)
  blk_simp [iblk]
  refine congrArg (V m c main_v105 : Vec Ideal S16384x1024 .f32) ?_
  blk_ext [idx0, h]

theorem iblk1_apply (c : Dev nD) (t : Fin cfg0.N) (k : Fin 1024) (j : Fin 3200) :
    (iblk m c 1 t : Vec Ideal S1024x3200 .bf16) (ix2 k j) = (V m c main_v81 : Vec Ideal S1024x3200 .bf16) (ix2 k j) := by
  blk_simp [iblk]
  refine congrArg (V m c main_v81 : Vec Ideal S1024x3200 .bf16) ?_
  blk_ext [idx1]

theorem iblk5_apply (c : Dev nD) (t : Fin cfg0.N) (e : Fin 128) (d : Fin 512) :
    (iblk m c 5 t : Vec Ideal S128x512 .bf16) (ix2 e d) = (m ((c : Thread nD τ).loc main_arg6) : Vec Ideal S128x1024 .f32) (ix2 e (valueCol d)) := by
  refine Eq.trans ?_ (values_eq m c e d)
  blk_simp [iblk]
  refine congrArg (V m c main_v104 : Vec Ideal S128x512 .bf16) ?_
  blk_ext [idx5]

theorem iblk7_apply (c : Dev nD) (t : Fin cfg0.N) (e : Fin 128) :
    (iblk m c 7 t : Vec Ideal S1x128 .f32) (ix2 0 e) = (m ((c : Thread nD τ).loc main_arg5) : Vec Ideal S128 .f32) (ix1 e) := by
  refine Eq.trans ?_ (gain_eq m c e)
  blk_simp [iblk]
  refine congrArg (V m c main_v107 : Vec Ideal S1x128 .f32) ?_
  blk_ext [idx7]

/-- A block's latent is the array's. -/
theorem latent_eq (c : Dev nD) (t : Fin cfg0.N) (r : Fin 256) (n : Fin 16384) (h : n.val = t.val * 256 + r.val) (e : Fin 128) :
    k0_pay8 (F := Ideal) (iblk m c 0 t) (latentW (iblk m c 1 t)) (ix2 r e)
      = latent (m ((c : Thread nD τ).loc main_arg0)) (m ((c : Thread nD τ).loc main_arg2)) n e := by
  rw [pay8_apply]
  unfold latent proj
  refine Finset.sum_congr rfl fun k _ => congrArg₂ (fun a b : EReal => a * b) (iblk0_apply m c t r k n h) ?_
  exact (iblk1_apply m c t k ⟨256 + e.val, by omega⟩).trans (win_latent m c k e)

theorem last_eq (c : Dev nD) (t : Fin cfg0.N) (r : Fin 256) (n : Fin 16384) (h : n.val = t.val * 256 + r.val) (d : Fin 512) :
    mvBlock (iblk m c 0 t) (iblk m c 1 t) (ix2 r d)
      = proj (m ((c : Thread nD τ).loc main_arg0)) (m ((c : Thread nD τ).loc main_arg2)) n ⟨1440 + d.val, by omega⟩ := by
  unfold mvBlock
  rw [pay49_apply, pay44_apply]
  unfold proj
  refine Finset.sum_congr rfl fun k _ => congrArg₂ (fun a b : EReal => a * b) (iblk0_apply m c t r k n h) ?_
  exact (iblk1_apply m c t k ⟨2688 + d.val, by omega⟩).trans (win_last m c k d)

theorem low_eq (c : Dev nD) (t : Fin cfg0.N) (r : Fin 256) (n : Fin 16384) (h : n.val = t.val * 256 + r.val) (d : Fin 512) :
    vaBlock (iblk m c 0 t) (iblk m c 1 t) (iblk m c 5 t) (iblk m c 7 t) (ix2 r d)
      = ∑ e : Fin 128, rms (latent (m ((c : Thread nD τ).loc main_arg0)) (m ((c : Thread nD τ).loc main_arg2)) n)
          ((m ((c : Thread nD τ).loc main_arg5) : Vec Ideal S128 .f32) (ix1 e)) e
          * (m ((c : Thread nD τ).loc main_arg6) : Vec Ideal S128x1024 .f32) (ix2 e (valueCol d)) := by
  unfold vaBlock
  rw [pay19_apply]
  refine Finset.sum_congr rfl fun e _ => congrArg₂ (fun a b : EReal => a * b) ?_ (iblk5_apply m c t e d)
  rw [iblk7_apply m c t e, funext (latent_eq m c t r n h)]

/-- **The low-rank attention's array of values.** -/
theorem va_array (c : Dev nD) :
    (dats m 0 c).arrAt 14 cfg0.N = vaOut (m ((c : Thread nD τ).loc main_arg0)) (m ((c : Thread nD τ).loc main_arg2))
      (m ((c : Thread nD τ).loc main_arg5)) (m ((c : Thread nD τ).loc main_arg6)) := by
  refine (dats m 0 c).arrAt_eq_of_covers 14 _ (by decide +kernel) fun t hf y => ?_
  blk_simp
  rw [after0_14, va_eq]
  have h0 : ((((win0_14.blk t).view.emb y : S16384x512.Idx) 0)).val = t.val * 256 + (y 0).val := by
    blk_simp [idx14]
  have h1 : ((((win0_14.blk t).view.emb y : S16384x512.Idx) 1)).val = (y 1).val := by
    blk_simp [idx14]
  obtain ⟨r, d, hy⟩ : ∃ (r : Fin 256) (d : Fin 512), y = ix2 r d := ⟨y 0, y 1, funext fun a => by fin_cases a <;> rfl⟩
  have e0 : (y 0).val = r.val := by rw [hy]; rfl
  have e1 : (y 1).val = d.val := by rw [hy]; rfl
  rw [e0] at h0; rw [e1] at h1
  generalize ((win0_14.blk t).view.emb y : S16384x512.Idx) = i at h0 h1 ⊢
  subst hy
  obtain ⟨n, d', rfl⟩ : ∃ (n : Fin 16384) (d' : Fin 512), i = ix2 n d' := ⟨i 0, i 1, eq_ix2 i⟩
  obtain rfl : d' = d := Fin.ext h1
  exact low_eq m c t r n h0 d'

/-- **The block attention's array of values.** -/
theorem mv_array (c : Dev nD) :
    (dats m 0 c).arrAt 17 cfg0.N = mvOut (m ((c : Thread nD τ).loc main_arg0)) (m ((c : Thread nD τ).loc main_arg2)) := by
  refine (dats m 0 c).arrAt_eq_of_covers 17 _ (by decide +kernel) fun t hf y => ?_
  blk_simp
  rw [after0_17, mv_eq]
  have h0 : ((((win0_17.blk t).view.emb y : S16384x512.Idx) 0)).val = t.val * 256 + (y 0).val := by
    blk_simp [idx17]
  have h1 : ((((win0_17.blk t).view.emb y : S16384x512.Idx) 1)).val = (y 1).val := by
    blk_simp [idx17]
  obtain ⟨r, d, hy⟩ : ∃ (r : Fin 256) (d : Fin 512), y = ix2 r d := ⟨y 0, y 1, funext fun a => by fin_cases a <;> rfl⟩
  have e0 : (y 0).val = r.val := by rw [hy]; rfl
  have e1 : (y 1).val = d.val := by rw [hy]; rfl
  rw [e0] at h0; rw [e1] at h1
  generalize ((win0_17.blk t).view.emb y : S16384x512.Idx) = i at h0 h1 ⊢
  subst hy
  obtain ⟨n, d', rfl⟩ : ∃ (n : Fin 16384) (d' : Fin 512), i = ix2 n d' := ⟨i 0, i 1, eq_ix2 i⟩
  obtain rfl : d' = d := Fin.ext h1
  exact last_eq m c t r n h0 d'

end Cert.Prep

end
-- ==== Proof.Prep.Reference.lean ====
/- The reference of the input projection's value paths read at an index. -/
module

public import proofs.«01_k».proof.Proof.Gen.PrepReferenceIdeal.Read
public import proofs.«01_k».proof.Proof.Prep.Value
public import proofs.«01_k».proof.Proof.Moba.Scores

@[expose] public section

set_option maxRecDepth 16384
noncomputable section

namespace Cert.Prep

open Cert.PrepReferenceIdeal Cert.PrepReferenceIdeal.Read Idealize.ShloMosaic Idealize.ShloMosaic.TcCoe Idealize.SL.Sem Idealize.ShloMosaic.Tactic
open scoped BigOperators

variable (X : Vec Ideal S8x2048x1024 .f32) (W : Vec Ideal S1024x1952 .f32) (g : Vec Ideal S128 .f32) (U : Vec Ideal S128x1024 .f32)

/-- The sequence and the position of token `n`. -/
def seqOf (n : Fin 16384) : Fin 8 := ⟨n.val / 2048, by omega⟩
def posOf (n : Fin 16384) : Fin 2048 := ⟨n.val % 2048, by omega⟩

theorem ref_proj (n : Fin 16384) (j : Fin 1952) : val_main_v0 (F := Ideal) X W (ix3 (seqOf n) (posOf n) j) = proj X W n j := by
  rw [val_main_v0_apply]
  refine Finset.sum_congr rfl fun k _ => congrArg₂ (· * ·) (congrArg X ?_) (congrArg W ?_)
  · funext a; match a with
    | ⟨0, _⟩ => rfl
    | ⟨1, _⟩ => rfl
    | ⟨2, _⟩ => rfl
  · funext a; match a with
    | ⟨0, _⟩ => rfl
    | ⟨1, _⟩ => rfl

theorem ref_latent (n : Fin 16384) (e : Fin 128) : val_main_v1 (F := Ideal) X W (ix3 (seqOf n) (posOf n) e) = latent X W n e := by
  rw [val_main_v1_apply]
  refine (congrArg (val_main_v0 (F := Ideal) X W) ?_).trans (ref_proj X W n ⟨256 + e.val, by omega⟩)
  funext a; match a with
  | ⟨0, _⟩ => rfl
  | ⟨1, _⟩ => rfl
  | ⟨2, _⟩ => rfl

theorem ref_root (n : Fin 16384) : val_main_v10 (F := Ideal) X W (ix3 (seqOf n) (posOf n) 0)
    = Ideal.rsqrt (Ideal.div (∑ k, latent X W n k * latent X W n k) (Ideal.ofBits .f32 0x43000000#32) + Ideal.ofBits .f32 0x358637BD#32) := by
  rw [val_main_v10_apply, val_main_v9_apply, val_main_v7_apply, val_main_v8_apply, val_main_v5_apply, val_main_v6_apply, val_main_cst_1_apply, val_main_cst_0_apply,
    val_main_v4_apply, val_main_cst_apply]
  refine congrArg (fun s : EReal => Ideal.rsqrt (Ideal.div s (Ideal.ofBits .f32 0x43000000#32) + Ideal.ofBits .f32 0x358637BD#32)) ?_
  rw [show (FloatOps.ofBits .f32 0x00000000#32 : Ideal .f32) = (0 : EReal) from Cert.Moba.zero_word]
  refine (zero_add _).trans (Finset.sum_congr rfl fun k _ => ?_)
  have e : idx_main_v4 (idx_main_v5 (ix3 (seqOf n) (posOf n) 0)) k = ix3 (seqOf n) (posOf n) k := by
    funext a; match a with
    | ⟨0, _⟩ => rfl
    | ⟨1, _⟩ => rfl
    | ⟨2, _⟩ => rfl
  rw [val_main_v3_apply, e, ref_latent]
  rfl

theorem ref_rms (n : Fin 16384) (e : Fin 128) : val_main_v15 (F := Ideal) X W g (ix3 (seqOf n) (posOf n) e) = rms (latent X W n) (g (ix1 e)) e := by
  rw [val_main_v15_apply, val_main_v12_apply, val_main_v11_apply, val_main_v14_apply, val_main_v13_apply, ref_latent]
  have e1 : idx_main_v11 (ix3 (seqOf n) (posOf n) e) = ix3 (seqOf n) (posOf n) 0 := by
    funext a; match a with
    | ⟨0, _⟩ => rfl
    | ⟨1, _⟩ => rfl
    | ⟨2, _⟩ => rfl
  have e2 : idx_main_v13 (idx_main_v14 (ix3 (seqOf n) (posOf n) e)) = ix1 e := by
    funext a; match a with
    | ⟨0, _⟩ => rfl
  rw [e1, ref_root, e2]
  rfl

theorem ref_values (n : Fin 16384) (j : Fin 1024) :
    val_main_v16 (F := Ideal) X W g U (ix3 (seqOf n) (posOf n) j) = ∑ e : Fin 128, rms (latent X W n) (g (ix1 e)) e * U (ix2 e j) := by
  rw [val_main_v16_apply]
  refine Finset.sum_congr rfl fun k _ => congrArg₂ (· * ·) (Eq.trans (congrArg (val_main_v15 (F := Ideal) X W g) ?_) (ref_rms X W g n k)) (congrArg U ?_)
  · funext a; match a with
    | ⟨0, _⟩ => rfl
    | ⟨1, _⟩ => rfl
    | ⟨2, _⟩ => rfl
  · funext a; match a with
    | ⟨0, _⟩ => rfl
    | ⟨1, _⟩ => rfl

/-- **The low-rank attention's values.** -/
theorem ref_va : val_main_v20 (F := Ideal) X W g U = vaOut X W g U := by
  funext i
  obtain ⟨n, d, rfl⟩ : ∃ (n : Fin 16384) (d : Fin 512), i = ix2 n d := ⟨i 0, i 1, eq_ix2 i⟩
  rw [val_main_v20_apply, val_main_v19_apply, val_main_v18_apply, val_main_v17_apply]
  refine (congrArg (val_main_v16 (F := Ideal) X W g U) ?_).trans (ref_values X W g U n (valueCol d))
  funext a; match a with
  | ⟨0, _⟩ => exact Fin.ext (by simp [idx_main_v17, idx_main_v18, idx_main_v19, seqOf]; omega)
  | ⟨1, _⟩ => exact Fin.ext (by simp [idx_main_v17, idx_main_v18, idx_main_v19, posOf]; omega)
  | ⟨2, _⟩ => exact Fin.ext (by simp [idx_main_v17, idx_main_v18, idx_main_v19, valueCol]; omega)

/-- **The block attention's values.** -/
theorem ref_mv : val_main_v22 (F := Ideal) X W = mvOut X W := by
  funext i
  obtain ⟨n, d, rfl⟩ : ∃ (n : Fin 16384) (d : Fin 512), i = ix2 n d := ⟨i 0, i 1, eq_ix2 i⟩
  rw [val_main_v22_apply, val_main_v21_apply, val_main_v2_apply]
  refine (congrArg (val_main_v0 (F := Ideal) X W) ?_).trans (ref_proj X W n ⟨1440 + d.val, by omega⟩)
  funext a; match a with
  | ⟨0, _⟩ => exact Fin.ext (by simp [idx_main_v2, idx_main_v21, seqOf]; omega)
  | ⟨1, _⟩ => exact Fin.ext (by simp [idx_main_v2, idx_main_v21, posOf]; omega)
  | ⟨2, _⟩ => exact Fin.ext (by simp [idx_main_v2, idx_main_v21])

end Cert.Prep

end
-- ==== Proof.Prep.Main.lean ====
/- The value claim of the input projection's value paths: the kernel's run and its two arrays, the reference's run and its results. -/
module

public import proofs.«01_k».proof.Defs
public import proofs.«01_k».proof.Proof.Prep.Array
public import proofs.«01_k».proof.Proof.Prep.Reference

@[expose] public section

noncomputable section

namespace Cert.Prep

open Idealize.ShloMosaic Idealize.ShloMosaic.TcCoe Idealize.SL.Sem

/-- **The value claim.** -/
theorem algebraic : Cert.algebraic_PrepKernelIdeal_PrepReferenceIdeal (hPrepKernelIdeal := Cert.PrepKernelIdeal.Gen.facts)
    (hPrepReferenceIdeal := Cert.PrepReferenceIdeal.Gen.facts) := by
  intro m g m' g' _ hag
  refine ⟨fun c => vaOut (m ((c.tc : Thread Cert.PrepKernelIdeal.nD Cert.PrepKernelIdeal.τ).loc Cert.PrepKernelIdeal.main_arg0))
    (m ((c.tc : Thread Cert.PrepKernelIdeal.nD Cert.PrepKernelIdeal.τ).loc Cert.PrepKernelIdeal.main_arg2))
    (m ((c.tc : Thread Cert.PrepKernelIdeal.nD Cert.PrepKernelIdeal.τ).loc Cert.PrepKernelIdeal.main_arg5))
    (m ((c.tc : Thread Cert.PrepKernelIdeal.nD Cert.PrepKernelIdeal.τ).loc Cert.PrepKernelIdeal.main_arg6)),
    fun c => mvOut (m ((c.tc : Thread Cert.PrepKernelIdeal.nD Cert.PrepKernelIdeal.τ).loc Cert.PrepKernelIdeal.main_arg0))
    (m ((c.tc : Thread Cert.PrepKernelIdeal.nD Cert.PrepKernelIdeal.τ).loc Cert.PrepKernelIdeal.main_arg2)), ?_, ?_⟩
  · refine (θ_run _ _ _).mono (fun r h c => ?_) (Cert.PrepKernelIdeal.Value.run_blocks (F := Ideal) m g)
    obtain ⟨_, _, h0, _, _, h1, _, h2⟩ := h c
    exact ⟨h0.trans (va_array m c), h1.trans (mv_array m c), h2⟩
  · refine (θ_run _ _ _).mono (fun r h c => ?_) (Cert.PrepReferenceIdeal.Value.run (F := Ideal) m' g')
    obtain ⟨h0, h1, h2⟩ := h c
    obtain ⟨a0, _, a2, _, _, a5, a6⟩ := hag c
    refine ⟨h0.trans ?_, h1.trans ?_, h2⟩
    · rw [Cert.PrepReferenceIdeal.Read.val_main_v20_eq, ref_va, a0, a2, a5, a6]
    · rw [Cert.PrepReferenceIdeal.Read.val_main_v22_eq, ref_mv, a0, a2]

/-- The reference terminates without a fault, keeps its arguments and leaves every counter at zero (it has none). -/
theorem reference_frame : Cert.quiescent_PrepReferenceIdeal (hPrepReferenceIdeal := Cert.PrepReferenceIdeal.Gen.facts) := fun m g _ =>
  (θ_run _ _ _).mono (fun r h => ⟨fun c => (h c).2.2, sem_eq_zero_of_no_sems (by decide) r.2⟩)
    (Cert.PrepReferenceIdeal.Value.run (F := Ideal) m g)

end Cert.Prep

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.ExpertsKernel
public import proofs.«01_k».proof.Proof.Gen.ExpertsKernel.Skeleton
public import proofs.«01_k».proof.Proof.Gen.ExpertsKernel.Launch
public import proofs.«01_k».proof.Proof.Gen.ExpertsKernel.Flash.Runs
public import proofs.«01_k».proof.Proof.Gen.ExpertsKernelIdeal
public import proofs.«01_k».proof.Proof.Gen.ExpertsKernelIdeal.Skeleton
public import proofs.«01_k».proof.Proof.Gen.ExpertsKernelIdeal.Launch
public import proofs.«01_k».proof.Proof.Gen.ExpertsKernelIdeal.Flash.Runs
public import proofs.«01_k».proof.Proof.Gen.ExpertsReferenceIdeal
public import proofs.«01_k».proof.Proof.Gen.ExpertsReferenceIdeal.Run
public import proofs.«01_k».proof.Proof.Gen.ExpertsReferenceIdeal.Read
public import proofs.«01_k».proof.Proof.Gen.MobaKernel
public import proofs.«01_k».proof.Proof.Gen.MobaKernel.Skeleton
public import proofs.«01_k».proof.Proof.Gen.MobaKernel.Loops
public import proofs.«01_k».proof.Proof.Gen.MobaKernel.Launch
public import proofs.«01_k».proof.Proof.Gen.MobaKernel.Points
public import proofs.«01_k».proof.Proof.Gen.MobaKernel.Frame
public import proofs.«01_k».proof.Proof.Gen.MobaKernelIdeal
public import proofs.«01_k».proof.Proof.Gen.MobaKernelIdeal.Skeleton
public import proofs.«01_k».proof.Proof.Gen.MobaKernelIdeal.Loops
public import proofs.«01_k».proof.Proof.Gen.MobaKernelIdeal.Launch
public import proofs.«01_k».proof.Proof.Gen.MobaKernelIdeal.Points
public import proofs.«01_k».proof.Proof.Gen.MobaKernelIdeal.Frame
public import proofs.«01_k».proof.Proof.Gen.MobaKernelIdeal.Value
public import proofs.«01_k».proof.Proof.Gen.OprojKernel
public import proofs.«01_k».proof.Proof.Gen.OprojKernel.Skeleton
public import proofs.«01_k».proof.Proof.Gen.OprojKernel.Launch
public import proofs.«01_k».proof.Proof.Gen.OprojKernel.Points
public import proofs.«01_k».proof.Proof.Gen.OprojKernel.Frame
public import proofs.«01_k».proof.Proof.Gen.OprojKernelIdeal
public import proofs.«01_k».proof.Proof.Gen.OprojKernelIdeal.Skeleton
public import proofs.«01_k».proof.Proof.Gen.OprojKernelIdeal.Launch
public import proofs.«01_k».proof.Proof.Gen.OprojKernelIdeal.Points
public import proofs.«01_k».proof.Proof.Gen.OprojKernelIdeal.Frame
public import proofs.«01_k».proof.Proof.Gen.OprojKernelIdeal.Value
public import proofs.«01_k».proof.Proof.Gen.OprojReferenceIdeal.Run
public import proofs.«01_k».proof.Proof.Gen.OprojReferenceIdeal.Read
public import proofs.«01_k».proof.Proof.Gen.OprojReferenceIdeal
public import proofs.«01_k».proof.Proof.Gen.PrepKernel
public import proofs.«01_k».proof.Proof.Gen.PrepKernel.Skeleton
public import proofs.«01_k».proof.Proof.Gen.PrepKernel.Launch
public import proofs.«01_k».proof.Proof.Gen.PrepKernel.Points
public import proofs.«01_k».proof.Proof.Gen.PrepKernel.Frame
public import proofs.«01_k».proof.Proof.Gen.PrepKernelIdeal
public import proofs.«01_k».proof.Proof.Gen.PrepKernelIdeal.Skeleton
public import proofs.«01_k».proof.Proof.Gen.PrepKernelIdeal.Launch
public import proofs.«01_k».proof.Proof.Gen.PrepKernelIdeal.Points
public import proofs.«01_k».proof.Proof.Gen.PrepKernelIdeal.Frame
public import proofs.«01_k».proof.Proof.Gen.PrepKernelIdeal.Value
public import proofs.«01_k».proof.Proof.Gen.PrepReferenceIdeal.Run
public import proofs.«01_k».proof.Proof.Gen.PrepReferenceIdeal.Read
public import proofs.«01_k».proof.Proof.Gen.PrepReferenceIdeal
public import proofs.«01_k».proof.Proof.Gen.MobaReferenceIdeal.Run
public import proofs.«01_k».proof.Proof.Gen.MobaReferenceIdeal.Read
public import proofs.«01_k».proof.Proof.Gen.MobaReferenceIdeal
public import proofs.«01_k».proof.Proof.Attn.Main
public import proofs.«01_k».proof.Proof.Experts.Main
public import proofs.«01_k».proof.Proof.Moba.Main
public import proofs.«01_k».proof.Proof.Oproj.Main
public import proofs.«01_k».proof.Proof.Prep.Main
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.ExpertsKernel.Gen.facts, Cert.ExpertsKernelIdeal.Gen.facts, Cert.ExpertsReferenceIdeal.Gen.facts,
  Cert.MobaKernel.Gen.facts, Cert.MobaKernelIdeal.Gen.facts, Cert.MobaReferenceIdeal.Gen.facts,
  Cert.OprojKernel.Gen.facts, Cert.OprojKernelIdeal.Gen.facts, Cert.OprojReferenceIdeal.Gen.facts,
  Cert.PrepKernel.Gen.facts, Cert.PrepKernelIdeal.Gen.facts, Cert.PrepReferenceIdeal.Gen.facts, Cert.Attn.pre_facts, Cert.Experts.pre_facts, Cert.Moba.pre_facts,
  fun m ρ _ => Cert.Kernel.Gen.frame m ρ,
  fun m ρ _ => Cert.KernelIdeal.Gen.frame m ρ,
  fun m ρ _ => Cert.KernelIdeal.Gen.frame m ρ,
  fun m ρ _ => Cert.Attn.reference_frame m ρ,
  fun m ρ _ => Cert.Attn.reference_frame m ρ,
  Cert.Experts.kernel_frame,
  Cert.Experts.ideal_frame,
  fun m ρ _ => Cert.Experts.reference_frame m ρ,
  fun m ρ _ => Cert.Experts.reference_frame m ρ,
  fun m ρ _ => Cert.MobaKernel.Gen.frame m ρ,
  fun m ρ _ => Cert.MobaKernelIdeal.Gen.frame m ρ,
  fun m ρ _ => Cert.MobaKernelIdeal.Gen.frame m ρ,
  fun m ρ _ => Cert.Moba.reference_frame m ρ,
  fun m ρ _ => Cert.Moba.reference_frame m ρ,
  fun m ρ _ => Cert.OprojKernel.Gen.frame m ρ,
  fun m ρ _ => Cert.OprojKernelIdeal.Gen.frame m ρ,
  Cert.Oproj.reference_frame,
  fun m ρ _ => Cert.PrepKernel.Gen.frame m ρ,
  fun m ρ _ => Cert.PrepKernelIdeal.Gen.frame m ρ,
  Cert.Prep.reference_frame,
  trivial,
  Cert.Attn.algebraic,
  trivial,
  Cert.Experts.algebraic,
  trivial,
  Cert.Moba.algebraic,
  trivial,
  Cert.Oproj.algebraic,
  trivial,
  Cert.Prep.algebraic⟩

end Cert.Proof

end
